-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v20_0)) (v1 : (c : Dev Cert.Kernel13Ideal.nD) → Buf (Elt Ideal) ((c.tc : Thread Cert.Kernel13Ideal.nD Cert.Kernel13Ideal.τ).loc Cert.Kernel13Ideal.main_v20_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v20_0) = v0 c
          ∧ r.2.mem ((c.tc : Thread Cert.Kernel13Ideal.nD Cert.Kernel13Ideal.τ).loc Cert.Kernel13Ideal.main_v20_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v44) = v0 c
          ∧ r.2.mem ((c.tc : Thread Cert.Reference13Ideal.nD Cert.Reference13Ideal.τ).loc Cert.Reference13Ideal.main_v45) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bitsLt_bf16_f32 : FTy.bits .bf16 < FTy.bits .f32
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_v16 : IVec S_ 1) (main_v17 : FVec F S4096x8x64 .f32) : IVec S_ 1 :=
  let main_v18 : FVec F S4096x8x64 .f32 := Host.absf main_v17
  let main_cst_4 : FVec F S_ .f32 := constant S_ .f32 0x7F800000#32
  let main_v19 : FVec F S4096x8x64 .f32 := broadcastInDim S4096x8x64 ![] bcast_S_S4096x8x64 main_cst_4
  let main_v20 : IVec S4096x8x64 1 := cmpf .olt main_v18 main_v19
  let main_c_5 : IVec S_ 1 := constantI S_ 1 1#1
  let main_v21 : IVec S_ 1 := (fun x v => Host.reduce IntOp.andi x v reducesTo_S4096x8x64_S_d0_1_2 h_S_) main_v20 main_c_5
  let main_v22 : IVec S_ 1 := andi main_v16 main_v21
  main_v22

def fn {F : FTy → Type} [FloatOps F] (main_arg0 : FVec F S4096x8x96 .bf16) (main_arg1 : FVec F S4096x8x96 .bf16) (main_arg2 : FVec F S4096x8x64 .bf16) (main_arg3 : FVec F S4096x8x64 .bf16) : IVec S_ 1 :=
  let main_v0 : FVec F S4096x8x96 .f32 := (extf .f32 · bitsLt_bf16_f32) main_arg0
  let main_v1 : FVec F S4096x8x96 .f32 := Host.absf main_v0
  let main_cst : FVec F S_ .f32 := constant S_ .f32 0x7F800000#32
  let main_v2 : FVec F S4096x8x96 .f32 := broadcastInDim S4096x8x96 ![] bcast_S_S4096x8x96 main_cst
  let main_v3 : IVec S4096x8x96 1 := cmpf .olt main_v1 main_v2
  let main_c : IVec S_ 1 := constantI S_ 1 1#1
  let main_v4 : IVec S_ 1 := (fun x v => Host.reduce IntOp.andi x v reducesTo_S4096x8x96_S_d0_1_2 h_S_) main_v3 main_c
  let main_v5 : FVec F S4096x8x96 .f32 := (extf .f32 · bitsLt_bf16_f32) main_arg1
  let main_v6 : FVec F S4096x8x96 .f32 := Host.absf main_v5
  let main_cst_0 : FVec F S_ .f32 := constant S_ .f32 0x7F800000#32
  let main_v7 : FVec F S4096x8x96 .f32 := broadcastInDim S4096x8x96 ![] bcast_S_S4096x8x96 main_cst_0
  let main_v8 : IVec S4096x8x96 1 := cmpf .olt main_v6 main_v7
  let main_c_1 : IVec S_ 1 := constantI S_ 1 1#1
  let main_v9 : IVec S_ 1 := (fun x v => Host.reduce IntOp.andi x v reducesTo_S4096x8x96_S_d0_1_2 h_S_) main_v8 main_c_1
  let main_v10 : IVec S_ 1 := andi main_v4 main_v9
  let main_v11 : FVec F S4096x8x64 .f32 := (extf .f32 · bitsLt_bf16_f32) main_arg2
  let main_v12 : FVec F S4096x8x64 .f32 := Host.absf main_v11
  let main_cst_2 : FVec F S_ .f32 := constant S_ .f32 0x7F800000#32
  let main_v13 : FVec F S4096x8x64 .f32 := broadcastInDim S4096x8x64 ![] bcast_S_S4096x8x64 main_cst_2
  let main_v14 : IVec S4096x8x64 1 := cmpf .olt main_v12 main_v13
  let main_c_3 : IVec S_ 1 := constantI S_ 1 1#1
  let main_v15 : IVec S_ 1 := (fun x v => Host.reduce IntOp.andi x v reducesTo_S4096x8x64_S_d0_1_2 h_S_) main_v14 main_c_3
  let main_v16 : IVec S_ 1 := andi main_v10 main_v15
  let main_v17 : FVec F S4096x8x64 .f32 := (extf .f32 · bitsLt_bf16_f32) main_arg3
  fn_part1 (F := F) main_v16 main_v17
-- ==== Pre_finite13.lean ====
abbrev S4096x8x96 : Shape := ⟨3, ![4096, 8, 96]⟩
abbrev S4096x8x64 : Shape := ⟨3, ![4096, 8, 64]⟩
abbrev S_ : Shape := ⟨0, ![]⟩

class Facts : Prop where
  bitsLt_bf16_f32 : FTy.bits .bf16 < FTy.bits .f32
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel

variable [Facts]

def fn {F : FTy → Type} [FloatOps F] (main_arg0 : FVec F S4096x8x96 .bf16) (main_arg1 : FVec F S4096x8x96 .bf16) (main_arg2 : FVec F S4096x8x64 .bf16) : IVec S_ 1 :=
  let main_v0 : FVec F S4096x8x96 .f32 := (extf .f32 · bitsLt_bf16_f32) main_arg0
  let main_v1 : FVec F S4096x8x96 .f32 := Host.absf main_v0
  let main_cst : FVec F S_ .f32 := constant S_ .f32 0x7F800000#32
  let main_v2 : FVec F S4096x8x96 .f32 := broadcastInDim S4096x8x96 ![] bcast_S_S4096x8x96 main_cst
  let main_v3 : IVec S4096x8x96 1 := cmpf .olt main_v1 main_v2
  let main_c : IVec S_ 1 := constantI S_ 1 1#1
  let main_v4 : IVec S_ 1 := (fun x v => Host.reduce IntOp.andi x v reducesTo_S4096x8x96_S_d0_1_2 h_S_) main_v3 main_c
  let main_v5 : FVec F S4096x8x96 .f32 := (extf .f32 · bitsLt_bf16_f32) main_arg1
  let main_v6 : FVec F S4096x8x96 .f32 := Host.absf main_v5
  let main_cst_0 : FVec F S_ .f32 := constant S_ .f32 0x7F800000#32
  let main_v7 : FVec F S4096x8x96 .f32 := broadcastInDim S4096x8x96 ![] bcast_S_S4096x8x96 main_cst_0
  let main_v8 : IVec S4096x8x96 1 := cmpf .olt main_v6 main_v7
  let main_c_1 : IVec S_ 1 := constantI S_ 1 1#1
  let main_v9 : IVec S_ 1 := (fun x v => Host.reduce IntOp.andi x v reducesTo_S4096x8x96_S_d0_1_2 h_S_) main_v8 main_c_1
  let main_v10 : IVec S_ 1 := andi main_v4 main_v9
  main_v10
-- ==== Kernel.lean ====
abbrev S4096x8x96 : Shape := ⟨3, ![4096, 8, 96]⟩
abbrev S4096x8x64 : Shape := ⟨3, ![4096, 8, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x8x128 : Shape := ⟨3, ![4096, 8, 128]⟩
abbrev S8x4096x128 : Shape := ⟨3, ![8, 4096, 128]⟩
abbrev S8x16x256x128 : Shape := ⟨4, ![8, 16, 256, 128]⟩
abbrev S8x16x128x256 : Shape := ⟨4, ![8, 16, 128, 256]⟩
abbrev S2x2 : Shape := ⟨2, ![2, 2]⟩
abbrev S2x2x1 : Shape := ⟨3, ![2, 2, 1]⟩
abbrev S4096x4x2x1x64 : Shape := ⟨5, ![4096, 4, 2, 1, 64]⟩
abbrev S4096x4x2x2x64 : Shape := ⟨5, ![4096, 4, 2, 2, 64]⟩
abbrev S4096x512 : Shape := ⟨2, ![4096, 512]⟩
abbrev S16x256x4x128 : Shape := ⟨4, ![16, 256, 4, 128]⟩
abbrev S4x16x128x256 : Shape := ⟨4, ![4, 16, 128, 256]⟩
abbrev S8x16x1x256 : Shape := ⟨4, ![8, 16, 1, 256]⟩
abbrev S1x4096x128 : Shape := ⟨3, ![1, 4096, 128]⟩
abbrev S1x16x128x256 : Shape := ⟨4, ![1, 16, 128, 256]⟩
abbrev S1x256x128 : Shape := ⟨3, ![1, 256, 128]⟩
abbrev S1x1x128x256 : Shape := ⟨4, ![1, 1, 128, 256]⟩
abbrev S4096x128 : Shape := ⟨2, ![4096, 128]⟩
abbrev S1x16x1x256 : Shape := ⟨4, ![1, 16, 1, 256]⟩
abbrev S256x256 : Shape := ⟨2, ![256, 256]⟩
abbrev S1x128 : Shape := ⟨2, ![1, 128]⟩
abbrev S16x128x256 : Shape := ⟨3, ![16, 128, 256]⟩
abbrev S256x128 : Shape := ⟨2, ![256, 128]⟩
abbrev S128x256 : Shape := ⟨2, ![128, 256]⟩
abbrev S1x1x1x256 : Shape := ⟨4, ![1, 1, 1, 256]⟩
abbrev S1x256 : Shape := ⟨2, ![1, 256]⟩

abbrev nBuf : Space → Nat
  | .hbm => 102
  | .vmem => 24
  | .smem => 0
  | _ => 0

abbrev bufTy : (tb : Table) → Fin (tcTables nBuf tb) → BufTy
  | .hbm, ⟨0, _⟩ => ⟨S4096x8x96, .bf16⟩
  | .hbm, ⟨1, _⟩ => ⟨S4096x8x96, .bf16⟩
  | .hbm, ⟨2, _⟩ => ⟨S4096x8x64, .bf16⟩
  | .hbm, ⟨3, _⟩ => ⟨S4096x8x64, .bf16⟩
  | .hbm, ⟨4, _⟩ => ⟨S4096x8x96, .f32⟩
  | .hbm, ⟨5, _⟩ => ⟨S_, .f32⟩
  | .hbm, ⟨6, _⟩ => ⟨S4096x8x96, .f32⟩
  | .hbm, ⟨7, _⟩ => ⟨S4096x8x96, .f32⟩
  | .hbm, ⟨8, _⟩ => ⟨S4096x8x96, .bf16⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S8x4096, .f32⟩
  | .hbm, ⟨31, _⟩ => ⟨S8x4096x4096, .f32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x4096, .bf16⟩
  | .hbm, ⟨58, _⟩ => ⟨S8x64x4096, .f32⟩
  | .hbm, ⟨59, _⟩ => ⟨S4096x8x64, .f32⟩
  | .hbm, ⟨60, _⟩ => ⟨S4096x8x64, .bf16⟩
  | .hbm, ⟨61, _⟩ => ⟨S4096x8x64, .f32⟩
  | .hbm, ⟨62, _⟩ => ⟨S4096x8x64, .f32⟩
  | .hbm, ⟨63, _⟩ => ⟨S4096x8x64, .f32⟩
  | .hbm, ⟨64, _⟩ => ⟨S_, .f32⟩
  | .hbm, ⟨65, _⟩ => ⟨S4096x8, .f32⟩
  | .hbm, ⟨66, _⟩ => ⟨S8x4096, .f32⟩
  | .hbm, ⟨67, _⟩ => ⟨S_, .i32⟩
  | .hbm, ⟨68, _⟩ => ⟨S_, .bf16⟩
  | .hbm, ⟨69, _⟩ => ⟨S4096x8x128, .bf16⟩
  | .hbm, ⟨70, _⟩ => ⟨S8x4096x128, .bf16⟩
  | .hbm, ⟨71, _⟩ => ⟨S_, .i32⟩
  | .hbm, ⟨72, _⟩ => ⟨S_, .bf16⟩
  | .hbm, ⟨73, _⟩ => ⟨S4096x8x128, .bf16⟩
  | .hbm, ⟨74, _⟩ => ⟨S8x4096x128, .bf16⟩
  | .hbm, ⟨75, _⟩ => ⟨S8x16x256x128, .bf16⟩
  | .hbm, ⟨76, _⟩ => ⟨S8x16x128x256, .bf16⟩
  | .hbm, ⟨77, _⟩ => ⟨S8x16x256x128, .bf16⟩
  | .hbm, ⟨78, _⟩ => ⟨S8x16x128x256, .bf16⟩
  | .hbm, ⟨79, _⟩ => ⟨S2x2, .i32⟩
  | .hbm, ⟨80, _⟩ => ⟨S2x2, .i32⟩
  | .hbm, ⟨81, _⟩ => ⟨S_, .i32⟩
  | .hbm, ⟨82, _⟩ => ⟨S2x2, .i32⟩
  | .hbm, ⟨83, _⟩ => ⟨S2x2, .i32⟩
  | .hbm, ⟨84, _⟩ => ⟨S2x2, .i1⟩
  | .hbm, ⟨85, _⟩ => ⟨S2x2x1, .i1⟩
  | .hbm, ⟨86, _⟩ => ⟨S4096x4x2x1x64, .bf16⟩
  | .hbm, ⟨87, _⟩ => ⟨S_, .bf16⟩
  | .hbm, ⟨88, _⟩ => ⟨S4096x4x2x2x64, .i1⟩
  | .hbm, ⟨89, _⟩ => ⟨S4096x4x2x2x64, .bf16⟩
  | .hbm, ⟨90, _⟩ => ⟨S4096x4x2x2x64, .bf16⟩
  | .hbm, ⟨91, _⟩ => ⟨S4096x4x2x2x64, .bf16⟩
  | .hbm, ⟨92, _⟩ => ⟨S4096x8x128, .bf16⟩
  | .hbm, ⟨93, _⟩ => ⟨S8x4096x128, .bf16⟩
  | .hbm, ⟨94, _⟩ => ⟨S4096x512, .bf16⟩
  | .hbm, ⟨95, _⟩ => ⟨S16x256x4x128, .bf16⟩
  | .hbm, ⟨96, _⟩ => ⟨S4x16x128x256, .bf16⟩
  | .hbm, ⟨97, _⟩ => ⟨S8x16x1x256, .f32⟩
  | .hbm, ⟨98, _⟩ => ⟨S8x16x1x256, .f32⟩
  | .hbm, ⟨99, _⟩ => ⟨S8x16x128x256, .f32⟩
  | .hbm, ⟨100, _⟩ => ⟨S8x4096x128, .f32⟩
  | .hbm, ⟨101, _⟩ => ⟨S8x4096x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x16x128x256, .bf16⟩
  | .local _ .vmem, ⟨3, _⟩ => ⟨S1x16x128x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x256x128, .bf16⟩
  | .local _ .vmem, ⟨9, _⟩ => ⟨S1x256x128, .bf16⟩
  | .local _ .vmem, ⟨10, _⟩ => ⟨S4096x128, .bf16⟩
  | .local _ .vmem, ⟨11, _⟩ => ⟨S4096x128, .bf16⟩
  | .local _ .vmem, ⟨12, _⟩ => ⟨S1x16x128x256, .bf16⟩
  | .local _ .vmem, ⟨13, _⟩ => ⟨S1x16x128x256, .bf16⟩
  | .local _ .vmem, ⟨14, _⟩ => ⟨S1x16x1x256, .f32⟩
  | .local _ .vmem, ⟨15, _⟩ => ⟨S1x16x1x256, .f32⟩
  | .local _ .vmem, ⟨16, _⟩ => ⟨S1x16x1x256, .f32⟩
  | .local _ .vmem, ⟨17, _⟩ => ⟨S1x16x1x256, .f32⟩
  | .local _ .vmem, ⟨18, _⟩ => ⟨S1x16x128x256, .f32⟩
  | .local _ .vmem, ⟨19, _⟩ => ⟨S1x16x128x256, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | _, _ => ⟨S4096x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_c : Ref sig .tc := ⟨.hbm, 67, rfl⟩
abbrev main_call2_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_call3_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71_0 : Ref sig .tc := ⟨.hbm, 99, rfl⟩
abbrev main_v71_1 : Ref sig .tc := ⟨.hbm, 100, rfl⟩
abbrev main_v71_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v49 : BitVec 32 := Scalar.muli arg1 c256_i32
  v49
def k0_off1 (i : grid0.Coords) : Fin 4 → Nat :=
  let c0_20 : Index := 0#32
  let arg1 : BitVec 32 := BitVec.ofNat 32 (i 1).val
  let v51 : Index := Scalar.indexCast arg1
  let c0_21 : Index := 0#32
  let c0_22 : Index := 0#32
  ![0, v51.toNat, 0, 0]
def k0_off2 (i : grid0.Coords) : Fin 4 → Nat :=
  let c0_24 : Index := 0#32
  let arg1 : BitVec 32 := BitVec.ofNat 32 (i 1).val
  let v55 : Index := Scalar.indexCast arg1
  let c0_25 : Index := 0#32
  let c0_26 : Index := 0#32
  ![0, v55.toNat, 0, 0]
def k0_off3 (i : grid0.Coords) : Fin 2 → Nat :=
  let arg1 : BitVec 32 := BitVec.ofNat 32 (i 1).val
  let c256_i32 : BitVec 32 := 256#32
  let v49 : BitVec 32 := Scalar.muli arg1 c256_i32
  let v50 : BitVec 32 := v49
  let v64 : Index := Scalar.indexCast v50
  let c0_28 : Index := 0#32
  ![v64.toNat, 0]
def k0_off4 (i : grid0.Coords) : Fin 3 → Nat :=
  let c0_37 : Index := 0#32
  let arg1 : BitVec 32 := BitVec.ofNat 32 (i 1).val
  let c256_i32 : BitVec 32 := 256#32
  let v49 : BitVec 32 := Scalar.muli arg1 c256_i32
  let v50 : BitVec 32 := v49
  let v81 : Index := Scalar.indexCast v50
  let c0_38 : Index := 0#32
  ![0, v81.toNat, 0]
@[reducible] def k0_t1_loop (i : grid0.Coords) : Scf.Loop 32 :=
  let c0_i32_53 : BitVec 32 := 0#32
  let c15_i32 : BitVec 32 := 15#32
  let arg1 : BitVec 32 := BitVec.ofNat 32 (i 1).val
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_55 : BitVec 32 := 1#32
  ⟨c0_i32_53, v117, c1_i32_55⟩
def k0_mult2 (i : grid0.Coords) (k0_t1 : Fin (k0_t1_loop i).trips) : BitVec 32 :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let c256_i32_86 : BitVec 32 := 256#32
  let v172 : BitVec 32 := Scalar.muli v169 c256_i32_86
  v172
def k0_off5 (i : grid0.Coords) (k0_t1 : Fin (k0_t1_loop i).trips) : Fin 4 → Nat :=
  let c0_87 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let v174 : Index := Scalar.indexCast v169
  let c0_88 : Index := 0#32
  let c0_89 : Index := 0#32
  ![0, v174.toNat, 0, 0]
def k0_off6 (i : grid0.Coords) (k0_t1 : Fin (k0_t1_loop i).trips) : Fin 4 → Nat :=
  let c0_91 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let v178 : Index := Scalar.indexCast v169
  let c0_92 : Index := 0#32
  let c0_93 : Index := 0#32
  ![0, v178.toNat, 0, 0]
def k0_off7 (i : grid0.Coords) (k0_t1 : Fin (k0_t1_loop i).trips) : Fin 2 → Nat :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let c256_i32_86 : BitVec 32 := 256#32
  let v172 : BitVec 32 := Scalar.muli v169 c256_i32_86
  let v173 : BitVec 32 := v172
  let v184 : Index := Scalar.indexCast v173
  let c0_94 : Index := 0#32
  ![v184.toNat, 0]
def k0_off8 (i : grid0.Coords) (k0_t1 : Fin (k0_t1_loop i).trips) : Fin 3 → Nat :=
  let c0_103 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let c256_i32_86 : BitVec 32 := 256#32
  let v172 : BitVec 32 := Scalar.muli v169 c256_i32_86
  let v173 : BitVec 32 := v172
  let v201 : Index := Scalar.indexCast v173
  let c0_104 : Index := 0#32
  ![0, v201.toNat, 0]
def k0_mult3 (i : grid0.Coords) (k0_t1 : Fin (k0_t1_loop i).trips) : BitVec 32 :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let c1_i32_85 : BitVec 32 := 1#32
  let v171 : BitVec 32 := Scalar.addi v169 c1_i32_85
  let c256_i32_113 : BitVec 32 := 256#32
  let v215 : BitVec 32 := Scalar.muli v171 c256_i32_113
  v215
def k0_off9 (i : grid0.Coords) (k0_t1 : Fin (k0_t1_loop i).trips) (c1_i32_85 : BitVec 32) : Fin 4 → Nat :=
  let c0_114 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let v171 : BitVec 32 := Scalar.addi v169 c1_i32_85
  let v217 : Index := Scalar.indexCast v171
  let c0_115 : Index := 0#32
  let c0_116 : Index := 0#32
  ![0, v217.toNat, 0, 0]
def k0_off10 (i : grid0.Coords) (k0_t1 : Fin (k0_t1_loop i).trips) (c1_i32_85 : BitVec 32) : Fin 4 → Nat :=
  let c0_118 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let v171 : BitVec 32 := Scalar.addi v169 c1_i32_85
  let v221 : Index := Scalar.indexCast v171
  let c0_119 : Index := 0#32
  let c0_120 : Index := 0#32
  ![0, v221.toNat, 0, 0]
def k0_off11 (i : grid0.Coords) (k0_t1 : Fin (k0_t1_loop i).trips) (c1_i32_85 : BitVec 32) : Fin 2 → Nat :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let v171 : BitVec 32 := Scalar.addi v169 c1_i32_85
  let c256_i32_113 : BitVec 32 := 256#32
  let v215 : BitVec 32 := Scalar.muli v171 c256_i32_113
  let v216 : BitVec 32 := v215
  let v227 : Index := Scalar.indexCast v216
  let c0_121 : Index := 0#32
  ![v227.toNat, 0]
def k0_off12 (i : grid0.Coords) (k0_t1 : Fin (k0_t1_loop i).trips) (c1_i32_85 : BitVec 32) : Fin 3 → Nat :=
  let c0_130 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let v171 : BitVec 32 := Scalar.addi v169 c1_i32_85
  let c256_i32_113 : BitVec 32 := 256#32
  let v215 : BitVec 32 := Scalar.muli v171 c256_i32_113
  let v216 : BitVec 32 := v215
  let v244 : Index := Scalar.indexCast v216
  let c0_131 : Index := 0#32
  ![0, v244.toNat, 0]
def k0_mult4 (i : grid0.Coords) (k0_t1 : Fin (k0_t1_loop i).trips) : BitVec 32 :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c1_i32_55 : BitVec 32 := 1#32
  let arg14 : BitVec 32 := Scf.iv c0_i32_53 c1_i32_55 k0_t1
  let v168 : BitVec 32 := Scalar.muli c3_i32_83 arg14
  let v169 : BitVec 32 := Scalar.addi v167 v168
  let c2_i32_84 : BitVec 32 := 2#32
  let v170 : BitVec 32 := Scalar.addi v169 c2_i32_84
  let c256_i32_140 : BitVec 32 := 256#32
  let v258 : BitVec 32 := Scalar.muli v170 c256_i32_140
  v258
@[reducible] def k0_t2_loop (i : grid0.Coords) : Scf.Loop 32 :=
  let c0_i32_53 : BitVec 32 := 0#32
  let c15_i32 : BitVec 32 := 15#32
  let arg1 : BitVec 32 := BitVec.ofNat 32 (i 1).val
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let v114 : BitVec 32 := Scalar.addi c0_i32_53 v113
  let c1_i32_56 : BitVec 32 := 1#32
  ⟨v117, v114, c1_i32_56⟩
def k0_mult5 (i : grid0.Coords) (k0_t2 : Fin (k0_t2_loop i).trips) : BitVec 32 :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let c256_i32_86 : BitVec 32 := 256#32
  let v172 : BitVec 32 := Scalar.muli v169 c256_i32_86
  v172
def k0_off13 (i : grid0.Coords) (k0_t2 : Fin (k0_t2_loop i).trips) : Fin 4 → Nat :=
  let c0_87 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let v174 : Index := Scalar.indexCast v169
  let c0_88 : Index := 0#32
  let c0_89 : Index := 0#32
  ![0, v174.toNat, 0, 0]
def k0_off14 (i : grid0.Coords) (k0_t2 : Fin (k0_t2_loop i).trips) : Fin 4 → Nat :=
  let c0_91 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let v178 : Index := Scalar.indexCast v169
  let c0_92 : Index := 0#32
  let c0_93 : Index := 0#32
  ![0, v178.toNat, 0, 0]
def k0_off15 (i : grid0.Coords) (k0_t2 : Fin (k0_t2_loop i).trips) : Fin 2 → Nat :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let c256_i32_86 : BitVec 32 := 256#32
  let v172 : BitVec 32 := Scalar.muli v169 c256_i32_86
  let v173 : BitVec 32 := v172
  let v184 : Index := Scalar.indexCast v173
  let c0_94 : Index := 0#32
  ![v184.toNat, 0]
def k0_off16 (i : grid0.Coords) (k0_t2 : Fin (k0_t2_loop i).trips) : Fin 3 → Nat :=
  let c0_103 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let c256_i32_86 : BitVec 32 := 256#32
  let v172 : BitVec 32 := Scalar.muli v169 c256_i32_86
  let v173 : BitVec 32 := v172
  let v201 : Index := Scalar.indexCast v173
  let c0_104 : Index := 0#32
  ![0, v201.toNat, 0]
def k0_mult6 (i : grid0.Coords) (k0_t2 : Fin (k0_t2_loop i).trips) : BitVec 32 :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let c1_i32_85 : BitVec 32 := 1#32
  let v171 : BitVec 32 := Scalar.addi v169 c1_i32_85
  let c256_i32_113 : BitVec 32 := 256#32
  let v215 : BitVec 32 := Scalar.muli v171 c256_i32_113
  v215
def k0_off17 (i : grid0.Coords) (k0_t2 : Fin (k0_t2_loop i).trips) (c1_i32_85 : BitVec 32) : Fin 4 → Nat :=
  let c0_114 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let v171 : BitVec 32 := Scalar.addi v169 c1_i32_85
  let v217 : Index := Scalar.indexCast v171
  let c0_115 : Index := 0#32
  let c0_116 : Index := 0#32
  ![0, v217.toNat, 0, 0]
def k0_off18 (i : grid0.Coords) (k0_t2 : Fin (k0_t2_loop i).trips) (c1_i32_85 : BitVec 32) : Fin 4 → Nat :=
  let c0_118 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let v171 : BitVec 32 := Scalar.addi v169 c1_i32_85
  let v221 : Index := Scalar.indexCast v171
  let c0_119 : Index := 0#32
  let c0_120 : Index := 0#32
  ![0, v221.toNat, 0, 0]
def k0_off19 (i : grid0.Coords) (k0_t2 : Fin (k0_t2_loop i).trips) (c1_i32_85 : BitVec 32) : Fin 2 → Nat :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let v171 : BitVec 32 := Scalar.addi v169 c1_i32_85
  let c256_i32_113 : BitVec 32 := 256#32
  let v215 : BitVec 32 := Scalar.muli v171 c256_i32_113
  let v216 : BitVec 32 := v215
  let v227 : Index := Scalar.indexCast v216
  let c0_121 : Index := 0#32
  ![v227.toNat, 0]
def k0_off20 (i : grid0.Coords) (k0_t2 : Fin (k0_t2_loop i).trips) (c1_i32_85 : BitVec 32) : Fin 3 → Nat :=
  let c0_130 : Index := 0#32
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let v171 : BitVec 32 := Scalar.addi v169 c1_i32_85
  let c256_i32_113 : BitVec 32 := 256#32
  let v215 : BitVec 32 := Scalar.muli v171 c256_i32_113
  let v216 : BitVec 32 := v215
  let v244 : Index := Scalar.indexCast v216
  let c0_131 : Index := 0#32
  ![0, v244.toNat, 0]
def k0_mult7 (i : grid0.Coords) (k0_t2 : Fin (k0_t2_loop i).trips) : BitVec 32 :=
  let arg1 : BitVec 32 := BitVec.ofNat 32 (i 1).val
  let c1_i32_82 : BitVec 32 := 1#32
  let v167 : BitVec 32 := Scalar.addi arg1 c1_i32_82
  let c3_i32_83 : BitVec 32 := 3#32
  let c0_i32_53 : BitVec 32 := 0#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v113 : BitVec 32 := Scalar.subi v112 c0_i32_53
  let c1_i32_54 : BitVec 32 := 1#32
  let v115 : BitVec 32 := Scalar.divsi v113 c1_i32_54
  let v116 : BitVec 32 := Scalar.muli v115 c1_i32_54
  let v117 : BitVec 32 := Scalar.addi c0_i32_53 v116
  let c1_i32_56 : BitVec 32 := 1#32
  let arg14 : BitVec 32 := Scf.iv v117 c1_i32_56 k0_t2
  let v168 : BitVec 32 := Scalar.muli c3_i32_83 arg14
  let v169 : BitVec 32 := Scalar.addi v167 v168
  let c2_i32_84 : BitVec 32 := 2#32
  let v170 : BitVec 32 := Scalar.addi v169 c2_i32_84
  let c256_i32_140 : BitVec 32 := 256#32
  let v258 : BitVec 32 := Scalar.muli v170 c256_i32_140
  v258
@[reducible] def k0_t3_loop (i : grid0.Coords) : Scf.Loop 32 :=
  let c0_i32_66 : BitVec 32 := 0#32
  let c16_i32 : BitVec 32 := 16#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v141 : BitVec 32 := Scalar.subi v140 c0_i32_66
  let c1_i32_67 : BitVec 32 := 1#32
  let v143 : BitVec 32 := Scalar.divsi v141 c1_i32_67
  let v144 : BitVec 32 := Scalar.muli v143 c1_i32_67
  let v145 : BitVec 32 := Scalar.addi c0_i32_66 v144
  let c1_i32_68 : BitVec 32 := 1#32
  ⟨c0_i32_66, v145, c1_i32_68⟩
def k0_mult8 (i : grid0.Coords) : BitVec 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c256_i32_83 : BitVec 32 := 256#32
  let v168 : BitVec 32 := Scalar.muli v122 c256_i32_83
  v168
def k0_off21 (i : grid0.Coords) : Fin 4 → Nat :=
  let c0_84 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let v170 : Index := Scalar.indexCast v122
  let c0_85 : Index := 0#32
  let c0_86 : Index := 0#32
  ![0, v170.toNat, 0, 0]
def k0_off22 (i : grid0.Coords) : Fin 4 → Nat :=
  let c0_88 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let v174 : Index := Scalar.indexCast v122
  let c0_89 : Index := 0#32
  let c0_90 : Index := 0#32
  ![0, v174.toNat, 0, 0]
def k0_off23 (i : grid0.Coords) : Fin 2 → Nat :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c256_i32_83 : BitVec 32 := 256#32
  let v168 : BitVec 32 := Scalar.muli v122 c256_i32_83
  let v169 : BitVec 32 := v168
  let v180 : Index := Scalar.indexCast v169
  let c0_91 : Index := 0#32
  ![v180.toNat, 0]
def k0_off24 (i : grid0.Coords) : Fin 3 → Nat :=
  let c0_100 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c256_i32_83 : BitVec 32 := 256#32
  let v168 : BitVec 32 := Scalar.muli v122 c256_i32_83
  let v169 : BitVec 32 := v168
  let v197 : Index := Scalar.indexCast v169
  let c0_101 : Index := 0#32
  ![0, v197.toNat, 0]
def k0_mult9 (i : grid0.Coords) : BitVec 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let c256_i32_110 : BitVec 32 := 256#32
  let v211 : BitVec 32 := Scalar.muli v167 c256_i32_110
  v211
def k0_off25 (i : grid0.Coords) : Fin 4 → Nat :=
  let c0_111 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let v213 : Index := Scalar.indexCast v167
  let c0_112 : Index := 0#32
  let c0_113 : Index := 0#32
  ![0, v213.toNat, 0, 0]
def k0_off26 (i : grid0.Coords) : Fin 4 → Nat :=
  let c0_115 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let v217 : Index := Scalar.indexCast v167
  let c0_116 : Index := 0#32
  let c0_117 : Index := 0#32
  ![0, v217.toNat, 0, 0]
def k0_off27 (i : grid0.Coords) : Fin 2 → Nat :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let c256_i32_110 : BitVec 32 := 256#32
  let v211 : BitVec 32 := Scalar.muli v167 c256_i32_110
  let v212 : BitVec 32 := v211
  let v223 : Index := Scalar.indexCast v212
  let c0_118 : Index := 0#32
  ![v223.toNat, 0]
def k0_off28 (i : grid0.Coords) : Fin 3 → Nat :=
  let c0_127 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let c256_i32_110 : BitVec 32 := 256#32
  let v211 : BitVec 32 := Scalar.muli v167 c256_i32_110
  let v212 : BitVec 32 := v211
  let v240 : Index := Scalar.indexCast v212
  let c0_128 : Index := 0#32
  ![0, v240.toNat, 0]
@[reducible] def k0_t4_loop (i : grid0.Coords) : Scf.Loop 32 :=
  let c0_i32_66 : BitVec 32 := 0#32
  let c16_i32 : BitVec 32 := 16#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v141 : BitVec 32 := Scalar.subi v140 c0_i32_66
  let c1_i32_67 : BitVec 32 := 1#32
  let v143 : BitVec 32 := Scalar.divsi v141 c1_i32_67
  let v144 : BitVec 32 := Scalar.muli v143 c1_i32_67
  let v145 : BitVec 32 := Scalar.addi c0_i32_66 v144
  let v142 : BitVec 32 := Scalar.addi c0_i32_66 v141
  let c1_i32_69 : BitVec 32 := 1#32
  ⟨v145, v142, c1_i32_69⟩
def k0_mult10 (i : grid0.Coords) : BitVec 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c256_i32_83 : BitVec 32 := 256#32
  let v168 : BitVec 32 := Scalar.muli v122 c256_i32_83
  v168
def k0_off29 (i : grid0.Coords) : Fin 4 → Nat :=
  let c0_84 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let v170 : Index := Scalar.indexCast v122
  let c0_85 : Index := 0#32
  let c0_86 : Index := 0#32
  ![0, v170.toNat, 0, 0]
def k0_off30 (i : grid0.Coords) : Fin 4 → Nat :=
  let c0_88 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let v174 : Index := Scalar.indexCast v122
  let c0_89 : Index := 0#32
  let c0_90 : Index := 0#32
  ![0, v174.toNat, 0, 0]
def k0_off31 (i : grid0.Coords) : Fin 2 → Nat :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c256_i32_83 : BitVec 32 := 256#32
  let v168 : BitVec 32 := Scalar.muli v122 c256_i32_83
  let v169 : BitVec 32 := v168
  let v180 : Index := Scalar.indexCast v169
  let c0_91 : Index := 0#32
  ![v180.toNat, 0]
def k0_off32 (i : grid0.Coords) : Fin 3 → Nat :=
  let c0_100 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c256_i32_83 : BitVec 32 := 256#32
  let v168 : BitVec 32 := Scalar.muli v122 c256_i32_83
  let v169 : BitVec 32 := v168
  let v197 : Index := Scalar.indexCast v169
  let c0_101 : Index := 0#32
  ![0, v197.toNat, 0]
def k0_mult11 (i : grid0.Coords) : BitVec 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let c256_i32_110 : BitVec 32 := 256#32
  let v211 : BitVec 32 := Scalar.muli v167 c256_i32_110
  v211
def k0_off33 (i : grid0.Coords) : Fin 4 → Nat :=
  let c0_111 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let v213 : Index := Scalar.indexCast v167
  let c0_112 : Index := 0#32
  let c0_113 : Index := 0#32
  ![0, v213.toNat, 0, 0]
def k0_off34 (i : grid0.Coords) : Fin 4 → Nat :=
  let c0_115 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let v217 : Index := Scalar.indexCast v167
  let c0_116 : Index := 0#32
  let c0_117 : Index := 0#32
  ![0, v217.toNat, 0, 0]
def k0_off35 (i : grid0.Coords) : Fin 2 → Nat :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let c256_i32_110 : BitVec 32 := 256#32
  let v211 : BitVec 32 := Scalar.muli v167 c256_i32_110
  let v212 : BitVec 32 := v211
  let v223 : Index := Scalar.indexCast v212
  let c0_118 : Index := 0#32
  ![v223.toNat, 0]
def k0_off36 (i : grid0.Coords) : Fin 3 → Nat :=
  let c0_127 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c1_i32_82 : BitVec 32 := 1#32
  let v167 : BitVec 32 := Scalar.addi v122 c1_i32_82
  let c256_i32_110 : BitVec 32 := 256#32
  let v211 : BitVec 32 := Scalar.muli v167 c256_i32_110
  let v212 : BitVec 32 := v211
  let v240 : Index := Scalar.indexCast v212
  let c0_128 : Index := 0#32
  ![0, v240.toNat, 0]
@[reducible] def k0_t5_loop (i : grid0.Coords) : Scf.Loop 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c16_i32_71 : BitVec 32 := 16#32
  let v150 : BitVec 32 := Scalar.subi c16_i32_71 v149
  let c1_i32_72 : BitVec 32 := 1#32
  let v152 : BitVec 32 := Scalar.divsi v150 c1_i32_72
  let v153 : BitVec 32 := Scalar.muli v152 c1_i32_72
  let v154 : BitVec 32 := Scalar.addi v149 v153
  let c1_i32_73 : BitVec 32 := 1#32
  ⟨v149, v154, c1_i32_73⟩
def k0_mult12 (i : grid0.Coords) (k0_t5 : Fin (k0_t5_loop i).trips) : BitVec 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c1_i32_73 : BitVec 32 := 1#32
  let arg14 : BitVec 32 := Scf.iv v149 c1_i32_73 k0_t5
  let c256_i32_82 : BitVec 32 := 256#32
  let v167 : BitVec 32 := Scalar.muli arg14 c256_i32_82
  v167
def k0_off37 (i : grid0.Coords) (k0_t5 : Fin (k0_t5_loop i).trips) : Fin 4 → Nat :=
  let c0_83 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c1_i32_73 : BitVec 32 := 1#32
  let arg14 : BitVec 32 := Scf.iv v149 c1_i32_73 k0_t5
  let v169 : Index := Scalar.indexCast arg14
  let c0_84 : Index := 0#32
  let c0_85 : Index := 0#32
  ![0, v169.toNat, 0, 0]
def k0_off38 (i : grid0.Coords) (k0_t5 : Fin (k0_t5_loop i).trips) : Fin 4 → Nat :=
  let c0_87 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c1_i32_73 : BitVec 32 := 1#32
  let arg14 : BitVec 32 := Scf.iv v149 c1_i32_73 k0_t5
  let v173 : Index := Scalar.indexCast arg14
  let c0_88 : Index := 0#32
  let c0_89 : Index := 0#32
  ![0, v173.toNat, 0, 0]
def k0_off39 (i : grid0.Coords) (k0_t5 : Fin (k0_t5_loop i).trips) : Fin 2 → Nat :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c1_i32_73 : BitVec 32 := 1#32
  let arg14 : BitVec 32 := Scf.iv v149 c1_i32_73 k0_t5
  let c256_i32_82 : BitVec 32 := 256#32
  let v167 : BitVec 32 := Scalar.muli arg14 c256_i32_82
  let v168 : BitVec 32 := v167
  let v179 : Index := Scalar.indexCast v168
  let c0_90 : Index := 0#32
  ![v179.toNat, 0]
def k0_off40 (i : grid0.Coords) (k0_t5 : Fin (k0_t5_loop i).trips) : Fin 3 → Nat :=
  let c0_99 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c1_i32_73 : BitVec 32 := 1#32
  let arg14 : BitVec 32 := Scf.iv v149 c1_i32_73 k0_t5
  let c256_i32_82 : BitVec 32 := 256#32
  let v167 : BitVec 32 := Scalar.muli arg14 c256_i32_82
  let v168 : BitVec 32 := v167
  let v196 : Index := Scalar.indexCast v168
  let c0_100 : Index := 0#32
  ![0, v196.toNat, 0]
@[reducible] def k0_t6_loop (i : grid0.Coords) : Scf.Loop 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c16_i32_71 : BitVec 32 := 16#32
  let v150 : BitVec 32 := Scalar.subi c16_i32_71 v149
  let c1_i32_72 : BitVec 32 := 1#32
  let v152 : BitVec 32 := Scalar.divsi v150 c1_i32_72
  let v153 : BitVec 32 := Scalar.muli v152 c1_i32_72
  let v154 : BitVec 32 := Scalar.addi v149 v153
  let v151 : BitVec 32 := Scalar.addi v149 v150
  let c1_i32_74 : BitVec 32 := 1#32
  ⟨v154, v151, c1_i32_74⟩
def k0_mult13 (i : grid0.Coords) (k0_t6 : Fin (k0_t6_loop i).trips) : BitVec 32 :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c16_i32_71 : BitVec 32 := 16#32
  let v150 : BitVec 32 := Scalar.subi c16_i32_71 v149
  let c1_i32_72 : BitVec 32 := 1#32
  let v152 : BitVec 32 := Scalar.divsi v150 c1_i32_72
  let v153 : BitVec 32 := Scalar.muli v152 c1_i32_72
  let v154 : BitVec 32 := Scalar.addi v149 v153
  let c1_i32_74 : BitVec 32 := 1#32
  let arg14 : BitVec 32 := Scf.iv v154 c1_i32_74 k0_t6
  let c256_i32_82 : BitVec 32 := 256#32
  let v167 : BitVec 32 := Scalar.muli arg14 c256_i32_82
  v167
def k0_off41 (i : grid0.Coords) (k0_t6 : Fin (k0_t6_loop i).trips) : Fin 4 → Nat :=
  let c0_83 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c16_i32_71 : BitVec 32 := 16#32
  let v150 : BitVec 32 := Scalar.subi c16_i32_71 v149
  let c1_i32_72 : BitVec 32 := 1#32
  let v152 : BitVec 32 := Scalar.divsi v150 c1_i32_72
  let v153 : BitVec 32 := Scalar.muli v152 c1_i32_72
  let v154 : BitVec 32 := Scalar.addi v149 v153
  let c1_i32_74 : BitVec 32 := 1#32
  let arg14 : BitVec 32 := Scf.iv v154 c1_i32_74 k0_t6
  let v169 : Index := Scalar.indexCast arg14
  let c0_84 : Index := 0#32
  let c0_85 : Index := 0#32
  ![0, v169.toNat, 0, 0]
def k0_off42 (i : grid0.Coords) (k0_t6 : Fin (k0_t6_loop i).trips) : Fin 4 → Nat :=
  let c0_87 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c16_i32_71 : BitVec 32 := 16#32
  let v150 : BitVec 32 := Scalar.subi c16_i32_71 v149
  let c1_i32_72 : BitVec 32 := 1#32
  let v152 : BitVec 32 := Scalar.divsi v150 c1_i32_72
  let v153 : BitVec 32 := Scalar.muli v152 c1_i32_72
  let v154 : BitVec 32 := Scalar.addi v149 v153
  let c1_i32_74 : BitVec 32 := 1#32
  let arg14 : BitVec 32 := Scf.iv v154 c1_i32_74 k0_t6
  let v173 : Index := Scalar.indexCast arg14
  let c0_88 : Index := 0#32
  let c0_89 : Index := 0#32
  ![0, v173.toNat, 0, 0]
def k0_off43 (i : grid0.Coords) (k0_t6 : Fin (k0_t6_loop i).trips) : Fin 2 → Nat :=
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c16_i32_71 : BitVec 32 := 16#32
  let v150 : BitVec 32 := Scalar.subi c16_i32_71 v149
  let c1_i32_72 : BitVec 32 := 1#32
  let v152 : BitVec 32 := Scalar.divsi v150 c1_i32_72
  let v153 : BitVec 32 := Scalar.muli v152 c1_i32_72
  let v154 : BitVec 32 := Scalar.addi v149 v153
  let c1_i32_74 : BitVec 32 := 1#32
  let arg14 : BitVec 32 := Scf.iv v154 c1_i32_74 k0_t6
  let c256_i32_82 : BitVec 32 := 256#32
  let v167 : BitVec 32 := Scalar.muli arg14 c256_i32_82
  let v168 : BitVec 32 := v167
  let v179 : Index := Scalar.indexCast v168
  let c0_90 : Index := 0#32
  ![v179.toNat, 0]
def k0_off44 (i : grid0.Coords) (k0_t6 : Fin (k0_t6_loop i).trips) : Fin 3 → Nat :=
  let c0_99 : Index := 0#32
  let arg1 : BitVec 32 := BitVec.ofNat 32 (i 1).val
  let c1_i32_57 : BitVec 32 := 1#32
  let v120 : BitVec 32 := Scalar.addi arg1 c1_i32_57
  let c3_i32_58 : BitVec 32 := 3#32
  let c15_i32 : BitVec 32 := 15#32
  let v95 : BitVec 32 := Scalar.subi c15_i32 arg1
  let c0_i32_47 : BitVec 32 := 0#32
  let v97 : BitVec 1 := Scalar.cmpi .sgt v95 c0_i32_47
  let v98 : BitVec 32 := Scalar.extui v97
  let c0_i32_48 : BitVec 32 := 0#32
  let v99 : BitVec 1 := Scalar.cmpi .slt v95 c0_i32_48
  let v100 : BitVec 32 := Scalar.extui v99
  let v101 : BitVec 32 := Scalar.subi v98 v100
  let c3_i32 : BitVec 32 := 3#32
  let c0_i32_49 : BitVec 32 := 0#32
  let v102 : BitVec 1 := Scalar.cmpi .sgt c3_i32 c0_i32_49
  let v103 : BitVec 32 := Scalar.extui v102
  let c0_i32_50 : BitVec 32 := 0#32
  let v104 : BitVec 1 := Scalar.cmpi .slt c3_i32 c0_i32_50
  let v105 : BitVec 32 := Scalar.extui v104
  let v106 : BitVec 32 := Scalar.subi v103 v105
  let v107 : BitVec 1 := Scalar.cmpi .ne v101 v106
  let v108 : BitVec 32 := Scalar.remsi v95 c3_i32
  let c0_i32_51 : BitVec 32 := 0#32
  let v109 : BitVec 1 := Scalar.cmpi .ne v108 c0_i32_51
  let v110 : BitVec 1 := Scalar.andi v107 v109
  let v96 : BitVec 32 := Scalar.divsi v95 c3_i32
  let c1_i32_52 : BitVec 32 := 1#32
  let v111 : BitVec 32 := Scalar.subi v96 c1_i32_52
  let v112 : BitVec 32 := Scalar.select v110 v111 v96
  let v121 : BitVec 32 := Scalar.muli c3_i32_58 v112
  let v122 : BitVec 32 := Scalar.addi v120 v121
  let c2_i32_70 : BitVec 32 := 2#32
  let c16_i32 : BitVec 32 := 16#32
  let v123 : BitVec 32 := Scalar.subi c16_i32 v122
  let c0_i32_60 : BitVec 32 := 0#32
  let v125 : BitVec 1 := Scalar.cmpi .sgt v123 c0_i32_60
  let v126 : BitVec 32 := Scalar.extui v125
  let c0_i32_61 : BitVec 32 := 0#32
  let v127 : BitVec 1 := Scalar.cmpi .slt v123 c0_i32_61
  let v128 : BitVec 32 := Scalar.extui v127
  let v129 : BitVec 32 := Scalar.subi v126 v128
  let c2_i32_59 : BitVec 32 := 2#32
  let c0_i32_62 : BitVec 32 := 0#32
  let v130 : BitVec 1 := Scalar.cmpi .sgt c2_i32_59 c0_i32_62
  let v131 : BitVec 32 := Scalar.extui v130
  let c0_i32_63 : BitVec 32 := 0#32
  let v132 : BitVec 1 := Scalar.cmpi .slt c2_i32_59 c0_i32_63
  let v133 : BitVec 32 := Scalar.extui v132
  let v134 : BitVec 32 := Scalar.subi v131 v133
  let v135 : BitVec 1 := Scalar.cmpi .ne v129 v134
  let v136 : BitVec 32 := Scalar.remsi v123 c2_i32_59
  let c0_i32_64 : BitVec 32 := 0#32
  let v137 : BitVec 1 := Scalar.cmpi .ne v136 c0_i32_64
  let v138 : BitVec 1 := Scalar.andi v135 v137
  let v124 : BitVec 32 := Scalar.divsi v123 c2_i32_59
  let c1_i32_65 : BitVec 32 := 1#32
  let v139 : BitVec 32 := Scalar.subi v124 c1_i32_65
  let v140 : BitVec 32 := Scalar.select v138 v139 v124
  let v148 : BitVec 32 := Scalar.muli c2_i32_70 v140
  let v149 : BitVec 32 := Scalar.addi v122 v148
  let c16_i32_71 : BitVec 32 := 16#32
  let v150 : BitVec 32 := Scalar.subi c16_i32_71 v149
  let c1_i32_72 : BitVec 32 := 1#32
  let v152 : BitVec 32 := Scalar.divsi v150 c1_i32_72
  let v153 : BitVec 32 := Scalar.muli v152 c1_i32_72
  let v154 : BitVec 32 := Scalar.addi v149 v153
  let c1_i32_74 : BitVec 32 := 1#32
  let arg14 : BitVec 32 := Scf.iv v154 c1_i32_74 k0_t6
  let c256_i32_82 : BitVec 32 := 256#32
  let v167 : BitVec 32 := Scalar.muli arg14 c256_i32_82
  let v168 : BitVec 32 := v167
  let v196 : Index := Scalar.indexCast v168
  let c0_100 : Index := 0#32
  ![0, v196.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x8x96 : Shape := ⟨3, ![4096, 8, 96]⟩
abbrev S4096x8x64 : Shape := ⟨3, ![4096, 8, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S16x256x8x128 : Shape := ⟨4, ![16, 256, 8, 128]⟩
abbrev S8x16x128x256 : Shape := ⟨4, ![8, 16, 128, 256]⟩
abbrev S8x4096x128 : Shape := ⟨3, ![8, 4096, 128]⟩
abbrev S2x2 : Shape := ⟨2, ![2, 2]⟩
abbrev S2x2x1 : Shape := ⟨3, ![2, 2, 1]⟩
abbrev S4096x4x2x1x64 : Shape := ⟨5, ![4096, 4, 2, 1, 64]⟩
abbrev S4096x4x2x2x64 : Shape := ⟨5, ![4096, 4, 2, 2, 64]⟩

abbrev nBuf : Space → Nat
  | .hbm => 124
  | .vmem => 0
  | .smem => 0
  | _ => 0

abbrev bufTy : (tb : Table) → Fin (tcTables nBuf tb) → BufTy
  | .hbm, ⟨0, _⟩ => ⟨S4096x8x96, .bf16⟩
  | .hbm, ⟨1, _⟩ => ⟨S4096x8x96, .bf16⟩
  | .hbm, ⟨2, _⟩ => ⟨S4096x8x64, .bf16⟩
  | .hbm, ⟨3, _⟩ => ⟨S4096x8x64, .bf16⟩
  | .hbm, ⟨4, _⟩ => ⟨S4096x8x96, .f32⟩
  | .hbm, ⟨5, _⟩ => ⟨S_, .f32⟩
  | .hbm, ⟨6, _⟩ => ⟨S4096x8x96, .f32⟩
  | .hbm, ⟨7, _⟩ => ⟨S4096x8x96, .f32⟩
  | .hbm, ⟨8, _⟩ => ⟨S4096x8x96, .bf16⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x4096, .bf16⟩
  | .hbm, ⟨62, _⟩ => ⟨S8x64x4096, .f32⟩
  | .hbm, ⟨63, _⟩ => ⟨S4096x8x64, .f32⟩
  | .hbm, ⟨64, _⟩ => ⟨S4096x8x64, .bf16⟩
  | .hbm, ⟨65, _⟩ => ⟨S4096x8x64, .f32⟩
  | .hbm, ⟨66, _⟩ => ⟨S8x64x4096, .f32⟩
  | .hbm, ⟨67, _⟩ => ⟨S8x4096x4096, .f32⟩
  | .hbm, ⟨68, _⟩ => ⟨S8x4096x4096, .bf16⟩
  | .hbm, ⟨69, _⟩ => ⟨S8x64x4096, .f32⟩
  | .hbm, ⟨70, _⟩ => ⟨S4096x8x64, .f32⟩
  | .hbm, ⟨71, _⟩ => ⟨S4096x8x64, .bf16⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S8x4096x1, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096x4096, .f32⟩
  | .hbm, ⟨89, _⟩ => ⟨S8x4096x4096, .f32⟩
  | .hbm, ⟨90, _⟩ => ⟨S8x4096x96, .f32⟩
  | .hbm, ⟨91, _⟩ => ⟨S4096x8x96, .f32⟩
  | .hbm, ⟨92, _⟩ => ⟨S4096x8x96, .bf16⟩
  | .hbm, ⟨93, _⟩ => ⟨S8x4096x96, .f32⟩
  | .hbm, ⟨94, _⟩ => ⟨S4096x8x96, .f32⟩
  | .hbm, ⟨95, _⟩ => ⟨S4096x8x96, .bf16⟩
  | .hbm, ⟨96, _⟩ => ⟨S4096x8x96, .f32⟩
  | .hbm, ⟨97, _⟩ => ⟨S4096x8x96, .f32⟩
  | .hbm, ⟨98, _⟩ => ⟨S4096x8x64, .f32⟩
  | .hbm, ⟨99, _⟩ => ⟨S_, .i32⟩
  | .hbm, ⟨100, _⟩ => ⟨S_, .f32⟩
  | .hbm, ⟨101, _⟩ => ⟨S4096x8x128, .f32⟩
  | .hbm, ⟨102, _⟩ => ⟨S16x256x8x128, .f32⟩
  | .hbm, ⟨103, _⟩ => ⟨S8x16x128x256, .f32⟩
  | .hbm, ⟨104, _⟩ => ⟨S_, .i32⟩
  | .hbm, ⟨105, _⟩ => ⟨S_, .f32⟩
  | .hbm, ⟨106, _⟩ => ⟨S4096x8x128, .f32⟩
  | .hbm, ⟨107, _⟩ => ⟨S8x4096x128, .f32⟩
  | .hbm, ⟨108, _⟩ => ⟨S2x2, .i32⟩
  | .hbm, ⟨109, _⟩ => ⟨S2x2, .i32⟩
  | .hbm, ⟨110, _⟩ => ⟨S_, .i32⟩
  | .hbm, ⟨111, _⟩ => ⟨S2x2, .i32⟩
  | .hbm, ⟨112, _⟩ => ⟨S2x2, .i32⟩
  | .hbm, ⟨113, _⟩ => ⟨S2x2, .i1⟩
  | .hbm, ⟨114, _⟩ => ⟨S2x2x1, .i1⟩
  | .hbm, ⟨115, _⟩ => ⟨S4096x4x2x1x64, .f32⟩
  | .hbm, ⟨116, _⟩ => ⟨S_, .f32⟩
  | .hbm, ⟨117, _⟩ => ⟨S_, .f32⟩
  | .hbm, ⟨118, _⟩ => ⟨S4096x4x2x2x64, .i1⟩
  | .hbm, ⟨119, _⟩ => ⟨S4096x4x2x2x64, .f32⟩
  | .hbm, ⟨120, _⟩ => ⟨S4096x4x2x2x64, .f32⟩
  | .hbm, ⟨121, _⟩ => ⟨S4096x4x2x2x64, .f32⟩
  | .hbm, ⟨122, _⟩ => ⟨S4096x8x128, .f32⟩
  | .hbm, ⟨123, _⟩ => ⟨S8x4096x128, .f32⟩
  | _, _ => ⟨S4096x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c : Ref sig .tc := ⟨.hbm, 99, rfl⟩
abbrev main_call2_v0 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_13 : Ref sig .tc := ⟨.hbm, 104, rfl⟩
abbrev main_call3_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1024x1024 : Shape := ⟨2, ![1024, 1024]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S8x1024x512, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S4096x4096, .bf16⟩
  | .hbm, ⟨12, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .bf16⟩
  | .hbm, ⟨48, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩
abbrev S1x4096x4096 : Shape := ⟨3, ![1, 4096, 4096]⟩
abbrev S8x1024x512 : Shape := ⟨3, ![8, 1024, 512]⟩
abbrev S1x1024x1024 : Shape := ⟨3, ![1, 1024, 1024]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 28
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .bf16⟩
  | .hbm, ⟨24, _⟩ => ⟨S4096x4096, .bf16⟩
  | .hbm, ⟨25, _⟩ => ⟨S1x4096x1024, .bf16⟩
  | .hbm, ⟨26, _⟩ => ⟨S1x4096x4096, .bf16⟩
  | .hbm, ⟨27, _⟩ => ⟨S8x1024x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2x1024x512, .f32⟩
  | .local _ .vmem, ⟨5, _⟩ => ⟨S2x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S1024x4096, .f32⟩
  | .hbm, ⟨25, _⟩ => ⟨S1024x8x512, .f32⟩
  | .hbm, ⟨26, _⟩ => ⟨S8x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4096x4096 : Shape := ⟨3, ![1, 4096, 4096]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S1x4096x4096, .bf16⟩
  | .hbm, ⟨11, _⟩ => ⟨S4096x1024, .bf16⟩
  | .hbm, ⟨12, _⟩ => ⟨S1x4096x1024, .bf16⟩
  | .hbm, ⟨13, _⟩ => ⟨S1x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel5.lean ====
abbrev S4096x1024 : Shape := ⟨2, ![4096, 1024]⟩
abbrev S1024x4096 : Shape := ⟨2, ![1024, 4096]⟩
abbrev S1024 : Shape := ⟨1, ![1024]⟩
abbrev S1024x8x512 : Shape := ⟨3, ![1024, 8, 512]⟩
abbrev S8x1024x512 : Shape := ⟨3, ![8, 1024, 512]⟩
abbrev S1x1024 : Shape := ⟨2, ![1, 1024]⟩
abbrev S1024x1024 : Shape := ⟨2, ![1024, 1024]⟩
abbrev S1x1024x512 : Shape := ⟨3, ![1, 1024, 512]⟩
abbrev S512x1024 : Shape := ⟨2, ![512, 1024]⟩
abbrev S1024x512 : Shape := ⟨2, ![1024, 512]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S4096x1024, .bf16⟩
  | .hbm, ⟨9, _⟩ => ⟨S4096x1024, .bf16⟩
  | .hbm, ⟨10, _⟩ => ⟨S1x1024, .f32⟩
  | .hbm, ⟨11, _⟩ => ⟨S4096x1024, .f32⟩
  | .hbm, ⟨12, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1x4096x1024, .bf16⟩
  | .hbm, ⟨5, _⟩ => ⟨S1024x1024, .bf16⟩
  | .hbm, ⟨6, _⟩ => ⟨S1x1024x1024, .bf16⟩
  | .hbm, ⟨7, _⟩ => ⟨S1x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference7Ideal.lean ====
abbrev S4096x1024 : Shape := ⟨2, ![4096, 1024]⟩
abbrev S1024x1024 : Shape := ⟨2, ![1024, 1024]⟩
abbrev S1x4096x1024 : Shape := ⟨3, ![1, 4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S1x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference8Ideal.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x928 : Shape := ⟨2, ![1024, 928]⟩
abbrev S1x4096x1024 : Shape := ⟨3, ![1, 4096, 1024]⟩
abbrev S1024x896 : Shape := ⟨2, ![1024, 896]⟩
abbrev S_ : Shape := ⟨0, ![]⟩
abbrev S1024x64 : Shape := ⟨2, ![1024, 64]⟩
abbrev S1024x32 : Shape := ⟨2, ![1024, 32]⟩
abbrev S1024x1024 : Shape := ⟨2, ![1024, 1024]⟩
abbrev S1x1024x1024 : Shape := ⟨3, ![1, 1024, 1024]⟩

abbrev nBuf : Space → Nat
  | .hbm => 14
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x928, .f32⟩
  | .hbm, ⟨2, _⟩ => ⟨S4096x1024, .bf16⟩
  | .hbm, ⟨3, _⟩ => ⟨S1x4096x1024, .bf16⟩
  | .hbm, ⟨4, _⟩ => ⟨S1024x928, .bf16⟩
  | .hbm, ⟨5, _⟩ => ⟨S1024x896, .bf16⟩
  | .hbm, ⟨6, _⟩ => ⟨S_, .bf16⟩
  | .hbm, ⟨7, _⟩ => ⟨S1024x64, .bf16⟩
  | .hbm, ⟨8, _⟩ => ⟨S1024x32, .bf16⟩
  | .hbm, ⟨9, _⟩ => ⟨S_, .bf16⟩
  | .hbm, ⟨10, _⟩ => ⟨S1024x32, .bf16⟩
  | .hbm, ⟨11, _⟩ => ⟨S1024x1024, .bf16⟩
  | .hbm, ⟨12, _⟩ => ⟨S1x1024x1024, .bf16⟩
  | .hbm, ⟨13, _⟩ => ⟨S1x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference9Ideal.lean ====
abbrev S4096x1024 : Shape := ⟨2, ![4096, 1024]⟩
abbrev S1024x928 : Shape := ⟨2, ![1024, 928]⟩
abbrev S4096x928 : Shape := ⟨2, ![4096, 928]⟩
abbrev S4096x896 : Shape := ⟨2, ![4096, 896]⟩
abbrev S_ : Shape := ⟨0, ![]⟩
abbrev S4096x64 : Shape := ⟨2, ![4096, 64]⟩
abbrev S4096x32 : Shape := ⟨2, ![4096, 32]⟩
abbrev S1x4096x1024 : Shape := ⟨3, ![1, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x928, .f32⟩
  | .hbm, ⟨2, _⟩ => ⟨S4096x928, .f32⟩
  | .hbm, ⟨3, _⟩ => ⟨S4096x896, .f32⟩
  | .hbm, ⟨4, _⟩ => ⟨S_, .f32⟩
  | .hbm, ⟨5, _⟩ => ⟨S4096x64, .f32⟩
  | .hbm, ⟨6, _⟩ => ⟨S4096x32, .f32⟩
  | .hbm, ⟨7, _⟩ => ⟨S_, .f32⟩
  | .hbm, ⟨8, _⟩ => ⟨S4096x32, .f32⟩
  | .hbm, ⟨9, _⟩ => ⟨S4096x1024, .f32⟩
  | .hbm, ⟨10, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1x512 : Shape := ⟨2, ![1, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S4096x1024, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel11.lean ====
abbrev S4096x1024 : Shape := ⟨2, ![4096, 1024]⟩
abbrev S1024x928 : Shape := ⟨2, ![1024, 928]⟩
abbrev S4096x928 : Shape := ⟨2, ![4096, 928]⟩
abbrev S4096x896 : Shape := ⟨2, ![4096, 896]⟩
abbrev S_ : Shape := ⟨0, ![]⟩
abbrev S4096x64 : Shape := ⟨2, ![4096, 64]⟩
abbrev S4096x32 : Shape := ⟨2, ![4096, 32]⟩
abbrev S1x4096x1024 : Shape := ⟨3, ![1, 4096, 1024]⟩
abbrev S1024x896 : Shape := ⟨2, ![1024, 896]⟩
abbrev S1024x64 : Shape := ⟨2, ![1024, 64]⟩
abbrev S1024x32 : Shape := ⟨2, ![1024, 32]⟩
abbrev S1024x1024 : Shape := ⟨2, ![1024, 1024]⟩
abbrev S1x1024x1024 : Shape := ⟨3, ![1, 1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x928, .f32⟩
  | .hbm, ⟨2, _⟩ => ⟨S4096x928, .f32⟩
  | .hbm, ⟨3, _⟩ => ⟨S4096x928, .bf16⟩
  | .hbm, ⟨4, _⟩ => ⟨S4096x896, .bf16⟩
  | .hbm, ⟨5, _⟩ => ⟨S_, .bf16⟩
  | .hbm, ⟨6, _⟩ => ⟨S4096x64, .bf16⟩
  | .hbm, ⟨7, _⟩ => ⟨S4096x32, .bf16⟩
  | .hbm, ⟨8, _⟩ => ⟨S_, .bf16⟩
  | .hbm, ⟨9, _⟩ => ⟨S4096x32, .bf16⟩
  | .hbm, ⟨10, _⟩ => ⟨S4096x1024, .bf16⟩
  | .hbm, ⟨11, _⟩ => ⟨S1x4096x1024, .bf16⟩
  | .hbm, ⟨12, _⟩ => ⟨S1024x928, .bf16⟩
  | .hbm, ⟨13, _⟩ => ⟨S1024x896, .bf16⟩
  | .hbm, ⟨14, _⟩ => ⟨S_, .bf16⟩
  | .hbm, ⟨15, _⟩ => ⟨S1024x64, .bf16⟩
  | .hbm, ⟨16, _⟩ => ⟨S1024x32, .bf16⟩
  | .hbm, ⟨17, _⟩ => ⟨S_, .bf16⟩
  | .hbm, ⟨18, _⟩ => ⟨S1024x32, .bf16⟩
  | .hbm, ⟨19, _⟩ => ⟨S1024x1024, .bf16⟩
  | .hbm, ⟨20, _⟩ => ⟨S1x1024x1024, .bf16⟩
  | .hbm, ⟨21, _⟩ => ⟨S1x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference11Ideal.lean ====
abbrev S4096x1024 : Shape := ⟨2, ![4096, 1024]⟩
abbrev S1024x928 : Shape := ⟨2, ![1024, 928]⟩
abbrev S4096x928 : Shape := ⟨2, ![4096, 928]⟩
abbrev S1x4096x1024 : Shape := ⟨3, ![1, 4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x928, .f32⟩
  | .hbm, ⟨2, _⟩ => ⟨S4096x928, .f32⟩
  | .hbm, ⟨3, _⟩ => ⟨S4096x928, .f32⟩
  | .hbm, ⟨4, _⟩ => ⟨S4096x1024, .f32⟩
  | .hbm, ⟨5, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x928 : Shape := ⟨2, ![1024, 928]⟩
abbrev S4096x928 : Shape := ⟨2, ![4096, 928]⟩
abbrev S1x4096x1024 : Shape := ⟨3, ![1, 4096, 1024]⟩
abbrev S4096x896 : Shape := ⟨2, ![4096, 896]⟩
abbrev S_ : Shape := ⟨0, ![]⟩
abbrev S4096x64 : Shape := ⟨2, ![4096, 64]⟩
abbrev S4096x32 : Shape := ⟨2, ![4096, 32]⟩
abbrev S1x1024x1024 : Shape := ⟨3, ![1, 1024, 1024]⟩
abbrev S1024x1024 : Shape := ⟨2, ![1024, 1024]⟩

abbrev nBuf : Space → Nat
  | .hbm => 15
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x928, .f32⟩
  | .hbm, ⟨2, _⟩ => ⟨S4096x928, .f32⟩
  | .hbm, ⟨3, _⟩ => ⟨S4096x1024, .bf16⟩
  | .hbm, ⟨4, _⟩ => ⟨S1x4096x1024, .bf16⟩
  | .hbm, ⟨5, _⟩ => ⟨S4096x928, .bf16⟩
  | .hbm, ⟨6, _⟩ => ⟨S4096x896, .bf16⟩
  | .hbm, ⟨7, _⟩ => ⟨S_, .bf16⟩
  | .hbm, ⟨8, _⟩ => ⟨S4096x64, .bf16⟩
  | .hbm, ⟨9, _⟩ => ⟨S4096x32, .bf16⟩
  | .hbm, ⟨10, _⟩ => ⟨S_, .bf16⟩
  | .hbm, ⟨11, _⟩ => ⟨S4096x32, .bf16⟩
  | .hbm, ⟨12, _⟩ => ⟨S4096x1024, .bf16⟩
  | .hbm, ⟨13, _⟩ => ⟨S1x4096x1024, .bf16⟩
  | .hbm, ⟨14, _⟩ => ⟨S1x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference12Ideal.lean ====
abbrev S4096x1024 : Shape := ⟨2, ![4096, 1024]⟩
abbrev S1024x928 : Shape := ⟨2, ![1024, 928]⟩
abbrev S4096x928 : Shape := ⟨2, ![4096, 928]⟩
abbrev S928x1024 : Shape := ⟨2, ![928, 1024]⟩
abbrev S1024x896 : Shape := ⟨2, ![1024, 896]⟩
abbrev S_ : Shape := ⟨0, ![]⟩
abbrev S1024x64 : Shape := ⟨2, ![1024, 64]⟩
abbrev S1024x32 : Shape := ⟨2, ![1024, 32]⟩
abbrev S1024x1024 : Shape := ⟨2, ![1024, 1024]⟩
abbrev S1x1024x1024 : Shape := ⟨3, ![1, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x928, .f32⟩
  | .hbm, ⟨2, _⟩ => ⟨S4096x928, .f32⟩
  | .hbm, ⟨3, _⟩ => ⟨S4096x928, .f32⟩
  | .hbm, ⟨4, _⟩ => ⟨S928x1024, .f32⟩
  | .hbm, ⟨5, _⟩ => ⟨S1024x928, .f32⟩
  | .hbm, ⟨6, _⟩ => ⟨S1024x896, .f32⟩
  | .hbm, ⟨7, _⟩ => ⟨S_, .f32⟩
  | .hbm, ⟨8, _⟩ => ⟨S1024x64, .f32⟩
  | .hbm, ⟨9, _⟩ => ⟨S1024x32, .f32⟩
  | .hbm, ⟨10, _⟩ => ⟨S_, .f32⟩
  | .hbm, ⟨11, _⟩ => ⟨S1024x32, .f32⟩
  | .hbm, ⟨12, _⟩ => ⟨S1024x1024, .f32⟩
  | .hbm, ⟨13, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel13.lean ====
abbrev S4096x8x96 : Shape := ⟨3, ![4096, 8, 96]⟩
abbrev S4096x8x64 : Shape := ⟨3, ![4096, 8, 64]⟩
abbrev S_ : Shape := ⟨0, ![]⟩
abbrev S4096x8x128 : Shape := ⟨3, ![4096, 8, 128]⟩
abbrev S8x4096x128 : Shape := ⟨3, ![8, 4096, 128]⟩
abbrev S8x16x256x128 : Shape := ⟨4, ![8, 16, 256, 128]⟩
abbrev S8x16x128x256 : Shape := ⟨4, ![8, 16, 128, 256]⟩
abbrev S2x2 : Shape := ⟨2, ![2, 2]⟩
abbrev S2x2x1 : Shape := ⟨3, ![2, 2, 1]⟩
abbrev S4096x4x2x1x64 : Shape := ⟨5, ![4096, 4, 2, 1, 64]⟩
abbrev S4096x4x2x2x64 : Shape := ⟨5, ![4096, 4, 2, 2, 64]⟩
abbrev S4096x512 : Shape := ⟨2, ![4096, 512]⟩
abbrev S8x16x1x256 : Shape := ⟨4, ![8, 16, 1, 256]⟩
abbrev S2x256x128 : Shape := ⟨3, ![2, 256, 128]⟩
abbrev S2x16x128x256 : Shape := ⟨4, ![2, 16, 128, 256]⟩
abbrev S2x4096x128 : Shape := ⟨3, ![2, 4096, 128]⟩
abbrev S256x128 : Shape := ⟨2, ![256, 128]⟩
abbrev S2x1x1x256 : Shape := ⟨4, ![2, 1, 1, 256]⟩
abbrev S256x256 : Shape := ⟨2, ![256, 256]⟩
abbrev S256x1 : Shape := ⟨2, ![256, 1]⟩
abbrev S1x256x128 : Shape := ⟨3, ![1, 256, 128]⟩
abbrev S1x1x128x256 : Shape := ⟨4, ![1, 1, 128, 256]⟩
abbrev S128x256 : Shape := ⟨2, ![128, 256]⟩
abbrev S256 : Shape := ⟨1, ![256]⟩
abbrev S1x256 : Shape := ⟨2, ![1, 256]⟩
abbrev S1x1x1x256 : Shape := ⟨4, ![1, 1, 1, 256]⟩

abbrev nBuf : Space → Nat
  | .hbm => 35
  | .vmem => 10
  | .smem => 0
  | _ => 0

abbrev bufTy : (tb : Table) → Fin (tcTables nBuf tb) → BufTy
  | .hbm, ⟨0, _⟩ => ⟨S4096x8x96, .bf16⟩
  | .hbm, ⟨1, _⟩ => ⟨S4096x8x96, .bf16⟩
  | .hbm, ⟨2, _⟩ => ⟨S4096x8x64, .bf16⟩
  | .hbm, ⟨3, _⟩ => ⟨S4096x8x96, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S4096x8x96, .bf16⟩
  | .hbm, ⟨8, _⟩ => ⟨S_, .i32⟩
  | .hbm, ⟨9, _⟩ => ⟨S_, .bf16⟩
  | .hbm, ⟨10, _⟩ => ⟨S4096x8x128, .bf16⟩
  | .hbm, ⟨11, _⟩ => ⟨S8x4096x128, .bf16⟩
  | .hbm, ⟨12, _⟩ => ⟨S_, .i32⟩
  | .hbm, ⟨13, _⟩ => ⟨S_, .bf16⟩
  | .hbm, ⟨14, _⟩ => ⟨S4096x8x128, .bf16⟩
  | .hbm, ⟨15, _⟩ => ⟨S8x4096x128, .bf16⟩
  | .hbm, ⟨16, _⟩ => ⟨S8x16x256x128, .bf16⟩
  | .hbm, ⟨17, _⟩ => ⟨S8x16x128x256, .bf16⟩
  | .hbm, ⟨18, _⟩ => ⟨S2x2, .i32⟩
  | .hbm, ⟨19, _⟩ => ⟨S2x2, .i32⟩
  | .hbm, ⟨20, _⟩ => ⟨S_, .i32⟩
  | .hbm, ⟨21, _⟩ => ⟨S2x2, .i32⟩
  | .hbm, ⟨22, _⟩ => ⟨S2x2, .i32⟩
  | .hbm, ⟨23, _⟩ => ⟨S2x2, .i1⟩
  | .hbm, ⟨24, _⟩ => ⟨S2x2x1, .i1⟩
  | .hbm, ⟨25, _⟩ => ⟨S4096x4x2x1x64, .bf16⟩
  | .hbm, ⟨26, _⟩ => ⟨S_, .bf16⟩
  | .hbm, ⟨27, _⟩ => ⟨S4096x4x2x2x64, .i1⟩
  | .hbm, ⟨28, _⟩ => ⟨S4096x4x2x2x64, .bf16⟩
  | .hbm, ⟨29, _⟩ => ⟨S4096x4x2x2x64, .bf16⟩
  | .hbm, ⟨30, _⟩ => ⟨S4096x4x2x2x64, .bf16⟩
  | .hbm, ⟨31, _⟩ => ⟨S4096x8x128, .bf16⟩
  | .hbm, ⟨32, _⟩ => ⟨S8x4096x128, .bf16⟩
  | .hbm, ⟨33, _⟩ => ⟨S4096x512, .f32⟩
  | .hbm, ⟨34, _⟩ => ⟨S8x16x1x256, .f32⟩
  | .local _ .vmem, ⟨0, _⟩ => ⟨S2x256x128, .bf16⟩
  | .local _ .vmem, ⟨1, _⟩ => ⟨S2x256x128, .bf16⟩
  | .local _ .vmem, ⟨2, _⟩ => ⟨S2x16x128x256, .bf16⟩
  | .local _ .vmem, ⟨3, _⟩ => ⟨S2x16x128x256, .bf16⟩
  | .local _ .vmem, ⟨4, _⟩ => ⟨S2x4096x128, .bf16⟩
  | .local _ .vmem, ⟨5, _⟩ => ⟨S2x4096x128, .bf16⟩
  | .local _ .vmem, ⟨6, _⟩ => ⟨S256x128, .f32⟩
  | .local _ .vmem, ⟨7, _⟩ => ⟨S256x128, .f32⟩
  | .local _ .vmem, ⟨8, _⟩ => ⟨S2x1x1x256, .f32⟩
  | .local _ .vmem, ⟨9, _⟩ => ⟨S2x1x1x256, .f32⟩
  | _, _ => ⟨S4096x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_2 : BitVec 32 := 1#32
  ⟨c0_i32, v9, c1_i32_2⟩
def k0_off1 (i : grid0.Coords) (k0_t1 : Fin (k0_t1_loop i).trips) : Fin 4 → Nat :=
  let c0_43 : Index := 0#32
  let c0_i32 : BitVec 32 := 0#32
  let c1_i32_2 : BitVec 32 := 1#32
  let arg7 : BitVec 32 := Scf.iv c0_i32 c1_i32_2 k0_t1
  let v102 : Index := Scalar.indexCast arg7
  let c0_44 : Index := 0#32
  let c0_45 : Index := 0#32
  ![0, v102.toNat, 0, 0]
def k0_mult1 (i : grid0.Coords) (k0_t1 : Fin (k0_t1_loop i).trips) : BitVec 32 :=
  let c0_i32 : BitVec 32 := 0#32
  let c1_i32_2 : BitVec 32 := 1#32
  let arg7 : BitVec 32 := Scf.iv c0_i32 c1_i32_2 k0_t1
  let c256_i32_48 : BitVec 32 := 256#32
  let v114 : BitVec 32 := Scalar.muli arg7 c256_i32_48
  v114
def k0_off2 (i : grid0.Coords) (k0_t1 : Fin (k0_t1_loop i).trips) : Fin 3 → Nat :=
  let c0_50 : Index := 0#32
  let c0_i32 : BitVec 32 := 0#32
  let c1_i32_2 : BitVec 32 := 1#32
  let arg7 : BitVec 32 := Scf.iv c0_i32 c1_i32_2 k0_t1
  let c256_i32_48 : BitVec 32 := 256#32
  let v114 : BitVec 32 := Scalar.muli arg7 c256_i32_48
  let v115 : BitVec 32 := v114
  let v122 : Index := Scalar.indexCast v115
  let c0_51 : Index := 0#32
  ![0, v122.toNat, 0]
def k0_off3 (i : grid0.Coords) (k0_t1 : Fin (k0_t1_loop i).trips) : Fin 4 → Nat :=
  let c1_56 : Index := 1#32
  let c0_i32 : BitVec 32 := 0#32
  let c1_i32_2 : BitVec 32 := 1#32
  let arg7 : BitVec 32 := Scf.iv c0_i32 c1_i32_2 k0_t1
  let v130 : Index := Scalar.indexCast arg7
  let c0_57 : Index := 0#32
  let c0_58 : Index := 0#32
  ![1, v130.toNat, 0, 0]
def k0_mult2 (i : grid0.Coords) (k0_t1 : Fin (k0_t1_loop i).trips) : BitVec 32 :=
  let c0_i32 : BitVec 32 := 0#32
  let c1_i32_2 : BitVec 32 := 1#32
  let arg7 : BitVec 32 := Scf.iv c0_i32 c1_i32_2 k0_t1
  let c256_i32_61 : BitVec 32 := 256#32
  let v142 : BitVec 32 := Scalar.muli arg7 c256_i32_61
  v142
def k0_off4 (i : grid0.Coords) (k0_t1 : Fin (k0_t1_loop i).trips) : Fin 3 → Nat :=
  let c1_63 : Index := 1#32
  let c0_i32 : BitVec 32 := 0#32
  let c1_i32_2 : BitVec 32 := 1#32
  let arg7 : BitVec 32 := Scf.iv c0_i32 c1_i32_2 k0_t1
  let c256_i32_61 : BitVec 32 := 256#32
  let v142 : BitVec 32 := Scalar.muli arg7 c256_i32_61
  let v143 : BitVec 32 := v142
  let v150 : Index := Scalar.indexCast v143
  let c0_64 : Index := 0#32
  ![1, v150.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_3 : BitVec 32 := 1#32
  ⟨v9, v6, c1_i32_3⟩
def k0_off5 (i : grid0.Coords) (k0_t2 : Fin (k0_t2_loop i).trips) : Fin 4 → Nat :=
  let c0_43 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  let arg7 : BitVec 32 := Scf.iv v9 c1_i32_3 k0_t2
  let v102 : Index := Scalar.indexCast arg7
  let c0_44 : Index := 0#32
  let c0_45 : Index := 0#32
  ![0, v102.toNat, 0, 0]
def k0_mult3 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  let arg7 : BitVec 32 := Scf.iv v9 c1_i32_3 k0_t2
  let c256_i32_48 : BitVec 32 := 256#32
  let v114 : BitVec 32 := Scalar.muli arg7 c256_i32_48
  v114
def k0_off6 (i : grid0.Coords) (k0_t2 : Fin (k0_t2_loop i).trips) : Fin 3 → Nat :=
  let c0_50 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  let arg7 : BitVec 32 := Scf.iv v9 c1_i32_3 k0_t2
  let c256_i32_48 : BitVec 32 := 256#32
  let v114 : BitVec 32 := Scalar.muli arg7 c256_i32_48
  let v115 : BitVec 32 := v114
  let v122 : Index := Scalar.indexCast v115
  let c0_51 : Index := 0#32
  ![0, v122.toNat, 0]
def k0_off7 (i : grid0.Coords) (k0_t2 : Fin (k0_t2_loop i).trips) : Fin 4 → Nat :=
  let c1_56 : Index := 1#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  let arg7 : BitVec 32 := Scf.iv v9 c1_i32_3 k0_t2
  let v130 : Index := Scalar.indexCast arg7
  let c0_57 : Index := 0#32
  let c0_58 : Index := 0#32
  ![1, v130.toNat, 0, 0]
def k0_mult4 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  let arg7 : BitVec 32 := Scf.iv v9 c1_i32_3 k0_t2
  let c256_i32_61 : BitVec 32 := 256#32
  let v142 : BitVec 32 := Scalar.muli arg7 c256_i32_61
  v142
def k0_off8 (i : grid0.Coords) (k0_t2 : Fin (k0_t2_loop i).trips) : Fin 3 → Nat :=
  let c1_63 : Index := 1#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  let arg7 : BitVec 32 := Scf.iv v9 c1_i32_3 k0_t2
  let c256_i32_61 : BitVec 32 := 256#32
  let v142 : BitVec 32 := Scalar.muli arg7 c256_i32_61
  let v143 : BitVec 32 := v142
  let v150 : Index := Scalar.indexCast v143
  let c0_64 : Index := 0#32
  ![1, v150.toNat, 0]
def k0_off9 (i : grid0.Coords) : Fin 4 → Nat :=
  let c0_6 : Index := 0#32
  let arg1 : BitVec 32 := BitVec.ofNat 32 (i 1).val
  let v14 : Index := Scalar.indexCast arg1
  let c0_7 : Index := 0#32
  let c0_8 : Index := 0#32
  ![0, v14.toNat, 0, 0]
def k0_mult5 (i : grid0.Coords) : BitVec 32 :=
  let arg1 : BitVec 32 := BitVec.ofNat 32 (i 1).val
  let c256_i32 : BitVec 32 := 256#32
  let v29 : BitVec 32 := Scalar.muli arg1 c256_i32
  v29
def k0_off10 (i : grid0.Coords) : Fin 3 → Nat :=
  let c0_13 : Index := 0#32
  let arg1 : BitVec 32 := BitVec.ofNat 32 (i 1).val
  let c256_i32 : BitVec 32 := 256#32
  let v29 : BitVec 32 := Scalar.muli arg1 c256_i32
  let v30 : BitVec 32 := v29
  let v37 : Index := Scalar.indexCast v30
  let c0_14 : Index := 0#32
  ![0, v37.toNat, 0]
def k0_off11 (i : grid0.Coords) : Fin 4 → Nat :=
  let c1_18 : Index := 1#32
  let arg1 : BitVec 32 := BitVec.ofNat 32 (i 1).val
  let v45 : Index := Scalar.indexCast arg1
  let c0_19 : Index := 0#32
  let c0_20 : Index := 0#32
  ![1, v45.toNat, 0, 0]
def k0_mult6 (i : grid0.Coords) : BitVec 32 :=
  let arg1 : BitVec 32 := BitVec.ofNat 32 (i 1).val
  let c256_i32_24 : BitVec 32 := 256#32
  let v60 : BitVec 32 := Scalar.muli arg1 c256_i32_24
  v60
def k0_off12 (i : grid0.Coords) : Fin 3 → Nat :=
  let c1_26 : Index := 1#32
  let arg1 : BitVec 32 := BitVec.ofNat 32 (i 1).val
  let c256_i32_24 : BitVec 32 := 256#32
  let v60 : BitVec 32 := Scalar.muli arg1 c256_i32_24
  let v61 : BitVec 32 := v60
  let v68 : Index := Scalar.indexCast v61
  let c0_27 : Index := 0#32
  ![1, v68.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4096x8x96 : Shape := ⟨3, ![4096, 8, 96]⟩
abbrev S4096x8x64 : Shape := ⟨3, ![4096, 8, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S8x16x1x256 : Shape := ⟨4, ![8, 16, 1, 256]⟩

abbrev nBuf : Space → Nat
  | .hbm => 63
  | .vmem => 0
  | .smem => 0
  | _ => 0

abbrev bufTy : (tb : Table) → Fin (tcTables nBuf tb) → BufTy
  | .hbm, ⟨0, _⟩ => ⟨S4096x8x96, .bf16⟩
  | .hbm, ⟨1, _⟩ => ⟨S4096x8x96, .bf16⟩
  | .hbm, ⟨2, _⟩ => ⟨S4096x8x64, .bf16⟩
  | .hbm, ⟨3, _⟩ => ⟨S4096x8x96, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S4096x8x96, .bf16⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S8x4096x4096, .f32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .bf16⟩
  | .hbm, ⟨57, _⟩ => ⟨S8x64x4096, .f32⟩
  | .hbm, ⟨58, _⟩ => ⟨S4096x8x64, .f32⟩
  | .hbm, ⟨59, _⟩ => ⟨S4096x8x64, .bf16⟩
  | .hbm, ⟨60, _⟩ => ⟨S4096x8x64, .f32⟩
  | .hbm, ⟨61, _⟩ => ⟨S4096x512, .f32⟩
  | .hbm, ⟨62, _⟩ => ⟨S8x16x1x256, .f32⟩
  | _, _ => ⟨S4096x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.Mlp.Sums.lean ====
/- Sums over the rows or columns of an array, cut into consecutive blocks of equal length. -/
module

public import Idealize.ShloMosaic.PureOps.Ideal

@[expose] public section

noncomputable section

namespace Cert.Mlp

/-- A function of the positions below `n`, continued by zero. -/
def ext {M : Type*} [Zero M] {n : ℕ} (f : Fin n → M) (j : ℕ) : M := if h : j < n then f ⟨j, h⟩ else 0

theorem ext_of_lt {M : Type*} [Zero M] {n : ℕ} (f : Fin n → M) {j : ℕ} (h : j < n) : ext f j = f ⟨j, h⟩ := dif_pos h

/-- The sums of `B` consecutive blocks of length `K` add up to the sum over all `B * K` positions. -/
theorem sum_range_blocks {M : Type*} [AddCommMonoid M] (K : ℕ) (f : ℕ → M) :
    ∀ B : ℕ, ∑ s ∈ Finset.range B, ∑ k : Fin K, f (K * s + k.val) = ∑ j ∈ Finset.range (B * K), f j
  | 0 => by simp
  | B + 1 => by
    rw [Finset.sum_range_succ, sum_range_blocks K f B, Nat.succ_mul, Finset.sum_range_add,
      Fin.sum_univ_eq_sum_range (fun k => f (K * B + k)) K, Nat.mul_comm K B]

/-- The same for a function of the positions themselves. -/
theorem sum_blocks {M : Type*} [AddCommMonoid M] {n : ℕ} (B K : ℕ) (hn : B * K = n) (f : Fin n → M) :
    ∑ s ∈ Finset.range B, ∑ k : Fin K, ext f (K * s + k.val) = ∑ j : Fin n, f j := by
  rw [sum_range_blocks K (ext f) B, hn, ← Fin.sum_univ_eq_sum_range]
  exact Finset.sum_congr rfl fun j _ => ext_of_lt f j.isLt

end Cert.Mlp

end
-- ==== Proof.Mlp.Bwd.lean ====
/- The backward pass of the squared-relu block: what one grid point leaves in its three results, what the result arrays
   hold at the end, and that they are the reference's gradients. -/
module

public import proofs.«01_k».proof.Defs
public import proofs.«01_k».proof.Proof.Gen.Kernel2Ideal.Value
public import proofs.«01_k».proof.Proof.Gen.Reference2Ideal.Read
public import proofs.«01_k».proof.Proof.Gen.Reference2Ideal.Run
public import proofs.«01_k».proof.Proof.Mlp.Sums
public import Idealize.ShloMosaic.Lib.Pointwise

@[expose] public section

noncomputable section

namespace Cert.Kernel2Ideal.Mlp

open Cert.Kernel2Ideal Cert.Kernel2Ideal.Gen Cert.Kernel2Ideal.Value Cert.Mlp
open Idealize.ShloMosaic Idealize.ShloMosaic.TcCoe Idealize.SL.Sem

/-! ## One grid point -/

/-- The rectified product of a row block with a column block of the first weight. -/
def act (x : S1024x1024.Idx → EReal) (w : S1x1024x512.Idx → EReal) (p : Fin 1024) (f : Fin 512) : EReal :=
  max (∑ d : Fin 1024, x (ix2 p d) * w (ix3 0 d f)) 0

/-- The literal 2. -/
abbrev two : EReal := Ideal.ofBits .f32 0x40000000#32

/-- The gradient at the rectified product's input. -/
def grad (x : S1024x1024.Idx → EReal) (w : S1x1024x512.Idx → EReal) (y : S1024x1024.Idx → EReal) (v : S512x1024.Idx → EReal)
    (p : Fin 1024) (f : Fin 512) : EReal :=
  (∑ d : Fin 1024, y (ix2 p d) * v (ix2 f d)) * (two * act x w p f)

theorem pay1_apply (i : S1024x1024.Idx) : k0_pay1 (F := Ideal) i = (0 : EReal) := by
  pointwise [k0_pay1]

theorem pay3_apply (x : Vec Ideal S1024x1024 .bf16) (w : Vec Ideal S1x1024x512 .bf16) (p : Fin 1024) (f : Fin 512) :
    k0_pay3 x w (ix2 p f) = act x w p f * act x w p f := by
  unfold act
  pointwise [k0_pay3, k0_pay2]

theorem pay4_apply (x : Vec Ideal S1024x1024 .bf16) (w : Vec Ideal S1x1024x512 .bf16) (y : Vec Ideal S1024x1024 .bf16)
    (v : Vec Ideal S512x1024 .bf16) (p : Fin 1024) (f : Fin 512) :
    k0_pay4 x w y v (ix2 p f) = grad x w y v p f := by
  unfold grad act
  pointwise [k0_pay4, k0_pay2]

theorem pay5_apply (x : Vec Ideal S1024x1024 .bf16) (w : Vec Ideal S1x1024x512 .bf16) (y : Vec Ideal S1024x1024 .bf16)
    (v : Vec Ideal S512x1024 .bf16) (acc : Vec Ideal S1024x1024 .f32) (p d : Fin 1024) :
    k0_pay5 x w y v acc w (ix2 p d) = acc (ix2 p d) + ∑ f : Fin 512, grad x w y v p f * w (ix3 0 d f) := by
  unfold grad act
  pointwise [k0_pay5, k0_pay4, k0_pay2]

theorem hz2 : (![0, 0] : Fin 2 → Nat) = fun _ => 0 := funext fun a => by fin_cases a <;> rfl
theorem hz3 : (![0, 0, 0] : Fin 3 → Nat) = fun _ => 0 := funext fun a => by fin_cases a <;> rfl

section Point

variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024x512 .bf16) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x512 .bf16) (harg7 : arg7.IsWhole) (arg8 : Memref sig .tc .vmem S1024x512 .bf16) (harg8 : arg8.IsWhole)
  (x0 : Vec Ideal S1024x1024 .bf16) (x1 : Vec Ideal S1024x1024 .bf16) (x2 : Vec Ideal S1x1024x512 .bf16) (x3 : Vec Ideal S512x1024 .bf16)

theorem out4_A_apply (hc0 : cond0_0 i) (p d : Fin 1024) :
    out0_A_4 (F := Ideal) c i arg2 harg2 arg3 harg3 arg4 harg4 arg5 harg5 arg6 harg6 arg7 harg7 arg8 harg8 hc0 x0 x1 x2 x3 (ix2 p d) = (0 : EReal) + ∑ f : Fin 512, grad x0 x2 x1 x3 p f * x2 (ix3 0 d f) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  try sl_unfold_words
  rw [View.canon_cons_unit_zero (S := S1024x1024) hz2, View.readCov_unit_zero (S := S1024x1024) _ hz2]
  simp only [View.readAt_eq_ld, harg2.read_unread, harg3.read_unread, harg4.read_unread, harg5.read_unread, harg6.read_unread, View.ld_unit_zero (S := S1024x1024) hz2, View.ld_unit_zero (S := S512x1024) hz2, View.ld_unit_zero (S := S1x1024x512) hz3]
  refine (pay5_apply x0 x2 x1 x3 _ p d).trans ?_
  rw [pay1_apply]

theorem out5_A_apply (hc0 : cond0_0 i) (p : Fin 1024) (f : Fin 512) :
    out0_A_5 (F := Ideal) c i arg2 harg2 arg3 harg3 arg4 harg4 arg5 harg5 arg6 harg6 arg7 harg7 arg8 harg8 hc0 x0 x1 x2 x3 (ix2 p f) = act x0 x2 p f * act x0 x2 p f := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  try sl_unfold_words
  rw [View.canon_unit_zero hz2]
  simp only [View.readAt_eq_ld, harg2.read_unread, harg3.read_unread, harg4.read_unread, harg5.read_unread, harg6.read_unread, View.ld_unit_zero (S := S1024x1024) hz2, View.ld_unit_zero (S := S512x1024) hz2, View.ld_unit_zero (S := S1x1024x512) hz3]
  exact pay3_apply x0 x2 p f

theorem out6_A_apply (hc0 : cond0_0 i) (p : Fin 1024) (f : Fin 512) :
    out0_A_6 (F := Ideal) c i arg2 harg2 arg3 harg3 arg4 harg4 arg5 harg5 arg6 harg6 arg7 harg7 arg8 harg8 hc0 x0 x1 x2 x3 (ix2 p f) = grad x0 x2 x1 x3 p f := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  try sl_unfold_words
  rw [View.canon_unit_zero hz2]
  simp only [View.readAt_eq_ld, harg2.read_unread, harg3.read_unread, harg4.read_unread, harg5.read_unread, harg6.read_unread, View.ld_unit_zero (S := S1024x1024) hz2, View.ld_unit_zero (S := S512x1024) hz2, View.ld_unit_zero (S := S1x1024x512) hz3]
  exact pay4_apply x0 x2 x1 x3 p f

theorem out4_B_apply (hc0 : ¬cond0_0 i) (xo4 : Vec Ideal S1024x1024 .f32) (p d : Fin 1024) :
    out0_B_4 (F := Ideal) c i arg2 harg2 arg3 harg3 arg4 harg4 arg5 harg5 arg6 harg6 arg7 harg7 arg8 harg8 hc0 x0 x1 x2 x3 xo4 (ix2 p d) = xo4 (ix2 p d) + ∑ f : Fin 512, grad x0 x2 x1 x3 p f * x2 (ix3 0 d f) := by
  unfold out0_B_4
  rw [View.read_writes_eq_canon _ _ _ (cover0_B_4 c i arg2 harg2 arg3 harg3 arg4 harg4 arg5 harg5 arg6 harg6 arg7 harg7 arg8 harg8 hc0 x0 x1 x2 x3 xo4)]
  unfold kernelRun0_B
  dsimp only
  try sl_unfold_words
  rw [View.canon_unit_zero hz2]
  simp only [View.readAt_eq_ld, harg2.read_unread, harg3.read_unread, harg4.read_unread, harg5.read_unread, harg6.read_unread, View.ld_unit_zero (S := S1024x1024) hz2, View.ld_unit_zero (S := S512x1024) hz2, View.ld_unit_zero (S := S1x1024x512) hz3]
  exact pay5_apply x0 x2 x1 x3 _ p d

theorem out5_B_apply (hc0 : ¬cond0_0 i) (xo4 : Vec Ideal S1024x1024 .f32) (p : Fin 1024) (f : Fin 512) :
    out0_B_5 (F := Ideal) c i arg2 harg2 arg3 harg3 arg4 harg4 arg5 harg5 arg6 harg6 arg7 harg7 arg8 harg8 hc0 x0 x1 x2 x3 xo4 (ix2 p f) = act x0 x2 p f * act x0 x2 p f := by
  unfold out0_B_5
  rw [View.read_writes_eq_canon _ _ _ (cover0_B_5 c i arg2 harg2 arg3 harg3 arg4 harg4 arg5 harg5 arg6 harg6 arg7 harg7 arg8 harg8 hc0 x0 x1 x2 x3 xo4)]
  unfold kernelRun0_B
  dsimp only
  try sl_unfold_words
  rw [View.canon_unit_zero hz2]
  simp only [View.readAt_eq_ld, harg2.read_unread, harg3.read_unread, harg4.read_unread, harg5.read_unread, harg6.read_unread, View.ld_unit_zero (S := S1024x1024) hz2, View.ld_unit_zero (S := S512x1024) hz2, View.ld_unit_zero (S := S1x1024x512) hz3]
  exact pay3_apply x0 x2 p f

theorem out6_B_apply (hc0 : ¬cond0_0 i) (xo4 : Vec Ideal S1024x1024 .f32) (p : Fin 1024) (f : Fin 512) :
    out0_B_6 (F := Ideal) c i arg2 harg2 arg3 harg3 arg4 harg4 arg5 harg5 arg6 harg6 arg7 harg7 arg8 harg8 hc0 x0 x1 x2 x3 xo4 (ix2 p f) = grad x0 x2 x1 x3 p f := by
  unfold out0_B_6
  rw [View.read_writes_eq_canon _ _ _ (cover0_B_6 c i arg2 harg2 arg3 harg3 arg4 harg4 arg5 harg5 arg6 harg6 arg7 harg7 arg8 harg8 hc0 x0 x1 x2 x3 xo4)]
  unfold kernelRun0_B
  dsimp only
  try sl_unfold_words
  rw [View.canon_unit_zero hz2]
  simp only [View.readAt_eq_ld, harg2.read_unread, harg3.read_unread, harg4.read_unread, harg5.read_unread, harg6.read_unread, View.ld_unit_zero (S := S1024x1024) hz2, View.ld_unit_zero (S := S512x1024) hz2, View.ld_unit_zero (S := S1x1024x512) hz3]
  exact pay4_apply x0 x2 x1 x3 p f

end Point

/-! ## The result arrays -/

variable (m : (ℓ : Loc nD τ sig) → Buf (Elt Ideal) ℓ)

/-- The arguments, the operands as the call finds them, and their blocks at a point. -/
abbrev argH (c : Dev nD) : S4096x1024.Idx → EReal := m ((c : Thread nD τ).loc main_arg0)
abbrev argW1 (c : Dev nD) : S1024x4096.Idx → EReal := m ((c : Thread nD τ).loc main_arg1)
abbrev argW2 (c : Dev nD) : S4096x1024.Idx → EReal := m ((c : Thread nD τ).loc main_arg2)
abbrev argCt (c : Dev nD) : S4096x1024.Idx → EReal := m ((c : Thread nD τ).loc main_arg3)
abbrev opW1 (c : Dev nD) : S8x1024x512.Idx → EReal := V m c main_v2
abbrev opH (c : Dev nD) : S4096x1024.Idx → EReal := V m c main_v3
abbrev opCt (c : Dev nD) : S4096x1024.Idx → EReal := V m c main_v4
abbrev opW2 (c : Dev nD) : S4096x1024.Idx → EReal := V m c main_v5
abbrev blkH (c : Dev nD) (t : Fin cfg0.N) : S1024x1024.Idx → EReal := iblk m c 0 t
abbrev blkCt (c : Dev nD) (t : Fin cfg0.N) : S1024x1024.Idx → EReal := iblk m c 1 t
abbrev blkW1 (c : Dev nD) (t : Fin cfg0.N) : S1x1024x512.Idx → EReal := iblk m c 2 t
abbrev blkW2 (c : Dev nD) (t : Fin cfg0.N) : S512x1024.Idx → EReal := iblk m c 3 t

/-- Where each point's blocks lie: point `t` takes row block `t / 8` of the activations and of the output's gradient, and
    column block `t % 8` of the first weight, which is row block `t % 8` of the second. -/
theorem index_facts : ∀ t : Fin cfg0.N, (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 3) = t.val % 8 ∧ win0_2.index t (1 : Fin 3) = 0 ∧ win0_2.index t (2 : Fin 3) = 0)
    ∧ (win0_3.index t (0 : Fin 2) = t.val % 8 ∧ win0_3.index t (1 : Fin 2) = 0) :=
  (by decide +kernel : ∀ t : Fin grid0.N, _)

/-- Where each point's blocks of the three results lie. -/
theorem index_out : ∀ t : Fin cfg0.N, (win0_4.index t (0 : Fin 2) = t.val / 8 ∧ win0_4.index t (1 : Fin 2) = 0)
    ∧ (win0_5.index t (0 : Fin 2) = t.val / 8 ∧ win0_5.index t (1 : Fin 2) = t.val % 8)
    ∧ (win0_6.index t (0 : Fin 2) = t.val / 8 ∧ win0_6.index t (1 : Fin 2) = t.val % 8) :=
  (by decide +kernel : ∀ t : Fin grid0.N, _)

/-- The host's cut of the first weight into column slots, and its casts, change no entry. -/
theorem opW1_apply (c : Dev nD) (j : Fin 8) (d : Fin 1024) (f : Fin 512) (F : Fin 4096) (hF : F.val = 512 * j.val + f.val) :
    opW1 m c (ix3 j d f) = argW1 m c (ix2 d F) := by
  have e : opW1 m c = truncf (F := Ideal) (φ := .f32) .bf16 (transpose S8x1024x512 [1, 0, 2] (shapeCast S1024x8x512 (argW1 m c) shapeCasts_S1024x4096_S1024x8x512) transposes_S1024x8x512_S8x1024x512_1_0_2) bitsLt_bf16_f32 := by
    show V m c main_v2 = _
    unfold_abbrev_sides
    after_results
    rfl
  rw [e]
  generalize argW1 m c = y
  pointwise
  refine congrArg y (congrArg (ix2 d) (Fin.ext ?_))
  show j.val * 512 + f.val = F.val
  omega

theorem opH_eq (c : Dev nD) : opH m c = argH m c := by
  show V m c main_v3 = _
  unfold_abbrev_sides
  after_results
  rfl

theorem opCt_eq (c : Dev nD) : opCt m c = argCt m c := by
  show V m c main_v4 = _
  unfold_abbrev_sides
  after_results
  rfl

theorem opW2_eq (c : Dev nD) : opW2 m c = argW2 m c := by
  show V m c main_v5 = _
  unfold_abbrev_sides
  after_results
  rfl

theorem blkH_apply (c : Dev nD) (t : Fin cfg0.N) (p d : Fin 1024) (T : Fin 4096) (hT : T.val = 1024 * (t.val / 8) + p.val) :
    blkH m c t (ix2 p d) = argH m c (ix2 T d) := by
  obtain ⟨⟨e0, e1⟩, -, -, -⟩ := index_facts t
  rw [← opH_eq]
  show opH m c (((cfg0.win 0).blk t).view.emb (ix2 p d)) = _
  congr 1
  funext a; apply Fin.ext
  match a with
  | ⟨0, _⟩ => show win0_0.index t (0 : Fin 2) * 1024 + 1 * p.val = T.val; omega
  | ⟨1, _⟩ => show win0_0.index t (1 : Fin 2) * 1024 + 1 * d.val = d.val; omega

theorem blkCt_apply (c : Dev nD) (t : Fin cfg0.N) (p d : Fin 1024) (T : Fin 4096) (hT : T.val = 1024 * (t.val / 8) + p.val) :
    blkCt m c t (ix2 p d) = argCt m c (ix2 T d) := by
  obtain ⟨-, ⟨e0, e1⟩, -, -⟩ := index_facts t
  rw [← opCt_eq]
  show opCt m c (((cfg0.win 1).blk t).view.emb (ix2 p d)) = _
  congr 1
  funext a; apply Fin.ext
  match a with
  | ⟨0, _⟩ => show win0_1.index t (0 : Fin 2) * 1024 + 1 * p.val = T.val; omega
  | ⟨1, _⟩ => show win0_1.index t (1 : Fin 2) * 1024 + 1 * d.val = d.val; omega

theorem blkW1_apply (c : Dev nD) (t : Fin cfg0.N) (d : Fin 1024) (f : Fin 512) (F : Fin 4096) (hF : F.val = 512 * (t.val % 8) + f.val) :
    blkW1 m c t (ix3 0 d f) = argW1 m c (ix2 d F) := by
  obtain ⟨-, -, ⟨e0, e1, e2⟩, -⟩ := index_facts t
  refine Eq.trans ?_ (opW1_apply m c ⟨t.val % 8, Nat.mod_lt _ (by omega)⟩ d f F hF)
  show opW1 m c (((cfg0.win 2).blk t).view.emb (ix3 0 d f)) = _
  congr 1
  funext a; apply Fin.ext
  match a with
  | ⟨0, _⟩ => show win0_2.index t (0 : Fin 3) * 1 + 1 * 0 = t.val % 8; omega
  | ⟨1, _⟩ => show win0_2.index t (1 : Fin 3) * 1024 + 1 * d.val = d.val; omega
  | ⟨2, _⟩ => show win0_2.index t (2 : Fin 3) * 512 + 1 * f.val = f.val; omega

theorem blkW2_apply (c : Dev nD) (t : Fin cfg0.N) (f : Fin 512) (d : Fin 1024) (F : Fin 4096) (hF : F.val = 512 * (t.val % 8) + f.val) :
    blkW2 m c t (ix2 f d) = argW2 m c (ix2 F d) := by
  obtain ⟨-, -, -, ⟨e0, e1⟩⟩ := index_facts t
  rw [← opW2_eq]
  show opW2 m c (((cfg0.win 3).blk t).view.emb (ix2 f d)) = _
  congr 1
  funext a; apply Fin.ext
  match a with
  | ⟨0, _⟩ => show win0_3.index t (0 : Fin 2) * 512 + 1 * f.val = F.val; omega
  | ⟨1, _⟩ => show win0_3.index t (1 : Fin 2) * 1024 + 1 * d.val = d.val; omega

/-- The rectified product, and the gradient at its input, of whole rows and columns. -/
def fullAct (h : S4096x1024.Idx → EReal) (w1 : S1024x4096.Idx → EReal) (T F : Fin 4096) : EReal :=
  max (∑ d : Fin 1024, h (ix2 T d) * w1 (ix2 d F)) 0

def fullGrad (h : S4096x1024.Idx → EReal) (w1 : S1024x4096.Idx → EReal) (w2 ct : S4096x1024.Idx → EReal) (T F : Fin 4096) : EReal :=
  (∑ d : Fin 1024, ct (ix2 T d) * w2 (ix2 F d)) * (two * fullAct h w1 T F)

theorem act_eq (c : Dev nD) (t : Fin cfg0.N) (p : Fin 1024) (f : Fin 512) (T F : Fin 4096) (hT : T.val = 1024 * (t.val / 8) + p.val)
    (hF : F.val = 512 * (t.val % 8) + f.val) : act (blkH m c t) (blkW1 m c t) p f = fullAct (argH m c) (argW1 m c) T F := by
  unfold act fullAct
  refine congrArg (fun z : EReal => max z 0) (Finset.sum_congr rfl fun d _ => ?_)
  rw [blkH_apply m c t p d T hT, blkW1_apply m c t d f F hF]

theorem grad_eq (c : Dev nD) (t : Fin cfg0.N) (p : Fin 1024) (f : Fin 512) (T F : Fin 4096) (hT : T.val = 1024 * (t.val / 8) + p.val)
    (hF : F.val = 512 * (t.val % 8) + f.val) :
    grad (blkH m c t) (blkW1 m c t) (blkCt m c t) (blkW2 m c t) p f = fullGrad (argH m c) (argW1 m c) (argW2 m c) (argCt m c) T F := by
  unfold grad fullGrad
  rw [act_eq m c t p f T F hT hF]
  refine congrArg (fun z : EReal => z * (two * fullAct (argH m c) (argW1 m c) T F)) (Finset.sum_congr rfl fun d _ => ?_)
  rw [blkCt_apply m c t p d T hT, blkW2_apply m c t f d F hF]

/-- The three result arrays. -/
def GR (c : Dev nD) : S4096x4096.Idx → EReal := fun i => fullAct (argH m c) (argW1 m c) (i 0) (i 1) * fullAct (argH m c) (argW1 m c) (i 0) (i 1)

def GA (c : Dev nD) : S4096x4096.Idx → EReal := fun i => fullGrad (argH m c) (argW1 m c) (argW2 m c) (argCt m c) (i 0) (i 1)

/-- One hidden column's term of the gradient of the block's input. -/
def colTerm (c : Dev nD) (T : Fin 4096) (d : Fin 1024) (F : Fin 4096) : EReal :=
  fullGrad (argH m c) (argW1 m c) (argW2 m c) (argCt m c) T F * argW1 m c (ix2 d F)

def GH (c : Dev nD) : S4096x1024.Idx → EReal := fun i => ∑ F : Fin 4096, colTerm m c (i 0) (i 1) F

theorem block_sum (c : Dev nD) (t : Fin cfg0.N) (p d : Fin 1024) (T : Fin 4096) (hT : T.val = 1024 * (t.val / 8) + p.val) :
    ∑ f : Fin 512, grad (blkH m c t) (blkW1 m c t) (blkCt m c t) (blkW2 m c t) p f * blkW1 m c t (ix3 0 d f)
      = ∑ f : Fin 512, ext (colTerm m c T d) (512 * (t.val % 8) + f.val) := by
  refine Finset.sum_congr rfl fun f _ => ?_
  have hlt : 512 * (t.val % 8) + f.val < 4096 := by have := f.isLt; omega
  rw [ext_of_lt _ hlt, colTerm, grad_eq m c t p f T ⟨_, hlt⟩ hT rfl, blkW1_apply m c t d f ⟨_, hlt⟩ rfl]

/-- What the staged block of the input's gradient holds after point `n`. -/
abbrev outs (c : Dev nD) (n : ℕ) (h : n < cfg0.N) : S1024x1024.Idx → EReal := (outsAt0 m c n h).1

theorem outs_A (c : Dev nD) (t : Fin cfg0.N) (h0 : t.val % 8 = 0) (p d : Fin 1024) :
    outs m c t.val t.isLt (ix2 p d) = (0 : EReal) + ∑ f : Fin 512, grad (blkH m c t) (blkW1 m c t) (blkCt m c t) (blkW2 m c t) p f * blkW1 m c t (ix3 0 d f) := by
  unfold outs
  rw [outsAt0_A m c t h0]
  dsimp only
  exact out4_A_apply ..

theorem outs_B (c : Dev nD) (t : Fin cfg0.N) (h0 : ¬t.val % 8 = 0) (p d : Fin 1024) :
    outs m c t.val t.isLt (ix2 p d) = outs m c (t.val - 1) (Nat.lt_of_le_of_lt (Nat.sub_le _ _) t.isLt) (ix2 p d)
      + ∑ f : Fin 512, grad (blkH m c t) (blkW1 m c t) (blkCt m c t) (blkW2 m c t) p f * blkW1 m c t (ix3 0 d f) := by
  unfold outs
  rw [outsAt0_B m c t h0]
  dsimp only
  exact out4_B_apply ..

theorem outs_apply (c : Dev nD) (p d : Fin 1024) : ∀ (n : ℕ) (h : n < cfg0.N) (T : Fin 4096), T.val = 1024 * (n / 8) + p.val →
    outs m c n h (ix2 p d) = ∑ j ∈ Finset.range (n % 8 + 1), ∑ f : Fin 512, ext (colTerm m c T d) (512 * j + f.val) := by
  intro n
  induction n with
  | zero =>
    intro h T hT
    refine (outs_A m c ⟨0, h⟩ (Nat.zero_mod 8) p d).trans ?_
    rw [zero_add]
    refine (block_sum m c ⟨0, h⟩ p d T hT).trans ?_
    simp
  | succ n ih =>
    intro h T hT
    by_cases h0 : (n + 1) % 8 = 0
    · refine (outs_A m c ⟨n + 1, h⟩ h0 p d).trans ?_
      rw [zero_add, h0, zero_add, Finset.sum_range_one]
      have := block_sum m c ⟨n + 1, h⟩ p d T hT
      rw [show (⟨n + 1, h⟩ : Fin cfg0.N).val % 8 = 0 from h0] at this
      exact this
    · refine (outs_B m c ⟨n + 1, h⟩ h0 p d).trans ?_
      have hmod : (n + 1) % 8 = n % 8 + 1 := by omega
      rw [hmod, Finset.sum_range_succ]
      refine congr (congrArg HAdd.hAdd (ih (Nat.lt_of_succ_lt h) T (by omega))) ?_
      have := block_sum m c ⟨n + 1, h⟩ p d T hT
      rw [show (⟨n + 1, h⟩ : Fin cfg0.N).val % 8 = n % 8 + 1 from hmod] at this
      exact this

theorem flushedH (c : Dev nD) (t : Fin cfg0.N) (hf : (cfg0.win 4).flush t = true) :
    (dats m 0 c).flushed 4 t = ((cfg0.win 4).blk t).view.read (Elt Ideal) (GH m c) := by
  rw [flushed4]
  have hm : t.val % 8 = 7 := (flush0_4 t).mp hf
  have hN : t.val < 32 := lt_of_lt_of_eq t.isLt N_0
  obtain ⟨⟨e0, e1⟩, -, -⟩ := index_out t
  funext y
  obtain ⟨p, d, rfl⟩ : ∃ p d : Fin 1024, y = ix2 p d := ⟨y 0, y 1, eq_ix2 y⟩
  have hemb : ((cfg0.win 4).blk t).view.emb (ix2 p d) = (ix2 ⟨1024 * (t.val / 8) + p.val, by have := p.isLt; omega⟩ d : S4096x1024.Idx) := by
    funext b; apply Fin.ext
    match b with
    | ⟨0, _⟩ => show win0_4.index t (0 : Fin 2) * 1024 + 1 * p.val = 1024 * (t.val / 8) + p.val; omega
    | ⟨1, _⟩ => show win0_4.index t (1 : Fin 2) * 1024 + 1 * d.val = d.val; omega
  refine Eq.trans ?_ (congrArg (GH m c) hemb).symm
  refine (outs_apply m c p d t.val t.isLt ⟨1024 * (t.val / 8) + p.val, by have := p.isLt; omega⟩ rfl).trans ?_
  rw [hm]
  exact sum_blocks 8 512 rfl _

theorem flushedR (c : Dev nD) (t : Fin cfg0.N) (hf : (cfg0.win 5).flush t = true) :
    (dats m 0 c).flushed 5 t = ((cfg0.win 5).blk t).view.read (Elt Ideal) (GR m c) := by
  have hN : t.val < 32 := lt_of_lt_of_eq t.isLt N_0
  obtain ⟨-, ⟨e0, e1⟩, -⟩ := index_out t
  funext y
  obtain ⟨p, f, rfl⟩ : ∃ (p : Fin 1024) (f : Fin 512), y = ix2 p f := ⟨y 0, y 1, eq_ix2 y⟩
  have hemb : ((cfg0.win 5).blk t).view.emb (ix2 p f) = (ix2 ⟨1024 * (t.val / 8) + p.val, by have := p.isLt; omega⟩ ⟨512 * (t.val % 8) + f.val, by have := f.isLt; omega⟩ : S4096x4096.Idx) := by
    funext b; apply Fin.ext
    match b with
    | ⟨0, _⟩ => show win0_5.index t (0 : Fin 2) * 1024 + 1 * p.val = 1024 * (t.val / 8) + p.val; omega
    | ⟨1, _⟩ => show win0_5.index t (1 : Fin 2) * 512 + 1 * f.val = 512 * (t.val % 8) + f.val; omega
  refine Eq.trans ?_ (congrArg (GR m c) hemb).symm
  have e := act_eq m c t p f ⟨1024 * (t.val / 8) + p.val, by have := p.isLt; omega⟩ ⟨512 * (t.val % 8) + f.val, by have := f.isLt; omega⟩ rfl rfl
  by_cases h0 : t.val % 8 = 0
  · refine (congrFun (flushed5_A m c t h0) _).trans ((out5_A_apply ..).trans ?_)
    exact congr (congrArg HMul.hMul e) e
  · refine (congrFun (flushed5_B m c t h0) _).trans ((out5_B_apply ..).trans ?_)
    exact congr (congrArg HMul.hMul e) e

theorem flushedA (c : Dev nD) (t : Fin cfg0.N) (hf : (cfg0.win 6).flush t = true) :
    (dats m 0 c).flushed 6 t = ((cfg0.win 6).blk t).view.read (Elt Ideal) (GA m c) := by
  have hN : t.val < 32 := lt_of_lt_of_eq t.isLt N_0
  obtain ⟨-, -, ⟨e0, e1⟩⟩ := index_out t
  funext y
  obtain ⟨p, f, rfl⟩ : ∃ (p : Fin 1024) (f : Fin 512), y = ix2 p f := ⟨y 0, y 1, eq_ix2 y⟩
  have hemb : ((cfg0.win 6).blk t).view.emb (ix2 p f) = (ix2 ⟨1024 * (t.val / 8) + p.val, by have := p.isLt; omega⟩ ⟨512 * (t.val % 8) + f.val, by have := f.isLt; omega⟩ : S4096x4096.Idx) := by
    funext b; apply Fin.ext
    match b with
    | ⟨0, _⟩ => show win0_6.index t (0 : Fin 2) * 1024 + 1 * p.val = 1024 * (t.val / 8) + p.val; omega
    | ⟨1, _⟩ => show win0_6.index t (1 : Fin 2) * 512 + 1 * f.val = 512 * (t.val % 8) + f.val; omega
  refine Eq.trans ?_ (congrArg (GA m c) hemb).symm
  have e := grad_eq m c t p f ⟨1024 * (t.val / 8) + p.val, by have := p.isLt; omega⟩ ⟨512 * (t.val % 8) + f.val, by have := f.isLt; omega⟩ rfl rfl
  by_cases h0 : t.val % 8 = 0
  · exact (congrFun (flushed6_A m c t h0) _).trans ((out6_A_apply ..).trans e)
  · exact (congrFun (flushed6_B m c t h0) _).trans ((out6_B_apply ..).trans e)

theorem mem_blkH (t : Fin cfg0.N) (i : S4096x1024.Idx) :
    i ∈ ((cfg0.win 4).blk t).view.set ↔ ∀ a : Fin 2, win0_4.index t a * ![1024, 1024] a ≤ (i a).val ∧ (i a).val < win0_4.index t a * ![1024, 1024] a + ![1024, 1024] a := by
  show i ∈ ((View.whole main_v6_0).slice (win0_4.rect t)).set ↔ _
  rw [View.set_slice_whole, Rect.mem_set_unit]
  exact Iff.rfl

theorem mem_blkR (t : Fin cfg0.N) (i : S4096x4096.Idx) :
    i ∈ ((cfg0.win 5).blk t).view.set ↔ ∀ a : Fin 2, win0_5.index t a * ![1024, 512] a ≤ (i a).val ∧ (i a).val < win0_5.index t a * ![1024, 512] a + ![1024, 512] a := by
  show i ∈ ((View.whole main_v6_1).slice (win0_5.rect t)).set ↔ _
  rw [View.set_slice_whole, Rect.mem_set_unit]
  exact Iff.rfl

theorem mem_blkA (t : Fin cfg0.N) (i : S4096x4096.Idx) :
    i ∈ ((cfg0.win 6).blk t).view.set ↔ ∀ a : Fin 2, win0_6.index t a * ![1024, 512] a ≤ (i a).val ∧ (i a).val < win0_6.index t a * ![1024, 512] a + ![1024, 512] a := by
  show i ∈ ((View.whole main_v6_2).slice (win0_6.rect t)).set ↔ _
  rw [View.set_slice_whole, Rect.mem_set_unit]
  exact Iff.rfl

theorem coverH (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have hN : cfg0.N = 32 := N_0
  refine ⟨⟨8 * ((i 0).val / 1024) + 7, by omega⟩, (flush0_4 _).mpr (by show (8 * ((i 0).val / 1024) + 7) % 8 = 7; omega), ?_⟩
  obtain ⟨⟨e0, e1⟩, -, -⟩ := index_out ⟨8 * ((i 0).val / 1024) + 7, by omega⟩
  rw [show (8 * ((i 0).val / 1024) + 7) / 8 = (i 0).val / 1024 by omega] at e0
  refine (mem_blkH _ i).mpr ?_
  intro a
  match a with
  | ⟨0, _⟩ => show win0_4.index _ (0 : Fin 2) * 1024 ≤ (i 0).val ∧ (i 0).val < win0_4.index _ (0 : Fin 2) * 1024 + 1024; rw [e0]; omega
  | ⟨1, _⟩ => show win0_4.index _ (1 : Fin 2) * 1024 ≤ (i 1).val ∧ (i 1).val < win0_4.index _ (1 : Fin 2) * 1024 + 1024; rw [e1]; omega

/-- The point whose blocks of the two hidden results hold an index. -/
theorem point_of (i : S4096x4096.Idx) : ∃ t : Fin cfg0.N, t.val / 8 = (i 0).val / 1024 ∧ t.val % 8 = (i 1).val / 512 := by
  have h0 : (i 0).val < 4096 := (i 0).isLt
  have h1 : (i 1).val < 4096 := (i 1).isLt
  have hN : cfg0.N = 32 := N_0
  exact ⟨⟨8 * ((i 0).val / 1024) + (i 1).val / 512, by omega⟩, by show (8 * ((i 0).val / 1024) + (i 1).val / 512) / 8 = _; omega,
    by show (8 * ((i 0).val / 1024) + (i 1).val / 512) % 8 = _; omega⟩

theorem coverR (i : S4096x4096.Idx) : ∃ t : Fin cfg0.N, (cfg0.win 5).flush t = true ∧ i ∈ ((cfg0.win 5).blk t).view.set := by
  obtain ⟨t, ht0, ht1⟩ := point_of i
  obtain ⟨-, ⟨e0, e1⟩, -⟩ := index_out t
  refine ⟨t, flush0_5 t, (mem_blkR t i).mpr ?_⟩
  intro a
  match a with
  | ⟨0, _⟩ => show win0_5.index t (0 : Fin 2) * 1024 ≤ (i 0).val ∧ (i 0).val < win0_5.index t (0 : Fin 2) * 1024 + 1024; rw [e0, ht0]; omega
  | ⟨1, _⟩ => show win0_5.index t (1 : Fin 2) * 512 ≤ (i 1).val ∧ (i 1).val < win0_5.index t (1 : Fin 2) * 512 + 512; rw [e1, ht1]; omega

theorem coverA (i : S4096x4096.Idx) : ∃ t : Fin cfg0.N, (cfg0.win 6).flush t = true ∧ i ∈ ((cfg0.win 6).blk t).view.set := by
  obtain ⟨t, ht0, ht1⟩ := point_of i
  obtain ⟨-, -, ⟨e0, e1⟩⟩ := index_out t
  refine ⟨t, flush0_6 t, (mem_blkA t i).mpr ?_⟩
  intro a
  match a with
  | ⟨0, _⟩ => show win0_6.index t (0 : Fin 2) * 1024 ≤ (i 0).val ∧ (i 0).val < win0_6.index t (0 : Fin 2) * 1024 + 1024; rw [e0, ht0]; omega
  | ⟨1, _⟩ => show win0_6.index t (1 : Fin 2) * 512 ≤ (i 1).val ∧ (i 1).val < win0_6.index t (1 : Fin 2) * 512 + 512; rw [e1, ht1]; omega

theorem finalH (c : Dev nD) : (dats m 0 c).arrAt 4 cfg0.N = GH m c :=
  (dats m 0 c).arrAt_eq_of_cover 4 _ (fun t hf => flushedH m c t hf) coverH

theorem finalR (c : Dev nD) : (dats m 0 c).arrAt 5 cfg0.N = GR m c :=
  (dats m 0 c).arrAt_eq_of_cover 5 _ (fun t hf => flushedR m c t hf) coverR

theorem finalA (c : Dev nD) : (dats m 0 c).arrAt 6 cfg0.N = GA m c :=
  (dats m 0 c).arrAt_eq_of_cover 6 _ (fun t hf => flushedA m c t hf) coverA

/-! ## The reference -/

section Reference
open Cert.Reference2Ideal.Read

variable (x0 : S4096x1024.Idx → EReal) (x1 : S1024x4096.Idx → EReal) (x2 x3 : S4096x1024.Idx → EReal)

theorem ref_r (T F : Fin 4096) : (val_main_v29 (F := Ideal) x0 x1 : S4096x4096.Idx → EReal) (ix2 T F) = fullAct x0 x1 T F * fullAct x0 x1 T F := by
  unfold fullAct
  pointwise [val_main_v29, val_main_v16, val_main_v15, val_main_v0, val_main_call1_v0, val_main_call1_cst]

theorem ref_a (T F : Fin 4096) : (val_main_v30 (F := Ideal) x0 x1 x2 x3 : S4096x4096.Idx → EReal) (ix2 T F) = fullGrad x0 x1 x2 x3 T F := by
  unfold fullGrad fullAct
  pointwise [val_main_v30, val_main_v28, val_main_v19, val_main_v18, val_main_cst_3, val_main_v26, val_main_v25, val_main_v23, val_main_v22, val_main_cst_5, val_main_v17, val_main_call2_v0, val_main_call2_cst, val_main_v27, val_main_cst_6, val_main_v0]
  split_ifs with hz
  · rfl
  · rw [max_eq_right (not_lt.mp hz), mul_zero, mul_zero]

theorem ref_h (T : Fin 4096) (d : Fin 1024) : (val_main_v14 (F := Ideal) x0 x1 x2 x3 : S4096x1024.Idx → EReal) (ix2 T d)
    = ∑ F : Fin 4096, fullGrad x0 x1 x2 x3 T F * x1 (ix2 d F) := by
  have e : ∀ F : Fin 4096, (val_main_v13 (F := Ideal) x0 x1 x2 x3 : S4096x4096.Idx → EReal) (ix2 T F) = fullGrad x0 x1 x2 x3 T F := ref_a x0 x1 x2 x3 T
  simp only [← e]
  unfold val_main_v14
  generalize val_main_v13 (F := Ideal) x0 x1 x2 x3 = y
  pointwise

end Reference

/-! ## The equation -/

theorem GH_eq (c : Dev nD) : GH m c = Cert.Reference2Ideal.Read.val_main_v14 (F := Ideal) (argH m c) (argW1 m c) (argW2 m c) (argCt m c) := by
  funext i
  obtain ⟨T, d, rfl⟩ : ∃ (T : Fin 4096) (d : Fin 1024), i = ix2 T d := ⟨i 0, i 1, eq_ix2 i⟩
  exact (ref_h (argH m c) (argW1 m c) (argW2 m c) (argCt m c) T d).symm

theorem GR_eq (c : Dev nD) : GR m c = Cert.Reference2Ideal.Read.val_main_v29 (F := Ideal) (argH m c) (argW1 m c) := by
  funext i
  obtain ⟨T, F, rfl⟩ : ∃ T F : Fin 4096, i = ix2 T F := ⟨i 0, i 1, eq_ix2 i⟩
  exact (ref_r (argH m c) (argW1 m c) T F).symm

theorem GA_eq (c : Dev nD) : GA m c = Cert.Reference2Ideal.Read.val_main_v30 (F := Ideal) (argH m c) (argW1 m c) (argW2 m c) (argCt m c) := by
  funext i
  obtain ⟨T, F, rfl⟩ : ∃ T F : Fin 4096, i = ix2 T F := ⟨i 0, i 1, eq_ix2 i⟩
  exact (ref_a (argH m c) (argW1 m c) (argW2 m c) (argCt m c) T F).symm

/-- Kernel and reference compute the same gradient of the block's input, the same squared activations and the same
    gradient at the rectified product's input. -/
theorem algebraic : Cert.algebraic_Kernel2Ideal_Reference2Ideal := fun m g m' g' _ hagree =>
  ⟨fun c => GH m c, fun c => GR m c, fun c => GA m c,
    (θ_run defs _ _).mono (fun r h c => ⟨(h c).1.trans (finalH m c), (h c).2.1.trans (finalR m c), (h c).2.2.1.trans (finalA m c), (h c).2.2.2⟩) (run_blocks m g),
    (θ_run Cert.Reference2Ideal.defs _ _).mono (fun r h c => by
      obtain ⟨h0, h1, h2, h3⟩ := hagree c
      refine ⟨(h c).1.trans ((Cert.Reference2Ideal.Read.val_main_v14_eq _ _ _ _).trans ?_), (h c).2.1.trans ((Cert.Reference2Ideal.Read.val_main_v29_eq _ _).trans ?_),
        (h c).2.2.1.trans ((Cert.Reference2Ideal.Read.val_main_v30_eq _ _ _ _).trans ?_), (h c).2.2.2⟩
      · refine Eq.trans ?_ (GH_eq m c).symm
        exact congr (congr (congr (congrArg _ h0) h1) h2) h3
      · refine Eq.trans ?_ (GR_eq m c).symm
        exact congr (congrArg _ h0) h1
      · refine Eq.trans ?_ (GA_eq m c).symm
        exact congr (congr (congr (congrArg _ h0) h1) h2) h3) (Cert.Reference2Ideal.Value.run m' g')⟩

end Cert.Kernel2Ideal.Mlp

end
-- ==== Proof.Mlp.W1.lean ====
/- The gradient of the first weight, whose result is cut into eight column slots: what the blocked product leaves, as one
   sum over all the rows, and that it is the reference's gradient. -/
module

public import proofs.«01_k».proof.Defs
public import proofs.«01_k».proof.Proof.Gen.Kernel3Ideal.Value
public import proofs.«01_k».proof.Proof.Gen.Reference3Ideal.Read
public import proofs.«01_k».proof.Proof.Gen.Reference3Ideal.Run
public import proofs.«01_k».proof.Proof.Mlp.Sums
public import Idealize.ShloMosaic.Lib.Pointwise

@[expose] public section

noncomputable section

namespace Cert.Kernel3Ideal.Mlp

open Cert.Kernel3Ideal Cert.Kernel3Ideal.Gen Cert.Kernel3Ideal.Value Cert.Mlp
open Idealize.ShloMosaic Idealize.ShloMosaic.TcCoe Idealize.SL.Sem

/-! ## One grid point -/

/-- The two half blocks of the staged pair of slots. -/
abbrev rLo : Rect S2x1024x512 := Rect.unit (s := S2x1024x512) ![0, 0, 0] S1x1024x512.size inb_S2x1024x512_S1x1024x512_0_0_0
abbrev rHi : Rect S2x1024x512 := Rect.unit (s := S2x1024x512) ![1, 0, 0] S1x1024x512.size inb_S2x1024x512_S1x1024x512_1_0_0

/-- The two half blocks, as index maps into the staged pair of slots. -/
theorem emb_lo (p : Fin 1024) (q : Fin 512) :
    (ix3 0 p q : S2x1024x512.Idx) = rLo.emb (ix3 (n0 := 1) 0 p q) := by
  funext b; apply Fin.ext
  match b with
  | ⟨0, _⟩ => rfl
  | ⟨1, _⟩ => show p.val = 0 + 1 * p.val; omega
  | ⟨2, _⟩ => show q.val = 0 + 1 * q.val; omega

theorem emb_hi (p : Fin 1024) (q : Fin 512) :
    (ix3 1 p q : S2x1024x512.Idx) = rHi.emb (ix3 (n0 := 1) 0 p q) := by
  funext b; apply Fin.ext
  match b with
  | ⟨0, _⟩ => rfl
  | ⟨1, _⟩ => show p.val = 0 + 1 * p.val; omega
  | ⟨2, _⟩ => show q.val = 0 + 1 * q.val; omega

theorem not_mem_hi (p : Fin 1024) (q : Fin 512) :
    (ix3 0 p q : S2x1024x512.Idx) ∉ rHi.set := by
  rw [Rect.mem_set_unit]
  intro h
  exact absurd (h 0).1 (show ¬((1 : ℕ) ≤ 0) by decide)

theorem not_mem_lo (p : Fin 1024) (q : Fin 512) :
    (ix3 1 p q : S2x1024x512.Idx) ∉ rLo.set := by
  rw [Rect.mem_set_unit]
  intro h
  exact absurd (h 0).2 (show ¬((1 : ℕ) < 0 + 1) by decide)

theorem canon_lo (w : S1x1024x512.Idx → Elt Ideal .f32) (L : List (View.Piece (Elt Ideal) S2x1024x512 .f32)) (p : Fin 1024) (q : Fin 512) :
    View.canon (⟨rLo, w⟩ :: L) (ix3 0 p q) = w (ix3 0 p q) := by
  exact (congrArg (View.canon _) (emb_lo p q)).trans (View.canon_cons_emb rLo w L (ix3 (n0 := 1) 0 p q))

theorem canon_hi (w : S1x1024x512.Idx → Elt Ideal .f32) (L : List (View.Piece (Elt Ideal) S2x1024x512 .f32)) (p : Fin 1024) (q : Fin 512) :
    View.canon (⟨rHi, w⟩ :: L) (ix3 1 p q) = w (ix3 0 p q) := by
  exact (congrArg (View.canon _) (emb_hi p q)).trans (View.canon_cons_emb rHi w L (ix3 (n0 := 1) 0 p q))

theorem canon_skip_hi (w : S1x1024x512.Idx → Elt Ideal .f32) (L : List (View.Piece (Elt Ideal) S2x1024x512 .f32)) (p : Fin 1024) (q : Fin 512) :
    View.canon (⟨rHi, w⟩ :: L) (ix3 0 p q) = View.canon L (ix3 0 p q) :=
  View.canon_cons_of_not_mem _ L (not_mem_hi p q)

theorem canon_skip_lo (w : S1x1024x512.Idx → Elt Ideal .f32) (L : List (View.Piece (Elt Ideal) S2x1024x512 .f32)) (p : Fin 1024) (q : Fin 512) :
    View.canon (⟨rLo, w⟩ :: L) (ix3 1 p q) = View.canon L (ix3 1 p q) :=
  View.canon_cons_of_not_mem _ L (not_mem_lo p q)

theorem hz3 : (![0, 0, 0] : Fin 3 → Nat) = fun _ => 0 := funext fun a => by fin_cases a <;> rfl

theorem pay1_apply (i : S2x1024x512.Idx) : k0_pay1 (F := Ideal) i = (0 : EReal) := by
  pointwise [k0_pay1]

theorem canon_zero (i : S2x1024x512.Idx) :
    View.canon [(⟨Rect.unit (s := S2x1024x512) ![0, 0, 0] S2x1024x512.size inb_S2x1024x512_S2x1024x512_0_0_0, k0_pay1 (F := Ideal)⟩ : View.Piece (Elt Ideal) S2x1024x512 .f32)] i = (0 : EReal) := by
  rw [View.canon_cons_unit_zero (S := S2x1024x512) hz3]
  exact pay1_apply i

/-- The product of the two row blocks, read at result row `p` and column `q`. -/
def prod (x y : S1x1024x1024.Idx → EReal) (p q : Fin 1024) : EReal := ∑ k : Fin 1024, x (ix3 0 k p) * y (ix3 0 k q)

/-- The column of the product that slot `a`'s column `q` takes. -/
def col (a : Fin 2) (q : Fin 512) : Fin 1024 := ⟨512 * a.val + q.val, by have := a.isLt; have := q.isLt; omega⟩

theorem pay3_apply (x y : Vec Ideal S1x1024x1024 .bf16) (acc : Vec Ideal S1x1024x512 .f32) (p : Fin 1024) (q : Fin 512) :
    k0_pay3 x y acc (ix3 0 p q) = acc (ix3 0 p q) + prod x y p (col 0 q) := by
  unfold prod
  pointwise [k0_pay3, k0_pay2]
  refine congrArg _ (Finset.sum_congr rfl fun k _ => ?_)
  refine congrArg _ (congrArg _ (congrArg _ (Fin.ext ?_)))
  simp [col]

theorem pay4_apply (x y : Vec Ideal S1x1024x1024 .bf16) (acc : Vec Ideal S1x1024x512 .f32) (p : Fin 1024) (q : Fin 512) :
    k0_pay4 x y acc (ix3 0 p q) = acc (ix3 0 p q) + prod x y p (col 1 q) := by
  unfold prod
  pointwise [k0_pay4, k0_pay2]
  refine congrArg _ (Finset.sum_congr rfl fun k _ => ?_)
  refine congrArg _ (congrArg _ (congrArg _ (Fin.ext ?_)))
  simp [col]

/-- A later point adds its product to what the point before left. -/
theorem out_B_apply (c : Dev nD) (i : grid0.Coords) (arg4 : Memref sig .tc .vmem S1x1024x1024 .bf16) (harg4 : arg4.IsWhole) (arg5 : Memref sig .tc .vmem S1x1024x1024 .bf16) (harg5 : arg5.IsWhole) (arg6 : Memref sig .tc .vmem S2x1024x512 .f32) (harg6 : arg6.IsWhole) (hc0 : ¬cond0_0 i)
    (x0 : Vec Ideal S1x1024x1024 .bf16) (x1 : Vec Ideal S1x1024x1024 .bf16) (xo2 : Vec Ideal S2x1024x512 .f32) (a : Fin 2) (p : Fin 1024) (q : Fin 512) :
    out0_B_2 (F := Ideal) c i arg4 harg4 arg5 harg5 arg6 harg6 hc0 x0 x1 xo2 (ix3 a p q) = xo2 (ix3 a p q) + prod x0 x1 p (col a q) := by
  unfold out0_B_2
  rw [View.read_writes_eq_canon _ _ _ (cover0_B_2 c i arg4 harg4 arg5 harg5 arg6 harg6 hc0 x0 x1 xo2)]
  unfold kernelRun0_B
  dsimp only
  try sl_unfold_words
  simp only [View.readAt_eq_ld, harg4.read_unread, harg5.read_unread, harg6.read_unread]
  match a with
  | ⟨0, _⟩ =>
    refine (canon_skip_hi _ _ p q).trans ((canon_lo _ _ p q).trans ((pay3_apply _ _ _ p q).trans ?_))
    simp only [View.ld_unit_zero (S := S1x1024x1024) hz3]
    exact congrArg (· + _) (congrArg xo2 (emb_lo p q).symm)
  | ⟨1, _⟩ =>
    refine (canon_hi _ _ p q).trans ((pay4_apply _ _ _ p q).trans ?_)
    simp only [View.ld_unit_zero (S := S1x1024x1024) hz3]
    exact congrArg (· + _) (congrArg xo2 (emb_hi p q).symm)

/-- The first point of a run leaves its product. -/
theorem out_A_apply (c : Dev nD) (i : grid0.Coords) (arg4 : Memref sig .tc .vmem S1x1024x1024 .bf16) (harg4 : arg4.IsWhole) (arg5 : Memref sig .tc .vmem S1x1024x1024 .bf16) (harg5 : arg5.IsWhole) (arg6 : Memref sig .tc .vmem S2x1024x512 .f32) (harg6 : arg6.IsWhole) (hc0 : cond0_0 i)
    (x0 : Vec Ideal S1x1024x1024 .bf16) (x1 : Vec Ideal S1x1024x1024 .bf16) (a : Fin 2) (p : Fin 1024) (q : Fin 512) :
    out0_A_2 (F := Ideal) c i arg4 harg4 arg5 harg5 arg6 harg6 hc0 x0 x1 (ix3 a p q) = (0 : EReal) + prod x0 x1 p (col a q) := by
  unfold out0_A_2
  rw [View.read_writes_eq_canon _ _ _ (cover0_A_2 c i arg4 harg4 arg5 harg5 arg6 harg6 hc0 x0 x1)]
  unfold kernelRun0_A
  dsimp only
  try sl_unfold_words
  simp only [View.readAt_eq_ld, harg4.read_unread, harg5.read_unread, harg6.read_unread]
  match a with
  | ⟨0, _⟩ =>
    refine (canon_skip_hi _ _ p q).trans ((canon_lo _ _ p q).trans ((pay3_apply _ _ _ p q).trans ?_))
    simp only [View.ld_unit_zero (S := S1x1024x1024) hz3, View.readCov_eq_canon']
    refine congrArg (fun z : EReal => z + prod x0 x1 p (col 0 q)) ?_
    exact canon_zero (rLo.emb (ix3 (n0 := 1) 0 p q))
  | ⟨1, _⟩ =>
    refine (canon_hi _ _ p q).trans ((pay4_apply _ _ _ p q).trans ?_)
    simp only [View.ld_unit_zero (S := S1x1024x1024) hz3, View.readCov_eq_canon']
    refine congrArg (fun z : EReal => z + prod x0 x1 p (col 1 q)) ?_
    refine (congrArg _ (emb_hi p q).symm).trans ((canon_skip_lo _ _ p q).trans (canon_zero _))

/-! ## The run's fold and the result array -/

variable (m : (ℓ : Loc nD τ sig) → Buf (Elt Ideal) ℓ)

/-- The arguments, the two operands as the call finds them, and their blocks at a point. -/
abbrev argH (c : Dev nD) : S4096x1024.Idx → EReal := m ((c : Thread nD τ).loc main_arg0)
abbrev argW1 (c : Dev nD) : S1024x4096.Idx → EReal := m ((c : Thread nD τ).loc main_arg1)
abbrev argW2 (c : Dev nD) : S4096x1024.Idx → EReal := m ((c : Thread nD τ).loc main_arg2)
abbrev argCt (c : Dev nD) : S4096x1024.Idx → EReal := m ((c : Thread nD τ).loc main_arg3)
abbrev opA (c : Dev nD) : S1x4096x1024.Idx → EReal := V m c main_v15
abbrev opB (c : Dev nD) : S1x4096x4096.Idx → EReal := V m c main_v16
abbrev blkA (c : Dev nD) (t : Fin cfg0.N) : S1x1024x1024.Idx → EReal := iblk m c 0 t
abbrev blkB (c : Dev nD) (t : Fin cfg0.N) : S1x1024x1024.Idx → EReal := iblk m c 1 t

/-- Where each point's blocks lie: point `t` takes row block `t % 4` of both operands and column block `t / 4` of the
    second, and belongs to the result's pair of slots `t / 4`. -/
theorem index_facts : ∀ t : Fin cfg0.N, (win0_0.index t (0 : Fin 3) = 0 ∧ win0_0.index t (1 : Fin 3) = t.val % 4
    ∧ win0_0.index t (2 : Fin 3) = 0) ∧ (win0_1.index t (0 : Fin 3) = 0 ∧ win0_1.index t (1 : Fin 3) = t.val % 4
    ∧ win0_1.index t (2 : Fin 3) = t.val / 4) ∧ win0_2.index t (0 : Fin 3) = t.val / 4 ∧ win0_2.index t (1 : Fin 3) = 0 ∧ win0_2.index t (2 : Fin 3) = 0 :=
  (by decide +kernel : ∀ t : Fin grid0.N, _)

theorem blkA_apply (c : Dev nD) (t : Fin cfg0.N) (k p : Fin 1024) (T : Fin 4096) (hT : T.val = 1024 * (t.val % 4) + k.val) :
    blkA m c t (ix3 0 k p) = opA m c (ix3 0 T p) := by
  obtain ⟨⟨e0, e1, e2⟩, -, -⟩ := index_facts t
  show opA m c (((cfg0.win 0).blk t).view.emb (ix3 0 k p)) = _
  congr 1
  funext a; apply Fin.ext
  match a with
  | ⟨0, _⟩ => show win0_0.index t (0 : Fin 3) * 1 + 1 * 0 = 0; omega
  | ⟨1, _⟩ => show win0_0.index t (1 : Fin 3) * 1024 + 1 * k.val = T.val; omega
  | ⟨2, _⟩ => show win0_0.index t (2 : Fin 3) * 1024 + 1 * p.val = p.val; omega

theorem blkB_apply (c : Dev nD) (t : Fin cfg0.N) (k q : Fin 1024) (T F : Fin 4096) (hT : T.val = 1024 * (t.val % 4) + k.val)
    (hF : F.val = 1024 * (t.val / 4) + q.val) :
    blkB m c t (ix3 0 k q) = opB m c (ix3 0 T F) := by
  obtain ⟨-, ⟨e0, e1, e2⟩, -⟩ := index_facts t
  show opB m c (((cfg0.win 1).blk t).view.emb (ix3 0 k q)) = _
  congr 1
  funext a; apply Fin.ext
  match a with
  | ⟨0, _⟩ => show win0_1.index t (0 : Fin 3) * 1 + 1 * 0 = 0; omega
  | ⟨1, _⟩ => show win0_1.index t (1 : Fin 3) * 1024 + 1 * k.val = T.val; omega
  | ⟨2, _⟩ => show win0_1.index t (2 : Fin 3) * 1024 + 1 * q.val = F.val; omega

/-- The column of the second operand that slot `s`'s column `q` takes. -/
def slotCol (s : Fin 8) (q : Fin 512) : Fin 4096 := ⟨512 * s.val + q.val, by have := s.isLt; have := q.isLt; omega⟩

/-- One row's product at slot `s`, row `d`, column `q` of the result. -/
def rowTerm (c : Dev nD) (s : Fin 8) (d : Fin 1024) (q : Fin 512) (t : Fin 4096) : EReal :=
  opA m c (ix3 0 t d) * opB m c (ix3 0 t (slotCol s q))

theorem prod_eq (c : Dev nD) (t : Fin cfg0.N) (a : Fin 2) (p : Fin 1024) (q : Fin 512) (s : Fin 8) (hs : s.val = 2 * (t.val / 4) + a.val) :
    prod (blkA m c t) (blkB m c t) p (col a q) = ∑ k : Fin 1024, ext (rowTerm m c s p q) (1024 * (t.val % 4) + k.val) := by
  refine Finset.sum_congr rfl fun k _ => ?_
  have hlt : 1024 * (t.val % 4) + k.val < 4096 := by have := k.isLt; omega
  rw [ext_of_lt _ hlt, rowTerm, blkA_apply m c t k p ⟨_, hlt⟩ rfl,
    blkB_apply m c t k (col a q) ⟨_, hlt⟩ (slotCol s q) rfl (by show 512 * s.val + q.val = 1024 * (t.val / 4) + (512 * a.val + q.val); omega)]

/-- What the staged pair of slots holds after point `n`. -/
abbrev outs (c : Dev nD) (n : ℕ) (h : n < cfg0.N) : S2x1024x512.Idx → EReal := outsAt0 m c n h

/-- After point `n` it holds the products of the run's points so far. -/
theorem outs_apply (c : Dev nD) (a : Fin 2) (p : Fin 1024) (q : Fin 512) : ∀ (n : ℕ) (h : n < cfg0.N) (s : Fin 8), s.val = 2 * (n / 4) + a.val →
    outs m c n h (ix3 a p q) = ∑ j ∈ Finset.range (n % 4 + 1), ∑ k : Fin 1024, ext (rowTerm m c s p q) (1024 * j + k.val) := by
  intro n
  induction n with
  | zero =>
    intro h s hs
    refine (congrFun (outsAt0_A m c ⟨0, h⟩ (Nat.zero_mod 4)) _).trans ((out_A_apply ..).trans ?_)
    rw [zero_add]
    refine (prod_eq m c ⟨0, h⟩ a p q s hs).trans ?_
    simp
  | succ n ih =>
    intro h s hs
    by_cases h0 : (n + 1) % 4 = 0
    · refine (congrFun (outsAt0_A m c ⟨n + 1, h⟩ h0) _).trans ((out_A_apply ..).trans ?_)
      rw [zero_add, h0, zero_add, Finset.sum_range_one]
      have := prod_eq m c ⟨n + 1, h⟩ a p q s hs
      rw [show (⟨n + 1, h⟩ : Fin cfg0.N).val % 4 = 0 from h0] at this
      exact this
    · refine (congrFun (outsAt0_B m c ⟨n + 1, h⟩ h0) _).trans ((out_B_apply ..).trans ?_)
      have hmod : (n + 1) % 4 = n % 4 + 1 := by omega
      rw [hmod, Finset.sum_range_succ]
      refine congr (congrArg HAdd.hAdd (ih (Nat.lt_of_succ_lt h) s (by omega))) ?_
      have := prod_eq m c ⟨n + 1, h⟩ a p q s hs
      rw [show (⟨n + 1, h⟩ : Fin cfg0.N).val % 4 = n % 4 + 1 from hmod] at this
      exact this

/-- The result array: at every slot, row and column the sum over all the rows. -/
def G (c : Dev nD) : S8x1024x512.Idx → EReal := fun i => ∑ t : Fin 4096, rowTerm m c (i 0) (i 1) (i 2) t

theorem flushed_eq (c : Dev nD) (t : Fin cfg0.N) (hf : (cfg0.win 2).flush t = true) :
    (dats m 0 c).flushed 2 t = ((cfg0.win 2).blk t).view.read (Elt Ideal) (G m c) := by
  rw [flushed2]
  have hm : t.val % 4 = 3 := (flush0_2 t).mp hf
  have hN : t.val < 16 := lt_of_lt_of_eq t.isLt N_0
  obtain ⟨-, -, e0, e1, e2⟩ := index_facts t
  funext y
  obtain ⟨a, p, q, rfl⟩ : ∃ (a : Fin 2) (p : Fin 1024) (q : Fin 512), y = ix3 a p q := ⟨y 0, y 1, y 2, eq_ix3 y⟩
  have hemb : ((cfg0.win 2).blk t).view.emb (ix3 a p q) = (ix3 ⟨2 * (t.val / 4) + a.val, by have := a.isLt; omega⟩ p q : S8x1024x512.Idx) := by
    funext b; apply Fin.ext
    match b with
    | ⟨0, _⟩ => show win0_2.index t (0 : Fin 3) * 2 + 1 * a.val = 2 * (t.val / 4) + a.val; omega
    | ⟨1, _⟩ => show win0_2.index t (1 : Fin 3) * 1024 + 1 * p.val = p.val; omega
    | ⟨2, _⟩ => show win0_2.index t (2 : Fin 3) * 512 + 1 * q.val = q.val; omega
  refine Eq.trans ?_ (congrArg (G m c) hemb).symm
  refine (outs_apply m c a p q t.val t.isLt ⟨2 * (t.val / 4) + a.val, by have := a.isLt; omega⟩ rfl).trans ?_
  rw [hm]
  exact sum_blocks 4 1024 rfl _

theorem mem_blk (t : Fin cfg0.N) (i : S8x1024x512.Idx) :
    i ∈ ((cfg0.win 2).blk t).view.set ↔ ∀ a : Fin 3, win0_2.index t a * ![2, 1024, 512] a ≤ (i a).val ∧ (i a).val < win0_2.index t a * ![2, 1024, 512] a + ![2, 1024, 512] a := by
  show i ∈ ((View.whole main_v17).slice (win0_2.rect t)).set ↔ _
  rw [View.set_slice_whole, Rect.mem_set_unit]
  exact Iff.rfl

/-- Every index of the result lies in the block that some run's last point writes back. -/
theorem cover (i : S8x1024x512.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 512 := (i 2).isLt
  have hN : cfg0.N = 16 := N_0
  refine ⟨⟨4 * ((i 0).val / 2) + 3, by omega⟩, (flush0_2 _).mpr (by show (4 * ((i 0).val / 2) + 3) % 4 = 3; omega), ?_⟩
  obtain ⟨-, -, e0, e1, e2⟩ := index_facts ⟨4 * ((i 0).val / 2) + 3, by omega⟩
  rw [show (4 * ((i 0).val / 2) + 3) / 4 = (i 0).val / 2 by omega] at e0
  refine (mem_blk _ i).mpr ?_
  intro a
  match a with
  | ⟨0, _⟩ => show win0_2.index _ (0 : Fin 3) * 2 ≤ (i 0).val ∧ (i 0).val < win0_2.index _ (0 : Fin 3) * 2 + 2; rw [e0]; omega
  | ⟨1, _⟩ => show win0_2.index _ (1 : Fin 3) * 1024 ≤ (i 1).val ∧ (i 1).val < win0_2.index _ (1 : Fin 3) * 1024 + 1024; rw [e1]; omega
  | ⟨2, _⟩ => show win0_2.index _ (2 : Fin 3) * 512 ≤ (i 2).val ∧ (i 2).val < win0_2.index _ (2 : Fin 3) * 512 + 512; rw [e2]; omega

theorem final (c : Dev nD) : (dats m 0 c).arrAt 2 cfg0.N = G m c :=
  (dats m 0 c).arrAt_eq_of_cover 2 _ (fun t hf => flushed_eq m c t hf) cover

/-! ## The operands and the reference -/

theorem opA_apply (c : Dev nD) (a : Fin 1) (t : Fin 4096) (d : Fin 1024) : opA m c (ix3 a t d) = argH m c (ix2 t d) := by
  have e : opA m c = broadcastInDim S1x4096x1024 ![1, 2] bcast_S4096x1024_S1x4096x1024_1_2 (truncf (F := Ideal) (φ := .f32) .bf16 (argH m c) bitsLt_bf16_f32) := by
    show V m c main_v15 = _
    unfold_abbrev_sides
    after_results
    rfl
  rw [e]
  pointwise

/-- The gradient of the activations' input, the matrix that the host code prepares, is the reference's. -/
abbrev da (c : Dev nD) : S4096x4096.Idx → EReal := Cert.Reference3Ideal.Read.val_main_v12 (F := Ideal) (argH m c) (argW1 m c) (argW2 m c) (argCt m c)

theorem opB_apply (c : Dev nD) (a : Fin 1) (t f : Fin 4096) : opB m c (ix3 a t f) = da m c (ix2 t f) := by
  have e : opB m c = broadcastInDim S1x4096x4096 ![1, 2] bcast_S4096x4096_S1x4096x4096_1_2 (truncf (F := Ideal) (φ := .f32) .bf16 (da m c) bitsLt_bf16_f32) := by
    show V m c main_v16 = _
    unfold_abbrev_sides
    after_results
    rfl
  rw [e]
  generalize da m c = y
  pointwise

open Cert.Reference3Ideal.Read in
theorem ref_apply (x0 : S4096x1024.Idx → EReal) (x1 : S1024x4096.Idx → EReal) (x2 x3 : S4096x1024.Idx → EReal) (s : Fin 8) (d : Fin 1024) (q : Fin 512) :
    (val_main_v16 (F := Ideal) x0 x1 x2 x3 : S8x1024x512.Idx → EReal) (ix3 s d q)
      = ∑ t : Fin 4096, (val_main_v12 (F := Ideal) x0 x1 x2 x3 : S4096x4096.Idx → EReal) (ix2 t (slotCol s q)) * x0 (ix2 t d) := by
  unfold val_main_v16 val_main_v15 val_main_v14 val_main_v13
  generalize val_main_v12 (F := Ideal) x0 x1 x2 x3 = y
  pointwise
  have e : ∀ h, (⟨s.val * 512 + q.val, h⟩ : Fin 4096) = slotCol s q := fun h => Fin.ext (by show s.val * 512 + q.val = 512 * s.val + q.val; omega)
  simp only [e]

/-- THE EQUATION: the blocked product ends at the reference's gradient of the first weight, slot by slot. -/
theorem G_eq (c : Dev nD) : G m c = Cert.Reference3Ideal.Read.val_main_v16 (F := Ideal) (argH m c) (argW1 m c) (argW2 m c) (argCt m c) := by
  funext i
  obtain ⟨s, d, q, rfl⟩ : ∃ (s : Fin 8) (d : Fin 1024) (q : Fin 512), i = ix3 s d q := ⟨i 0, i 1, i 2, eq_ix3 i⟩
  refine Eq.trans ?_ (ref_apply (argH m c) (argW1 m c) (argW2 m c) (argCt m c) s d q).symm
  refine Finset.sum_congr rfl fun t _ => ?_
  show rowTerm m c s d q t = _
  rw [rowTerm, opA_apply, opB_apply]
  exact mul_comm _ _

/-- Kernel and reference compute the same gradient of the first weight. -/
theorem algebraic : Cert.algebraic_Kernel3Ideal_Reference3Ideal := fun m g m' g' _ hagree =>
  ⟨fun c => G m c, (θ_run defs _ _).mono (fun r h c => ⟨(h c).1.trans (final m c), (h c).2⟩) (run_blocks m g),
    (θ_run Cert.Reference3Ideal.defs _ _).mono (fun r h c => ⟨(h c).1.trans ((Cert.Reference3Ideal.Read.val_main_v16_eq _ _ _ _).trans (by
    obtain ⟨h0, h1, h2, h3⟩ := hagree c
    refine Eq.trans ?_ (G_eq m c).symm
    exact congr (congr (congr (congrArg _ h0) h1) h2) h3)), (h c).2⟩) (Cert.Reference3Ideal.Value.run m' g')⟩

end Cert.Kernel3Ideal.Mlp

end
-- ==== Proof.Mlp.W2.lean ====
/- The gradient of the second weight: what the blocked product leaves in its result, as one sum over all the rows. -/
module

public import proofs.«01_k».proof.Defs
public import proofs.«01_k».proof.Proof.Gen.Kernel4Ideal.Value
public import proofs.«01_k».proof.Proof.Gen.Reference4Ideal.Read
public import proofs.«01_k».proof.Proof.Gen.Reference4Ideal.Run
public import proofs.«01_k».proof.Proof.Mlp.Sums
public import Idealize.ShloMosaic.Lib.Pointwise

@[expose] public section

noncomputable section

namespace Cert.Kernel4Ideal.Mlp

open Cert.Kernel4Ideal Cert.Kernel4Ideal.Gen Cert.Kernel4Ideal.Value Cert.Mlp
open Idealize.ShloMosaic Idealize.ShloMosaic.TcCoe Idealize.SL.Sem

/-- The step's value at an index: what was there plus the product of the two blocks, contracted over their rows. -/
theorem pay2_apply (x y : Vec Ideal S1x1024x1024 .bf16) (acc : Vec Ideal S1x1024x1024 .f32) (a : Fin 1) (p q : Fin 1024) :
    k0_pay2 x y acc (ix3 a p q) = acc (ix3 0 p q) + ∑ k : Fin 1024, x (ix3 0 k p) * y (ix3 0 k q) := by
  pointwise [k0_pay2]

theorem pay1_apply (i : S1x1024x1024.Idx) : k0_pay1 (F := Ideal) i = (0 : EReal) := by
  pointwise [k0_pay1]

variable (m : (ℓ : Loc nD τ sig) → Buf (Elt Ideal) ℓ)

/-- Where each point's blocks lie: point `t` takes row block `t % 4` of both operands, column block `t / 4` of the first. -/
theorem index_facts : ∀ t : Fin cfg0.N, win0_0.index t (0 : Fin 3) = 0 ∧ win0_0.index t (1 : Fin 3) = t.val % 4
    ∧ win0_0.index t (2 : Fin 3) = t.val / 4 ∧ win0_1.index t (0 : Fin 3) = 0 ∧ win0_1.index t (1 : Fin 3) = t.val % 4
    ∧ win0_1.index t (2 : Fin 3) = 0 :=
  (by decide +kernel : ∀ t : Fin grid0.N, _)

/-- The arguments: the block's input, the first weight and the output's gradient. -/
abbrev argH (c : Dev nD) : S4096x1024.Idx → EReal := m ((c : Thread nD τ).loc main_arg0)
abbrev argW1 (c : Dev nD) : S1024x4096.Idx → EReal := m ((c : Thread nD τ).loc main_arg1)
abbrev argCt (c : Dev nD) : S4096x1024.Idx → EReal := m ((c : Thread nD τ).loc main_arg3)
/-- The two operands as the call finds them, and their blocks at a point. -/
abbrev opA (c : Dev nD) : S1x4096x4096.Idx → EReal := V m c main_v4
abbrev opB (c : Dev nD) : S1x4096x1024.Idx → EReal := V m c main_v6
abbrev blkA (c : Dev nD) (t : Fin cfg0.N) : S1x1024x1024.Idx → EReal := iblk m c 0 t
abbrev blkB (c : Dev nD) (t : Fin cfg0.N) : S1x1024x1024.Idx → EReal := iblk m c 1 t

theorem iblk0_apply (c : Dev nD) (t : Fin cfg0.N) (k p : Fin 1024) (T F : Fin 4096) (hT : T.val = 1024 * (t.val % 4) + k.val)
    (hF : F.val = 1024 * (t.val / 4) + p.val) :
    blkA m c t (ix3 0 k p) = opA m c (ix3 0 T F) := by
  obtain ⟨e0, e1, e2, -, -, -⟩ := index_facts t
  show opA m c (((cfg0.win 0).blk t).view.emb (ix3 0 k p)) = _
  congr 1
  funext a; apply Fin.ext
  match a with
  | ⟨0, _⟩ => show win0_0.index t (0 : Fin 3) * 1 + 1 * 0 = 0; omega
  | ⟨1, _⟩ => show win0_0.index t (1 : Fin 3) * 1024 + 1 * k.val = T.val; omega
  | ⟨2, _⟩ => show win0_0.index t (2 : Fin 3) * 1024 + 1 * p.val = F.val; omega

theorem iblk1_apply (c : Dev nD) (t : Fin cfg0.N) (k q : Fin 1024) (T : Fin 4096) (hT : T.val = 1024 * (t.val % 4) + k.val) :
    blkB m c t (ix3 0 k q) = opB m c (ix3 0 T q) := by
  obtain ⟨-, -, -, e0, e1, e2⟩ := index_facts t
  show opB m c (((cfg0.win 1).blk t).view.emb (ix3 0 k q)) = _
  congr 1
  funext a; apply Fin.ext
  match a with
  | ⟨0, _⟩ => show win0_1.index t (0 : Fin 3) * 1 + 1 * 0 = 0; omega
  | ⟨1, _⟩ => show win0_1.index t (1 : Fin 3) * 1024 + 1 * k.val = T.val; omega
  | ⟨2, _⟩ => show win0_1.index t (2 : Fin 3) * 1024 + 1 * q.val = q.val; omega

/-- One row's product at result index `(f, d)`. -/
def rowTerm (c : Dev nD) (f : Fin 4096) (d : Fin 1024) (t : Fin 4096) : EReal :=
  opA m c (ix3 0 t f) * opB m c (ix3 0 t d)

/-- The block product at point `n` of run `n / 4` is the sum of its rows' terms. -/
theorem block_sum (c : Dev nD) (t : Fin cfg0.N) (p q : Fin 1024) (f : Fin 4096) (hf : f.val = 1024 * (t.val / 4) + p.val) :
    ∑ k : Fin 1024, blkA m c t (ix3 0 k p) * blkB m c t (ix3 0 k q)
      = ∑ k : Fin 1024, ext (rowTerm m c f q) (1024 * (t.val % 4) + k.val) := by
  refine Finset.sum_congr rfl fun k _ => ?_
  have hlt : 1024 * (t.val % 4) + k.val < 4096 := by have := k.isLt; omega
  rw [ext_of_lt _ hlt, rowTerm, iblk0_apply m c t k p ⟨_, hlt⟩ f rfl hf, iblk1_apply m c t k q ⟨_, hlt⟩ rfl]

/-- The result array. -/
abbrev resG (c : Dev nD) : S1x4096x1024.Idx → EReal := G2 m c

/-- THE RESULT as one sum over all the rows. -/
theorem G2_apply (c : Dev nD) (a : Fin 1) (f : Fin 4096) (d : Fin 1024) :
    resG m c (ix3 a f d) = ∑ t : Fin 4096, rowTerm m c f d t := by
  have hN : cfg0.N = 16 := N_0
  have hfd : f.val / 1024 < 4 := by omega
  have hrun : run2Of (ix3 a f d) = f.val / 1024 := by
    show 4 * (a.val / 1 - 0) + 1 * (f.val / 1024 - 0) + 1 * (d.val / 1024 - 0) = _
    omega
  have hloc : loc2Of (ix3 a f d) = ix3 0 ⟨f.val % 1024, Nat.mod_lt _ (by decide)⟩ d := by
    funext b; apply Fin.ext
    match b with
    | ⟨0, _⟩ => show a.val % 1 = 0; omega
    | ⟨1, _⟩ => rfl
    | ⟨2, _⟩ => show d.val % 1024 = d.val; omega
  unfold resG G2
  rw [dif_pos (by rw [hrun]; omega)]
  have key := Pipeline.accAt_add_apply (N := cfg0.N) (fun n h => (reset2 m c n h : S1x1024x1024.Idx → EReal)) (fun n h => (step2 m c n h : (S1x1024x1024.Idx → EReal) → _))
    (fun _ => 0)
    (fun n i => if h : n < cfg0.N then ∑ k : Fin 1024, blkA m c ⟨n, h⟩ (ix3 0 k (i 1)) * blkB m c ⟨n, h⟩ (ix3 0 k (i 2)) else 0)
    (4 * (f.val / 1024)) 3
    (fun h i => by
      obtain ⟨b, p, q, rfl⟩ : ∃ (b : Fin 1) (p q : Fin 1024), i = ix3 b p q := ⟨i 0, i 1, i 2, by funext b; match b with | ⟨0, _⟩ => rfl | ⟨1, _⟩ => rfl | ⟨2, _⟩ => rfl⟩
      dsimp only [reset2]
      rw [pay2_apply, pay1_apply, dif_pos h]; rfl)
    (fun n h acc i _ _ => by
      obtain ⟨b, p, q, rfl⟩ : ∃ (b : Fin 1) (p q : Fin 1024), i = ix3 b p q := ⟨i 0, i 1, i 2, by funext b; match b with | ⟨0, _⟩ => rfl | ⟨1, _⟩ => rfl | ⟨2, _⟩ => rfl⟩
      dsimp only [step2]
      have hb : b = 0 := Subsingleton.elim _ _
      subst hb
      rw [pay2_apply, dif_pos h]; rfl)
    3 (le_refl _) (by omega) (loc2Of (ix3 a f d))
  have hcast : ∀ (b : ℕ) (hb : b = 4 * (f.val / 1024)) (h : b + 3 < cfg0.N),
      Pipeline.accAt (reset2 m c) (step2 m c) b 3 h (loc2Of (ix3 a f d))
        = Pipeline.accAt (reset2 m c) (step2 m c) (4 * (f.val / 1024)) 3 (by omega) (loc2Of (ix3 a f d)) := by
    intro b hb h; subst hb; rfl
  rw [hcast _ (by rw [hrun])]
  refine key.trans ?_
  rw [zero_add, hloc, ← sum_blocks 4 1024 rfl (rowTerm m c f d)]
  refine Finset.sum_congr rfl fun s hs => ?_
  have hs4 : s < 4 := Finset.mem_range.mp hs
  have hlt : 4 * (f.val / 1024) + s < cfg0.N := by omega
  rw [dif_pos hlt]
  have h1 : (4 * (f.val / 1024) + s) % 4 = s := by omega
  have := block_sum m c ⟨4 * (f.val / 1024) + s, hlt⟩ ⟨f.val % 1024, Nat.mod_lt _ (by decide)⟩ d f (by show f.val = 1024 * ((4 * (f.val / 1024) + s) / 4) + f.val % 1024; omega)
  rw [h1] at this
  exact this

/-- The activations' square, as the host code prepares it: `max(h·w1, 0)²`. -/
theorem opA_apply (c : Dev nD) (a : Fin 1) (t f : Fin 4096) :
    opA m c (ix3 a t f) = max (∑ k : Fin 1024, argH m c (ix2 t k) * argW1 m c (ix2 k f)) 0
      * max (∑ k : Fin 1024, argH m c (ix2 t k) * argW1 m c (ix2 k f)) 0 := by
  have e : opA m c = broadcastInDim S1x4096x4096 ![1, 2] bcast_S4096x4096_S1x4096x4096_1_2 (truncf .bf16 (mulf
      (maximumf (Host.dotGeneral (F := Ideal) (φ₁ := .f32) (φ₂ := .f32) dot_S4096x1024_S1024x4096_S4096x4096_1_0_0_1_n_n none (argH m c) (argW1 m c)) (broadcastInDim S4096x4096 ![] bcast_S_S4096x4096 (constant S_ .f32 0x00000000#32)))
      (maximumf (Host.dotGeneral (F := Ideal) (φ₁ := .f32) (φ₂ := .f32) dot_S4096x1024_S1024x4096_S4096x4096_1_0_0_1_n_n none (argH m c) (argW1 m c)) (broadcastInDim S4096x4096 ![] bcast_S_S4096x4096 (constant S_ .f32 0x00000000#32)))) bitsLt_bf16_f32) := by
    show V m c main_v4 = _
    unfold_abbrev_sides
    after_results
    rfl
  rw [e]
  pointwise

theorem opB_apply (c : Dev nD) (a : Fin 1) (t : Fin 4096) (d : Fin 1024) :
    opB m c (ix3 a t d) = argCt m c (ix2 t d) := by
  have e : opB m c = broadcastInDim S1x4096x1024 ![1, 2] bcast_S4096x1024_S1x4096x1024_1_2 (truncf (F := Ideal) (φ := .f32) .bf16 (argCt m c) bitsLt_bf16_f32) := by
    show V m c main_v6 = _
    unfold_abbrev_sides
    after_results
    rfl
  rw [e]
  pointwise

open Cert.Reference4Ideal.Read in
/-- The reference's result at an index. -/
theorem ref_apply (x0 : S4096x1024.Idx → EReal) (x1 : S1024x4096.Idx → EReal) (x3 : S4096x1024.Idx → EReal) (a : Fin 1) (f : Fin 4096) (d : Fin 1024) :
    (val_main_v6 (F := Ideal) x0 x1 x3 : S1x4096x1024.Idx → EReal) (ix3 a f d)
      = ∑ t : Fin 4096, x3 (ix2 t d) * (max (∑ k : Fin 1024, x0 (ix2 t k) * x1 (ix2 k f)) 0 * max (∑ k : Fin 1024, x0 (ix2 t k) * x1 (ix2 k f)) 0) := by
  pointwise [val_main_v6, val_main_call0_v0, val_main_call0_cst, val_main_v5, val_main_v4, val_main_v2, val_main_v1, val_main_v0]

/-- THE EQUATION: the blocked product ends at the reference's gradient of the second weight. -/
theorem G2_eq (c : Dev nD) : G2 m c = Cert.Reference4Ideal.Read.val_main_v6 (F := Ideal) (argH m c) (argW1 m c) (argCt m c) := by
  funext i
  obtain ⟨a, f, d, rfl⟩ : ∃ (a : Fin 1) (f : Fin 4096) (d : Fin 1024), i = ix3 a f d := ⟨i 0, i 1, i 2, eq_ix3 i⟩
  refine (G2_apply m c a f d).trans (Eq.trans ?_ (ref_apply (argH m c) (argW1 m c) (argCt m c) a f d).symm)
  refine Finset.sum_congr rfl fun t _ => ?_
  rw [rowTerm, opA_apply, opB_apply]
  exact mul_comm _ _

/-- Kernel and reference compute the same gradient of the second weight. -/
theorem algebraic : Cert.algebraic_Kernel4Ideal_Reference4Ideal := fun m g m' g' _ hagree =>
  ⟨fun c => G2 m c, run m g, (θ_run Cert.Reference4Ideal.defs _ _).mono (fun r h c => ⟨(h c).1.trans ((Cert.Reference4Ideal.Read.val_main_v6_eq _ _ _).trans (by
    obtain ⟨h0, h1, -, h3⟩ := hagree c
    refine Eq.trans ?_ (G2_eq m c).symm
    exact congr (congr (congrArg _ h0) h1) h3)), (h c).2⟩) (Cert.Reference4Ideal.Value.run m' g')⟩

end Cert.Kernel4Ideal.Mlp

end
-- ==== Proof.Mlp.Mean.lean ====
/- The literals of the norm: the row length, its reciprocal and the small constant under the root. -/
module

public import Idealize.ShloMosaic.PureOps.Ideal

@[expose] public section

noncomputable section

namespace Cert.Mlp

open Idealize.ShloMosaic

/-- The norm's small constant, and the reciprocal of the row length. -/
abbrev eps : EReal := Ideal.ofBits .f32 0x358637BD#32
abbrev inv : EReal := Ideal.ofBits .f32 0x3A800000#32

theorem inv_eq : inv = ((1 / 1024 : ℝ) : EReal) := by
  simp [inv, Ideal.ofBits, Ideal.ieee]
  norm_num
  rw [← EReal.coe_mul]
  norm_num

theorem length_eq : (Ideal.ofBits .f32 0x44800000#32 : EReal) = ((1024 : ℝ) : EReal) := by
  simp [Ideal.ofBits, Ideal.ieee]
  norm_num
  rw [← EReal.coe_mul]
  norm_num

theorem half_eq : (Ideal.ofBits .f32 0xBF000000#32 : EReal) = ((-1 / 2 : ℝ) : EReal) := by
  simp [Ideal.ofBits, Ideal.ieee]
  norm_num
  rw [← EReal.coe_mul]
  norm_num

/-- The small constant is a positive real number. -/
theorem eps_pos : ∃ e : ℝ, 0 < e ∧ eps = (e : EReal) := by
  refine ⟨8796093 * 2 ^ (-43 : ℤ), by positivity, ?_⟩
  simp [eps, Ideal.ofBits, Ideal.ieee]

/-- Dividing by the row length is multiplying by its reciprocal. -/
theorem mean_eq (x : EReal) : Ideal.div x (Ideal.ofBits .f32 0x44800000#32) = x * inv := by
  rw [length_eq, inv_eq, Ideal.div_coe (by norm_num)]

end Cert.Mlp

end
-- ==== Proof.Mlp.Fwd.lean ====
/- The forward pass of the squared-relu block: what one grid point leaves in its two results, what the result arrays hold
   at the end, and that they are the reference's sum and its norm. -/
module

public import proofs.«01_k».proof.Defs
public import proofs.«01_k».proof.Proof.Gen.Kernel5Ideal.Value
public import proofs.«01_k».proof.Proof.Gen.Reference5Ideal.Read
public import proofs.«01_k».proof.Proof.Gen.Reference5Ideal.Run
public import proofs.«01_k».proof.Proof.Mlp.Sums
public import proofs.«01_k».proof.Proof.Mlp.Mean
public import Idealize.ShloMosaic.Lib.Pointwise

@[expose] public section

noncomputable section

namespace Cert.Kernel5Ideal.Mlp

open Cert.Kernel5Ideal Cert.Kernel5Ideal.Gen Cert.Kernel5Ideal.Value Cert.Mlp
open Idealize.ShloMosaic Idealize.ShloMosaic.TcCoe Idealize.SL.Sem

/-! ## One grid point -/

/-- The rectified product of a row block with a column block of the first weight. -/
def act (x : S1024x1024.Idx → EReal) (w : S1x1024x512.Idx → EReal) (p : Fin 1024) (f : Fin 512) : EReal :=
  max (∑ d : Fin 1024, x (ix2 p d) * w (ix3 0 d f)) 0

/-- A row's element over the root of the row's mean square, times its gain. -/
def normed (y : Fin 1024 → EReal) (g : Fin 1024 → EReal) (d : Fin 1024) : EReal :=
  y d * Ideal.rsqrt ((∑ e : Fin 1024, y e * y e) * inv + eps) * g d

theorem pay1_apply (x : Vec Ideal S1024x1024 .bf16) (w : Vec Ideal S1x1024x512 .bf16) (acc : Vec Ideal S1024x1024 .f32)
    (v : Vec Ideal S512x1024 .bf16) (p d : Fin 1024) :
    k0_pay1 x w acc v (ix2 p d) = acc (ix2 p d) + ∑ f : Fin 512, act x w p f * act x w p f * v (ix2 f d) := by
  unfold act
  pointwise [k0_pay1]

theorem pay2_apply (y : Vec Ideal S1024x1024 .f32) (g : Vec Ideal S1x1024 .f32) (p d : Fin 1024) :
    k0_pay2 y g (ix2 p d) = normed (fun e => y (ix2 p e)) (fun e => g (ix2 0 e)) d := by
  unfold normed
  pointwise [k0_pay2]

theorem hz2 : (![0, 0] : Fin 2 → Nat) = fun _ => 0 := funext fun a => by fin_cases a <;> rfl
theorem hz3 : (![0, 0, 0] : Fin 3 → Nat) = fun _ => 0 := funext fun a => by fin_cases a <;> rfl

section Point

variable (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024x512 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole)
  (x0 : Vec Ideal S1024x1024 .f32) (x1 : Vec Ideal S1024x1024 .bf16) (x2 : Vec Ideal S1x1024x512 .bf16) (x3 : Vec Ideal S512x1024 .bf16) (x4 : Vec Ideal S1x1024 .f32)

theorem out5_A_apply (hc0 : cond0_0 i) (hc1 : ¬cond0_1 i) (p d : Fin 1024) :
    out0_A_5 (F := Ideal) c i arg2 harg2 arg3 harg3 arg4 harg4 arg5 harg5 arg6 harg6 arg7 harg7 arg8 harg8 hc0 hc1 x0 x1 x2 x3 x4 (ix2 p d) = x0 (ix2 p d) + ∑ f : Fin 512, act x1 x2 p f * act x1 x2 p f * x3 (ix2 f d) := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  try sl_unfold_words
  rw [View.canon_cons_unit_zero (S := S1024x1024) hz2, View.readCov_unit_zero (S := S1024x1024) _ hz2]
  simp only [View.readAt_eq_ld, harg2.read_unread, harg3.read_unread, harg4.read_unread, harg5.read_unread, harg6.read_unread, harg7.read_unread, View.ld_unit_zero (S := S1024x1024) hz2, View.ld_unit_zero (S := S1x1024) hz2, View.ld_unit_zero (S := S512x1024) hz2, View.ld_unit_zero (S := S1x1024x512) hz3]
  exact pay1_apply x1 x2 _ x3 p d

theorem out5_B_apply (hc0 : ¬cond0_0 i) (hc1 : ¬cond0_1 i) (xo5 : Vec Ideal S1024x1024 .f32) (p d : Fin 1024) :
    out0_B_5 (F := Ideal) c i arg2 harg2 arg3 harg3 arg4 harg4 arg5 harg5 arg6 harg6 arg7 harg7 arg8 harg8 hc0 hc1 x0 x1 x2 x3 x4 xo5 (ix2 p d) = xo5 (ix2 p d) + ∑ f : Fin 512, act x1 x2 p f * act x1 x2 p f * x3 (ix2 f d) := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo5)]
  unfold kernelRun0_B
  dsimp only
  try sl_unfold_words
  rw [View.canon_unit_zero hz2]
  simp only [View.readAt_eq_ld, harg2.read_unread, harg3.read_unread, harg4.read_unread, harg5.read_unread, harg6.read_unread, harg7.read_unread, View.ld_unit_zero (S := S1024x1024) hz2, View.ld_unit_zero (S := S1x1024) hz2, View.ld_unit_zero (S := S512x1024) hz2, View.ld_unit_zero (S := S1x1024x512) hz3]
  exact pay1_apply x1 x2 _ x3 p d

theorem out5_C_apply (hc0 : ¬cond0_0 i) (hc1 : cond0_1 i) (xo5 : Vec Ideal S1024x1024 .f32) (p d : Fin 1024) :
    out0_C_5 (F := Ideal) c i arg2 harg2 arg3 harg3 arg4 harg4 arg5 harg5 arg6 harg6 arg7 harg7 arg8 harg8 hc0 hc1 x0 x1 x2 x3 x4 xo5 (ix2 p d) = xo5 (ix2 p d) + ∑ f : Fin 512, act x1 x2 p f * act x1 x2 p f * x3 (ix2 f d) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo5)]
  unfold kernelRun0_C
  dsimp only
  try sl_unfold_words
  rw [View.canon_unit_zero hz2]
  simp only [View.readAt_eq_ld, harg2.read_unread, harg3.read_unread, harg4.read_unread, harg5.read_unread, harg6.read_unread, harg7.read_unread, View.ld_unit_zero (S := S1024x1024) hz2, View.ld_unit_zero (S := S1x1024) hz2, View.ld_unit_zero (S := S512x1024) hz2, View.ld_unit_zero (S := S1x1024x512) hz3]
  exact pay1_apply x1 x2 _ x3 p d

theorem out6_C_apply (hc0 : ¬cond0_0 i) (hc1 : cond0_1 i) (xo5 : Vec Ideal S1024x1024 .f32) (p d : Fin 1024) :
    out0_C_6 (F := Ideal) c i arg2 harg2 arg3 harg3 arg4 harg4 arg5 harg5 arg6 harg6 arg7 harg7 arg8 harg8 hc0 hc1 x0 x1 x2 x3 x4 xo5 (ix2 p d)
      = normed (fun e => xo5 (ix2 p e) + ∑ f : Fin 512, act x1 x2 p f * act x1 x2 p f * x3 (ix2 f e)) (fun e => x4 (ix2 0 e)) d := by
  unfold out0_C_6
  rw [View.read_writes_eq_canon _ _ _ (cover0_C_6 c i arg2 harg2 arg3 harg3 arg4 harg4 arg5 harg5 arg6 harg6 arg7 harg7 arg8 harg8 hc0 hc1 x0 x1 x2 x3 x4 xo5)]
  unfold kernelRun0_C
  dsimp only
  try sl_unfold_words
  rw [View.canon_unit_zero hz2, View.readCov_unit_zero (S := S1024x1024) _ hz2]
  simp only [View.readAt_eq_ld, harg2.read_unread, harg3.read_unread, harg4.read_unread, harg5.read_unread, harg6.read_unread, harg7.read_unread, View.ld_unit_zero (S := S1024x1024) hz2, View.ld_unit_zero (S := S1x1024) hz2, View.ld_unit_zero (S := S512x1024) hz2, View.ld_unit_zero (S := S1x1024x512) hz3]
  refine (pay2_apply _ x4 p d).trans ?_
  exact congrArg (fun y : Fin 1024 → EReal => normed y (fun e => x4 (ix2 0 e)) d) (funext fun e => pay1_apply x1 x2 _ x3 p e)

end Point

/-! ## The result arrays -/

variable (m : (ℓ : Loc nD τ sig) → Buf (Elt Ideal) ℓ)

/-- The arguments, the operands as the call finds them, and their blocks at a point. -/
abbrev argX (c : Dev nD) : S4096x1024.Idx → EReal := m ((c : Thread nD τ).loc main_arg0)
abbrev argH (c : Dev nD) : S4096x1024.Idx → EReal := m ((c : Thread nD τ).loc main_arg1)
abbrev argW1 (c : Dev nD) : S1024x4096.Idx → EReal := m ((c : Thread nD τ).loc main_arg2)
abbrev argW2 (c : Dev nD) : S4096x1024.Idx → EReal := m ((c : Thread nD τ).loc main_arg3)
abbrev argG (c : Dev nD) : S1024.Idx → EReal := m ((c : Thread nD τ).loc main_arg4)
abbrev opW1 (c : Dev nD) : S8x1024x512.Idx → EReal := V m c main_v2
abbrev opH (c : Dev nD) : S4096x1024.Idx → EReal := V m c main_v3
abbrev opW2 (c : Dev nD) : S4096x1024.Idx → EReal := V m c main_v4
abbrev opG (c : Dev nD) : S1x1024.Idx → EReal := V m c main_v5
abbrev blkX (c : Dev nD) (t : Fin cfg0.N) : S1024x1024.Idx → EReal := iblk m c 0 t
abbrev blkH (c : Dev nD) (t : Fin cfg0.N) : S1024x1024.Idx → EReal := iblk m c 1 t
abbrev blkW1 (c : Dev nD) (t : Fin cfg0.N) : S1x1024x512.Idx → EReal := iblk m c 2 t
abbrev blkW2 (c : Dev nD) (t : Fin cfg0.N) : S512x1024.Idx → EReal := iblk m c 3 t
abbrev blkG (c : Dev nD) (t : Fin cfg0.N) : S1x1024.Idx → EReal := iblk m c 4 t

/-- Where each point's blocks lie: point `t` takes row block `t / 8` of the two activations, and column block `t % 8` of the
    first weight, which is row block `t % 8` of the second. -/
theorem index_facts : ∀ t : Fin cfg0.N, (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 3) = t.val % 8 ∧ win0_2.index t (1 : Fin 3) = 0 ∧ win0_2.index t (2 : Fin 3) = 0)
    ∧ (win0_3.index t (0 : Fin 2) = t.val % 8 ∧ win0_3.index t (1 : Fin 2) = 0) :=
  (by decide +kernel : ∀ t : Fin grid0.N, _)

/-- Where the gain and each point's blocks of the two results lie. -/
theorem index_out : ∀ t : Fin cfg0.N, (win0_4.index t (0 : Fin 2) = 0 ∧ win0_4.index t (1 : Fin 2) = 0)
    ∧ (win0_5.index t (0 : Fin 2) = t.val / 8 ∧ win0_5.index t (1 : Fin 2) = 0)
    ∧ (win0_6.index t (0 : Fin 2) = t.val / 8 ∧ win0_6.index t (1 : Fin 2) = 0) :=
  (by decide +kernel : ∀ t : Fin grid0.N, _)

/-- The host's cut of the first weight into column slots, and its casts, change no entry. -/
theorem opW1_apply (c : Dev nD) (j : Fin 8) (d : Fin 1024) (f : Fin 512) (F : Fin 4096) (hF : F.val = 512 * j.val + f.val) :
    opW1 m c (ix3 j d f) = argW1 m c (ix2 d F) := by
  have e : opW1 m c = truncf (F := Ideal) (φ := .f32) .bf16 (transpose S8x1024x512 [1, 0, 2] (shapeCast S1024x8x512 (argW1 m c) shapeCasts_S1024x4096_S1024x8x512) transposes_S1024x8x512_S8x1024x512_1_0_2) bitsLt_bf16_f32 := by
    show V m c main_v2 = _
    unfold_abbrev_sides
    after_results
    rfl
  rw [e]
  generalize argW1 m c = y
  pointwise
  refine congrArg y (congrArg (ix2 d) (Fin.ext ?_))
  show j.val * 512 + f.val = F.val
  omega

theorem opH_eq (c : Dev nD) : opH m c = argH m c := by
  show V m c main_v3 = _
  unfold_abbrev_sides
  after_results
  rfl

theorem opW2_eq (c : Dev nD) : opW2 m c = argW2 m c := by
  show V m c main_v4 = _
  unfold_abbrev_sides
  after_results
  rfl

theorem opG_apply (c : Dev nD) (d : Fin 1024) : opG m c (ix2 0 d) = argG m c (ix1 d) := by
  have e : opG m c = broadcastInDim S1x1024 ![1] bcast_S1024_S1x1024_1 (argG m c) := by
    show V m c main_v5 = _
    unfold_abbrev_sides
    after_results
  rw [e]
  generalize argG m c = y
  pointwise

theorem blkX_apply (c : Dev nD) (t : Fin cfg0.N) (p d : Fin 1024) (T : Fin 4096) (hT : T.val = 1024 * (t.val / 8) + p.val) :
    blkX m c t (ix2 p d) = argX m c (ix2 T d) := by
  obtain ⟨⟨e0, e1⟩, -, -, -⟩ := index_facts t
  refine Eq.trans ?_ (congrFun (V_main_arg0 m c) (ix2 T d))
  show V m c main_arg0 (((cfg0.win 0).blk t).view.emb (ix2 p d)) = _
  congr 1
  funext a; apply Fin.ext
  match a with
  | ⟨0, _⟩ => show win0_0.index t (0 : Fin 2) * 1024 + 1 * p.val = T.val; omega
  | ⟨1, _⟩ => show win0_0.index t (1 : Fin 2) * 1024 + 1 * d.val = d.val; omega

theorem blkH_apply (c : Dev nD) (t : Fin cfg0.N) (p d : Fin 1024) (T : Fin 4096) (hT : T.val = 1024 * (t.val / 8) + p.val) :
    blkH m c t (ix2 p d) = argH m c (ix2 T d) := by
  obtain ⟨-, ⟨e0, e1⟩, -, -⟩ := index_facts t
  rw [← opH_eq]
  show opH m c (((cfg0.win 1).blk t).view.emb (ix2 p d)) = _
  congr 1
  funext a; apply Fin.ext
  match a with
  | ⟨0, _⟩ => show win0_1.index t (0 : Fin 2) * 1024 + 1 * p.val = T.val; omega
  | ⟨1, _⟩ => show win0_1.index t (1 : Fin 2) * 1024 + 1 * d.val = d.val; omega

theorem blkW1_apply (c : Dev nD) (t : Fin cfg0.N) (d : Fin 1024) (f : Fin 512) (F : Fin 4096) (hF : F.val = 512 * (t.val % 8) + f.val) :
    blkW1 m c t (ix3 0 d f) = argW1 m c (ix2 d F) := by
  obtain ⟨-, -, ⟨e0, e1, e2⟩, -⟩ := index_facts t
  refine Eq.trans ?_ (opW1_apply m c ⟨t.val % 8, Nat.mod_lt _ (by omega)⟩ d f F hF)
  show opW1 m c (((cfg0.win 2).blk t).view.emb (ix3 0 d f)) = _
  congr 1
  funext a; apply Fin.ext
  match a with
  | ⟨0, _⟩ => show win0_2.index t (0 : Fin 3) * 1 + 1 * 0 = t.val % 8; omega
  | ⟨1, _⟩ => show win0_2.index t (1 : Fin 3) * 1024 + 1 * d.val = d.val; omega
  | ⟨2, _⟩ => show win0_2.index t (2 : Fin 3) * 512 + 1 * f.val = f.val; omega

theorem blkW2_apply (c : Dev nD) (t : Fin cfg0.N) (f : Fin 512) (d : Fin 1024) (F : Fin 4096) (hF : F.val = 512 * (t.val % 8) + f.val) :
    blkW2 m c t (ix2 f d) = argW2 m c (ix2 F d) := by
  obtain ⟨-, -, -, ⟨e0, e1⟩⟩ := index_facts t
  rw [← opW2_eq]
  show opW2 m c (((cfg0.win 3).blk t).view.emb (ix2 f d)) = _
  congr 1
  funext a; apply Fin.ext
  match a with
  | ⟨0, _⟩ => show win0_3.index t (0 : Fin 2) * 512 + 1 * f.val = F.val; omega
  | ⟨1, _⟩ => show win0_3.index t (1 : Fin 2) * 1024 + 1 * d.val = d.val; omega

theorem blkG_apply (c : Dev nD) (t : Fin cfg0.N) (d : Fin 1024) : blkG m c t (ix2 0 d) = argG m c (ix1 d) := by
  obtain ⟨⟨e0, e1⟩, -, -⟩ := index_out t
  refine Eq.trans ?_ (opG_apply m c d)
  show opG m c (((cfg0.win 4).blk t).view.emb (ix2 0 d)) = _
  congr 1
  funext a; apply Fin.ext
  match a with
  | ⟨0, _⟩ => show win0_4.index t (0 : Fin 2) * 1 + 1 * 0 = 0; omega
  | ⟨1, _⟩ => show win0_4.index t (1 : Fin 2) * 1024 + 1 * d.val = d.val; omega

/-- The rectified product of whole rows and columns. -/
def fullAct (h : S4096x1024.Idx → EReal) (w1 : S1024x4096.Idx → EReal) (T F : Fin 4096) : EReal :=
  max (∑ d : Fin 1024, h (ix2 T d) * w1 (ix2 d F)) 0

theorem act_eq (c : Dev nD) (t : Fin cfg0.N) (p : Fin 1024) (f : Fin 512) (T F : Fin 4096) (hT : T.val = 1024 * (t.val / 8) + p.val)
    (hF : F.val = 512 * (t.val % 8) + f.val) : act (blkH m c t) (blkW1 m c t) p f = fullAct (argH m c) (argW1 m c) T F := by
  unfold act fullAct
  refine congrArg (fun z : EReal => max z 0) (Finset.sum_congr rfl fun d _ => ?_)
  rw [blkH_apply m c t p d T hT, blkW1_apply m c t d f F hF]

/-- One hidden column's term of the block's output. -/
def colTerm (c : Dev nD) (T : Fin 4096) (d : Fin 1024) (F : Fin 4096) : EReal :=
  fullAct (argH m c) (argW1 m c) T F * fullAct (argH m c) (argW1 m c) T F * argW2 m c (ix2 F d)

/-- The two result arrays. -/
def sumRow (c : Dev nD) (T : Fin 4096) (d : Fin 1024) : EReal := argX m c (ix2 T d) + ∑ F : Fin 4096, colTerm m c T d F

def GO (c : Dev nD) : S4096x1024.Idx → EReal := fun i => sumRow m c (i 0) (i 1)

def GN (c : Dev nD) : S4096x1024.Idx → EReal := fun i => normed (sumRow m c (i 0)) (fun e => argG m c (ix1 e)) (i 1)

theorem block_sum (c : Dev nD) (t : Fin cfg0.N) (p d : Fin 1024) (T : Fin 4096) (hT : T.val = 1024 * (t.val / 8) + p.val) :
    ∑ f : Fin 512, act (blkH m c t) (blkW1 m c t) p f * act (blkH m c t) (blkW1 m c t) p f * blkW2 m c t (ix2 f d)
      = ∑ f : Fin 512, ext (colTerm m c T d) (512 * (t.val % 8) + f.val) := by
  refine Finset.sum_congr rfl fun f _ => ?_
  have hlt : 512 * (t.val % 8) + f.val < 4096 := by have := f.isLt; omega
  rw [ext_of_lt _ hlt, colTerm, act_eq m c t p f T ⟨_, hlt⟩ hT rfl, blkW2_apply m c t f d ⟨_, hlt⟩ rfl]

/-- What the staged block of the sum holds after point `n`. -/
abbrev outs (c : Dev nD) (n : ℕ) (h : n < cfg0.N) : S1024x1024.Idx → EReal := (outsAt0 m c n h).1

theorem outs_A (c : Dev nD) (t : Fin cfg0.N) (h0 : t.val % 8 = 0) (p d : Fin 1024) :
    outs m c t.val t.isLt (ix2 p d) = blkX m c t (ix2 p d) + ∑ f : Fin 512, act (blkH m c t) (blkW1 m c t) p f * act (blkH m c t) (blkW1 m c t) p f * blkW2 m c t (ix2 f d) := by
  unfold outs
  rw [outsAt0_A m c t h0 (by omega)]
  dsimp only
  exact out5_A_apply ..

theorem outs_B (c : Dev nD) (t : Fin cfg0.N) (h0 : ¬t.val % 8 = 0) (p d : Fin 1024) :
    outs m c t.val t.isLt (ix2 p d) = outs m c (t.val - 1) (Nat.lt_of_le_of_lt (Nat.sub_le _ _) t.isLt) (ix2 p d)
      + ∑ f : Fin 512, act (blkH m c t) (blkW1 m c t) p f * act (blkH m c t) (blkW1 m c t) p f * blkW2 m c t (ix2 f d) := by
  unfold outs
  by_cases h1 : t.val % 8 = 7
  · rw [outsAt0_C m c t h0 h1]
    dsimp only
    exact out5_C_apply ..
  · rw [outsAt0_B m c t h0 h1]
    dsimp only
    exact out5_B_apply ..

theorem outs_apply (c : Dev nD) (p d : Fin 1024) : ∀ (n : ℕ) (h : n < cfg0.N) (T : Fin 4096), T.val = 1024 * (n / 8) + p.val →
    outs m c n h (ix2 p d) = argX m c (ix2 T d) + ∑ j ∈ Finset.range (n % 8 + 1), ∑ f : Fin 512, ext (colTerm m c T d) (512 * j + f.val) := by
  have base : ∀ (t : Fin cfg0.N) (T : Fin 4096), t.val % 8 = 0 → T.val = 1024 * (t.val / 8) + p.val →
      outs m c t.val t.isLt (ix2 p d) = argX m c (ix2 T d) + ∑ f : Fin 512, ext (colTerm m c T d) (512 * 0 + f.val) := by
    intro t T h0 hT
    refine (outs_A m c t h0 p d).trans ?_
    have := block_sum m c t p d T hT
    rw [h0] at this
    exact congr (congrArg HAdd.hAdd (blkX_apply m c t p d T hT)) this
  intro n
  induction n with
  | zero =>
    intro h T hT
    rw [Nat.zero_mod, zero_add, Finset.sum_range_one]
    exact base ⟨0, h⟩ T (Nat.zero_mod 8) hT
  | succ n ih =>
    intro h T hT
    by_cases h0 : (n + 1) % 8 = 0
    · rw [h0, zero_add, Finset.sum_range_one]
      exact base ⟨n + 1, h⟩ T h0 hT
    · refine (outs_B m c ⟨n + 1, h⟩ h0 p d).trans ?_
      have hmod : (n + 1) % 8 = n % 8 + 1 := by omega
      rw [hmod, Finset.sum_range_succ, ← add_assoc]
      refine congr (congrArg HAdd.hAdd (ih (Nat.lt_of_succ_lt h) T (by omega))) ?_
      have := block_sum m c ⟨n + 1, h⟩ p d T hT
      rw [show (⟨n + 1, h⟩ : Fin cfg0.N).val % 8 = n % 8 + 1 from hmod] at this
      exact this

/-- After a row block's last point, the staged sum is the whole one. -/
theorem outs_last (c : Dev nD) (t : Fin cfg0.N) (hm : t.val % 8 = 7) (p d : Fin 1024) (T : Fin 4096) (hT : T.val = 1024 * (t.val / 8) + p.val) :
    outs m c t.val t.isLt (ix2 p d) = sumRow m c T d := by
  refine (outs_apply m c p d t.val t.isLt T hT).trans ?_
  rw [hm]
  exact congrArg (fun z : EReal => argX m c (ix2 T d) + z) (sum_blocks 8 512 rfl _)

theorem flushedO (c : Dev nD) (t : Fin cfg0.N) (hf : (cfg0.win 5).flush t = true) :
    (dats m 0 c).flushed 5 t = ((cfg0.win 5).blk t).view.read (Elt Ideal) (GO m c) := by
  rw [flushed5]
  have hm : t.val % 8 = 7 := (flush0_5 t).mp hf
  have hN : t.val < 32 := lt_of_lt_of_eq t.isLt N_0
  obtain ⟨-, ⟨e0, e1⟩, -⟩ := index_out t
  funext y
  obtain ⟨p, d, rfl⟩ : ∃ p d : Fin 1024, y = ix2 p d := ⟨y 0, y 1, eq_ix2 y⟩
  have hemb : ((cfg0.win 5).blk t).view.emb (ix2 p d) = (ix2 ⟨1024 * (t.val / 8) + p.val, by have := p.isLt; omega⟩ d : S4096x1024.Idx) := by
    funext b; apply Fin.ext
    match b with
    | ⟨0, _⟩ => show win0_5.index t (0 : Fin 2) * 1024 + 1 * p.val = 1024 * (t.val / 8) + p.val; omega
    | ⟨1, _⟩ => show win0_5.index t (1 : Fin 2) * 1024 + 1 * d.val = d.val; omega
  refine Eq.trans ?_ (congrArg (GO m c) hemb).symm
  exact outs_last m c t hm p d ⟨1024 * (t.val / 8) + p.val, by have := p.isLt; omega⟩ rfl

theorem flushedN (c : Dev nD) (t : Fin cfg0.N) (hf : (cfg0.win 6).flush t = true) :
    (dats m 0 c).flushed 6 t = ((cfg0.win 6).blk t).view.read (Elt Ideal) (GN m c) := by
  have hm : t.val % 8 = 7 := (flush0_6 t).mp hf
  have h0 : ¬t.val % 8 = 0 := by omega
  have hN : t.val < 32 := lt_of_lt_of_eq t.isLt N_0
  obtain ⟨-, -, ⟨e0, e1⟩⟩ := index_out t
  funext y
  obtain ⟨p, d, rfl⟩ : ∃ p d : Fin 1024, y = ix2 p d := ⟨y 0, y 1, eq_ix2 y⟩
  have hemb : ((cfg0.win 6).blk t).view.emb (ix2 p d) = (ix2 ⟨1024 * (t.val / 8) + p.val, by have := p.isLt; omega⟩ d : S4096x1024.Idx) := by
    funext b; apply Fin.ext
    match b with
    | ⟨0, _⟩ => show win0_6.index t (0 : Fin 2) * 1024 + 1 * p.val = 1024 * (t.val / 8) + p.val; omega
    | ⟨1, _⟩ => show win0_6.index t (1 : Fin 2) * 1024 + 1 * d.val = d.val; omega
  refine Eq.trans ?_ (congrArg (GN m c) hemb).symm
  refine (congrFun (flushed6_C m c t h0 hm) _).trans ((out6_C_apply ..).trans ?_)
  show normed _ _ d = normed (sumRow m c ⟨1024 * (t.val / 8) + p.val, _⟩) _ d
  refine congr (congr (congrArg normed (funext fun e => ?_)) (funext fun e => blkG_apply m c t e)) rfl
  exact (outs_B m c t h0 p e).symm.trans (outs_last m c t hm p e ⟨1024 * (t.val / 8) + p.val, by have := p.isLt; omega⟩ rfl)

theorem mem_blkO (t : Fin cfg0.N) (i : S4096x1024.Idx) :
    i ∈ ((cfg0.win 5).blk t).view.set ↔ ∀ a : Fin 2, win0_5.index t a * ![1024, 1024] a ≤ (i a).val ∧ (i a).val < win0_5.index t a * ![1024, 1024] a + ![1024, 1024] a := by
  show i ∈ ((View.whole main_v6_0).slice (win0_5.rect t)).set ↔ _
  rw [View.set_slice_whole, Rect.mem_set_unit]
  exact Iff.rfl

theorem mem_blkN (t : Fin cfg0.N) (i : S4096x1024.Idx) :
    i ∈ ((cfg0.win 6).blk t).view.set ↔ ∀ a : Fin 2, win0_6.index t a * ![1024, 1024] a ≤ (i a).val ∧ (i a).val < win0_6.index t a * ![1024, 1024] a + ![1024, 1024] a := by
  show i ∈ ((View.whole main_v6_1).slice (win0_6.rect t)).set ↔ _
  rw [View.set_slice_whole, Rect.mem_set_unit]
  exact Iff.rfl

theorem coverO (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hN : cfg0.N = 32 := N_0
  refine ⟨⟨8 * ((i 0).val / 1024) + 7, by omega⟩, (flush0_5 _).mpr (by show (8 * ((i 0).val / 1024) + 7) % 8 = 7; omega), ?_⟩
  obtain ⟨-, ⟨e0, e1⟩, -⟩ := index_out ⟨8 * ((i 0).val / 1024) + 7, by omega⟩
  rw [show (8 * ((i 0).val / 1024) + 7) / 8 = (i 0).val / 1024 by omega] at e0
  refine (mem_blkO _ i).mpr ?_
  intro a
  match a with
  | ⟨0, _⟩ => show win0_5.index _ (0 : Fin 2) * 1024 ≤ (i 0).val ∧ (i 0).val < win0_5.index _ (0 : Fin 2) * 1024 + 1024; rw [e0]; omega
  | ⟨1, _⟩ => show win0_5.index _ (1 : Fin 2) * 1024 ≤ (i 1).val ∧ (i 1).val < win0_5.index _ (1 : Fin 2) * 1024 + 1024; rw [e1]; omega

theorem coverN (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 32 := N_0
  refine ⟨⟨8 * ((i 0).val / 1024) + 7, by omega⟩, (flush0_6 _).mpr (by show (8 * ((i 0).val / 1024) + 7) % 8 = 7; omega), ?_⟩
  obtain ⟨-, -, ⟨e0, e1⟩⟩ := index_out ⟨8 * ((i 0).val / 1024) + 7, by omega⟩
  rw [show (8 * ((i 0).val / 1024) + 7) / 8 = (i 0).val / 1024 by omega] at e0
  refine (mem_blkN _ i).mpr ?_
  intro a
  match a with
  | ⟨0, _⟩ => show win0_6.index _ (0 : Fin 2) * 1024 ≤ (i 0).val ∧ (i 0).val < win0_6.index _ (0 : Fin 2) * 1024 + 1024; rw [e0]; omega
  | ⟨1, _⟩ => show win0_6.index _ (1 : Fin 2) * 1024 ≤ (i 1).val ∧ (i 1).val < win0_6.index _ (1 : Fin 2) * 1024 + 1024; rw [e1]; omega

theorem finalO (c : Dev nD) : (dats m 0 c).arrAt 5 cfg0.N = GO m c :=
  (dats m 0 c).arrAt_eq_of_cover 5 _ (fun t hf => flushedO m c t hf) coverO

theorem finalN (c : Dev nD) : (dats m 0 c).arrAt 6 cfg0.N = GN m c :=
  (dats m 0 c).arrAt_eq_of_cover 6 _ (fun t hf => flushedN m c t hf) coverN

/-! ## The reference -/

section Reference
open Cert.Reference5Ideal.Read

variable (x0 x1 : S4096x1024.Idx → EReal) (x2 : S1024x4096.Idx → EReal) (x3 : S4096x1024.Idx → EReal) (x4 : S1024.Idx → EReal)

theorem ref_o (T : Fin 4096) (d : Fin 1024) : (val_main_v4 (F := Ideal) x0 x1 x2 x3 : S4096x1024.Idx → EReal) (ix2 T d)
    = x0 (ix2 T d) + ∑ F : Fin 4096, fullAct x1 x2 T F * fullAct x1 x2 T F * x3 (ix2 F d) := by
  unfold fullAct
  pointwise [val_main_v4, val_main_v3, val_main_v2, val_main_v1, val_main_v0, val_main_call0_v0, val_main_call0_cst]

theorem ref_n (T : Fin 4096) (d : Fin 1024) : (val_main_v18 (F := Ideal) x0 x1 x2 x3 x4 : S4096x1024.Idx → EReal) (ix2 T d)
    = normed (fun e => (val_main_v4 (F := Ideal) x0 x1 x2 x3 : S4096x1024.Idx → EReal) (ix2 T e)) (fun e => x4 (ix1 e)) d := by
  unfold normed
  rw [← mean_eq]
  unfold val_main_v18 val_main_v17 val_main_v14 val_main_v13 val_main_v12 val_main_v11 val_main_v9 val_main_v7 val_main_v6 val_main_v5
  generalize val_main_v4 (F := Ideal) x0 x1 x2 x3 = y
  pointwise [val_main_v16, val_main_v15, val_main_v10, val_main_cst_1, val_main_v8, val_main_cst_0, val_main_cst]

end Reference

/-! ## The equation -/

theorem GO_eq (c : Dev nD) : GO m c = Cert.Reference5Ideal.Read.val_main_v4 (F := Ideal) (argX m c) (argH m c) (argW1 m c) (argW2 m c) := by
  funext i
  obtain ⟨T, d, rfl⟩ : ∃ (T : Fin 4096) (d : Fin 1024), i = ix2 T d := ⟨i 0, i 1, eq_ix2 i⟩
  exact (ref_o (argX m c) (argH m c) (argW1 m c) (argW2 m c) T d).symm

theorem GN_eq (c : Dev nD) : GN m c = Cert.Reference5Ideal.Read.val_main_v18 (F := Ideal) (argX m c) (argH m c) (argW1 m c) (argW2 m c) (argG m c) := by
  funext i
  obtain ⟨T, d, rfl⟩ : ∃ (T : Fin 4096) (d : Fin 1024), i = ix2 T d := ⟨i 0, i 1, eq_ix2 i⟩
  refine Eq.trans ?_ (ref_n (argX m c) (argH m c) (argW1 m c) (argW2 m c) (argG m c) T d).symm
  show normed (sumRow m c T) _ d = _
  exact congrArg (fun y : Fin 1024 → EReal => normed y (fun e => argG m c (ix1 e)) d)
    (funext fun e => (ref_o (argX m c) (argH m c) (argW1 m c) (argW2 m c) T e).symm)

/-- Kernel and reference compute the same sum and the same norm of it. -/
theorem algebraic : Cert.algebraic_Kernel5Ideal_Reference5Ideal := fun m g m' g' _ hagree =>
  ⟨fun c => GO m c, fun c => GN m c,
    (θ_run defs _ _).mono (fun r h c => ⟨(h c).1.trans (finalO m c), (h c).2.1.trans (finalN m c), (h c).2.2⟩) (run_blocks m g),
    (θ_run Cert.Reference5Ideal.defs _ _).mono (fun r h c => by
      obtain ⟨h0, h1, h2, h3, h4⟩ := hagree c
      refine ⟨(h c).1.trans ((Cert.Reference5Ideal.Read.val_main_v4_eq _ _ _ _).trans ?_), (h c).2.1.trans ((Cert.Reference5Ideal.Read.val_main_v18_eq _ _ _ _ _).trans ?_), (h c).2.2⟩
      · refine Eq.trans ?_ (GO_eq m c).symm
        exact congr (congr (congr (congrArg _ h0) h1) h2) h3
      · refine Eq.trans ?_ (GN_eq m c).symm
        exact congr (congr (congr (congr (congrArg _ h0) h1) h2) h3) h4) (Cert.Reference5Ideal.Value.run m' g')⟩

end Cert.Kernel5Ideal.Mlp

end
-- ==== Proof.Flash.Row.lean ====
/- One row of a causal softmax over the extended reals, and the gradient of its scores. -/
module

public import Idealize.ShloMosaic.PureOps.Ideal

@[expose] public section

noncomputable section

namespace Cert.AttnRow

open Idealize.ShloMosaic

/-- The largest of finitely many numbers over −∞ is below +∞, at least each of them, and real when one of them is. -/
theorem fold_real {n : ℕ} (f : Fin n → EReal) (hf : ∀ c, f c ≠ ⊤) (r : Fin n) (hr : f r ≠ ⊥) :
    ∃ M : ℝ, Finset.fold max ⊥ f Finset.univ = (M : EReal) := by
  have top : Finset.fold max ⊥ f Finset.univ ≠ ⊤ := by
    refine ne_of_lt ?_
    rw [Finset.fold_max_lt]
    exact ⟨bot_lt_top, fun c _ => lt_top_iff_ne_top.2 (hf c)⟩
  have bot : Finset.fold max ⊥ f Finset.univ ≠ ⊥ := by
    refine ne_of_gt ?_
    show ⊥ < _
    rw [Finset.lt_fold_max]
    exact Or.inr ⟨r, Finset.mem_univ r, bot_lt_iff_ne_bot.2 hr⟩
  exact ⟨_, (EReal.coe_toReal top bot).symm⟩

/-- A sum of reals is the same sum over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a t h ih => rw [Finset.sum_insert h, Finset.sum_insert h, EReal.coe_add, ih]

/-- The quotient of two reals, the divisor not zero. -/
theorem div_real (x y : ℝ) (h : y ≠ 0) : Ideal.div (x : EReal) (y : EReal) = ((x / y : ℝ) : EReal) := by
  rw [Ideal.div_coe h, ← EReal.coe_mul, mul_one_div]

variable {n : ℕ} (r : Fin n) (s : Fin n → ℝ)

/-- The scores of row `r`, those of later positions at −∞. -/
def masked (c : Fin n) : EReal := if c ≤ r then (s c : EReal) else ⊥

/-- The largest score of the row. -/
def top : EReal := Finset.fold max ⊥ (masked r s) Finset.univ

/-- The exponential of a score less the largest. -/
def e (c : Fin n) : EReal := Ideal.exp (masked r s c - top r s)

/-- The row's largest score, as a real. -/
theorem top_real : ∃ M : ℝ, top r s = (M : EReal) := by
  refine fold_real (masked r s) (fun c => ?_) r ?_
  · unfold masked
    split
    · exact EReal.coe_ne_top _
    · exact bot_ne_top
  · unfold masked
    rw [if_pos le_rfl]
    exact EReal.coe_ne_bot _

/-- The row's weights are real: the exponentials `E`, zero after position `r`, over their sum `L`; a weight is also the
    exponential of its score less the largest and the sum's logarithm. -/
theorem row_real : ∃ (E : Fin n → ℝ) (L : ℝ), L ≠ 0 ∧ (∀ c, e r s c = (E c : EReal)) ∧ (∑ c, e r s c = (L : EReal)) ∧
    (∀ c, ¬ c ≤ r → E c = 0) ∧
    (∀ c, c ≤ r → Ideal.exp ((s c : EReal) - (top r s + Ideal.log (∑ c, e r s c))) = ((E c / L : ℝ) : EReal)) := by
  obtain ⟨M, hM⟩ := top_real r s
  have hE : ∀ c, e r s c = ((if c ≤ r then Real.exp (s c - M) else 0 : ℝ) : EReal) := fun c => by
    unfold e masked
    rw [hM]
    by_cases h : c ≤ r
    · rw [if_pos h, if_pos h, ← EReal.coe_sub, Ideal.exp_coe]
    · rw [if_neg h, if_neg h, EReal.bot_sub]
      rfl
  have hL : ∑ c, e r s c = ((∑ c, (if c ≤ r then Real.exp (s c - M) else 0) : ℝ) : EReal) := by
    rw [coe_sum]
    exact Finset.sum_congr rfl fun c _ => hE c
  have hpos : 0 < ∑ c, (if c ≤ r then Real.exp (s c - M) else 0) :=
    Finset.sum_pos' (fun c _ => by split <;> positivity) ⟨r, Finset.mem_univ r, by rw [if_pos le_rfl]; positivity⟩
  refine ⟨_, _, hpos.ne', hE, hL, fun c h => if_neg h, fun c h => ?_⟩
  rw [hL, hM, Ideal.log_coe, if_neg (not_le.2 hpos), ← EReal.coe_add, ← EReal.coe_sub, Ideal.exp_coe, if_pos h, ← sub_sub,
    Real.exp_sub, Real.exp_log hpos]

/-- The weight that the softmax gives to position `c`. -/
def weight (c : Fin n) : EReal := Ideal.div (e r s c) (∑ c, e r s c)

/-- The weight recovered from the row's logarithm of the sum. -/
theorem weight_eq (c : Fin n) :
    (if c ≤ r then Ideal.exp ((s c : EReal) - (top r s + Ideal.log (∑ c, e r s c))) else 0) = weight r s c := by
  obtain ⟨E, L, hL, hE, hS, h0, hp⟩ := row_real r s
  unfold weight
  rw [hE c]
  by_cases h : c ≤ r
  · rw [if_pos h, hp c h, hS, div_real _ _ hL]
  · rw [if_neg h, hS, div_real _ _ hL, h0 c h, zero_div, EReal.coe_zero]

/-- The gradient of a score: the weight times the gradient of the weight less the row's mean of those gradients is what the
    derivative of a quotient of exponentials gives. -/
theorem score_grad (g : Fin n → ℝ) (c : Fin n) :
    weight r s c * ((g c : EReal) - ∑ x, weight r s x * (g x : EReal)) =
      if c ≤ r then (Ideal.div (g c : EReal) (∑ c, e r s c) +
        -∑ x, (g x : EReal) * Ideal.div 1 ((∑ c, e r s c) * ∑ c, e r s c) * e r s x) * e r s c else 0 := by
  obtain ⟨E, L, hL, hE, hS, h0, hp⟩ := row_real r s
  have hw : ∀ c, weight r s c = ((E c / L : ℝ) : EReal) := fun c => by
    unfold weight
    rw [hE c, hS, div_real _ _ hL]
  have hs1 : ∑ x, weight r s x * (g x : EReal) = ((∑ x, E x / L * g x : ℝ) : EReal) := by
    rw [coe_sum]
    exact Finset.sum_congr rfl fun x _ => by rw [hw x, EReal.coe_mul]
  have hs2 : ∑ x, (g x : EReal) * Ideal.div 1 ((∑ c, e r s c) * ∑ c, e r s c) * e r s x =
      ((∑ x, g x * (1 / (L * L)) * E x : ℝ) : EReal) := by
    rw [coe_sum]
    refine Finset.sum_congr rfl fun x _ => ?_
    rw [hE x, hS, ← EReal.coe_mul, ← EReal.coe_one, div_real _ _ (mul_ne_zero hL hL), ← EReal.coe_mul, ← EReal.coe_mul]
  rw [hs1, hs2, hw c, hE c, hS, div_real _ _ hL, ← EReal.coe_sub, ← EReal.coe_mul, ← EReal.coe_neg, ← EReal.coe_add,
    ← EReal.coe_mul]
  by_cases h : c ≤ r
  · rw [if_pos h]
    congr 1
    have hsum : ∑ x, g x * (1 / (L * L)) * E x = (∑ x, E x / L * g x) / L := by
      rw [Finset.sum_div]
      exact Finset.sum_congr rfl fun x _ => by field_simp
    rw [hsum]
    field_simp
    ring
  · rw [if_neg h, h0 c h, zero_div, zero_mul, EReal.coe_zero]

/-- The row's mean of the weights' gradients, by the output: the sum over the lanes of the output times its gradient. -/
theorem mean_eq {D : ℕ} (a : Fin D → ℝ) (v : Fin n → Fin D → ℝ) :
    ∑ d, (a d : EReal) * ∑ c, (v c d : EReal) * weight r s c =
      ∑ c, weight r s c * ((∑ d, a d * v c d : ℝ) : EReal) := by
  obtain ⟨E, L, hL, hE, hS, h0, hp⟩ := row_real r s
  have hw : ∀ c, weight r s c = ((E c / L : ℝ) : EReal) := fun c => by
    unfold weight
    rw [hE c, hS, div_real _ _ hL]
  have hl : ∑ d, (a d : EReal) * ∑ c, (v c d : EReal) * weight r s c = ((∑ d, a d * ∑ c, v c d * (E c / L) : ℝ) : EReal) := by
    rw [coe_sum]
    refine Finset.sum_congr rfl fun d _ => ?_
    rw [EReal.coe_mul, coe_sum]
    exact congrArg (fun z => (a d : EReal) * z) (Finset.sum_congr rfl fun c _ => by rw [hw c, EReal.coe_mul])
  have hr : ∑ c, weight r s c * ((∑ d, a d * v c d : ℝ) : EReal) = ((∑ c, E c / L * ∑ d, a d * v c d : ℝ) : EReal) := by
    rw [coe_sum]
    exact Finset.sum_congr rfl fun c _ => by rw [hw c, EReal.coe_mul]
  rw [hl, hr]
  congr 1
  simp only [Finset.mul_sum]
  rw [Finset.sum_comm]
  exact Finset.sum_congr rfl fun c _ => Finset.sum_congr rfl fun d _ => by ring

end Cert.AttnRow

end
-- ==== Proof.Norm.Row.lean ====
/- One row of the gradient of the root-mean-square norm: two forms of it that agree. -/
module

public import proofs.«01_k».proof.Proof.Flash.Row
public import proofs.«01_k».proof.Proof.Mlp.Mean

@[expose] public section

noncomputable section

namespace Cert.Norm

open Idealize.ShloMosaic Cert.Mlp

/-- A row's mean square with the small constant, and one over its root. -/
def meanSq (x : Fin 1024 → EReal) : EReal := (∑ e : Fin 1024, x e * x e) * inv + eps
def rstd (x : Fin 1024 → EReal) : EReal := Ideal.rsqrt (meanSq x)

/-- The row's gradient less its part along the normed row. -/
def dxRow (x g u : Fin 1024 → EReal) (d : Fin 1024) : EReal :=
  rstd x * (u d * g d - x d * rstd x * ((∑ e : Fin 1024, u e * g e * (x e * rstd x)) * inv))

/-- Half the derivative with respect to the mean square, spread over the row. -/
def half (x g u : Fin 1024 → EReal) : EReal :=
  (∑ e : Fin 1024, x e * (u e * g e)) * (Ideal.ofBits .f32 0xBF000000#32 * Ideal.div (rstd x) (meanSq x)) * inv

/-- The same gradient by the product rule. -/
def refRow (x g u : Fin 1024 → EReal) (d : Fin 1024) : EReal :=
  u d * g d * rstd x + x d * half x g u + half x g u * x d

/-- The real row's mean square is positive. -/
theorem meanSq_real (a : Fin 1024 → ℝ) : ∃ y : ℝ, 0 < y ∧ meanSq (fun e => (a e : EReal)) = (y : EReal) := by
  obtain ⟨k, hk, ek⟩ := eps_pos
  refine ⟨(∑ e : Fin 1024, a e * a e) * (1 / 1024) + k, ?_, ?_⟩
  · have : 0 ≤ ∑ e : Fin 1024, a e * a e := Finset.sum_nonneg fun e _ => mul_self_nonneg (a e)
    positivity
  · unfold meanSq
    rw [ek, inv_eq]
    simp only [← EReal.coe_mul, ← Cert.AttnRow.coe_sum, ← EReal.coe_add]

/-- A factor that is real and not negative comes out of a sum. -/
theorem mul_sum_nonneg {ι : Type*} (s : Finset ι) (r : ℝ) (hr : 0 ≤ r) (f : ι → EReal) : (r : EReal) * ∑ i ∈ s, f i = ∑ i ∈ s, (r : EReal) * f i := by
  classical
  induction s using Finset.induction_on with
  | empty => simp
  | insert a t h ih =>
    rw [Finset.sum_insert h, Finset.sum_insert h, EReal.left_distrib_of_nonneg_of_ne_top (EReal.coe_nonneg.2 hr) (EReal.coe_ne_top r), ih]

/-- Twice a number's real multiple. -/
theorem mul_add_self (w : EReal) (z : ℝ) : w * z + w * z = w * ((2 * z : ℝ) : EReal) := by
  induction w with
  | coe v => simp only [← EReal.coe_mul, ← EReal.coe_add]; exact congrArg (fun t : ℝ => (t : EReal)) (by ring)
  | top =>
    rcases lt_trichotomy z 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy z 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A square is not negative. -/
theorem sq_nonneg (z : EReal) : 0 ≤ z * z := by
  induction z with
  | coe v => rw [← EReal.coe_mul]; exact EReal.coe_nonneg.2 (mul_self_nonneg v)
  | top => simp
  | bot => simp

/-- An infinite element makes the mean square infinite. -/
theorem meanSq_top (x : Fin 1024 → EReal) (e : Fin 1024) (h : x e * x e = ⊤) : meanSq x = ⊤ := by
  obtain ⟨k, hk, ek⟩ := eps_pos
  have hs : ∑ e : Fin 1024, x e * x e = ⊤ := top_le_iff.1 (h ▸ Finset.single_le_sum (f := fun e => x e * x e) (fun i _ => sq_nonneg (x i)) (Finset.mem_univ e))
  unfold meanSq
  rw [hs, ek, inv_eq, EReal.top_mul_coe_of_pos (by norm_num)]
  exact EReal.top_add_coe k

/-- With an infinite mean square both forms are zero. -/
theorem rows_top (x g u : Fin 1024 → EReal) (h : meanSq x = ⊤) (d : Fin 1024) : dxRow x g u d = refRow x g u d := by
  have hr : rstd x = 0 := by unfold rstd; rw [h, Ideal.rsqrt_top]
  have hd : Ideal.div 0 ⊤ = 0 := by unfold Ideal.div; rw [if_neg (by simp), zero_mul]
  unfold dxRow refRow half
  rw [hr, h, hd]
  simp

/-- With a real row the two forms agree, whatever the gain and the gradient. -/
theorem rows_real (a : Fin 1024 → ℝ) (g u : Fin 1024 → EReal) (d : Fin 1024) :
    dxRow (fun e => (a e : EReal)) g u d = refRow (fun e => (a e : EReal)) g u d := by
  obtain ⟨y, hy, ey⟩ := meanSq_real a
  have er : rstd (fun e => (a e : EReal)) = (((√y)⁻¹ : ℝ) : EReal) := by
    unfold rstd
    rw [ey, Ideal.rsqrt_coe, if_neg (by linarith), if_neg (ne_of_gt hy)]
  unfold dxRow refRow half
  beta_reduce
  rw [er, ey, half_eq, inv_eq, Cert.AttnRow.div_real _ _ (ne_of_gt hy)]
  have hr : (√y)⁻¹ * (√y)⁻¹ = y⁻¹ := by rw [← mul_inv, Real.mul_self_sqrt hy.le]
  have hn : 0 ≤ (√y)⁻¹ := inv_nonneg.2 (Real.sqrt_nonneg y)
  generalize (√y)⁻¹ = r at hr hn
  have hs : ∑ e : Fin 1024, u e * g e * ((a e : EReal) * (r : EReal)) = (r : EReal) * ∑ e : Fin 1024, (a e : EReal) * (u e * g e) := by
    rw [mul_sum_nonneg _ r hn]
    exact Finset.sum_congr rfl fun e _ => by rw [mul_comm (u e * g e), mul_comm (a e : EReal) (r : EReal), mul_assoc]
  rw [hs]
  generalize ∑ e : Fin 1024, (a e : EReal) * (u e * g e) = w
  generalize u d * g d = v
  rw [sub_eq_add_neg, EReal.left_distrib_of_nonneg_of_ne_top (EReal.coe_nonneg.2 hn) (EReal.coe_ne_top r), mul_comm v, add_assoc]
  refine congrArg (fun z : EReal => (r : EReal) * v + z) ?_
  have h1 : w * (((-1 / 2 : ℝ) : EReal) * ((r / y : ℝ) : EReal)) * ((1 / 1024 : ℝ) : EReal) = w * ((-1 / 2 * (r / y) * (1 / 1024) : ℝ) : EReal) := by
    rw [mul_assoc, ← EReal.coe_mul, ← EReal.coe_mul]
  have h2 : (a d : EReal) * (r : EReal) * ((r : EReal) * w * ((1 / 1024 : ℝ) : EReal)) = w * ((a d * r * r * (1 / 1024) : ℝ) : EReal) := by
    simp only [EReal.coe_mul]
    ac_rfl
  have h3 : w * ((-1 / 2 * (r / y) * (1 / 1024) : ℝ) : EReal) * (a d : EReal) = w * ((-1 / 2 * (r / y) * (1 / 1024) * a d : ℝ) : EReal) := by
    rw [EReal.coe_mul (-1 / 2 * (r / y) * (1 / 1024)), ← mul_assoc]
  rw [h1, h2, mul_comm (a d : EReal), h3, mul_add_self, ← mul_neg, ← EReal.coe_neg, mul_left_comm, ← EReal.coe_mul]
  refine congrArg (fun z : ℝ => w * (z : EReal)) ?_
  rw [div_eq_mul_inv r y, ← hr]
  ring

/-- The two forms agree. -/
theorem rows_eq (x g u : Fin 1024 → EReal) (d : Fin 1024) : dxRow x g u d = refRow x g u d := by
  by_cases h : ∃ e, x e * x e = ⊤
  · obtain ⟨e, he⟩ := h
    exact rows_top x g u (meanSq_top x e he) d
  · have hx : x = fun e => ((x e).toReal : EReal) := funext fun e => (EReal.coe_toReal (fun t => h ⟨e, by rw [t]; rfl⟩) (fun t => h ⟨e, by rw [t]; rfl⟩)).symm
    rw [hx]
    exact rows_real _ g u d

end Cert.Norm

end
-- ==== Proof.Norm.Bwd.lean ====
/- The gradient of the norm: what one grid point leaves in its three results, what the result arrays hold at the end, and
   that they are the reference's gradients. -/
module

public import proofs.«01_k».proof.Defs
public import proofs.«01_k».proof.Proof.Gen.Kernel6Ideal.Value
public import proofs.«01_k».proof.Proof.Gen.Reference6Ideal.Read
public import proofs.«01_k».proof.Proof.Gen.Reference6Ideal.Run
public import proofs.«01_k».proof.Proof.Mlp.Sums
public import proofs.«01_k».proof.Proof.Norm.Row
public import Idealize.ShloMosaic.Lib.Pointwise

@[expose] public section

noncomputable section

namespace Cert.Kernel6Ideal.Norm

open Cert.Kernel6Ideal Cert.Kernel6Ideal.Gen Cert.Kernel6Ideal.Value Cert.Mlp Cert.Norm
open Idealize.ShloMosaic Idealize.ShloMosaic.TcCoe Idealize.SL.Sem

/-! ## One grid point -/

theorem pay3_apply (x : Vec Ideal S512x1024 .f32) (p : Fin 512) (d : Fin 1024) :
    k0_pay3 x (ix2 p d) = x (ix2 p d) * rstd (fun e => x (ix2 p e)) := by
  unfold rstd meanSq
  pointwise [k0_pay3, k0_pay2]

theorem pay4_apply (x u : Vec Ideal S512x1024 .f32) (g : Vec Ideal S1x1024 .f32) (r : Vec Ideal S512x1024 .f32) (p : Fin 512) (d : Fin 1024) :
    k0_pay4 x u g r (ix2 p d) = dxRow (fun e => x (ix2 p e)) (fun e => g (ix2 0 e)) (fun e => u (ix2 p e)) d + r (ix2 p d) := by
  unfold dxRow rstd meanSq
  pointwise [k0_pay4, k0_pay3, k0_pay2]

theorem pay5_apply (x u : Vec Ideal S512x1024 .f32) (g : Vec Ideal S1x1024 .f32) (r : Vec Ideal S512x1024 .f32) (p : Fin 512) (d : Fin 1024) :
    k0_pay5 x u g r (ix2 p d) = dxRow (fun e => x (ix2 p e)) (fun e => g (ix2 0 e)) (fun e => u (ix2 p e)) d + r (ix2 p d) :=
  pay4_apply x u g r p d

theorem pay1_apply (n u : Vec Ideal S512x1024 .f32) (acc : Vec Ideal S1x1024 .f32) (d : Fin 1024) :
    k0_pay1 n u acc (ix2 0 d) = acc (ix2 0 d) + ∑ p : Fin 512, u (ix2 p d) * n (ix2 p d) := by
  pointwise [k0_pay1]

theorem pay6_apply (d : Fin 1024) : (k0_pay6 (F := Ideal)) (ix2 0 d) = (0 : EReal) := by
  pointwise [k0_pay6]

theorem hz2 : (![0, 0] : Fin 2 → Nat) = fun _ => 0 := funext fun a => by fin_cases a <;> rfl

section Point

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole)
  (x0 : Vec Ideal S512x1024 .f32) (x1 : Vec Ideal S1x1024 .f32) (x2 x3 : Vec Ideal S512x1024 .f32)

theorem out4_A_apply (hc0 : cond0_0 i) (p : Fin 512) (d : Fin 1024) :
    out0_A_4 (F := Ideal) c i arg1 harg1 arg2 harg2 arg3 harg3 arg4 harg4 arg5 harg5 arg6 harg6 arg7 harg7 hc0 x0 x1 x2 x3 (ix2 p d) = dxRow (fun e => x0 (ix2 p e)) (fun e => x1 (ix2 0 e)) (fun e => x2 (ix2 p e)) d + x3 (ix2 p d) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  exact pay4_apply x0 x2 x1 x3 p d

theorem out5_A_apply (hc0 : cond0_0 i) (p : Fin 512) (d : Fin 1024) :
    out0_A_5 (F := Ideal) c i arg1 harg1 arg2 harg2 arg3 harg3 arg4 harg4 arg5 harg5 arg6 harg6 arg7 harg7 hc0 x0 x1 x2 x3 (ix2 p d) = dxRow (fun e => x0 (ix2 p e)) (fun e => x1 (ix2 0 e)) (fun e => x2 (ix2 p e)) d + x3 (ix2 p d) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  exact pay5_apply x0 x2 x1 x3 p d

theorem out6_A_apply (hc0 : cond0_0 i) (d : Fin 1024) :
    out0_A_6 (F := Ideal) c i arg1 harg1 arg2 harg2 arg3 harg3 arg4 harg4 arg5 harg5 arg6 harg6 arg7 harg7 hc0 x0 x1 x2 x3 (ix2 0 d) = ∑ p : Fin 512, x2 (ix2 p d) * (x0 (ix2 p d) * rstd (fun e => x0 (ix2 p e))) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  refine (pay1_apply (k0_pay3 x0) x2 _ d).trans ?_
  rw [pay6_apply, zero_add]
  exact Finset.sum_congr rfl fun p _ => congrArg (fun z : EReal => x2 (ix2 p d) * z) (pay3_apply x0 p d)

theorem out4_B_apply (hc0 : ¬cond0_0 i) (xo6 : Vec Ideal S1x1024 .f32) (p : Fin 512) (d : Fin 1024) :
    out0_B_4 (F := Ideal) c i arg1 harg1 arg2 harg2 arg3 harg3 arg4 harg4 arg5 harg5 arg6 harg6 arg7 harg7 hc0 x0 x1 x2 x3 xo6 (ix2 p d) = dxRow (fun e => x0 (ix2 p e)) (fun e => x1 (ix2 0 e)) (fun e => x2 (ix2 p e)) d + x3 (ix2 p d) := by
  unfold out0_B_4
  rw [View.read_writes_eq_canon _ _ _ (cover0_B_4 c i arg1 harg1 arg2 harg2 arg3 harg3 arg4 harg4 arg5 harg5 arg6 harg6 arg7 harg7 hc0 x0 x1 x2 x3 xo6)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  exact pay4_apply x0 x2 x1 x3 p d

theorem out5_B_apply (hc0 : ¬cond0_0 i) (xo6 : Vec Ideal S1x1024 .f32) (p : Fin 512) (d : Fin 1024) :
    out0_B_5 (F := Ideal) c i arg1 harg1 arg2 harg2 arg3 harg3 arg4 harg4 arg5 harg5 arg6 harg6 arg7 harg7 hc0 x0 x1 x2 x3 xo6 (ix2 p d) = dxRow (fun e => x0 (ix2 p e)) (fun e => x1 (ix2 0 e)) (fun e => x2 (ix2 p e)) d + x3 (ix2 p d) := by
  unfold out0_B_5
  rw [View.read_writes_eq_canon _ _ _ (cover0_B_5 c i arg1 harg1 arg2 harg2 arg3 harg3 arg4 harg4 arg5 harg5 arg6 harg6 arg7 harg7 hc0 x0 x1 x2 x3 xo6)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  exact pay5_apply x0 x2 x1 x3 p d

theorem out6_B_apply (hc0 : ¬cond0_0 i) (xo6 : Vec Ideal S1x1024 .f32) (d : Fin 1024) :
    out0_B_6 (F := Ideal) c i arg1 harg1 arg2 harg2 arg3 harg3 arg4 harg4 arg5 harg5 arg6 harg6 arg7 harg7 hc0 x0 x1 x2 x3 xo6 (ix2 0 d) = xo6 (ix2 0 d) + ∑ p : Fin 512, x2 (ix2 p d) * (x0 (ix2 p d) * rstd (fun e => x0 (ix2 p e))) := by
  unfold out0_B_6
  rw [View.read_writes_eq_canon _ _ _ (cover0_B_6 c i arg1 harg1 arg2 harg2 arg3 harg3 arg4 harg4 arg5 harg5 arg6 harg6 arg7 harg7 hc0 x0 x1 x2 x3 xo6)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S512x1024) hz2, View.ld_unit_zero (S := S1x1024) hz2]
  refine (pay1_apply (k0_pay3 x0) x2 _ d).trans ?_
  exact congrArg (fun z : EReal => xo6 (ix2 0 d) + z) (Finset.sum_congr rfl fun p _ => congrArg (fun z : EReal => x2 (ix2 p d) * z) (pay3_apply x0 p d))

end Point

/-! ## The result arrays -/

variable (m : (ℓ : Loc nD τ sig) → Buf (Elt Ideal) ℓ)

/-- The arguments, the gain as the call finds it, and the blocks at a point. -/
abbrev argX (c : Dev nD) : S4096x1024.Idx → EReal := m ((c : Thread nD τ).loc main_arg0)
abbrev argG (c : Dev nD) : S1024.Idx → EReal := m ((c : Thread nD τ).loc main_arg1)
abbrev argU (c : Dev nD) : S4096x1024.Idx → EReal := m ((c : Thread nD τ).loc main_arg2)
abbrev argR (c : Dev nD) : S4096x1024.Idx → EReal := m ((c : Thread nD τ).loc main_arg3)
abbrev opG (c : Dev nD) : S1x1024.Idx → EReal := V m c main_v0
abbrev blkX (c : Dev nD) (t : Fin cfg0.N) : S512x1024.Idx → EReal := iblk m c 0 t
abbrev blkG (c : Dev nD) (t : Fin cfg0.N) : S1x1024.Idx → EReal := iblk m c 1 t
abbrev blkU (c : Dev nD) (t : Fin cfg0.N) : S512x1024.Idx → EReal := iblk m c 2 t
abbrev blkR (c : Dev nD) (t : Fin cfg0.N) : S512x1024.Idx → EReal := iblk m c 3 t

/-- Where each point's blocks lie: point `t` takes row block `t` of every array but the gain and its gradient. -/
theorem index_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem index_out : ∀ t : Fin cfg0.N, (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem opG_apply (c : Dev nD) (d : Fin 1024) : opG m c (ix2 0 d) = argG m c (ix1 d) := by
  have e : opG m c = broadcastInDim S1x1024 ![1] bcast_S1024_S1x1024_1 (argG m c) := by
    show V m c main_v0 = _
    unfold_abbrev_sides
    after_results
  rw [e]
  generalize argG m c = y
  pointwise

theorem blkG_apply (c : Dev nD) (t : Fin cfg0.N) (d : Fin 1024) : blkG m c t (ix2 0 d) = argG m c (ix1 d) := by
  obtain ⟨-, ⟨e0, e1⟩, -, -⟩ := index_facts t
  refine Eq.trans ?_ (opG_apply m c d)
  show opG m c (((cfg0.win 1).blk t).view.emb (ix2 0 d)) = _
  congr 1
  funext a; apply Fin.ext
  match a with
  | ⟨0, _⟩ => show win0_1.index t (0 : Fin 2) * 1 + 1 * 0 = 0; omega
  | ⟨1, _⟩ => show win0_1.index t (1 : Fin 2) * 1024 + 1 * d.val = d.val; omega

theorem blkX_apply (c : Dev nD) (t : Fin cfg0.N) (p : Fin 512) (d : Fin 1024) (T : Fin 4096) (hT : T.val = 512 * t.val + p.val) :
    blkX m c t (ix2 p d) = argX m c (ix2 T d) := by
  obtain ⟨⟨e0, e1⟩, -, -, -⟩ := index_facts t
  refine Eq.trans ?_ (congrFun (V_main_arg0 m c) (ix2 T d))
  show V m c main_arg0 (((cfg0.win 0).blk t).view.emb (ix2 p d)) = _
  congr 1
  funext a; apply Fin.ext
  match a with
  | ⟨0, _⟩ => show win0_0.index t (0 : Fin 2) * 512 + 1 * p.val = T.val; omega
  | ⟨1, _⟩ => show win0_0.index t (1 : Fin 2) * 1024 + 1 * d.val = d.val; omega

theorem blkU_apply (c : Dev nD) (t : Fin cfg0.N) (p : Fin 512) (d : Fin 1024) (T : Fin 4096) (hT : T.val = 512 * t.val + p.val) :
    blkU m c t (ix2 p d) = argU m c (ix2 T d) := by
  obtain ⟨-, -, ⟨e0, e1⟩, -⟩ := index_facts t
  refine Eq.trans ?_ (congrFun (V_main_arg2 m c) (ix2 T d))
  show V m c main_arg2 (((cfg0.win 2).blk t).view.emb (ix2 p d)) = _
  congr 1
  funext a; apply Fin.ext
  match a with
  | ⟨0, _⟩ => show win0_2.index t (0 : Fin 2) * 512 + 1 * p.val = T.val; omega
  | ⟨1, _⟩ => show win0_2.index t (1 : Fin 2) * 1024 + 1 * d.val = d.val; omega

theorem blkR_apply (c : Dev nD) (t : Fin cfg0.N) (p : Fin 512) (d : Fin 1024) (T : Fin 4096) (hT : T.val = 512 * t.val + p.val) :
    blkR m c t (ix2 p d) = argR m c (ix2 T d) := by
  obtain ⟨-, -, -, ⟨e0, e1⟩⟩ := index_facts t
  refine Eq.trans ?_ (congrFun (V_main_arg3 m c) (ix2 T d))
  show V m c main_arg3 (((cfg0.win 3).blk t).view.emb (ix2 p d)) = _
  congr 1
  funext a; apply Fin.ext
  match a with
  | ⟨0, _⟩ => show win0_3.index t (0 : Fin 2) * 512 + 1 * p.val = T.val; omega
  | ⟨1, _⟩ => show win0_3.index t (1 : Fin 2) * 1024 + 1 * d.val = d.val; omega

/-- Row `T` of the input, the gain, and row `T` of the incoming gradient. -/
abbrev rowX (c : Dev nD) (T : Fin 4096) (e : Fin 1024) : EReal := argX m c (ix2 T e)
abbrev rowG (c : Dev nD) (e : Fin 1024) : EReal := argG m c (ix1 e)
abbrev rowU (c : Dev nD) (T : Fin 4096) (e : Fin 1024) : EReal := argU m c (ix2 T e)

/-- The three result arrays. -/
def dxAt (c : Dev nD) (T : Fin 4096) (d : Fin 1024) : EReal := dxRow (rowX m c T) (rowG m c) (rowU m c T) d + argR m c (ix2 T d)

def GX (c : Dev nD) : S4096x1024.Idx → EReal := fun i => dxAt m c (i 0) (i 1)

/-- One row's term of the gain's gradient. -/
def gainTerm (c : Dev nD) (d : Fin 1024) (T : Fin 4096) : EReal := rowU m c T d * (rowX m c T d * rstd (rowX m c T))

def GG (c : Dev nD) : S1x1024.Idx → EReal := fun i => ∑ T : Fin 4096, gainTerm m c (i 1) T

theorem point_dx (c : Dev nD) (t : Fin cfg0.N) (p : Fin 512) (d : Fin 1024) (T : Fin 4096) (hT : T.val = 512 * t.val + p.val) :
    dxRow (fun e => blkX m c t (ix2 p e)) (fun e => blkG m c t (ix2 0 e)) (fun e => blkU m c t (ix2 p e)) d + blkR m c t (ix2 p d) = dxAt m c T d := by
  unfold dxAt
  rw [show (fun e => blkX m c t (ix2 p e)) = rowX m c T from funext fun e => blkX_apply m c t p e T hT,
    show (fun e => blkG m c t (ix2 0 e)) = rowG m c from funext fun e => blkG_apply m c t e,
    show (fun e => blkU m c t (ix2 p e)) = rowU m c T from funext fun e => blkU_apply m c t p e T hT, blkR_apply m c t p d T hT]

theorem point_dg (c : Dev nD) (t : Fin cfg0.N) (d : Fin 1024) :
    ∑ p : Fin 512, blkU m c t (ix2 p d) * (blkX m c t (ix2 p d) * rstd (fun e => blkX m c t (ix2 p e)))
      = ∑ p : Fin 512, ext (gainTerm m c d) (512 * t.val + p.val) := by
  refine Finset.sum_congr rfl fun p _ => ?_
  have hN : t.val < 8 := lt_of_lt_of_eq t.isLt N_0
  have hlt : 512 * t.val + p.val < 4096 := by have := p.isLt; omega
  rw [ext_of_lt _ hlt, gainTerm, show (fun e => blkX m c t (ix2 p e)) = rowX m c ⟨_, hlt⟩ from funext fun e => blkX_apply m c t p e ⟨_, hlt⟩ rfl,
    blkU_apply m c t p d ⟨_, hlt⟩ rfl, blkX_apply m c t p d ⟨_, hlt⟩ rfl]

theorem flushedX (c : Dev nD) (t : Fin cfg0.N) :
    (dats m 0 c).flushed 4 t = ((cfg0.win 4).blk t).view.read (Elt Ideal) (GX m c) := by
  have hN : t.val < 8 := lt_of_lt_of_eq t.isLt N_0
  obtain ⟨⟨e0, e1⟩, -, -⟩ := index_out t
  funext y
  obtain ⟨p, d, rfl⟩ : ∃ (p : Fin 512) (d : Fin 1024), y = ix2 p d := ⟨y 0, y 1, eq_ix2 y⟩
  have hlt : 512 * t.val + p.val < 4096 := by have := p.isLt; omega
  have hemb : ((cfg0.win 4).blk t).view.emb (ix2 p d) = (ix2 ⟨512 * t.val + p.val, hlt⟩ d : S4096x1024.Idx) := by
    funext b; apply Fin.ext
    match b with
    | ⟨0, _⟩ => show win0_4.index t (0 : Fin 2) * 512 + 1 * p.val = 512 * t.val + p.val; omega
    | ⟨1, _⟩ => show win0_4.index t (1 : Fin 2) * 1024 + 1 * d.val = d.val; omega
  refine Eq.trans ?_ (congrArg (GX m c) hemb).symm
  by_cases h0 : t.val % 8 = 0
  · exact (congrFun (flushed4_A m c t h0) _).trans ((out4_A_apply ..).trans (point_dx m c t p d ⟨512 * t.val + p.val, hlt⟩ rfl))
  · exact (congrFun (flushed4_B m c t h0) _).trans ((out4_B_apply ..).trans (point_dx m c t p d ⟨512 * t.val + p.val, hlt⟩ rfl))

theorem mem_blkX (t : Fin cfg0.N) (i : S4096x1024.Idx) :
    i ∈ ((cfg0.win 4).blk t).view.set ↔ ∀ a : Fin 2, win0_4.index t a * ![512, 1024] a ≤ (i a).val ∧ (i a).val < win0_4.index t a * ![512, 1024] a + ![512, 1024] a := by
  show i ∈ ((View.whole main_v1_0).slice (win0_4.rect t)).set ↔ _
  rw [View.set_slice_whole, Rect.mem_set_unit]
  exact Iff.rfl

theorem coverX (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have hN : cfg0.N = 8 := N_0
  refine ⟨⟨(i 0).val / 512, by omega⟩, flush0_4 _, ?_⟩
  obtain ⟨⟨e0, e1⟩, -, -⟩ := index_out ⟨(i 0).val / 512, by omega⟩
  refine (mem_blkX _ i).mpr ?_
  intro a
  match a with
  | ⟨0, _⟩ => show win0_4.index _ (0 : Fin 2) * 512 ≤ (i 0).val ∧ (i 0).val < win0_4.index _ (0 : Fin 2) * 512 + 512; rw [e0]; dsimp only; omega
  | ⟨1, _⟩ => show win0_4.index _ (1 : Fin 2) * 1024 ≤ (i 1).val ∧ (i 1).val < win0_4.index _ (1 : Fin 2) * 1024 + 1024; rw [e1]; omega

theorem finalX (c : Dev nD) : (dats m 0 c).arrAt 4 cfg0.N = GX m c :=
  (dats m 0 c).arrAt_eq_of_cover 4 _ (fun t _ => flushedX m c t) coverX

theorem flushedB (c : Dev nD) (t : Fin cfg0.N) :
    (dats m 0 c).flushed 5 t = ((cfg0.win 5).blk t).view.read (Elt Ideal) (GX m c) := by
  have hN : t.val < 8 := lt_of_lt_of_eq t.isLt N_0
  obtain ⟨-, ⟨e0, e1⟩, -⟩ := index_out t
  funext y
  obtain ⟨p, d, rfl⟩ : ∃ (p : Fin 512) (d : Fin 1024), y = ix2 p d := ⟨y 0, y 1, eq_ix2 y⟩
  have hlt : 512 * t.val + p.val < 4096 := by have := p.isLt; omega
  have hemb : ((cfg0.win 5).blk t).view.emb (ix2 p d) = (ix2 ⟨512 * t.val + p.val, hlt⟩ d : S4096x1024.Idx) := by
    funext b; apply Fin.ext
    match b with
    | ⟨0, _⟩ => show win0_5.index t (0 : Fin 2) * 512 + 1 * p.val = 512 * t.val + p.val; omega
    | ⟨1, _⟩ => show win0_5.index t (1 : Fin 2) * 1024 + 1 * d.val = d.val; omega
  refine Eq.trans ?_ (congrArg (GX m c) hemb).symm
  by_cases h0 : t.val % 8 = 0
  · exact (congrFun (flushed5_A m c t h0) _).trans ((out5_A_apply ..).trans (point_dx m c t p d ⟨512 * t.val + p.val, hlt⟩ rfl))
  · exact (congrFun (flushed5_B m c t h0) _).trans ((out5_B_apply ..).trans (point_dx m c t p d ⟨512 * t.val + p.val, hlt⟩ rfl))

theorem mem_blkB (t : Fin cfg0.N) (i : S4096x1024.Idx) :
    i ∈ ((cfg0.win 5).blk t).view.set ↔ ∀ a : Fin 2, win0_5.index t a * ![512, 1024] a ≤ (i a).val ∧ (i a).val < win0_5.index t a * ![512, 1024] a + ![512, 1024] a := by
  show i ∈ ((View.whole main_v1_1).slice (win0_5.rect t)).set ↔ _
  rw [View.set_slice_whole, Rect.mem_set_unit]
  exact Iff.rfl

theorem coverB (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hN : cfg0.N = 8 := N_0
  refine ⟨⟨(i 0).val / 512, by omega⟩, flush0_5 _, ?_⟩
  obtain ⟨-, ⟨e0, e1⟩, -⟩ := index_out ⟨(i 0).val / 512, by omega⟩
  refine (mem_blkB _ i).mpr ?_
  intro a
  match a with
  | ⟨0, _⟩ => show win0_5.index _ (0 : Fin 2) * 512 ≤ (i 0).val ∧ (i 0).val < win0_5.index _ (0 : Fin 2) * 512 + 512; rw [e0]; dsimp only; omega
  | ⟨1, _⟩ => show win0_5.index _ (1 : Fin 2) * 1024 ≤ (i 1).val ∧ (i 1).val < win0_5.index _ (1 : Fin 2) * 1024 + 1024; rw [e1]; omega

theorem finalB (c : Dev nD) : (dats m 0 c).arrAt 5 cfg0.N = GX m c :=
  (dats m 0 c).arrAt_eq_of_cover 5 _ (fun t _ => flushedB m c t) coverB

/-- What the staged gradient of the gain holds after point `n`. -/
abbrev outs (c : Dev nD) (n : ℕ) (h : n < cfg0.N) : S1x1024.Idx → EReal := (outsAt0 m c n h).2.2

theorem outs_A (c : Dev nD) (t : Fin cfg0.N) (h0 : t.val % 8 = 0) (d : Fin 1024) :
    outs m c t.val t.isLt (ix2 0 d) = ∑ p : Fin 512, ext (gainTerm m c d) (512 * t.val + p.val) := by
  refine Eq.trans ?_ (point_dg m c t d)
  unfold outs
  rw [outsAt0_A m c t h0]
  dsimp only
  exact out6_A_apply ..

theorem outs_B (c : Dev nD) (t : Fin cfg0.N) (h0 : ¬t.val % 8 = 0) (d : Fin 1024) :
    outs m c t.val t.isLt (ix2 0 d) = outs m c (t.val - 1) (Nat.lt_of_le_of_lt (Nat.sub_le _ _) t.isLt) (ix2 0 d)
      + ∑ p : Fin 512, ext (gainTerm m c d) (512 * t.val + p.val) := by
  rw [← point_dg m c t d]
  unfold outs
  rw [outsAt0_B m c t h0]
  dsimp only
  exact out6_B_apply ..

theorem outs_apply (c : Dev nD) (d : Fin 1024) : ∀ (n : ℕ) (h : n < cfg0.N),
    outs m c n h (ix2 0 d) = ∑ j ∈ Finset.range (n + 1), ∑ p : Fin 512, ext (gainTerm m c d) (512 * j + p.val) := by
  intro n
  induction n with
  | zero =>
    intro h
    rw [zero_add, Finset.sum_range_one]
    exact outs_A m c ⟨0, h⟩ (Nat.zero_mod 8) d
  | succ n ih =>
    intro h
    have hN : n + 1 < 8 := lt_of_lt_of_eq h N_0
    refine (outs_B m c ⟨n + 1, h⟩ (by show ¬(n + 1) % 8 = 0; omega) d).trans ?_
    rw [Finset.sum_range_succ]
    exact congrArg (fun z : EReal => z + _) (ih (Nat.lt_of_succ_lt h))

theorem flushedG (c : Dev nD) (t : Fin cfg0.N) (hf : (cfg0.win 6).flush t = true) :
    (dats m 0 c).flushed 6 t = ((cfg0.win 6).blk t).view.read (Elt Ideal) (GG m c) := by
  rw [flushed6]
  have hN : t.val < 8 := lt_of_lt_of_eq t.isLt N_0
  have hm : t.val % 8 = 7 := (flush0_6 t).mp hf
  obtain ⟨-, -, ⟨e0, e1⟩⟩ := index_out t
  funext y
  obtain ⟨z, d, rfl⟩ : ∃ (z : Fin 1) (d : Fin 1024), y = ix2 z d := ⟨y 0, y 1, eq_ix2 y⟩
  obtain rfl : z = 0 := Subsingleton.elim _ _
  have hemb : ((cfg0.win 6).blk t).view.emb (ix2 0 d) = (ix2 0 d : S1x1024.Idx) := by
    funext b; apply Fin.ext
    match b with
    | ⟨0, _⟩ => show win0_6.index t (0 : Fin 2) * 1 + 1 * 0 = 0; omega
    | ⟨1, _⟩ => show win0_6.index t (1 : Fin 2) * 1024 + 1 * d.val = d.val; omega
  refine Eq.trans ?_ (congrArg (GG m c) hemb).symm
  refine (outs_apply m c d t.val t.isLt).trans ?_
  rw [show t.val + 1 = 8 by omega]
  exact sum_blocks 8 512 rfl _

theorem mem_blkG (t : Fin cfg0.N) (i : S1x1024.Idx) :
    i ∈ ((cfg0.win 6).blk t).view.set ↔ ∀ a : Fin 2, win0_6.index t a * ![1, 1024] a ≤ (i a).val ∧ (i a).val < win0_6.index t a * ![1, 1024] a + ![1, 1024] a := by
  show i ∈ ((View.whole main_v1_2).slice (win0_6.rect t)).set ↔ _
  rw [View.set_slice_whole, Rect.mem_set_unit]
  exact Iff.rfl

theorem coverG (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  have hN : cfg0.N = 8 := N_0
  refine ⟨⟨7, by omega⟩, (flush0_6 _).mpr rfl, ?_⟩
  obtain ⟨-, -, ⟨e0, e1⟩⟩ := index_out ⟨7, by omega⟩
  refine (mem_blkG _ i).mpr ?_
  intro a
  match a with
  | ⟨0, _⟩ => show win0_6.index _ (0 : Fin 2) * 1 ≤ (i 0).val ∧ (i 0).val < win0_6.index _ (0 : Fin 2) * 1 + 1; rw [e0]; omega
  | ⟨1, _⟩ => show win0_6.index _ (1 : Fin 2) * 1024 ≤ (i 1).val ∧ (i 1).val < win0_6.index _ (1 : Fin 2) * 1024 + 1024; rw [e1]; omega

theorem finalG (c : Dev nD) : (dats m 0 c).arrAt 6 cfg0.N = GG m c :=
  (dats m 0 c).arrAt_eq_of_cover 6 _ (fun t hf => flushedG m c t hf) coverG

/-! ## The reference -/

section Reference
open Cert.Reference6Ideal.Read

variable (x0 : S4096x1024.Idx → EReal) (x1 : S1024.Idx → EReal) (x2 x3 : S4096x1024.Idx → EReal)

theorem ref_y (T : Fin 4096) : (val_main_v6 (F := Ideal) x0 : Cert.Reference6Ideal.S4096x1.Idx → EReal) (ix2 T 0) = meanSq (fun e => x0 (ix2 T e)) := by
  unfold meanSq
  rw [← mean_eq]
  pointwise [val_main_v6, val_main_v5, val_main_v4, val_main_v3, val_main_v2, val_main_v1, val_main_v0, val_main_cst_1, val_main_cst_0, val_main_cst]

theorem ref_r (T : Fin 4096) : (val_main_v7 (F := Ideal) x0 : Cert.Reference6Ideal.S4096x1.Idx → EReal) (ix2 T 0) = rstd (fun e => x0 (ix2 T e)) :=
  congrArg Ideal.rsqrt (ref_y x0 T)

theorem ref_half (T : Fin 4096) : (val_main_v30 (F := Ideal) x0 x1 x2 : Cert.Reference6Ideal.S4096.Idx → EReal) (ix1 T)
    = half (fun e => x0 (ix2 T e)) (fun e => x1 (ix1 e)) (fun e => x2 (ix2 T e)) := by
  unfold half
  rw [← mean_eq, ← ref_r, ← ref_y]
  unfold val_main_v30 val_main_v29 val_main_v27 val_main_v10 val_main_v8
  generalize val_main_v7 (F := Ideal) x0 = r
  generalize val_main_v6 (F := Ideal) x0 = y
  pointwise [val_main_v28, val_main_v24, val_main_v23, val_main_v22, val_main_v20, val_main_v19, val_main_v13, val_main_v9, val_main_cst_7, val_main_cst_6, val_main_cst_5, val_main_cst_2]
  exact Fin.sum_univ_one _

theorem ref_dx (T : Fin 4096) (d : Fin 1024) : (val_main_v36 (F := Ideal) x0 x1 x2 x3 : S4096x1024.Idx → EReal) (ix2 T d)
    = refRow (fun e => x0 (ix2 T e)) (fun e => x1 (ix1 e)) (fun e => x2 (ix2 T e)) d + x3 (ix2 T d) := by
  unfold refRow
  rw [← ref_half, ← ref_r]
  unfold val_main_v36 val_main_v35 val_main_v34 val_main_v33 val_main_v32 val_main_v31 val_main_v26 val_main_v25
  generalize val_main_v7 (F := Ideal) x0 = r
  generalize val_main_v30 (F := Ideal) x0 x1 x2 = y
  pointwise [val_main_v20, val_main_v19, val_main_v13]

theorem ref_dg (d : Fin 1024) : (val_main_v39 (F := Ideal) x0 x2 : S1x1024.Idx → EReal) (ix2 0 d)
    = ∑ T : Fin 4096, x2 (ix2 T d) * (x0 (ix2 T d) * rstd (fun e => x0 (ix2 T e))) := by
  have e : ∀ T : Fin 4096, x2 (ix2 T d) * (x0 (ix2 T d) * rstd (fun e => x0 (ix2 T e)))
      = x0 (ix2 T d) * (val_main_v7 (F := Ideal) x0 : Cert.Reference6Ideal.S4096x1.Idx → EReal) (ix2 T 0) * x2 (ix2 T d) := fun T => by
    rw [ref_r]; exact mul_comm _ _
  rw [Finset.sum_congr rfl fun T _ => e T]
  unfold val_main_v39 val_main_v21 val_main_v18 val_main_v17 val_main_v16 val_main_v12 val_main_v11
  generalize val_main_v7 (F := Ideal) x0 = r
  pointwise [val_main_cst_4, val_main_cst_3]
  exact Fin.sum_univ_one _

end Reference

/-! ## The equation -/

theorem GX_eq (c : Dev nD) :
    GX m c = Cert.Reference6Ideal.Read.val_main_v36 (F := Ideal) (argX m c) (argG m c) (argU m c) (argR m c) := by
  funext i
  obtain ⟨T, d, rfl⟩ : ∃ (T : Fin 4096) (d : Fin 1024), i = ix2 T d := ⟨i 0, i 1, eq_ix2 i⟩
  refine Eq.trans ?_ (ref_dx (argX m c) (argG m c) (argU m c) (argR m c) T d).symm
  exact congrArg (fun z : EReal => z + argR m c (ix2 T d)) (rows_eq _ _ _ d)

theorem GG_eq (c : Dev nD) : GG m c = Cert.Reference6Ideal.Read.val_main_v39 (F := Ideal) (argX m c) (argU m c) := by
  funext i
  obtain ⟨z, d, rfl⟩ : ∃ (z : Fin 1) (d : Fin 1024), i = ix2 z d := ⟨i 0, i 1, eq_ix2 i⟩
  obtain rfl : z = 0 := Subsingleton.elim _ _
  exact (ref_dg (argX m c) (argU m c) d).symm

/-- Kernel and reference compute the same gradients. -/
theorem algebraic : Cert.algebraic_Kernel6Ideal_Reference6Ideal := fun m g m' g' _ hagree =>
  ⟨fun c => GX m c, fun c => GX m c, fun c => GG m c,
    (θ_run defs _ _).mono (fun r h c => ⟨(h c).1.trans (finalX m c), (h c).2.1.trans (finalB m c), (h c).2.2.1.trans (finalG m c), (h c).2.2.2⟩) (run_blocks m g),
    (θ_run Cert.Reference6Ideal.defs _ _).mono (fun r h c => by
      obtain ⟨h0, h1, h2, h3⟩ := hagree c
      have e : Cert.Reference6Ideal.Read.val_main_v36 (F := Ideal) _ _ _ _ = GX m c :=
        (congr (congr (congr (congrArg _ h0) h1) h2) h3).trans (GX_eq m c).symm
      refine ⟨(h c).1.trans ((Cert.Reference6Ideal.Read.val_main_v36_eq _ _ _ _).trans e), (h c).2.1.trans ((Cert.Reference6Ideal.Read.val_main_v38_eq _ _ _ _).trans e), (h c).2.2.1.trans ((Cert.Reference6Ideal.Read.val_main_v39_eq _ _).trans ?_), (h c).2.2.2⟩
      refine Eq.trans ?_ (GG_eq m c).symm
      exact congr (congrArg _ h0) h2) (Cert.Reference6Ideal.Value.run m' g')⟩

end Cert.Kernel6Ideal.Norm

end
-- ==== Proof.Proj.OutX.lean ====
/- The gradient of the output projection's input: the product with the transposed weight, a block of rows at a time. -/
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import Idealize.ShloMosaic.Lib.Pointwise

@[expose] public section

noncomputable section

namespace Cert.Kernel7Ideal.Proj

open Cert.Kernel7Ideal Cert.Kernel7Ideal.Gen Cert.Kernel7Ideal.Value
open Idealize.ShloMosaic Idealize.ShloMosaic.TcCoe Idealize.SL.Sem

/-- One grid point's value at an index: a row of the incoming gradient times a row of the weight. -/
theorem pay1_apply (x w : Vec Ideal S1x1024x1024 .bf16) (a : Fin 1) (p d : Fin 1024) :
    k0_pay1 x w (ix3 a p d) = ∑ k : Fin 1024, x (ix3 0 p k) * w (ix3 0 d k) := by
  pointwise [k0_pay1]

theorem hz3 : (![0, 0, 0] : Fin 3 → Nat) = fun _ => 0 := funext fun a => by fin_cases a <;> rfl

theorem out2_apply (x w : Vec Ideal S1x1024x1024 .bf16) (a : Fin 1) (p d : Fin 1024) :
    out0_2 x w (ix3 a p d) = ∑ k : Fin 1024, x (ix3 0 p k) * w (ix3 0 d k) := by
  unfold out0_2 r0_0
  rw [View.canon_unit_zero hz3]
  simp only [View.ld_unit_zero (S := S1x1024x1024) hz3]
  exact pay1_apply x w a p d

variable (m : (ℓ : Loc nD τ sig) → Buf (Elt Ideal) ℓ)

/-- The arguments that the call reads, its two operands as it finds them, and their blocks at a point. -/
abbrev argX (c : Dev nD) : S4096x1024.Idx → EReal := m ((c : Thread nD τ).loc main_arg2)
abbrev argW (c : Dev nD) : S1024x1024.Idx → EReal := m ((c : Thread nD τ).loc main_arg1)
abbrev opX (c : Dev nD) : S1x4096x1024.Idx → EReal := V m c main_v1
abbrev opW (c : Dev nD) : S1x1024x1024.Idx → EReal := V m c main_v3
abbrev blkX (c : Dev nD) (t : Fin cfg0.N) : S1x1024x1024.Idx → EReal := iblk m c 0 t
abbrev blkW (c : Dev nD) (t : Fin cfg0.N) : S1x1024x1024.Idx → EReal := iblk m c 1 t

/-- Point `t` takes row block `t` of the first operand and of the result, and the whole weight. -/
theorem index_facts : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = t.val ∧ win0_2.index t (2 : Fin 3) = 0) :=
  (by decide +kernel : ∀ t : Fin grid0.N, _)

theorem opX_apply (c : Dev nD) (T : Fin 4096) (k : Fin 1024) : opX m c (ix3 0 T k) = argX m c (ix2 T k) := by
  have e : opX m c = broadcastInDim S1x4096x1024 ![1, 2] bcast_S4096x1024_S1x4096x1024_1_2 (truncf (F := Ideal) (φ := .f32) .bf16 (argX m c) bitsLt_bf16_f32) := by
    show V m c main_v1 = _
    unfold_abbrev_sides
    after_results
  rw [e]
  pointwise

theorem opW_apply (c : Dev nD) (k d : Fin 1024) : opW m c (ix3 0 k d) = argW m c (ix2 k d) := by
  have e : opW m c = broadcastInDim S1x1024x1024 ![1, 2] bcast_S1024x1024_S1x1024x1024_1_2 (truncf (F := Ideal) (φ := .f32) .bf16 (argW m c) bitsLt_bf16_f32) := by
    show V m c main_v3 = _
    unfold_abbrev_sides
    after_results
  rw [e]
  pointwise

theorem blkX_apply (c : Dev nD) (t : Fin cfg0.N) (p k : Fin 1024) (T : Fin 4096) (hT : T.val = 1024 * t.val + p.val) :
    blkX m c t (ix3 0 p k) = argX m c (ix2 T k) := by
  obtain ⟨⟨e0, e1, e2⟩, -, -⟩ := index_facts t
  refine Eq.trans ?_ (opX_apply m c T k)
  show opX m c (((cfg0.win 0).blk t).view.emb (ix3 0 p k)) = _
  congr 1
  funext a; apply Fin.ext
  match a with
  | ⟨0, _⟩ => show win0_0.index t (0 : Fin 3) * 1 + 1 * 0 = 0; omega
  | ⟨1, _⟩ => show win0_0.index t (1 : Fin 3) * 1024 + 1 * p.val = T.val; omega
  | ⟨2, _⟩ => show win0_0.index t (2 : Fin 3) * 1024 + 1 * k.val = k.val; omega

theorem blkW_apply (c : Dev nD) (t : Fin cfg0.N) (k d : Fin 1024) : blkW m c t (ix3 0 k d) = argW m c (ix2 k d) := by
  obtain ⟨-, ⟨e0, e1, e2⟩, -⟩ := index_facts t
  refine Eq.trans ?_ (opW_apply m c k d)
  show opW m c (((cfg0.win 1).blk t).view.emb (ix3 0 k d)) = _
  congr 1
  funext a; apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * d.val = d.val; omega

/-- The result array. -/
def prodAt (c : Dev nD) (T : Fin 4096) (d : Fin 1024) : EReal := ∑ k : Fin 1024, argX m c (ix2 T k) * argW m c (ix2 d k)

def GP (c : Dev nD) : S1x4096x1024.Idx → EReal := fun i => prodAt m c (i 1) (i 2)

/-- What a point writes back is its block of the result array. -/
theorem flushedP (c : Dev nD) (t : Fin cfg0.N) :
    (dats m 0 c).flushed 2 t = ((cfg0.win 2).blk t).view.read (Elt Ideal) (GP m c) := by
  have hN : t.val < 4 := lt_of_lt_of_eq t.isLt N_0
  obtain ⟨-, -, e0, e1, e2⟩ := index_facts t
  funext y
  obtain ⟨a, p, d, rfl⟩ : ∃ (a : Fin 1) (p d : Fin 1024), y = ix3 a p d := ⟨y 0, y 1, y 2, eq_ix3 y⟩
  obtain rfl : a = 0 := Subsingleton.elim _ _
  have hlt : 1024 * t.val + p.val < 4096 := by have := p.isLt; omega
  have hemb : ((cfg0.win 2).blk t).view.emb (ix3 0 p d) = (ix3 0 ⟨1024 * t.val + p.val, hlt⟩ d : S1x4096x1024.Idx) := by
    funext b; apply Fin.ext
    match b with
    | ⟨0, _⟩ => show win0_2.index t (0 : Fin 3) * 1 + 1 * 0 = 0; omega
    | ⟨1, _⟩ => show win0_2.index t (1 : Fin 3) * 1024 + 1 * p.val = 1024 * t.val + p.val; omega
    | ⟨2, _⟩ => show win0_2.index t (2 : Fin 3) * 1024 + 1 * d.val = d.val; omega
  refine Eq.trans ?_ (congrArg (GP m c) hemb).symm
  refine (congrFun (flushed2 m c t) _).trans ((out2_apply (blkX m c t) (blkW m c t) 0 p d).trans ?_)
  show _ = prodAt m c ⟨1024 * t.val + p.val, hlt⟩ d
  unfold prodAt
  exact Finset.sum_congr rfl fun k _ => by rw [blkX_apply m c t p k ⟨_, hlt⟩ rfl, blkW_apply]

theorem mem_blkP (t : Fin cfg0.N) (i : S1x4096x1024.Idx) :
    i ∈ ((cfg0.win 2).blk t).view.set ↔ ∀ a : Fin 3, win0_2.index t a * ![1, 1024, 1024] a ≤ (i a).val ∧ (i a).val < win0_2.index t a * ![1, 1024, 1024] a + ![1, 1024, 1024] a := by
  show i ∈ ((View.whole main_v4).slice (win0_2.rect t)).set ↔ _
  rw [View.set_slice_whole, Rect.mem_set_unit]
  exact Iff.rfl

/-- The points' blocks cover the array. -/
theorem coverP (i : S1x4096x1024.Idx) : ∃ t : Fin cfg0.N, (cfg0.win 2).flush t = true ∧ i ∈ ((cfg0.win 2).blk t).view.set := by
  have h0 : (i 0).val < 1 := (i 0).isLt
  have h1 : (i 1).val < 4096 := (i 1).isLt
  have h2 : (i 2).val < 1024 := (i 2).isLt
  have hN : cfg0.N = 4 := N_0
  refine ⟨⟨(i 1).val / 1024, by omega⟩, flush0_2 _, ?_⟩
  obtain ⟨-, -, e0, e1, e2⟩ := index_facts ⟨(i 1).val / 1024, by omega⟩
  refine (mem_blkP _ i).mpr ?_
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 1024 ≤ (i 1).val ∧ (i 1).val < win0_2.index _ (1 : Fin 3) * 1024 + 1024; rw [e1]; dsimp only; omega
  | ⟨2, _⟩ => show win0_2.index _ (2 : Fin 3) * 1024 ≤ (i 2).val ∧ (i 2).val < win0_2.index _ (2 : Fin 3) * 1024 + 1024; rw [e2]; omega

theorem finalP (c : Dev nD) : (dats m 0 c).arrAt 2 cfg0.N = GP m c :=
  (dats m 0 c).arrAt_eq_of_cover 2 _ (fun t _ => flushedP m c t) coverP

open Cert.Reference7Ideal.Read in
/-- The reference's result at an index. -/
theorem ref_apply (x : S4096x1024.Idx → EReal) (w : S1024x1024.Idx → EReal) (a : Fin 1) (T : Fin 4096) (d : Fin 1024) :
    (val_main_v2 (F := Ideal) w x : S1x4096x1024.Idx → EReal) (ix3 a T d) = ∑ k : Fin 1024, x (ix2 T k) * w (ix2 d k) := by
  pointwise [val_main_v2, val_main_v1]

theorem GP_eq (c : Dev nD) : GP m c = Cert.Reference7Ideal.Read.val_main_v2 (F := Ideal) (argW m c) (argX m c) := by
  funext i
  obtain ⟨a, T, d, rfl⟩ : ∃ (a : Fin 1) (T : Fin 4096) (d : Fin 1024), i = ix3 a T d := ⟨i 0, i 1, i 2, eq_ix3 i⟩
  exact (ref_apply (argX m c) (argW m c) a T d).symm

/-- Kernel and reference compute the same product. -/
theorem algebraic : Cert.algebraic_Kernel7Ideal_Reference7Ideal := fun m g m' g' _ hagree =>
  ⟨fun c => GP m c,
    (θ_run defs _ _).mono (fun r h c => ⟨(h c).1.trans (finalP m c), (h c).2⟩) (run_blocks m g),
    (θ_run Cert.Reference7Ideal.defs _ _).mono (fun r h c => ⟨(h c).1.trans ((Cert.Reference7Ideal.Read.val_main_v2_eq _ _).trans (by
      obtain ⟨-, h1, h2⟩ := hagree c
      refine Eq.trans ?_ (GP_eq m c).symm
      exact congr (congrArg _ h1) h2)), (h c).2⟩) (Cert.Reference7Ideal.Value.run m' g')⟩

end Cert.Kernel7Ideal.Proj

end
-- ==== Proof.Proj.OutW.lean ====
/- The gradient of the output projection's weight: what the blocked product leaves in its result, as one sum over all the rows. -/
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import proofs.«01_k».proof.Proof.Mlp.Sums
public import Idealize.ShloMosaic.Lib.Pointwise

@[expose] public section

noncomputable section

namespace Cert.Kernel8Ideal.Proj

open Cert.Kernel8Ideal Cert.Kernel8Ideal.Gen Cert.Kernel8Ideal.Value Cert.Mlp
open Idealize.ShloMosaic Idealize.ShloMosaic.TcCoe Idealize.SL.Sem

/-- The step's value at an index: what was there plus the product of the two blocks, contracted over their rows. -/
theorem pay2_apply (x y : Vec Ideal S1x1024x1024 .bf16) (acc : Vec Ideal S1x1024x1024 .f32) (a : Fin 1) (p q : Fin 1024) :
    k0_pay2 x y acc (ix3 a p q) = acc (ix3 0 p q) + ∑ k : Fin 1024, x (ix3 0 k p) * y (ix3 0 k q) := by
  pointwise [k0_pay2]

theorem pay1_apply (i : S1x1024x1024.Idx) : k0_pay1 (F := Ideal) i = (0 : EReal) := by
  pointwise [k0_pay1]

variable (m : (ℓ : Loc nD τ sig) → Buf (Elt Ideal) ℓ)

/-- Point `t` takes row block `t` of both operands. -/
theorem index_facts : ∀ t : Fin cfg0.N, win0_0.index t (0 : Fin 3) = 0 ∧ win0_0.index t (1 : Fin 3) = t.val
    ∧ win0_0.index t (2 : Fin 3) = 0 ∧ win0_1.index t (0 : Fin 3) = 0 ∧ win0_1.index t (1 : Fin 3) = t.val
    ∧ win0_1.index t (2 : Fin 3) = 0 :=
  (by decide +kernel : ∀ t : Fin grid0.N, _)

/-- The projection's input and its output's gradient, as arguments, as the call finds them, and their blocks at a point. -/
abbrev argY (c : Dev nD) : S4096x1024.Idx → EReal := m ((c : Thread nD τ).loc main_arg0)
abbrev argCt (c : Dev nD) : S4096x1024.Idx → EReal := m ((c : Thread nD τ).loc main_arg2)
abbrev opA (c : Dev nD) : S1x4096x1024.Idx → EReal := V m c main_v1
abbrev opB (c : Dev nD) : S1x4096x1024.Idx → EReal := V m c main_v3
abbrev blkA (c : Dev nD) (t : Fin cfg0.N) : S1x1024x1024.Idx → EReal := iblk m c 0 t
abbrev blkB (c : Dev nD) (t : Fin cfg0.N) : S1x1024x1024.Idx → EReal := iblk m c 1 t

theorem opA_apply (c : Dev nD) (T : Fin 4096) (k : Fin 1024) : opA m c (ix3 0 T k) = argY m c (ix2 T k) := by
  have e : opA m c = broadcastInDim S1x4096x1024 ![1, 2] bcast_S4096x1024_S1x4096x1024_1_2 (truncf (F := Ideal) (φ := .f32) .bf16 (argY m c) bitsLt_bf16_f32) := by
    show V m c main_v1 = _
    unfold_abbrev_sides
    after_results
  rw [e]
  pointwise

theorem opB_apply (c : Dev nD) (T : Fin 4096) (k : Fin 1024) : opB m c (ix3 0 T k) = argCt m c (ix2 T k) := by
  have e : opB m c = broadcastInDim S1x4096x1024 ![1, 2] bcast_S4096x1024_S1x4096x1024_1_2 (truncf (F := Ideal) (φ := .f32) .bf16 (argCt m c) bitsLt_bf16_f32) := by
    show V m c main_v3 = _
    unfold_abbrev_sides
    after_results
  rw [e]
  pointwise

theorem blkA_apply (c : Dev nD) (t : Fin cfg0.N) (k p : Fin 1024) (T : Fin 4096) (hT : T.val = 1024 * t.val + k.val) :
    blkA m c t (ix3 0 k p) = argY m c (ix2 T p) := by
  obtain ⟨e0, e1, e2, -, -, -⟩ := index_facts t
  refine Eq.trans ?_ (opA_apply m c T p)
  show opA m c (((cfg0.win 0).blk t).view.emb (ix3 0 k p)) = _
  congr 1
  funext a; apply Fin.ext
  match a with
  | ⟨0, _⟩ => show win0_0.index t (0 : Fin 3) * 1 + 1 * 0 = 0; omega
  | ⟨1, _⟩ => show win0_0.index t (1 : Fin 3) * 1024 + 1 * k.val = T.val; omega
  | ⟨2, _⟩ => show win0_0.index t (2 : Fin 3) * 1024 + 1 * p.val = p.val; omega

theorem blkB_apply (c : Dev nD) (t : Fin cfg0.N) (k q : Fin 1024) (T : Fin 4096) (hT : T.val = 1024 * t.val + k.val) :
    blkB m c t (ix3 0 k q) = argCt m c (ix2 T q) := by
  obtain ⟨-, -, -, e0, e1, e2⟩ := index_facts t
  refine Eq.trans ?_ (opB_apply m c T q)
  show opB m c (((cfg0.win 1).blk t).view.emb (ix3 0 k q)) = _
  congr 1
  funext a; apply Fin.ext
  match a with
  | ⟨0, _⟩ => show win0_1.index t (0 : Fin 3) * 1 + 1 * 0 = 0; omega
  | ⟨1, _⟩ => show win0_1.index t (1 : Fin 3) * 1024 + 1 * k.val = T.val; omega
  | ⟨2, _⟩ => show win0_1.index t (2 : Fin 3) * 1024 + 1 * q.val = q.val; omega

/-- One row's product at result index `(p, q)`. -/
def rowTerm (c : Dev nD) (p q : Fin 1024) (t : Fin 4096) : EReal := argY m c (ix2 t p) * argCt m c (ix2 t q)

/-- The product of the blocks at a point is the sum of its rows' terms. -/
theorem block_sum (c : Dev nD) (t : Fin cfg0.N) (p q : Fin 1024) :
    ∑ k : Fin 1024, blkA m c t (ix3 0 k p) * blkB m c t (ix3 0 k q)
      = ∑ k : Fin 1024, ext (rowTerm m c p q) (1024 * t.val + k.val) := by
  refine Finset.sum_congr rfl fun k _ => ?_
  have hN : t.val < 4 := lt_of_lt_of_eq t.isLt N_0
  have hlt : 1024 * t.val + k.val < 4096 := by have := k.isLt; omega
  rw [ext_of_lt _ hlt, rowTerm, blkA_apply m c t k p ⟨_, hlt⟩ rfl, blkB_apply m c t k q ⟨_, hlt⟩ rfl]

/-- The result array. -/
abbrev resG (c : Dev nD) : S1x1024x1024.Idx → EReal := G2 m c

/-- THE RESULT as one sum over all the rows. -/
theorem G2_apply (c : Dev nD) (a : Fin 1) (p q : Fin 1024) :
    resG m c (ix3 a p q) = ∑ t : Fin 4096, rowTerm m c p q t := by
  have hN : cfg0.N = 4 := N_0
  have hrun : run2Of (ix3 a p q) = 0 := by
    show 1 * (a.val / 1 - 0) + 1 * (p.val / 1024 - 0) + 1 * (q.val / 1024 - 0) = _
    omega
  have hloc : loc2Of (ix3 a p q) = ix3 0 p q := by
    funext b; apply Fin.ext
    match b with
    | ⟨0, _⟩ => show a.val % 1 = 0; omega
    | ⟨1, _⟩ => show p.val % 1024 = p.val; omega
    | ⟨2, _⟩ => show q.val % 1024 = q.val; omega
  unfold resG G2
  rw [dif_pos (by rw [hrun]; omega)]
  have key := Pipeline.accAt_add_apply (N := cfg0.N) (fun n h => (reset2 m c n h : S1x1024x1024.Idx → EReal)) (fun n h => (step2 m c n h : (S1x1024x1024.Idx → EReal) → _))
    (fun _ => 0)
    (fun n i => if h : n < cfg0.N then ∑ k : Fin 1024, blkA m c ⟨n, h⟩ (ix3 0 k (i 1)) * blkB m c ⟨n, h⟩ (ix3 0 k (i 2)) else 0)
    0 3
    (fun h i => by
      obtain ⟨b, p, q, rfl⟩ : ∃ (b : Fin 1) (p q : Fin 1024), i = ix3 b p q := ⟨i 0, i 1, i 2, eq_ix3 i⟩
      dsimp only [reset2]
      rw [pay2_apply, pay1_apply, dif_pos h]; rfl)
    (fun n h acc i _ _ => by
      obtain ⟨b, p, q, rfl⟩ : ∃ (b : Fin 1) (p q : Fin 1024), i = ix3 b p q := ⟨i 0, i 1, i 2, eq_ix3 i⟩
      dsimp only [step2]
      obtain rfl : b = 0 := Subsingleton.elim _ _
      rw [pay2_apply, dif_pos h]; rfl)
    3 (le_refl _) (by omega) (loc2Of (ix3 a p q))
  have hcast : ∀ (b : ℕ) (hb : b = 0) (h : b + 3 < cfg0.N),
      Pipeline.accAt (reset2 m c) (step2 m c) b 3 h (loc2Of (ix3 a p q))
        = Pipeline.accAt (reset2 m c) (step2 m c) 0 3 (by omega) (loc2Of (ix3 a p q)) := by
    intro b hb h; subst hb; rfl
  rw [hcast _ (by rw [hrun])]
  refine key.trans ?_
  rw [zero_add, hloc, ← sum_blocks 4 1024 rfl (rowTerm m c p q)]
  refine Finset.sum_congr rfl fun s hs => ?_
  have hs4 : s < 4 := Finset.mem_range.mp hs
  have hlt : 0 + s < cfg0.N := by omega
  rw [dif_pos hlt]
  have e := block_sum m c ⟨0 + s, hlt⟩ p q
  simp only [zero_add] at e ⊢
  exact e

open Cert.Reference8Ideal.Read in
/-- The reference's result at an index. -/
theorem ref_apply (x0 x2 : S4096x1024.Idx → EReal) (a : Fin 1) (p q : Fin 1024) :
    (val_main_v3 (F := Ideal) x0 x2 : S1x1024x1024.Idx → EReal) (ix3 a p q) = ∑ t : Fin 4096, x2 (ix2 t q) * x0 (ix2 t p) := by
  pointwise [val_main_v3, val_main_v2, val_main_v1]

/-- THE EQUATION: the blocked product ends at the reference's gradient of the weight. -/
theorem G2_eq (c : Dev nD) : G2 m c = Cert.Reference8Ideal.Read.val_main_v3 (F := Ideal) (argY m c) (argCt m c) := by
  funext i
  obtain ⟨a, p, q, rfl⟩ : ∃ (a : Fin 1) (p q : Fin 1024), i = ix3 a p q := ⟨i 0, i 1, i 2, eq_ix3 i⟩
  refine (G2_apply m c a p q).trans (Eq.trans ?_ (ref_apply (argY m c) (argCt m c) a p q).symm)
  exact Finset.sum_congr rfl fun t _ => mul_comm _ _

/-- Kernel and reference compute the same gradient of the weight. -/
theorem algebraic : Cert.algebraic_Kernel8Ideal_Reference8Ideal := fun m g m' g' _ hagree =>
  ⟨fun c => G2 m c, run m g, (θ_run Cert.Reference8Ideal.defs _ _).mono (fun r h c => ⟨(h c).1.trans ((Cert.Reference8Ideal.Read.val_main_v3_eq _ _).trans (by
    obtain ⟨h0, -, h2⟩ := hagree c
    refine Eq.trans ?_ (G2_eq m c).symm
    exact congr (congrArg _ h0) h2)), (h c).2⟩) (Cert.Reference8Ideal.Value.run m' g')⟩

end Cert.Kernel8Ideal.Proj

end
-- ==== Proof.Proj.Pad.lean ====
/- The layout of the input projection's columns: the 928 of the weight inside 1024, the rest zero. -/
module

public import Idealize.ShloMosaic.Lib.Pointwise

@[expose] public section

noncomputable section

namespace Cert.Proj

/-- A row in the laid-out order: its first 896 entries, 64 zeros, its last 32 entries, 32 zeros. -/
def padRow (r : Fin 928 → EReal) (d : Fin 1024) : EReal :=
  if h : d.val < 896 then r ⟨d.val, by omega⟩
  else if d.val - 896 < 64 then 0
  else if h : d.val - 896 - 64 < 32 then r ⟨896 + (d.val - 896 - 64), by omega⟩
  else 0

/-- The zeros add nothing: two laid-out rows have the inner product of the rows themselves. -/
theorem sum_padRow (r s : Fin 928 → EReal) : ∑ d : Fin 1024, padRow r d * padRow s d = ∑ e : Fin 928, r e * s e := by
  have lo : ∀ i : Fin 896, padRow r (Fin.castAdd (64 + (32 + 32)) i) * padRow s (Fin.castAdd (64 + (32 + 32)) i)
      = r (Fin.castAdd 32 i) * s (Fin.castAdd 32 i) := fun i => by
    have h : (Fin.castAdd (64 + (32 + 32)) i).val < 896 := i.isLt
    unfold padRow; rw [dif_pos h, dif_pos h]; rfl
  have z : ∀ i : Fin 64, padRow r (Fin.natAdd 896 (Fin.castAdd (32 + 32) i)) * padRow s (Fin.natAdd 896 (Fin.castAdd (32 + 32) i)) = 0 := fun i => by
    have e : (Fin.natAdd 896 (Fin.castAdd (32 + 32) i)).val = 896 + i.val := rfl
    have hi := i.isLt
    unfold padRow; rw [dif_neg (by omega), if_pos (by omega)]; exact zero_mul _
  have hi' : ∀ i : Fin 32, padRow r (Fin.natAdd 896 (Fin.natAdd 64 (Fin.castAdd 32 i))) * padRow s (Fin.natAdd 896 (Fin.natAdd 64 (Fin.castAdd 32 i)))
      = r (Fin.natAdd 896 i) * s (Fin.natAdd 896 i) := fun i => by
    have e : (Fin.natAdd 896 (Fin.natAdd 64 (Fin.castAdd 32 i))).val = 896 + (64 + i.val) := rfl
    have hi := i.isLt
    have at_ : ∀ u : Fin 928 → EReal, padRow u (Fin.natAdd 896 (Fin.natAdd 64 (Fin.castAdd 32 i))) = u (Fin.natAdd 896 i) := fun u => by
      unfold padRow; rw [dif_neg (by omega), if_neg (by omega), dif_pos (by omega)]
      exact congrArg u (Fin.ext (show 896 + (896 + (64 + i.val) - 896 - 64) = 896 + i.val by omega))
    rw [at_, at_]
  have z' : ∀ i : Fin 32, padRow r (Fin.natAdd 896 (Fin.natAdd 64 (Fin.natAdd 32 i))) * padRow s (Fin.natAdd 896 (Fin.natAdd 64 (Fin.natAdd 32 i))) = 0 := fun i => by
    have e : (Fin.natAdd 896 (Fin.natAdd 64 (Fin.natAdd 32 i))).val = 896 + (64 + (32 + i.val)) := rfl
    have hi := i.isLt
    unfold padRow; rw [dif_neg (by omega), if_neg (by omega), dif_neg (by omega)]; exact zero_mul _
  refine Eq.trans ?_ (Fin.sum_univ_add (a := 896) (b := 32) fun e => r e * s e).symm
  show ∑ d : Fin (896 + (64 + (32 + 32))), padRow r d * padRow s d = _
  rw [Fin.sum_univ_add, Fin.sum_univ_add, Fin.sum_univ_add]
  simp only [lo, z, hi', z', Finset.sum_const_zero, zero_add, add_zero]

end Cert.Proj

end
-- ==== Proof.Proj.In.lean ====
/- The input projection: the product with the weight, a block of rows at a time. -/
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import proofs.«01_k».proof.Proof.Proj.Pad
public import Idealize.ShloMosaic.Lib.Pointwise

@[expose] public section

noncomputable section

namespace Cert.Kernel9Ideal.Proj

open Cert.Kernel9Ideal Cert.Kernel9Ideal.Gen Cert.Kernel9Ideal.Value Cert.Proj
open Idealize.ShloMosaic Idealize.ShloMosaic.TcCoe Idealize.SL.Sem

/-- One grid point's value at an index: a row of the input times a column of the weight. -/
theorem pay1_apply (x w : Vec Ideal S1x1024x1024 .bf16) (a : Fin 1) (p d : Fin 1024) :
    k0_pay1 x w (ix3 a p d) = ∑ k : Fin 1024, x (ix3 0 p k) * w (ix3 0 k d) := by
  pointwise [k0_pay1]

theorem hz3 : (![0, 0, 0] : Fin 3 → Nat) = fun _ => 0 := funext fun a => by fin_cases a <;> rfl

theorem out2_apply (x w : Vec Ideal S1x1024x1024 .bf16) (a : Fin 1) (p d : Fin 1024) :
    out0_2 x w (ix3 a p d) = ∑ k : Fin 1024, x (ix3 0 p k) * w (ix3 0 k d) := by
  unfold out0_2 r0_0
  rw [View.canon_unit_zero hz3]
  simp only [View.ld_unit_zero (S := S1x1024x1024) hz3]
  exact pay1_apply x w a p d

variable (m : (ℓ : Loc nD τ sig) → Buf (Elt Ideal) ℓ)

/-- The arguments that the call reads, its two operands as it finds them, and their blocks at a point. -/
abbrev argX (c : Dev nD) : S4096x1024.Idx → EReal := m ((c : Thread nD τ).loc main_arg0)
abbrev argW (c : Dev nD) : S1024x928.Idx → EReal := m ((c : Thread nD τ).loc main_arg1)
abbrev opX (c : Dev nD) : S1x4096x1024.Idx → EReal := V m c main_v1
abbrev opW (c : Dev nD) : S1x1024x1024.Idx → EReal := V m c main_v8
abbrev blkX (c : Dev nD) (t : Fin cfg0.N) : S1x1024x1024.Idx → EReal := iblk m c 0 t
abbrev blkW (c : Dev nD) (t : Fin cfg0.N) : S1x1024x1024.Idx → EReal := iblk m c 1 t

/-- Point `t` takes row block `t` of the first operand and of the result, and the whole weight. -/
theorem index_facts : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = t.val ∧ win0_2.index t (2 : Fin 3) = 0) :=
  (by decide +kernel : ∀ t : Fin grid0.N, _)

theorem opX_apply (c : Dev nD) (T : Fin 4096) (k : Fin 1024) : opX m c (ix3 0 T k) = argX m c (ix2 T k) := by
  have e : opX m c = broadcastInDim S1x4096x1024 ![1, 2] bcast_S4096x1024_S1x4096x1024_1_2 (truncf (F := Ideal) (φ := .f32) .bf16 (argX m c) bitsLt_bf16_f32) := by
    show V m c main_v1 = _
    unfold_abbrev_sides
    after_results
  rw [e]
  pointwise

/-- The weight as the call reads it: each row in the laid-out order. -/
theorem opW_apply (c : Dev nD) (k d : Fin 1024) : opW m c (ix3 0 k d) = padRow (fun e => argW m c (ix2 k e)) d := by
  have e : opW m c = broadcastInDim S1x1024x1024 ![1, 2] bcast_S1024x1024_S1x1024x1024_1_2
      (concatenate S1024x1024 1 [⟨S1024x896, extractStridedSlice S1024x896 ![0, 0] (truncf (F := Ideal) (φ := .f32) .bf16 (argW m c) bitsLt_bf16_f32) slices_S1024x928_S1024x896_0_0⟩,
        ⟨S1024x64, broadcastInDim S1024x64 ![] bcast_S_S1024x64 (constant (F := Ideal) S_ .bf16 0x0000#16)⟩,
        ⟨S1024x32, extractStridedSlice S1024x32 ![0, 896] (truncf (F := Ideal) (φ := .f32) .bf16 (argW m c) bitsLt_bf16_f32) slices_S1024x928_S1024x32_0_896⟩,
        ⟨S1024x32, broadcastInDim S1024x32 ![] bcast_S_S1024x32 (constant (F := Ideal) S_ .bf16 0x0000#16)⟩] concatenates_S1024x896_S1024x64_S1024x32_S1024x32_S1024x1024_d1) := by
    show V m c main_v8 = _
    unfold_abbrev_sides
    after_results
    rfl
  rw [e]
  generalize argW m c = w
  unfold padRow
  pointwise
  rfl

theorem blkX_apply (c : Dev nD) (t : Fin cfg0.N) (p k : Fin 1024) (T : Fin 4096) (hT : T.val = 1024 * t.val + p.val) :
    blkX m c t (ix3 0 p k) = argX m c (ix2 T k) := by
  obtain ⟨⟨e0, e1, e2⟩, -, -⟩ := index_facts t
  refine Eq.trans ?_ (opX_apply m c T k)
  show opX m c (((cfg0.win 0).blk t).view.emb (ix3 0 p k)) = _
  congr 1
  funext a; apply Fin.ext
  match a with
  | ⟨0, _⟩ => show win0_0.index t (0 : Fin 3) * 1 + 1 * 0 = 0; omega
  | ⟨1, _⟩ => show win0_0.index t (1 : Fin 3) * 1024 + 1 * p.val = T.val; omega
  | ⟨2, _⟩ => show win0_0.index t (2 : Fin 3) * 1024 + 1 * k.val = k.val; omega

theorem blkW_apply (c : Dev nD) (t : Fin cfg0.N) (k d : Fin 1024) : blkW m c t (ix3 0 k d) = padRow (fun e => argW m c (ix2 k e)) d := by
  obtain ⟨-, ⟨e0, e1, e2⟩, -⟩ := index_facts t
  refine Eq.trans ?_ (opW_apply m c k d)
  show opW m c (((cfg0.win 1).blk t).view.emb (ix3 0 k d)) = _
  congr 1
  funext a; apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * d.val = d.val; omega

/-- The result array. -/
def prodAt (c : Dev nD) (T : Fin 4096) (d : Fin 1024) : EReal := ∑ k : Fin 1024, argX m c (ix2 T k) * padRow (fun e => argW m c (ix2 k e)) d

def GP (c : Dev nD) : S1x4096x1024.Idx → EReal := fun i => prodAt m c (i 1) (i 2)

/-- What a point writes back is its block of the result array. -/
theorem flushedP (c : Dev nD) (t : Fin cfg0.N) :
    (dats m 0 c).flushed 2 t = ((cfg0.win 2).blk t).view.read (Elt Ideal) (GP m c) := by
  have hN : t.val < 4 := lt_of_lt_of_eq t.isLt N_0
  obtain ⟨-, -, e0, e1, e2⟩ := index_facts t
  funext y
  obtain ⟨a, p, d, rfl⟩ : ∃ (a : Fin 1) (p d : Fin 1024), y = ix3 a p d := ⟨y 0, y 1, y 2, eq_ix3 y⟩
  obtain rfl : a = 0 := Subsingleton.elim _ _
  have hlt : 1024 * t.val + p.val < 4096 := by have := p.isLt; omega
  have hemb : ((cfg0.win 2).blk t).view.emb (ix3 0 p d) = (ix3 0 ⟨1024 * t.val + p.val, hlt⟩ d : S1x4096x1024.Idx) := by
    funext b; apply Fin.ext
    match b with
    | ⟨0, _⟩ => show win0_2.index t (0 : Fin 3) * 1 + 1 * 0 = 0; omega
    | ⟨1, _⟩ => show win0_2.index t (1 : Fin 3) * 1024 + 1 * p.val = 1024 * t.val + p.val; omega
    | ⟨2, _⟩ => show win0_2.index t (2 : Fin 3) * 1024 + 1 * d.val = d.val; omega
  refine Eq.trans ?_ (congrArg (GP m c) hemb).symm
  refine (congrFun (flushed2 m c t) _).trans ((out2_apply (blkX m c t) (blkW m c t) 0 p d).trans ?_)
  show _ = prodAt m c ⟨1024 * t.val + p.val, hlt⟩ d
  unfold prodAt
  exact Finset.sum_congr rfl fun k _ => by rw [blkX_apply m c t p k ⟨_, hlt⟩ rfl, blkW_apply]

theorem mem_blkP (t : Fin cfg0.N) (i : S1x4096x1024.Idx) :
    i ∈ ((cfg0.win 2).blk t).view.set ↔ ∀ a : Fin 3, win0_2.index t a * ![1, 1024, 1024] a ≤ (i a).val ∧ (i a).val < win0_2.index t a * ![1, 1024, 1024] a + ![1, 1024, 1024] a := by
  show i ∈ ((View.whole main_v9).slice (win0_2.rect t)).set ↔ _
  rw [View.set_slice_whole, Rect.mem_set_unit]
  exact Iff.rfl

/-- The points' blocks cover the array. -/
theorem coverP (i : S1x4096x1024.Idx) : ∃ t : Fin cfg0.N, (cfg0.win 2).flush t = true ∧ i ∈ ((cfg0.win 2).blk t).view.set := by
  have h0 : (i 0).val < 1 := (i 0).isLt
  have h1 : (i 1).val < 4096 := (i 1).isLt
  have h2 : (i 2).val < 1024 := (i 2).isLt
  have hN : cfg0.N = 4 := N_0
  refine ⟨⟨(i 1).val / 1024, by omega⟩, flush0_2 _, ?_⟩
  obtain ⟨-, -, e0, e1, e2⟩ := index_facts ⟨(i 1).val / 1024, by omega⟩
  refine (mem_blkP _ i).mpr ?_
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 1024 ≤ (i 1).val ∧ (i 1).val < win0_2.index _ (1 : Fin 3) * 1024 + 1024; rw [e1]; dsimp only; omega
  | ⟨2, _⟩ => show win0_2.index _ (2 : Fin 3) * 1024 ≤ (i 2).val ∧ (i 2).val < win0_2.index _ (2 : Fin 3) * 1024 + 1024; rw [e2]; omega

theorem finalP (c : Dev nD) : (dats m 0 c).arrAt 2 cfg0.N = GP m c :=
  (dats m 0 c).arrAt_eq_of_cover 2 _ (fun t _ => flushedP m c t) coverP

open Cert.Reference9Ideal.Read in
/-- The reference's result at an index. -/
theorem ref_apply (x : S4096x1024.Idx → EReal) (w : S1024x928.Idx → EReal) (a : Fin 1) (T : Fin 4096) (d : Fin 1024) :
    (val_main_v6 (F := Ideal) x w : S1x4096x1024.Idx → EReal) (ix3 a T d) = ∑ k : Fin 1024, x (ix2 T k) * padRow (fun e => w (ix2 k e)) d := by
  unfold padRow
  pointwise [val_main_v6, val_main_v5, val_main_v4, val_main_v3, val_main_v2, val_main_v1, val_main_v0, val_main_cst, val_main_cst_0]
  split_ifs <;> simp

theorem GP_eq (c : Dev nD) : GP m c = Cert.Reference9Ideal.Read.val_main_v6 (F := Ideal) (argX m c) (argW m c) := by
  funext i
  obtain ⟨a, T, d, rfl⟩ : ∃ (a : Fin 1) (T : Fin 4096) (d : Fin 1024), i = ix3 a T d := ⟨i 0, i 1, i 2, eq_ix3 i⟩
  exact (ref_apply (argX m c) (argW m c) a T d).symm

/-- Kernel and reference compute the same product. -/
theorem algebraic : Cert.algebraic_Kernel9Ideal_Reference9Ideal := fun m g m' g' _ hagree =>
  ⟨fun c => GP m c,
    (θ_run defs _ _).mono (fun r h c => ⟨(h c).1.trans (finalP m c), (h c).2⟩) (run_blocks m g),
    (θ_run Cert.Reference9Ideal.defs _ _).mono (fun r h c => ⟨(h c).1.trans ((Cert.Reference9Ideal.Read.val_main_v6_eq _ _).trans (by
      obtain ⟨h0, h1⟩ := hagree c
      refine Eq.trans ?_ (GP_eq m c).symm
      exact congr (congrArg _ h0) h1)), (h c).2⟩) (Cert.Reference9Ideal.Value.run m' g')⟩

end Cert.Kernel9Ideal.Proj

end
-- ==== Proof.Proj.MixOut.lean ====
/- The output of the mixers: the norms of the scan's and the attention's outputs, side by side, and the residual stream with
   their product with the output weight added, a block of rows at a time. -/
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Pointwise

@[expose] public section

noncomputable section

namespace Cert.Kernel10Ideal.Proj

open Cert.Kernel10Ideal Cert.Kernel10Ideal.Gen Cert.Kernel10Ideal.Value
open Idealize.ShloMosaic Idealize.ShloMosaic.TcCoe Idealize.SL.Sem

/-! ## One row -/

/-- The norm's small constant, and the reciprocal of the row length. -/
abbrev eps : EReal := Ideal.ofBits .f32 0x358637BD#32
abbrev inv : EReal := Ideal.ofBits .f32 0x3B000000#32

theorem inv_eq : inv = ((1 / 512 : ℝ) : EReal) := by
  simp [inv, Ideal.ofBits, Ideal.ieee]
  norm_num
  rw [← EReal.coe_mul]
  norm_num

theorem length_eq : (Ideal.ofBits .f32 0x44000000#32 : EReal) = ((512 : ℝ) : EReal) := by
  simp [Ideal.ofBits, Ideal.ieee]
  norm_num
  rw [← EReal.coe_mul]
  norm_num

/-- Dividing by the row length is multiplying by its reciprocal. -/
theorem mean_eq (x : EReal) : Ideal.div x (Ideal.ofBits .f32 0x44000000#32) = x * inv := by
  rw [length_eq, inv_eq, Ideal.div_coe (by norm_num)]

/-- A row's element over the root of the row's mean square, times its gain. -/
def normed (y g : Fin 512 → EReal) (d : Fin 512) : EReal :=
  y d * Ideal.rsqrt ((∑ e : Fin 512, y e * y e) * inv + eps) * g d

/-- Two normed rows side by side. -/
def pair (y g o h : Fin 512 → EReal) (d : Fin 1024) : EReal :=
  if hd : d.val < 512 then normed y g ⟨d.val, hd⟩ else normed o h ⟨d.val - 512, by omega⟩

/-- A row of the stream plus the row's pair times the weight, the pair's two halves in turn. -/
def mixed (x : EReal) (y g o h : Fin 512 → EReal) (w : Fin 1024 → EReal) : EReal :=
  x + (∑ k : Fin 512, normed y g k * w ⟨k.val, by omega⟩) + ∑ k : Fin 512, normed o h k * w ⟨512 + k.val, by omega⟩

/-! ## One grid point -/

theorem pay2_apply (y : Vec Ideal S512x512 .f32) (g : Vec Ideal S1x512 .f32) (p d : Fin 512) :
    k0_pay2 y g (ix2 p d) = normed (fun e => y (ix2 p e)) (fun e => g (ix2 0 e)) d := by
  unfold normed
  pointwise [k0_pay2]

theorem pay3_apply (y : Vec Ideal S512x512 .f32) (g : Vec Ideal S1x512 .f32) (p d : Fin 512) :
    k0_pay3 y g (ix2 p d) = normed (fun e => y (ix2 p e)) (fun e => g (ix2 0 e)) d :=
  pay2_apply y g p d

theorem pay1_apply (n o : Vec Ideal S512x512 .bf16) (x : Vec Ideal S512x1024 .f32) (u v : Vec Ideal S512x1024 .bf16) (p : Fin 512) (d : Fin 1024) :
    k0_pay1 n o x u v (ix2 p d) = x (ix2 p d) + (∑ k : Fin 512, n (ix2 p k) * u (ix2 k d)) + ∑ k : Fin 512, o (ix2 p k) * v (ix2 k d) := by
  pointwise [k0_pay1]

theorem hz2 : (![0, 0] : Fin 2 → Nat) = fun _ => 0 := funext fun a => by fin_cases a <;> rfl

section Point

variable (x0 : Vec Ideal S512x1024 .f32) (x1 x2 : Vec Ideal S512x512 .f32) (x3 x4 : Vec Ideal S1x512 .f32) (x5 : Vec Ideal S1024x1024 .bf16)

theorem ldW_top (k : Fin 512) (d : Fin 1024) : View.ld x5 r0_5 (ix2 k d : S512x1024.Idx) = x5 (ix2 ⟨k.val, by omega⟩ d) :=
  View.ld_unit_apply_of _ _ _ _ _ _ fun a => match a with
    | ⟨0, _⟩ => (Nat.zero_add _).symm
    | ⟨1, _⟩ => (Nat.zero_add _).symm

theorem ldW_bot (k : Fin 512) (d : Fin 1024) : View.ld x5 r0_6 (ix2 k d : S512x1024.Idx) = x5 (ix2 ⟨512 + k.val, by omega⟩ d) :=
  View.ld_unit_apply_of _ _ _ _ _ _ fun a => match a with
    | ⟨0, _⟩ => rfl
    | ⟨1, _⟩ => (Nat.zero_add _).symm

theorem out6_apply (p : Fin 512) (d : Fin 1024) : out0_6 x0 x1 x2 x3 x4 x5 (ix2 p d)
    = mixed (x0 (ix2 p d)) (fun e => x1 (ix2 p e)) (fun e => x3 (ix2 0 e)) (fun e => x2 (ix2 p e)) (fun e => x4 (ix2 0 e)) (fun k => x5 (ix2 k d)) := by
  unfold out0_6 r0_4 r0_0 r0_1
  rw [View.canon_unit_zero hz2]
  simp only [View.ld_unit_zero (S := S512x1024) hz2, View.ld_unit_zero (S := S512x512) hz2, View.ld_unit_zero (S := S1x512) hz2]
  refine (pay1_apply _ _ x0 _ _ p d).trans ?_
  unfold mixed
  refine congr (congrArg HAdd.hAdd (congrArg (fun z : EReal => x0 (ix2 p d) + z) (Finset.sum_congr rfl fun k _ => ?_))) (Finset.sum_congr rfl fun k _ => ?_)
  · exact congr (congrArg HMul.hMul (pay2_apply x1 x3 p k)) (ldW_top x5 k d)
  · exact congr (congrArg HMul.hMul (pay3_apply x2 x4 p k)) (ldW_bot x5 k d)

theorem out7_apply (p : Fin 512) (d : Fin 1024) : out0_7 x0 x1 x2 x3 x4 x5 (ix2 p d)
    = pair (fun e => x1 (ix2 p e)) (fun e => x3 (ix2 0 e)) (fun e => x2 (ix2 p e)) (fun e => x4 (ix2 0 e)) d := by
  unfold out0_7
  refine View.canon_eq_of_allAt _ _ _ (cover0_7 _ _ _) ?_
  unfold r0_3 r0_2 r0_0 r0_1
  simp only [View.ld_unit_zero (S := S512x512) hz2, View.ld_unit_zero (S := S1x512) hz2]
  refine View.allAt_cons_unit _ _ _ _ _ (fun q hq => ?_) (View.allAt_cons_unit _ _ _ _ _ (fun q hq => ?_) (View.allAt_nil _ _))
  · have h0 : p.val = 0 + (q 0).val := hq 0
    have h1 : d.val = 512 + (q 1).val := hq 1
    have e : q = (ix2 p ⟨d.val - 512, by omega⟩ : S512x512.Idx) := by
      funext a; apply Fin.ext
      match a with
      | ⟨0, _⟩ => show (q 0).val = p.val; omega
      | ⟨1, _⟩ => show (q 1).val = d.val - 512; omega
    rw [e]
    refine (pay3_apply x2 x4 p _).trans ?_
    unfold pair
    rw [dif_neg (by omega)]
  · have h0 : p.val = 0 + (q 0).val := hq 0
    have h1 : d.val = 0 + (q 1).val := hq 1
    have hlt : (q 1).val < 512 := (q 1).isLt
    have e : q = (ix2 p ⟨d.val, by omega⟩ : S512x512.Idx) := by
      funext a; apply Fin.ext
      match a with
      | ⟨0, _⟩ => show (q 0).val = p.val; omega
      | ⟨1, _⟩ => show (q 1).val = d.val; omega
    rw [e]
    refine (pay2_apply x1 x3 p _).trans ?_
    unfold pair
    rw [dif_pos (by omega)]

end Point

/-! ## The result arrays -/

variable (m : (ℓ : Loc nD τ sig) → Buf (Elt Ideal) ℓ)

/-- The arguments, the operands that the host prepares, and the blocks at a point. -/
abbrev argX (c : Dev nD) : S4096x1024.Idx → EReal := m ((c : Thread nD τ).loc main_arg0)
abbrev argY (c : Dev nD) : S4096x512.Idx → EReal := m ((c : Thread nD τ).loc main_arg1)
abbrev argO (c : Dev nD) : S4096x512.Idx → EReal := m ((c : Thread nD τ).loc main_arg2)
abbrev argG (c : Dev nD) : S512.Idx → EReal := m ((c : Thread nD τ).loc main_arg3)
abbrev argH (c : Dev nD) : S512.Idx → EReal := m ((c : Thread nD τ).loc main_arg4)
abbrev argW (c : Dev nD) : S1024x1024.Idx → EReal := m ((c : Thread nD τ).loc main_arg5)
abbrev opG (c : Dev nD) : S1x512.Idx → EReal := V m c main_v0
abbrev opH (c : Dev nD) : S1x512.Idx → EReal := V m c main_v1
abbrev opW (c : Dev nD) : S1024x1024.Idx → EReal := V m c main_v2
abbrev blkX (c : Dev nD) (t : Fin cfg0.N) : S512x1024.Idx → EReal := iblk m c 0 t
abbrev blkY (c : Dev nD) (t : Fin cfg0.N) : S512x512.Idx → EReal := iblk m c 1 t
abbrev blkO (c : Dev nD) (t : Fin cfg0.N) : S512x512.Idx → EReal := iblk m c 2 t
abbrev blkG (c : Dev nD) (t : Fin cfg0.N) : S1x512.Idx → EReal := iblk m c 3 t
abbrev blkH (c : Dev nD) (t : Fin cfg0.N) : S1x512.Idx → EReal := iblk m c 4 t
abbrev blkW (c : Dev nD) (t : Fin cfg0.N) : S1024x1024.Idx → EReal := iblk m c 5 t

/-- Point `t` takes row block `t` of the three activations and of the two results, and the gains and the weight whole. -/
theorem index_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0) :=
  (by decide +kernel : ∀ t : Fin grid0.N, _)

theorem index_out : ∀ t : Fin cfg0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem opG_apply (c : Dev nD) (d : Fin 512) : opG m c (ix2 0 d) = argG m c (ix1 d) := by
  have e : opG m c = broadcastInDim S1x512 ![1] bcast_S512_S1x512_1 (argG m c) := by
    show V m c main_v0 = _
    unfold_abbrev_sides
    after_results
  rw [e]
  generalize argG m c = y
  pointwise

theorem opH_apply (c : Dev nD) (d : Fin 512) : opH m c (ix2 0 d) = argH m c (ix1 d) := by
  have e : opH m c = broadcastInDim S1x512 ![1] bcast_S512_S1x512_1 (argH m c) := by
    show V m c main_v1 = _
    unfold_abbrev_sides
    after_results
  rw [e]
  generalize argH m c = y
  pointwise

theorem opW_eq (c : Dev nD) : opW m c = argW m c := by
  show V m c main_v2 = _
  unfold_abbrev_sides
  after_results
  rfl

theorem blkX_apply (c : Dev nD) (t : Fin cfg0.N) (p : Fin 512) (d : Fin 1024) (T : Fin 4096) (hT : T.val = 512 * t.val + p.val) :
    blkX m c t (ix2 p d) = argX m c (ix2 T d) := by
  obtain ⟨⟨e0, e1⟩, -, -, -⟩ := index_facts t
  refine Eq.trans ?_ (congrFun (V_main_arg0 m c) (ix2 T d))
  show V m c main_arg0 (((cfg0.win 0).blk t).view.emb (ix2 p d)) = _
  congr 1
  funext a; apply Fin.ext
  match a with
  | ⟨0, _⟩ => show win0_0.index t (0 : Fin 2) * 512 + 1 * p.val = T.val; omega
  | ⟨1, _⟩ => show win0_0.index t (1 : Fin 2) * 1024 + 1 * d.val = d.val; omega

theorem blkY_apply (c : Dev nD) (t : Fin cfg0.N) (p : Fin 512) (d : Fin 512) (T : Fin 4096) (hT : T.val = 512 * t.val + p.val) :
    blkY m c t (ix2 p d) = argY m c (ix2 T d) := by
  obtain ⟨-, ⟨e0, e1⟩, -, -⟩ := index_facts t
  refine Eq.trans ?_ (congrFun (V_main_arg1 m c) (ix2 T d))
  show V m c main_arg1 (((cfg0.win 1).blk t).view.emb (ix2 p d)) = _
  congr 1
  funext a; apply Fin.ext
  match a with
  | ⟨0, _⟩ => show win0_1.index t (0 : Fin 2) * 512 + 1 * p.val = T.val; omega
  | ⟨1, _⟩ => show win0_1.index t (1 : Fin 2) * 512 + 1 * d.val = d.val; omega

theorem blkO_apply (c : Dev nD) (t : Fin cfg0.N) (p : Fin 512) (d : Fin 512) (T : Fin 4096) (hT : T.val = 512 * t.val + p.val) :
    blkO m c t (ix2 p d) = argO m c (ix2 T d) := by
  obtain ⟨-, -, ⟨e0, e1⟩, -⟩ := index_facts t
  refine Eq.trans ?_ (congrFun (V_main_arg2 m c) (ix2 T d))
  show V m c main_arg2 (((cfg0.win 2).blk t).view.emb (ix2 p d)) = _
  congr 1
  funext a; apply Fin.ext
  match a with
  | ⟨0, _⟩ => show win0_2.index t (0 : Fin 2) * 512 + 1 * p.val = T.val; omega
  | ⟨1, _⟩ => show win0_2.index t (1 : Fin 2) * 512 + 1 * d.val = d.val; omega

theorem blkG_apply (c : Dev nD) (t : Fin cfg0.N) (d : Fin 512) : blkG m c t (ix2 0 d) = argG m c (ix1 d) := by
  obtain ⟨-, -, -, ⟨e0, e1⟩⟩ := index_facts t
  refine Eq.trans ?_ (opG_apply m c d)
  show opG m c (((cfg0.win 3).blk t).view.emb (ix2 0 d)) = _
  congr 1
  funext a; apply Fin.ext
  match a with
  | ⟨0, _⟩ => show win0_3.index t (0 : Fin 2) * 1 + 1 * 0 = 0; omega
  | ⟨1, _⟩ => show win0_3.index t (1 : Fin 2) * 512 + 1 * d.val = d.val; omega

theorem blkH_apply (c : Dev nD) (t : Fin cfg0.N) (d : Fin 512) : blkH m c t (ix2 0 d) = argH m c (ix1 d) := by
  obtain ⟨⟨e0, e1⟩, -, -, -⟩ := index_out t
  refine Eq.trans ?_ (opH_apply m c d)
  show opH m c (((cfg0.win 4).blk t).view.emb (ix2 0 d)) = _
  congr 1
  funext a; apply Fin.ext
  match a with
  | ⟨0, _⟩ => show win0_4.index t (0 : Fin 2) * 1 + 1 * 0 = 0; omega
  | ⟨1, _⟩ => show win0_4.index t (1 : Fin 2) * 512 + 1 * d.val = d.val; omega

theorem blkW_apply (c : Dev nD) (t : Fin cfg0.N) (k d : Fin 1024) : blkW m c t (ix2 k d) = argW m c (ix2 k d) := by
  obtain ⟨-, ⟨e0, e1⟩, -, -⟩ := index_out t
  rw [← opW_eq]
  show opW m c (((cfg0.win 5).blk t).view.emb (ix2 k d)) = _
  congr 1
  funext a; apply Fin.ext
  match a with
  | ⟨0, _⟩ => show win0_5.index t (0 : Fin 2) * 1024 + 1 * k.val = k.val; omega
  | ⟨1, _⟩ => show win0_5.index t (1 : Fin 2) * 1024 + 1 * d.val = d.val; omega

/-- Row `T` of the two mixers' outputs, the two gains, and a column of the weight. -/
abbrev rowY (c : Dev nD) (T : Fin 4096) (e : Fin 512) : EReal := argY m c (ix2 T e)
abbrev rowO (c : Dev nD) (T : Fin 4096) (e : Fin 512) : EReal := argO m c (ix2 T e)
abbrev rowG (c : Dev nD) (e : Fin 512) : EReal := argG m c (ix1 e)
abbrev rowH (c : Dev nD) (e : Fin 512) : EReal := argH m c (ix1 e)
abbrev colW (c : Dev nD) (d k : Fin 1024) : EReal := argW m c (ix2 k d)

theorem rowY_eq (c : Dev nD) (t : Fin cfg0.N) (p : Fin 512) (T : Fin 4096) (hT : T.val = 512 * t.val + p.val) :
    (fun e => blkY m c t (ix2 p e)) = rowY m c T := funext fun e => blkY_apply m c t p e T hT
theorem rowO_eq (c : Dev nD) (t : Fin cfg0.N) (p : Fin 512) (T : Fin 4096) (hT : T.val = 512 * t.val + p.val) :
    (fun e => blkO m c t (ix2 p e)) = rowO m c T := funext fun e => blkO_apply m c t p e T hT
theorem rowG_eq (c : Dev nD) (t : Fin cfg0.N) : (fun e => blkG m c t (ix2 0 e)) = rowG m c := funext fun e => blkG_apply m c t e
theorem rowH_eq (c : Dev nD) (t : Fin cfg0.N) : (fun e => blkH m c t (ix2 0 e)) = rowH m c := funext fun e => blkH_apply m c t e
theorem colW_eq (c : Dev nD) (t : Fin cfg0.N) (d : Fin 1024) : (fun k => blkW m c t (ix2 k d)) = colW m c d :=
  funext fun k => blkW_apply m c t k d

/-- The two result arrays. -/
def GS (c : Dev nD) : S4096x1024.Idx → EReal := fun i =>
  mixed (argX m c i) (rowY m c (i 0)) (rowG m c) (rowO m c (i 0)) (rowH m c) (colW m c (i 1))

def GN (c : Dev nD) : S4096x1024.Idx → EReal := fun i => pair (rowY m c (i 0)) (rowG m c) (rowO m c (i 0)) (rowH m c) (i 1)

theorem flushedS (c : Dev nD) (t : Fin cfg0.N) :
    (dats m 0 c).flushed 6 t = ((cfg0.win 6).blk t).view.read (Elt Ideal) (GS m c) := by
  have hN : t.val < 8 := lt_of_lt_of_eq t.isLt N_0
  obtain ⟨-, -, ⟨e0, e1⟩, -⟩ := index_out t
  funext y
  obtain ⟨p, d, rfl⟩ : ∃ (p : Fin 512) (d : Fin 1024), y = ix2 p d := ⟨y 0, y 1, eq_ix2 y⟩
  have hlt : 512 * t.val + p.val < 4096 := by have := p.isLt; omega
  have hemb : ((cfg0.win 6).blk t).view.emb (ix2 p d) = (ix2 ⟨512 * t.val + p.val, hlt⟩ d : S4096x1024.Idx) := by
    funext b; apply Fin.ext
    match b with
    | ⟨0, _⟩ => show win0_6.index t (0 : Fin 2) * 512 + 1 * p.val = 512 * t.val + p.val; omega
    | ⟨1, _⟩ => show win0_6.index t (1 : Fin 2) * 1024 + 1 * d.val = d.val; omega
  refine Eq.trans ?_ (congrArg (GS m c) hemb).symm
  refine (congrFun (flushed6 m c t) _).trans ((out6_apply (blkX m c t) (blkY m c t) (blkO m c t) (blkG m c t) (blkH m c t) (blkW m c t) p d).trans ?_)
  rw [rowY_eq m c t p ⟨512 * t.val + p.val, hlt⟩ rfl, rowG_eq, rowO_eq m c t p ⟨512 * t.val + p.val, hlt⟩ rfl, rowH_eq, colW_eq, blkX_apply m c t p d ⟨512 * t.val + p.val, hlt⟩ rfl]
  rfl

theorem mem_blkS (t : Fin cfg0.N) (i : S4096x1024.Idx) :
    i ∈ ((cfg0.win 6).blk t).view.set ↔ ∀ a : Fin 2, win0_6.index t a * ![512, 1024] a ≤ (i a).val ∧ (i a).val < win0_6.index t a * ![512, 1024] a + ![512, 1024] a := by
  show i ∈ ((View.whole main_v3_0).slice (win0_6.rect t)).set ↔ _
  rw [View.set_slice_whole, Rect.mem_set_unit]
  exact Iff.rfl

theorem coverS (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 8 := N_0
  refine ⟨⟨(i 0).val / 512, by omega⟩, flush0_6 _, ?_⟩
  obtain ⟨-, -, ⟨e0, e1⟩, -⟩ := index_out ⟨(i 0).val / 512, by omega⟩
  refine (mem_blkS _ i).mpr ?_
  intro a
  match a with
  | ⟨0, _⟩ => show win0_6.index _ (0 : Fin 2) * 512 ≤ (i 0).val ∧ (i 0).val < win0_6.index _ (0 : Fin 2) * 512 + 512; rw [e0]; dsimp only; omega
  | ⟨1, _⟩ => show win0_6.index _ (1 : Fin 2) * 1024 ≤ (i 1).val ∧ (i 1).val < win0_6.index _ (1 : Fin 2) * 1024 + 1024; rw [e1]; omega

theorem finalS (c : Dev nD) : (dats m 0 c).arrAt 6 cfg0.N = GS m c :=
  (dats m 0 c).arrAt_eq_of_cover 6 _ (fun t _ => flushedS m c t) coverS

theorem flushedN (c : Dev nD) (t : Fin cfg0.N) :
    (dats m 0 c).flushed 7 t = ((cfg0.win 7).blk t).view.read (Elt Ideal) (GN m c) := by
  have hN : t.val < 8 := lt_of_lt_of_eq t.isLt N_0
  obtain ⟨-, -, -, ⟨e0, e1⟩⟩ := index_out t
  funext y
  obtain ⟨p, d, rfl⟩ : ∃ (p : Fin 512) (d : Fin 1024), y = ix2 p d := ⟨y 0, y 1, eq_ix2 y⟩
  have hlt : 512 * t.val + p.val < 4096 := by have := p.isLt; omega
  have hemb : ((cfg0.win 7).blk t).view.emb (ix2 p d) = (ix2 ⟨512 * t.val + p.val, hlt⟩ d : S4096x1024.Idx) := by
    funext b; apply Fin.ext
    match b with
    | ⟨0, _⟩ => show win0_7.index t (0 : Fin 2) * 512 + 1 * p.val = 512 * t.val + p.val; omega
    | ⟨1, _⟩ => show win0_7.index t (1 : Fin 2) * 1024 + 1 * d.val = d.val; omega
  refine Eq.trans ?_ (congrArg (GN m c) hemb).symm
  refine (congrFun (flushed7 m c t) _).trans ((out7_apply (blkX m c t) (blkY m c t) (blkO m c t) (blkG m c t) (blkH m c t) (blkW m c t) p d).trans ?_)
  rw [rowY_eq m c t p ⟨512 * t.val + p.val, hlt⟩ rfl, rowG_eq, rowO_eq m c t p ⟨512 * t.val + p.val, hlt⟩ rfl, rowH_eq]
  rfl

theorem mem_blkN (t : Fin cfg0.N) (i : S4096x1024.Idx) :
    i ∈ ((cfg0.win 7).blk t).view.set ↔ ∀ a : Fin 2, win0_7.index t a * ![512, 1024] a ≤ (i a).val ∧ (i a).val < win0_7.index t a * ![512, 1024] a + ![512, 1024] a := by
  show i ∈ ((View.whole main_v3_1).slice (win0_7.rect t)).set ↔ _
  rw [View.set_slice_whole, Rect.mem_set_unit]
  exact Iff.rfl

theorem coverN (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hN : cfg0.N = 8 := N_0
  refine ⟨⟨(i 0).val / 512, by omega⟩, flush0_7 _, ?_⟩
  obtain ⟨-, -, -, ⟨e0, e1⟩⟩ := index_out ⟨(i 0).val / 512, by omega⟩
  refine (mem_blkN _ i).mpr ?_
  intro a
  match a with
  | ⟨0, _⟩ => show win0_7.index _ (0 : Fin 2) * 512 ≤ (i 0).val ∧ (i 0).val < win0_7.index _ (0 : Fin 2) * 512 + 512; rw [e0]; dsimp only; omega
  | ⟨1, _⟩ => show win0_7.index _ (1 : Fin 2) * 1024 ≤ (i 1).val ∧ (i 1).val < win0_7.index _ (1 : Fin 2) * 1024 + 1024; rw [e1]; omega

theorem finalN (c : Dev nD) : (dats m 0 c).arrAt 7 cfg0.N = GN m c :=
  (dats m 0 c).arrAt_eq_of_cover 7 _ (fun t _ => flushedN m c t) coverN

/-! ## The reference -/

section Reference
open Cert.Reference10Ideal.Read

variable (x : S4096x1024.Idx → EReal) (y o : S4096x512.Idx → EReal) (g h : S512.Idx → EReal) (w : S1024x1024.Idx → EReal)

theorem ref_y (T : Fin 4096) (d : Fin 512) : (val_main_v12 (F := Ideal) y g : S4096x512.Idx → EReal) (ix2 T d)
    = normed (fun e => y (ix2 T e)) (fun e => g (ix1 e)) d := by
  unfold normed
  rw [← mean_eq]
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_o (T : Fin 4096) (d : Fin 512) : (val_main_v25 (F := Ideal) o h : S4096x512.Idx → EReal) (ix2 T d)
    = normed (fun e => o (ix2 T e)) (fun e => h (ix1 e)) d := ref_y o h T d

theorem ref_n (T : Fin 4096) (d : Fin 1024) : (val_main_v29 (F := Ideal) y o g h : S4096x1024.Idx → EReal) (ix2 T d)
    = pair (fun e => y (ix2 T e)) (fun e => g (ix1 e)) (fun e => o (ix2 T e)) (fun e => h (ix1 e)) d := by
  unfold pair
  simp only [← ref_y y g, ← ref_o o h]
  unfold val_main_v29 val_main_v26
  generalize val_main_v12 (F := Ideal) y g = u
  generalize val_main_v25 (F := Ideal) o h = v
  pointwise

theorem ref_s (T : Fin 4096) (d : Fin 1024) : (val_main_v28 (F := Ideal) x y o g h w : S4096x1024.Idx → EReal) (ix2 T d)
    = mixed (x (ix2 T d)) (fun e => y (ix2 T e)) (fun e => g (ix1 e)) (fun e => o (ix2 T e)) (fun e => h (ix1 e)) (fun k => w (ix2 k d)) := by
  unfold mixed
  simp only [← ref_y y g, ← ref_o o h]
  rw [add_assoc]
  unfold val_main_v28 val_main_v27 val_main_v26
  generalize val_main_v12 (F := Ideal) y g = u
  generalize val_main_v25 (F := Ideal) o h = v
  pointwise

end Reference

/-! ## The equation -/

theorem GS_eq (c : Dev nD) : GS m c = Cert.Reference10Ideal.Read.val_main_v28 (F := Ideal) (argX m c) (argY m c) (argO m c) (argG m c) (argH m c) (argW m c) := by
  funext i
  obtain ⟨T, d, rfl⟩ : ∃ (T : Fin 4096) (d : Fin 1024), i = ix2 T d := ⟨i 0, i 1, eq_ix2 i⟩
  exact (ref_s (argX m c) (argY m c) (argO m c) (argG m c) (argH m c) (argW m c) T d).symm

theorem GN_eq (c : Dev nD) : GN m c = Cert.Reference10Ideal.Read.val_main_v29 (F := Ideal) (argY m c) (argO m c) (argG m c) (argH m c) := by
  funext i
  obtain ⟨T, d, rfl⟩ : ∃ (T : Fin 4096) (d : Fin 1024), i = ix2 T d := ⟨i 0, i 1, eq_ix2 i⟩
  exact (ref_n (argY m c) (argO m c) (argG m c) (argH m c) T d).symm

/-- Kernel and reference compute the same stream and the same norms. -/
theorem algebraic : Cert.algebraic_Kernel10Ideal_Reference10Ideal := fun m g m' g' _ hagree =>
  ⟨fun c => GS m c, fun c => GN m c,
    (θ_run defs _ _).mono (fun r h c => ⟨(h c).1.trans (finalS m c), (h c).2.1.trans (finalN m c), (h c).2.2⟩) (run_blocks m g),
    (θ_run Cert.Reference10Ideal.defs _ _).mono (fun r h c => by
      obtain ⟨h0, h1, h2, h3, h4, h5⟩ := hagree c
      refine ⟨(h c).1.trans ((Cert.Reference10Ideal.Read.val_main_v28_eq _ _ _ _ _ _).trans ?_), (h c).2.1.trans ((Cert.Reference10Ideal.Read.val_main_v29_eq _ _ _ _).trans ?_), (h c).2.2⟩
      · refine Eq.trans ?_ (GS_eq m c).symm
        exact congr (congr (congr (congr (congr (congrArg _ h0) h1) h2) h3) h4) h5
      · refine Eq.trans ?_ (GN_eq m c).symm
        exact congr (congr (congr (congrArg _ h1) h2) h3) h4) (Cert.Reference10Ideal.Value.run m' g')⟩

end Cert.Kernel10Ideal.Proj

end
-- ==== Proof.Proj.InX.lean ====
/- The gradient of the input projection's input: the product with the transposed weight, a block of rows at a time,
   both in the laid-out column order, whose zeros drop out of the sum. -/
module

public import proofs.«01_k».proof.Defs
public import proofs.«01_k».proof.Proof.Gen.Kernel11Ideal.Value
public import proofs.«01_k».proof.Proof.Gen.Reference11Ideal.Read
public import proofs.«01_k».proof.Proof.Gen.Reference11Ideal.Run
public import proofs.«01_k».proof.Proof.Proj.Pad
public import Idealize.ShloMosaic.Lib.Pointwise

@[expose] public section

noncomputable section

namespace Cert.Kernel11Ideal.Proj

open Cert.Kernel11Ideal Cert.Kernel11Ideal.Gen Cert.Kernel11Ideal.Value Cert.Proj
open Idealize.ShloMosaic Idealize.ShloMosaic.TcCoe Idealize.SL.Sem

/-- One grid point's value at an index: a row of the incoming gradient times a row of the weight. -/
theorem pay1_apply (x w : Vec Ideal S1x1024x1024 .bf16) (a : Fin 1) (p d : Fin 1024) :
    k0_pay1 x w (ix3 a p d) = ∑ k : Fin 1024, x (ix3 0 p k) * w (ix3 0 d k) := by
  pointwise [k0_pay1]

theorem hz3 : (![0, 0, 0] : Fin 3 → Nat) = fun _ => 0 := funext fun a => by fin_cases a <;> rfl

theorem out2_apply (x w : Vec Ideal S1x1024x1024 .bf16) (a : Fin 1) (p d : Fin 1024) :
    out0_2 x w (ix3 a p d) = ∑ k : Fin 1024, x (ix3 0 p k) * w (ix3 0 d k) := by
  unfold out0_2 r0_0
  rw [View.canon_unit_zero hz3]
  simp only [View.ld_unit_zero (S := S1x1024x1024) hz3]
  exact pay1_apply x w a p d

variable (m : (ℓ : Loc nD τ sig) → Buf (Elt Ideal) ℓ)

/-- The arguments that the call reads, its two operands as it finds them, and their blocks at a point. -/
abbrev argX (c : Dev nD) : S4096x928.Idx → EReal := m ((c : Thread nD τ).loc main_arg2)
abbrev argW (c : Dev nD) : S1024x928.Idx → EReal := m ((c : Thread nD τ).loc main_arg1)
abbrev opX (c : Dev nD) : S1x4096x1024.Idx → EReal := V m c main_v6
abbrev opW (c : Dev nD) : S1x1024x1024.Idx → EReal := V m c main_v13
abbrev blkX (c : Dev nD) (t : Fin cfg0.N) : S1x1024x1024.Idx → EReal := iblk m c 0 t
abbrev blkW (c : Dev nD) (t : Fin cfg0.N) : S1x1024x1024.Idx → EReal := iblk m c 1 t

/-- Point `t` takes row block `t` of the first operand and of the result, and the whole weight. -/
theorem index_facts : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = t.val ∧ win0_2.index t (2 : Fin 3) = 0) :=
  (by decide +kernel : ∀ t : Fin grid0.N, _)

theorem opX_apply (c : Dev nD) (T : Fin 4096) (k : Fin 1024) : opX m c (ix3 0 T k) = padRow (fun e => argX m c (ix2 T e)) k := by
  have e : opX m c = broadcastInDim S1x4096x1024 ![1, 2] bcast_S4096x1024_S1x4096x1024_1_2
      (concatenate S4096x1024 1 [⟨S4096x896, extractStridedSlice S4096x896 ![0, 0] (truncf (F := Ideal) (φ := .f32) .bf16 (argX m c) bitsLt_bf16_f32) slices_S4096x928_S4096x896_0_0⟩,
        ⟨S4096x64, broadcastInDim S4096x64 ![] bcast_S_S4096x64 (constant (F := Ideal) S_ .bf16 0x0000#16)⟩,
        ⟨S4096x32, extractStridedSlice S4096x32 ![0, 896] (truncf (F := Ideal) (φ := .f32) .bf16 (argX m c) bitsLt_bf16_f32) slices_S4096x928_S4096x32_0_896⟩,
        ⟨S4096x32, broadcastInDim S4096x32 ![] bcast_S_S4096x32 (constant (F := Ideal) S_ .bf16 0x0000#16)⟩] concatenates_S4096x896_S4096x64_S4096x32_S4096x32_S4096x1024_d1) := by
    show V m c main_v6 = _
    unfold_abbrev_sides
    after_results
    rfl
  rw [e]
  generalize argX m c = w
  unfold padRow
  pointwise
  rfl

theorem opW_apply (c : Dev nD) (k d : Fin 1024) : opW m c (ix3 0 k d) = padRow (fun e => argW m c (ix2 k e)) d := by
  have e : opW m c = broadcastInDim S1x1024x1024 ![1, 2] bcast_S1024x1024_S1x1024x1024_1_2
      (concatenate S1024x1024 1 [⟨S1024x896, extractStridedSlice S1024x896 ![0, 0] (truncf (F := Ideal) (φ := .f32) .bf16 (argW m c) bitsLt_bf16_f32) slices_S1024x928_S1024x896_0_0⟩,
        ⟨S1024x64, broadcastInDim S1024x64 ![] bcast_S_S1024x64 (constant (F := Ideal) S_ .bf16 0x0000#16)⟩,
        ⟨S1024x32, extractStridedSlice S1024x32 ![0, 896] (truncf (F := Ideal) (φ := .f32) .bf16 (argW m c) bitsLt_bf16_f32) slices_S1024x928_S1024x32_0_896⟩,
        ⟨S1024x32, broadcastInDim S1024x32 ![] bcast_S_S1024x32 (constant (F := Ideal) S_ .bf16 0x0000#16)⟩] concatenates_S1024x896_S1024x64_S1024x32_S1024x32_S1024x1024_d1) := by
    show V m c main_v13 = _
    unfold_abbrev_sides
    after_results
    rfl
  rw [e]
  generalize argW m c = w
  unfold padRow
  pointwise
  rfl

theorem blkX_apply (c : Dev nD) (t : Fin cfg0.N) (p k : Fin 1024) (T : Fin 4096) (hT : T.val = 1024 * t.val + p.val) :
    blkX m c t (ix3 0 p k) = padRow (fun e => argX m c (ix2 T e)) k := by
  obtain ⟨⟨e0, e1, e2⟩, -, -⟩ := index_facts t
  refine Eq.trans ?_ (opX_apply m c T k)
  show opX m c (((cfg0.win 0).blk t).view.emb (ix3 0 p k)) = _
  congr 1
  funext a; apply Fin.ext
  match a with
  | ⟨0, _⟩ => show win0_0.index t (0 : Fin 3) * 1 + 1 * 0 = 0; omega
  | ⟨1, _⟩ => show win0_0.index t (1 : Fin 3) * 1024 + 1 * p.val = T.val; omega
  | ⟨2, _⟩ => show win0_0.index t (2 : Fin 3) * 1024 + 1 * k.val = k.val; omega

theorem blkW_apply (c : Dev nD) (t : Fin cfg0.N) (k d : Fin 1024) : blkW m c t (ix3 0 k d) = padRow (fun e => argW m c (ix2 k e)) d := by
  obtain ⟨-, ⟨e0, e1, e2⟩, -⟩ := index_facts t
  refine Eq.trans ?_ (opW_apply m c k d)
  show opW m c (((cfg0.win 1).blk t).view.emb (ix3 0 k d)) = _
  congr 1
  funext a; apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * d.val = d.val; omega

/-- The result array. -/
def prodAt (c : Dev nD) (T : Fin 4096) (d : Fin 1024) : EReal := ∑ e : Fin 928, argX m c (ix2 T e) * argW m c (ix2 d e)

def GP (c : Dev nD) : S1x4096x1024.Idx → EReal := fun i => prodAt m c (i 1) (i 2)

/-- What a point writes back is its block of the result array. -/
theorem flushedP (c : Dev nD) (t : Fin cfg0.N) :
    (dats m 0 c).flushed 2 t = ((cfg0.win 2).blk t).view.read (Elt Ideal) (GP m c) := by
  have hN : t.val < 4 := lt_of_lt_of_eq t.isLt N_0
  obtain ⟨-, -, e0, e1, e2⟩ := index_facts t
  funext y
  obtain ⟨a, p, d, rfl⟩ : ∃ (a : Fin 1) (p d : Fin 1024), y = ix3 a p d := ⟨y 0, y 1, y 2, eq_ix3 y⟩
  obtain rfl : a = 0 := Subsingleton.elim _ _
  have hlt : 1024 * t.val + p.val < 4096 := by have := p.isLt; omega
  have hemb : ((cfg0.win 2).blk t).view.emb (ix3 0 p d) = (ix3 0 ⟨1024 * t.val + p.val, hlt⟩ d : S1x4096x1024.Idx) := by
    funext b; apply Fin.ext
    match b with
    | ⟨0, _⟩ => show win0_2.index t (0 : Fin 3) * 1 + 1 * 0 = 0; omega
    | ⟨1, _⟩ => show win0_2.index t (1 : Fin 3) * 1024 + 1 * p.val = 1024 * t.val + p.val; omega
    | ⟨2, _⟩ => show win0_2.index t (2 : Fin 3) * 1024 + 1 * d.val = d.val; omega
  refine Eq.trans ?_ (congrArg (GP m c) hemb).symm
  refine (congrFun (flushed2 m c t) _).trans ((out2_apply (blkX m c t) (blkW m c t) 0 p d).trans ?_)
  show _ = prodAt m c ⟨1024 * t.val + p.val, hlt⟩ d
  unfold prodAt
  exact (Finset.sum_congr rfl fun k _ => by rw [blkX_apply m c t p k ⟨_, hlt⟩ rfl, blkW_apply]).trans (sum_padRow _ _)

theorem mem_blkP (t : Fin cfg0.N) (i : S1x4096x1024.Idx) :
    i ∈ ((cfg0.win 2).blk t).view.set ↔ ∀ a : Fin 3, win0_2.index t a * ![1, 1024, 1024] a ≤ (i a).val ∧ (i a).val < win0_2.index t a * ![1, 1024, 1024] a + ![1, 1024, 1024] a := by
  show i ∈ ((View.whole main_v14).slice (win0_2.rect t)).set ↔ _
  rw [View.set_slice_whole, Rect.mem_set_unit]
  exact Iff.rfl

/-- The points' blocks cover the array. -/
theorem coverP (i : S1x4096x1024.Idx) : ∃ t : Fin cfg0.N, (cfg0.win 2).flush t = true ∧ i ∈ ((cfg0.win 2).blk t).view.set := by
  have h0 : (i 0).val < 1 := (i 0).isLt
  have h1 : (i 1).val < 4096 := (i 1).isLt
  have h2 : (i 2).val < 1024 := (i 2).isLt
  have hN : cfg0.N = 4 := N_0
  refine ⟨⟨(i 1).val / 1024, by omega⟩, flush0_2 _, ?_⟩
  obtain ⟨-, -, e0, e1, e2⟩ := index_facts ⟨(i 1).val / 1024, by omega⟩
  refine (mem_blkP _ i).mpr ?_
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 1024 ≤ (i 1).val ∧ (i 1).val < win0_2.index _ (1 : Fin 3) * 1024 + 1024; rw [e1]; dsimp only; omega
  | ⟨2, _⟩ => show win0_2.index _ (2 : Fin 3) * 1024 ≤ (i 2).val ∧ (i 2).val < win0_2.index _ (2 : Fin 3) * 1024 + 1024; rw [e2]; omega

theorem finalP (c : Dev nD) : (dats m 0 c).arrAt 2 cfg0.N = GP m c :=
  (dats m 0 c).arrAt_eq_of_cover 2 _ (fun t _ => flushedP m c t) coverP

open Cert.Reference11Ideal.Read in
/-- The reference's result at an index. -/
theorem ref_apply (x : S4096x928.Idx → EReal) (w : S1024x928.Idx → EReal) (a : Fin 1) (T : Fin 4096) (d : Fin 1024) :
    (val_main_v2 (F := Ideal) w x : S1x4096x1024.Idx → EReal) (ix3 a T d) = ∑ e : Fin 928, x (ix2 T e) * w (ix2 d e) := by
  pointwise [val_main_v2, val_main_v1]

theorem GP_eq (c : Dev nD) : GP m c = Cert.Reference11Ideal.Read.val_main_v2 (F := Ideal) (argW m c) (argX m c) := by
  funext i
  obtain ⟨a, T, d, rfl⟩ : ∃ (a : Fin 1) (T : Fin 4096) (d : Fin 1024), i = ix3 a T d := ⟨i 0, i 1, i 2, eq_ix3 i⟩
  exact (ref_apply (argX m c) (argW m c) a T d).symm

/-- Kernel and reference compute the same product. -/
theorem algebraic : Cert.algebraic_Kernel11Ideal_Reference11Ideal := fun m g m' g' _ hagree =>
  ⟨fun c => GP m c,
    (θ_run defs _ _).mono (fun r h c => ⟨(h c).1.trans (finalP m c), (h c).2⟩) (run_blocks m g),
    (θ_run Cert.Reference11Ideal.defs _ _).mono (fun r h c => ⟨(h c).1.trans ((Cert.Reference11Ideal.Read.val_main_v2_eq _ _).trans (by
      obtain ⟨-, h1, h2⟩ := hagree c
      refine Eq.trans ?_ (GP_eq m c).symm
      exact congr (congrArg _ h1) h2)), (h c).2⟩) (Cert.Reference11Ideal.Value.run m' g')⟩

end Cert.Kernel11Ideal.Proj

end
-- ==== Proof.Proj.InW.lean ====
/- The gradient of the input projection's weight, in the laid-out column order: what the blocked product leaves in its result, as one
   sum over all the rows. -/
module

public import proofs.«01_k».proof.Defs
public import proofs.«01_k».proof.Proof.Gen.Kernel12Ideal.Value
public import proofs.«01_k».proof.Proof.Gen.Reference12Ideal.Read
public import proofs.«01_k».proof.Proof.Gen.Reference12Ideal.Run
public import proofs.«01_k».proof.Proof.Mlp.Sums
public import proofs.«01_k».proof.Proof.Proj.Pad
public import Idealize.ShloMosaic.Lib.Pointwise

@[expose] public section

noncomputable section

namespace Cert.Kernel12Ideal.Proj

open Cert.Kernel12Ideal Cert.Kernel12Ideal.Gen Cert.Kernel12Ideal.Value Cert.Mlp Cert.Proj
open Idealize.ShloMosaic Idealize.ShloMosaic.TcCoe Idealize.SL.Sem

/-- The step's value at an index: what was there plus the product of the two blocks, contracted over their rows. -/
theorem pay2_apply (x y : Vec Ideal S1x1024x1024 .bf16) (acc : Vec Ideal S1x1024x1024 .f32) (a : Fin 1) (p q : Fin 1024) :
    k0_pay2 x y acc (ix3 a p q) = acc (ix3 0 p q) + ∑ k : Fin 1024, x (ix3 0 k p) * y (ix3 0 k q) := by
  pointwise [k0_pay2]

theorem pay1_apply (i : S1x1024x1024.Idx) : k0_pay1 (F := Ideal) i = (0 : EReal) := by
  pointwise [k0_pay1]

variable (m : (ℓ : Loc nD τ sig) → Buf (Elt Ideal) ℓ)

/-- Point `t` takes row block `t` of both operands. -/
theorem index_facts : ∀ t : Fin cfg0.N, win0_0.index t (0 : Fin 3) = 0 ∧ win0_0.index t (1 : Fin 3) = t.val
    ∧ win0_0.index t (2 : Fin 3) = 0 ∧ win0_1.index t (0 : Fin 3) = 0 ∧ win0_1.index t (1 : Fin 3) = t.val
    ∧ win0_1.index t (2 : Fin 3) = 0 :=
  (by decide +kernel : ∀ t : Fin grid0.N, _)

/-- The projection's input and its output's gradient, as arguments, as the call finds them, and their blocks at a point. -/
abbrev argH (c : Dev nD) : S4096x1024.Idx → EReal := m ((c : Thread nD τ).loc main_arg0)
abbrev argCt (c : Dev nD) : S4096x928.Idx → EReal := m ((c : Thread nD τ).loc main_arg2)
abbrev opA (c : Dev nD) : S1x4096x1024.Idx → EReal := V m c main_v1
abbrev opB (c : Dev nD) : S1x4096x1024.Idx → EReal := V m c main_v8
abbrev blkA (c : Dev nD) (t : Fin cfg0.N) : S1x1024x1024.Idx → EReal := iblk m c 0 t
abbrev blkB (c : Dev nD) (t : Fin cfg0.N) : S1x1024x1024.Idx → EReal := iblk m c 1 t

theorem opA_apply (c : Dev nD) (T : Fin 4096) (k : Fin 1024) : opA m c (ix3 0 T k) = argH m c (ix2 T k) := by
  have e : opA m c = broadcastInDim S1x4096x1024 ![1, 2] bcast_S4096x1024_S1x4096x1024_1_2 (truncf (F := Ideal) (φ := .f32) .bf16 (argH m c) bitsLt_bf16_f32) := by
    show V m c main_v1 = _
    unfold_abbrev_sides
    after_results
  rw [e]
  pointwise

theorem opB_apply (c : Dev nD) (T : Fin 4096) (k : Fin 1024) : opB m c (ix3 0 T k) = padRow (fun e => argCt m c (ix2 T e)) k := by
  have e : opB m c = broadcastInDim S1x4096x1024 ![1, 2] bcast_S4096x1024_S1x4096x1024_1_2
      (concatenate S4096x1024 1 [⟨S4096x896, extractStridedSlice S4096x896 ![0, 0] (truncf (F := Ideal) (φ := .f32) .bf16 (argCt m c) bitsLt_bf16_f32) slices_S4096x928_S4096x896_0_0⟩,
        ⟨S4096x64, broadcastInDim S4096x64 ![] bcast_S_S4096x64 (constant (F := Ideal) S_ .bf16 0x0000#16)⟩,
        ⟨S4096x32, extractStridedSlice S4096x32 ![0, 896] (truncf (F := Ideal) (φ := .f32) .bf16 (argCt m c) bitsLt_bf16_f32) slices_S4096x928_S4096x32_0_896⟩,
        ⟨S4096x32, broadcastInDim S4096x32 ![] bcast_S_S4096x32 (constant (F := Ideal) S_ .bf16 0x0000#16)⟩] concatenates_S4096x896_S4096x64_S4096x32_S4096x32_S4096x1024_d1) := by
    show V m c main_v8 = _
    unfold_abbrev_sides
    after_results
    rfl
  rw [e]
  generalize argCt m c = w
  unfold padRow
  pointwise
  rfl

theorem blkA_apply (c : Dev nD) (t : Fin cfg0.N) (k p : Fin 1024) (T : Fin 4096) (hT : T.val = 1024 * t.val + k.val) :
    blkA m c t (ix3 0 k p) = argH m c (ix2 T p) := by
  obtain ⟨e0, e1, e2, -, -, -⟩ := index_facts t
  refine Eq.trans ?_ (opA_apply m c T p)
  show opA m c (((cfg0.win 0).blk t).view.emb (ix3 0 k p)) = _
  congr 1
  funext a; apply Fin.ext
  match a with
  | ⟨0, _⟩ => show win0_0.index t (0 : Fin 3) * 1 + 1 * 0 = 0; omega
  | ⟨1, _⟩ => show win0_0.index t (1 : Fin 3) * 1024 + 1 * k.val = T.val; omega
  | ⟨2, _⟩ => show win0_0.index t (2 : Fin 3) * 1024 + 1 * p.val = p.val; omega

theorem blkB_apply (c : Dev nD) (t : Fin cfg0.N) (k q : Fin 1024) (T : Fin 4096) (hT : T.val = 1024 * t.val + k.val) :
    blkB m c t (ix3 0 k q) = padRow (fun e => argCt m c (ix2 T e)) q := by
  obtain ⟨-, -, -, e0, e1, e2⟩ := index_facts t
  refine Eq.trans ?_ (opB_apply m c T q)
  show opB m c (((cfg0.win 1).blk t).view.emb (ix3 0 k q)) = _
  congr 1
  funext a; apply Fin.ext
  match a with
  | ⟨0, _⟩ => show win0_1.index t (0 : Fin 3) * 1 + 1 * 0 = 0; omega
  | ⟨1, _⟩ => show win0_1.index t (1 : Fin 3) * 1024 + 1 * k.val = T.val; omega
  | ⟨2, _⟩ => show win0_1.index t (2 : Fin 3) * 1024 + 1 * q.val = q.val; omega

/-- One row's product at result index `(p, q)`. -/
def rowTerm (c : Dev nD) (p q : Fin 1024) (t : Fin 4096) : EReal := argH m c (ix2 t p) * padRow (fun e => argCt m c (ix2 t e)) q

/-- The product of the blocks at a point is the sum of its rows' terms. -/
theorem block_sum (c : Dev nD) (t : Fin cfg0.N) (p q : Fin 1024) :
    ∑ k : Fin 1024, blkA m c t (ix3 0 k p) * blkB m c t (ix3 0 k q)
      = ∑ k : Fin 1024, ext (rowTerm m c p q) (1024 * t.val + k.val) := by
  refine Finset.sum_congr rfl fun k _ => ?_
  have hN : t.val < 4 := lt_of_lt_of_eq t.isLt N_0
  have hlt : 1024 * t.val + k.val < 4096 := by have := k.isLt; omega
  rw [ext_of_lt _ hlt, rowTerm, blkA_apply m c t k p ⟨_, hlt⟩ rfl, blkB_apply m c t k q ⟨_, hlt⟩ rfl]

/-- The result array. -/
abbrev resG (c : Dev nD) : S1x1024x1024.Idx → EReal := G2 m c

/-- THE RESULT as one sum over all the rows. -/
theorem G2_apply (c : Dev nD) (a : Fin 1) (p q : Fin 1024) :
    resG m c (ix3 a p q) = ∑ t : Fin 4096, rowTerm m c p q t := by
  have hN : cfg0.N = 4 := N_0
  have hrun : run2Of (ix3 a p q) = 0 := by
    show 1 * (a.val / 1 - 0) + 1 * (p.val / 1024 - 0) + 1 * (q.val / 1024 - 0) = _
    omega
  have hloc : loc2Of (ix3 a p q) = ix3 0 p q := by
    funext b; apply Fin.ext
    match b with
    | ⟨0, _⟩ => show a.val % 1 = 0; omega
    | ⟨1, _⟩ => show p.val % 1024 = p.val; omega
    | ⟨2, _⟩ => show q.val % 1024 = q.val; omega
  unfold resG G2
  rw [dif_pos (by rw [hrun]; omega)]
  have key := Pipeline.accAt_add_apply (N := cfg0.N) (fun n h => (reset2 m c n h : S1x1024x1024.Idx → EReal)) (fun n h => (step2 m c n h : (S1x1024x1024.Idx → EReal) → _))
    (fun _ => 0)
    (fun n i => if h : n < cfg0.N then ∑ k : Fin 1024, blkA m c ⟨n, h⟩ (ix3 0 k (i 1)) * blkB m c ⟨n, h⟩ (ix3 0 k (i 2)) else 0)
    0 3
    (fun h i => by
      obtain ⟨b, p, q, rfl⟩ : ∃ (b : Fin 1) (p q : Fin 1024), i = ix3 b p q := ⟨i 0, i 1, i 2, eq_ix3 i⟩
      dsimp only [reset2]
      rw [pay2_apply, pay1_apply, dif_pos h]; rfl)
    (fun n h acc i _ _ => by
      obtain ⟨b, p, q, rfl⟩ : ∃ (b : Fin 1) (p q : Fin 1024), i = ix3 b p q := ⟨i 0, i 1, i 2, eq_ix3 i⟩
      dsimp only [step2]
      obtain rfl : b = 0 := Subsingleton.elim _ _
      rw [pay2_apply, dif_pos h]; rfl)
    3 (le_refl _) (by omega) (loc2Of (ix3 a p q))
  have hcast : ∀ (b : ℕ) (hb : b = 0) (h : b + 3 < cfg0.N),
      Pipeline.accAt (reset2 m c) (step2 m c) b 3 h (loc2Of (ix3 a p q))
        = Pipeline.accAt (reset2 m c) (step2 m c) 0 3 (by omega) (loc2Of (ix3 a p q)) := by
    intro b hb h; subst hb; rfl
  rw [hcast _ (by rw [hrun])]
  refine key.trans ?_
  rw [zero_add, hloc, ← sum_blocks 4 1024 rfl (rowTerm m c p q)]
  refine Finset.sum_congr rfl fun s hs => ?_
  have hs4 : s < 4 := Finset.mem_range.mp hs
  have hlt : 0 + s < cfg0.N := by omega
  rw [dif_pos hlt]
  have e := block_sum m c ⟨0 + s, hlt⟩ p q
  simp only [zero_add] at e ⊢
  exact e

open Cert.Reference12Ideal.Read in
/-- The reference's result at an index. -/
theorem ref_apply (x0 : S4096x1024.Idx → EReal) (x2 : S4096x928.Idx → EReal) (a : Fin 1) (p q : Fin 1024) :
    (val_main_v8 (F := Ideal) x0 x2 : S1x1024x1024.Idx → EReal) (ix3 a p q) = ∑ t : Fin 4096, x0 (ix2 t p) * padRow (fun e => x2 (ix2 t e)) q := by
  unfold padRow
  pointwise [val_main_v8, val_main_v7, val_main_v6, val_main_v5, val_main_v4, val_main_v3, val_main_v2, val_main_v1, val_main_cst, val_main_cst_0]
  split_ifs <;> simp [mul_comm]

/-- THE EQUATION: the blocked product ends at the reference's gradient of the weight. -/
theorem G2_eq (c : Dev nD) : G2 m c = Cert.Reference12Ideal.Read.val_main_v8 (F := Ideal) (argH m c) (argCt m c) := by
  funext i
  obtain ⟨a, p, q, rfl⟩ : ∃ (a : Fin 1) (p q : Fin 1024), i = ix3 a p q := ⟨i 0, i 1, i 2, eq_ix3 i⟩
  exact (G2_apply m c a p q).trans (ref_apply (argH m c) (argCt m c) a p q).symm

/-- Kernel and reference compute the same gradient of the weight. -/
theorem algebraic : Cert.algebraic_Kernel12Ideal_Reference12Ideal := fun m g m' g' _ hagree =>
  ⟨fun c => G2 m c, run m g, (θ_run Cert.Reference12Ideal.defs _ _).mono (fun r h c => ⟨(h c).1.trans ((Cert.Reference12Ideal.Read.val_main_v8_eq _ _).trans (by
    obtain ⟨h0, -, h2⟩ := hagree c
    refine Eq.trans ?_ (G2_eq m c).symm
    exact congr (congrArg _ h0) h2)), (h c).2⟩) (Cert.Reference12Ideal.Value.run m' g')⟩

end Cert.Kernel12Ideal.Proj

end
-- ==== Proof.Flash.Step.lean ====
module

public import proofs.«01_k».proof.Proof.Gen.KernelIdeal.Skeleton
public import Idealize.ShloMosaic.Lib.VecWindow

/-!
# One block of queries against one block of keys

The body of the attention gradient, as functions of vectors with no memory in them. `Ops` holds a grid step's
operands, `step o n` adds what the queries of block `n` contribute to the three gradients, and `diag o j` is the
start, with the block of the queries that are themselves the keys, where the mask applies.
-/

@[expose] public section

noncomputable section

namespace Cert.KernelIdeal.Flash

open Idealize.ShloMosaic
open Cert.KernelIdeal Cert.KernelIdeal.Gen

variable {F : FTy → Type} [FloatOps F]

/-- The sums that a loop carries: for the keys, and for the values. -/
abbrev Carry (F : FTy → Type) := FVec F S256x128 .f32 × FVec F S256x128 .f32
/-- What is written into the first result's buffer, the last write first. -/
abbrev Pieces (F : FTy → Type) := List (View.Piece (Elt F) S1x16x128x256 .f32)
/-- The two carried sums, and the gradient at the head's queries. -/
abbrev Sums (F : FTy → Type) := Carry F × Vec F S1x16x128x256 .f32

/-- What one grid step works on: the head's queries, both ways round; the block of keys, both ways round; the
block of values; the head's incoming gradient, both ways round; and the two rows of numbers saved per query. -/
structure Ops (F : FTy → Type) where
  q : Vec F S1x4096x128 .bf16
  qT : Vec F S1x16x128x256 .bf16
  k : FVec F S256x128 .bf16
  kT : FVec F S128x256 .bf16
  v : FVec F S256x128 .bf16
  dO : Vec F S4096x128 .bf16
  dOT : Vec F S1x16x128x256 .bf16
  lse : Vec F S1x16x1x256 .f32
  dl : Vec F S1x16x1x256 .f32

theorem inb_tile (n : ℕ) : ∀ a : Fin 4, ![0, n % 16, 0, 0] a + ![1, 1, 128, 256] a ≤ S1x16x128x256.size a := by
  have := Nat.mod_lt n (show 0 < 16 by decide)
  intro a
  match a with
  | ⟨0, _⟩ => exact Nat.le_refl _
  | ⟨1, _⟩ => exact this
  | ⟨2, _⟩ => exact Nat.le_refl _
  | ⟨3, _⟩ => exact Nat.le_refl _

theorem inb_row (n : ℕ) : ∀ a : Fin 4, ![0, n % 16, 0, 0] a + ![1, 1, 1, 256] a ≤ S1x16x1x256.size a := by
  have := Nat.mod_lt n (show 0 < 16 by decide)
  intro a
  match a with
  | ⟨0, _⟩ => exact Nat.le_refl _
  | ⟨1, _⟩ => exact this
  | ⟨2, _⟩ => exact Nat.le_refl _
  | ⟨3, _⟩ => exact Nat.le_refl _

theorem inb_do (n : ℕ) : ∀ a : Fin 2, ![256 * (n % 16), 0] a + ![256, 128] a ≤ S4096x128.size a := by
  have := Nat.mod_lt n (show 0 < 16 by decide)
  intro a
  match a with
  | ⟨0, _⟩ => show 256 * (n % 16) + 256 ≤ 4096; omega
  | ⟨1, _⟩ => exact Nat.le_refl _

theorem inb_q (n : ℕ) : ∀ a : Fin 3, ![0, 256 * (n % 16), 0] a + ![1, 256, 128] a ≤ S1x4096x128.size a := by
  have := Nat.mod_lt n (show 0 < 16 by decide)
  intro a
  match a with
  | ⟨0, _⟩ => exact Nat.le_refl _
  | ⟨1, _⟩ => show 256 * (n % 16) + 256 ≤ 4096; omega
  | ⟨2, _⟩ => exact Nat.le_refl _

/-- Block `n` of a stack of 128 × 256 tiles. -/
def tile {e : EltTy} (x : Vec F S1x16x128x256 e) (n : ℕ) : Vec F S1x1x128x256 e :=
  VecWindow.window (s := S1x16x128x256) x ![0, n % 16, 0, 0] ![1, 1, 128, 256] (inb_tile n)
/-- Block `n` of a stack of rows of 256 numbers. -/
def row {e : EltTy} (x : Vec F S1x16x1x256 e) (n : ℕ) : Vec F S1x1x1x256 e :=
  VecWindow.window (s := S1x16x1x256) x ![0, n % 16, 0, 0] ![1, 1, 1, 256] (inb_row n)
/-- The 256 rows of block `n` of a matrix of 4096. -/
def rowsDo {e : EltTy} (x : Vec F S4096x128 e) (n : ℕ) : Vec F S256x128 e :=
  VecWindow.window (s := S4096x128) x ![256 * (n % 16), 0] ![256, 128] (inb_do n)
/-- The 256 rows of block `n` of a head's matrix of 4096. -/
def rowsQ {e : EltTy} (x : Vec F S1x4096x128 e) (n : ℕ) : Vec F S1x256x128 e :=
  VecWindow.window (s := S1x4096x128) x ![0, 256 * (n % 16), 0] ![1, 256, 128] (inb_q n)
/-- The stack with block `n` replaced. -/
def setTile {e : EltTy} (x : Vec F S1x16x128x256 e) (n : ℕ) (w : Vec F S1x1x128x256 e) : Vec F S1x16x128x256 e :=
  VecWindow.put (s := S1x16x128x256) x ![0, n % 16, 0, 0] ![1, 1, 128, 256] w

/-- The gradient at the scores of block `n` of the queries, keys down and queries across. -/
def dsAt (o : Ops F) (n : ℕ) : FVec F S256x256 .bf16 :=
  k0_pay7 o.k o.v (tile o.qT n) (row o.lse n) (tile o.dOT n) (row o.dl n)

/-- What block `n` of the queries adds to the three gradients. -/
def step (o : Ops F) (n : ℕ) (s : Sums F) : Sums F :=
  ((k0_pay8 s.1.1 (dsAt o n) (rowsQ o.q n), k0_pay6 o.k s.1.2 (tile o.qT n) (row o.lse n) (rowsDo o.dO n)),
    setTile s.2 n (k0_pay9 o.kT (dsAt o n) (tile s.2 n)))

/-- `m` blocks of queries, from block `a` on. -/
def steps (o : Ops F) (a : ℕ) : ℕ → Sums F → Sums F
  | 0, s => s
  | m + 1, s => step o (a + m) (steps o a m s)

theorem steps_add (o : Ops F) (a m m' : ℕ) (s : Sums F) :
    steps o a (m + m') s = steps o (a + m) m' (steps o a m s) := by
  induction m' with
  | zero => rfl
  | succ k ih =>
    show step o (a + (m + k)) (steps o a (m + k) s) = step o (a + m + k) (steps o (a + m) k (steps o a m s))
    rw [ih, Nat.add_assoc]

/-- The block whose queries are the keys' own positions, where a key after its query is masked; `x4`, `x5` and
`x6` are the blocks of keys and values as they are loaded. -/
def diag (x2 : Vec F S1x4096x128 .bf16) (x3 : Vec F S1x16x128x256 .bf16) (x4 : Vec F S1x256x128 .bf16)
    (x5 : Vec F S1x1x128x256 .bf16) (x6 : Vec F S1x256x128 .bf16) (x7 : Vec F S4096x128 .bf16)
    (x8 : Vec F S1x16x128x256 .bf16) (x9 x10 : Vec F S1x16x1x256 .f32) (n : ℕ) (dq : Vec F S1x16x128x256 .f32) : Sums F :=
  let it0 : IVec S256x256 32 := iota .tc S256x256 32 [0] iota_S256x256_d0_w32
  let it1 : IVec S256x256 32 := iota .tc S256x256 32 [1] iota_S256x256_d1_w32
  let p := k0_pay61 it0 it1 x4 (tile x3 n) (row x9 n)
  let dp := k0_pay63 x6 (tile x8 n)
  ((k0_pay65 k0_pay60 p dp (row x10 n) (rowsQ x2 n), k0_pay62 it0 it1 x4 (tile x3 n) (row x9 n) (rowsDo x7 n)),
    setTile dq n (k0_pay66 (k0_pay58 x5) p dp (row x10 n) (tile dq n)))

/-- The operands of the blocks after the masked one. -/
def ops (x2 : Vec F S1x4096x128 .bf16) (x3 : Vec F S1x16x128x256 .bf16) (x4 : Vec F S1x256x128 .bf16)
    (x5 : Vec F S1x1x128x256 .bf16) (x6 : Vec F S1x256x128 .bf16) (x7 : Vec F S4096x128 .bf16)
    (x8 : Vec F S1x16x128x256 .bf16) (x9 x10 : Vec F S1x16x1x256 .f32) : Ops F :=
  ⟨x2, x3, k0_pay57 x4, k0_pay58 x5, k0_pay59 x6, x7, x8, x9, x10⟩

/-- A whole grid step at key block `j`: the masked block, then the blocks of later queries. -/
def gridStep (x2 : Vec F S1x4096x128 .bf16) (x3 : Vec F S1x16x128x256 .bf16) (x4 : Vec F S1x256x128 .bf16)
    (x5 : Vec F S1x1x128x256 .bf16) (x6 : Vec F S1x256x128 .bf16) (x7 : Vec F S4096x128 .bf16)
    (x8 : Vec F S1x16x128x256 .bf16) (x9 x10 : Vec F S1x16x1x256 .f32) (j : ℕ) (dq : Vec F S1x16x128x256 .f32) : Sums F :=
  steps (ops x2 x3 x4 x5 x6 x7 x8 x9 x10) (j + 1) (15 - j) (diag x2 x3 x4 x5 x6 x7 x8 x9 x10 j dq)

/-! The unrolled loop bodies do the same operations under other names. -/

theorem pay14_eq (a : FVec F S256x128 .f32) (k v : FVec F S256x128 .bf16) (x d : Vec F S1x1x128x256 .bf16)
    (l r : Vec F S1x1x1x256 .f32) (q : Vec F S1x256x128 .bf16) :
    k0_pay14 a (k0_pay10 k x l) (k0_pay12 v d) r q = k0_pay8 a (k0_pay7 k v x l d r) q := rfl
theorem pay68_eq (a : FVec F S256x128 .f32) (k v : FVec F S256x128 .bf16) (x d : Vec F S1x1x128x256 .bf16)
    (l r : Vec F S1x1x1x256 .f32) (q : Vec F S1x256x128 .bf16) :
    k0_pay68 v a (k0_pay16 k x l) d r q = k0_pay8 a (k0_pay7 k v x l d r) q := rfl
theorem pay11_eq : @k0_pay11 F _ = k0_pay6 := rfl
theorem pay17_eq : @k0_pay17 F _ = k0_pay6 := rfl
theorem pay32_eq : @k0_pay32 F _ = k0_pay6 := rfl
theorem pay37_eq : @k0_pay37 F _ = k0_pay6 := rfl
theorem pay48_eq : @k0_pay48 F _ = k0_pay6 := rfl
theorem pay33_eq : @k0_pay33 F _ = k0_pay7 := rfl
theorem pay38_eq : @k0_pay38 F _ = k0_pay7 := rfl
theorem pay49_eq : @k0_pay49 F _ = k0_pay7 := rfl
theorem pay73_eq : @k0_pay73 F _ = k0_pay8 := rfl
theorem pay35_eq : @k0_pay35 F _ = k0_pay9 := rfl
theorem pay74_eq : @k0_pay74 F _ = k0_pay9 := rfl
theorem pay1_eq : @k0_pay1 F _ = k0_pay9 := rfl
theorem pay15_eq (kT : FVec F S128x256 .bf16) (k v : FVec F S256x128 .bf16) (x d : Vec F S1x1x128x256 .bf16)
    (l r : Vec F S1x1x1x256 .f32) (q : Vec F S1x1x128x256 .f32) :
    k0_pay15 kT (k0_pay10 k x l) (k0_pay12 v d) r q = k0_pay9 kT (k0_pay7 k v x l d r) q := rfl
theorem pay69_eq (kT : FVec F S128x256 .bf16) (k v : FVec F S256x128 .bf16) (x d : Vec F S1x1x128x256 .bf16)
    (l r : Vec F S1x1x1x256 .f32) (q : Vec F S1x1x128x256 .f32) :
    k0_pay69 kT v (k0_pay16 k x l) d r q = k0_pay9 kT (k0_pay7 k v x l d r) q := rfl
theorem pay34_eq (a : FVec F S256x128 .f32) (k v : FVec F S256x128 .bf16) (x d : Vec F S1x1x128x256 .bf16)
    (l r : Vec F S1x1x1x256 .f32) (q : Vec F S1x256x128 .bf16) :
    k0_pay34 k v a x l d r q = k0_pay8 a (k0_pay7 k v x l d r) q := rfl
theorem pay50_eq (a : FVec F S256x128 .f32) (k v : FVec F S256x128 .bf16) (x d : Vec F S1x1x128x256 .bf16)
    (l r : Vec F S1x1x1x256 .f32) (q : Vec F S1x256x128 .bf16) :
    k0_pay50 k v a x l d r q = k0_pay8 a (k0_pay7 k v x l d r) q := rfl

/-- A tile just put back is what is found there. -/
theorem tile_setTile_same {e : EltTy} (x : Vec F S1x16x128x256 e) (n : ℕ) (w : Vec F S1x1x128x256 e) :
    tile (setTile x n w) n = w :=
  VecWindow.window_put_same (s := S1x16x128x256) x _ _ _ w

/-- Putting one tile leaves the others. -/
theorem tile_setTile_of_ne {e : EltTy} (x : Vec F S1x16x128x256 e) {n n' : ℕ} (h : n % 16 ≠ n' % 16)
    (w : Vec F S1x1x128x256 e) : tile (setTile x n w) n' = tile x n' :=
  VecWindow.window_put_of_disjoint (s := S1x16x128x256) x _ _ _ _ _ w 1 (by
    show n' % 16 + 1 ≤ n % 16 ∨ n % 16 + 1 ≤ n' % 16; omega)

end Cert.KernelIdeal.Flash
-- ==== Proof.Flash.Payloads.lean ====
/- One block of queries against one block of keys, read over the extended reals at an index. -/
module

public import proofs.«01_k».proof.Proof.Flash.Step
public import Idealize.ShloMosaic.Lib.Pointwise
public import Idealize.ShloMosaic.Lib.WordCmp

@[expose] public section

set_option maxRecDepth 16384

noncomputable section

namespace Cert.KernelIdeal.Flash

open Idealize.ShloMosaic
open Cert.KernelIdeal Cert.KernelIdeal.Gen

/-- Position `b` of block `n` of 256. -/
def pos (n : ℕ) (b : Fin 256) : Fin 4096 := ⟨256 * (n % 16) + b.val, by have := Nat.mod_lt n (show 0 < 16 by decide); have := b.isLt; omega⟩

/-- Block `n` of the sixteen. -/
def blkNo (n : ℕ) : Fin 16 := ⟨n % 16, Nat.mod_lt n (by decide)⟩

theorem tile_apply {e : EltTy} (x : Vec Ideal S1x16x128x256 e) (n : ℕ) (d : Fin 128) (b : Fin 256) :
    tile x n (ix4 0 0 d b) = x (ix4 0 (blkNo n) d b) := by
  unfold tile VecWindow.window
  refine congrArg x (funext fun a => Fin.ext ?_)
  match a with
  | ⟨0, _⟩ => rfl
  | ⟨1, _⟩ => show n % 16 + 1 * 0 = n % 16; omega
  | ⟨2, _⟩ => show 0 + 1 * d.val = d.val; omega
  | ⟨3, _⟩ => show 0 + 1 * b.val = b.val; omega

theorem row_apply {e : EltTy} (x : Vec Ideal S1x16x1x256 e) (n : ℕ) (b : Fin 256) :
    row x n (ix4 0 0 0 b) = x (ix4 0 (blkNo n) 0 b) := by
  unfold row VecWindow.window
  refine congrArg x (funext fun a => Fin.ext ?_)
  match a with
  | ⟨0, _⟩ => rfl
  | ⟨1, _⟩ => show n % 16 + 1 * 0 = n % 16; omega
  | ⟨2, _⟩ => rfl
  | ⟨3, _⟩ => show 0 + 1 * b.val = b.val; omega

theorem rowsDo_apply {e : EltTy} (x : Vec Ideal S4096x128 e) (n : ℕ) (b : Fin 256) (d : Fin 128) :
    rowsDo x n (ix2 b d) = x (ix2 (pos n b) d) := by
  unfold rowsDo VecWindow.window
  refine congrArg x (funext fun a => Fin.ext ?_)
  match a with
  | ⟨0, _⟩ => show 256 * (n % 16) + 1 * b.val = 256 * (n % 16) + b.val; omega
  | ⟨1, _⟩ => show 0 + 1 * d.val = d.val; omega

theorem rowsQ_apply {e : EltTy} (x : Vec Ideal S1x4096x128 e) (n : ℕ) (b : Fin 256) (d : Fin 128) :
    rowsQ x n (ix3 0 b d) = x (ix3 0 (pos n b) d) := by
  unfold rowsQ VecWindow.window
  refine congrArg x (funext fun a => Fin.ext ?_)
  match a with
  | ⟨0, _⟩ => rfl
  | ⟨1, _⟩ => show 256 * (n % 16) + 1 * b.val = 256 * (n % 16) + b.val; omega
  | ⟨2, _⟩ => show 0 + 1 * d.val = d.val; omega

/-- The probability, as the kernel recomputes it, of key row `a` for query lane `b`. -/
def pAt (k : S256x128.Idx → EReal) (qT : S1x1x128x256.Idx → EReal) (l : S1x1x1x256.Idx → EReal) (a b : Fin 256) : EReal :=
  Ideal.exp ((∑ d : Fin 128, k (ix2 a d) * qT (ix4 0 0 d b)) - l (ix4 0 0 0 b))

theorem pay5_apply (k : Vec Ideal S256x128 .bf16) (qT : Vec Ideal S1x1x128x256 .bf16) (l : Vec Ideal S1x1x1x256 .f32)
    (a b : Fin 256) : k0_pay5 (F := Ideal) k qT l (ix2 a b) = pAt k qT l a b := by
  unfold pAt
  pointwise [k0_pay5]

theorem pay6_apply (k : Vec Ideal S256x128 .bf16) (s : Vec Ideal S256x128 .f32) (qT : Vec Ideal S1x1x128x256 .bf16)
    (l : Vec Ideal S1x1x1x256 .f32) (dO : Vec Ideal S256x128 .bf16) (a : Fin 256) (d : Fin 128) :
    k0_pay6 (F := Ideal) k s qT l dO (ix2 a d)
      = (s (ix2 a d) + ∑ b : Fin 256, k0_pay5 (F := Ideal) k qT l (ix2 a b) * (dO (ix2 b d) : EReal) : EReal) := by
  unfold k0_pay6
  generalize k0_pay5 (F := Ideal) k qT l = p
  pointwise []

theorem pay7_apply (k v : Vec Ideal S256x128 .bf16) (qT : Vec Ideal S1x1x128x256 .bf16) (l : Vec Ideal S1x1x1x256 .f32)
    (dOT : Vec Ideal S1x1x128x256 .bf16) (dl : Vec Ideal S1x1x1x256 .f32) (a b : Fin 256) :
    k0_pay7 (F := Ideal) k v qT l dOT dl (ix2 a b)
      = (k0_pay5 (F := Ideal) k qT l (ix2 a b) * ((∑ d : Fin 128, (v (ix2 a d) : EReal) * dOT (ix4 0 0 d b)) - dl (ix4 0 0 0 b)) : EReal) := by
  unfold k0_pay7
  generalize k0_pay5 (F := Ideal) k qT l = p
  pointwise []

theorem pay8_apply (s : Vec Ideal S256x128 .f32) (ds : Vec Ideal S256x256 .bf16) (q : Vec Ideal S1x256x128 .bf16)
    (a : Fin 256) (d : Fin 128) :
    k0_pay8 (F := Ideal) s ds q (ix2 a d) = (s (ix2 a d) + ∑ b : Fin 256, (ds (ix2 a b) : EReal) * q (ix3 0 b d) : EReal) := by
  pointwise [k0_pay8]

theorem pay9_apply (kT : Vec Ideal S128x256 .bf16) (ds : Vec Ideal S256x256 .bf16) (s : Vec Ideal S1x1x128x256 .f32)
    (d : Fin 128) (b : Fin 256) :
    k0_pay9 (F := Ideal) kT ds s (ix4 0 0 d b)
      = (s (ix4 0 0 d b) + ∑ a : Fin 256, (kT (ix2 d a) : EReal) * ds (ix2 a b) : EReal) := by
  pointwise [k0_pay9]

theorem pay57_apply (x : Vec Ideal S1x256x128 .bf16) (a : Fin 256) (d : Fin 128) :
    k0_pay57 (F := Ideal) x (ix2 a d) = x (ix3 0 a d) := by
  pointwise [k0_pay57]

theorem pay58_apply (x : Vec Ideal S1x1x128x256 .bf16) (d : Fin 128) (a : Fin 256) :
    k0_pay58 (F := Ideal) x (ix2 d a) = x (ix4 0 0 d a) := by
  pointwise [k0_pay58]

theorem pay59_apply (x : Vec Ideal S1x256x128 .bf16) (a : Fin 256) (d : Fin 128) :
    k0_pay59 (F := Ideal) x (ix2 a d) = x (ix3 0 a d) := by
  pointwise [k0_pay59]

theorem pay3_apply (x : Vec Ideal S256x128 .f32) (a : Fin 256) (d : Fin 128) :
    k0_pay3 (F := Ideal) x (ix3 0 a d) = x (ix2 a d) := by
  pointwise [k0_pay3]

theorem pay56_apply (i : S1x16x128x256.Idx) : k0_pay56 (F := Ideal) i = (0 : EReal) := by
  pointwise [k0_pay56]

theorem pay60_apply (i : S256x128.Idx) : k0_pay60 (F := Ideal) i = (0 : EReal) := by
  pointwise [k0_pay60]

theorem pay63_apply (v : Vec Ideal S1x256x128 .bf16) (dOT : Vec Ideal S1x1x128x256 .bf16) (a b : Fin 256) :
    k0_pay63 (F := Ideal) v dOT (ix2 a b) = (∑ d : Fin 128, (v (ix3 0 a d) : EReal) * dOT (ix4 0 0 d b) : EReal) := by
  pointwise [k0_pay63, k0_pay59]

/-- The masked probability. -/
theorem pay61_apply (k : Vec Ideal S1x256x128 .bf16) (qT : Vec Ideal S1x1x128x256 .bf16) (l : Vec Ideal S1x1x1x256 .f32)
    (a b : Fin 256) :
    k0_pay61 (F := Ideal) (iota .tc S256x256 32 [0] iota_S256x256_d0_w32) (iota .tc S256x256 32 [1] iota_S256x256_d1_w32) k qT l (ix2 a b)
      = (if a ≤ b then pAt (k0_pay57 (F := Ideal) k) qT l a b else 0 : EReal) := by
  unfold k0_pay61 pAt
  generalize k0_pay57 (F := Ideal) k = k'
  pointwise []
  have h : IntOp.cmpi .sge (BitVec.ofNat 32 b.val) (BitVec.ofNat 32 a.val) = 1#1 ↔ a.val ≤ b.val := by
    have := a.isLt
    have := b.isLt
    word_cmp
  simp only [Scalar.select, Fin.le_def]
  exact if_congr h rfl rfl

theorem pay62_apply (it0 it1 : IVec S256x256 32) (k : Vec Ideal S1x256x128 .bf16) (qT : Vec Ideal S1x1x128x256 .bf16) (l : Vec Ideal S1x1x1x256 .f32)
    (dO : Vec Ideal S256x128 .bf16) (a : Fin 256) (d : Fin 128) :
    k0_pay62 (F := Ideal) it0 it1 k qT l dO (ix2 a d)
      = (∑ b : Fin 256, k0_pay61 (F := Ideal) it0 it1 k qT l (ix2 a b) * (dO (ix2 b d) : EReal) : EReal) := by
  unfold k0_pay62
  generalize k0_pay61 (F := Ideal) it0 it1 k qT l = p
  pointwise [k0_pay60]

theorem pay64_apply (p dp : Vec Ideal S256x256 .f32) (dl : Vec Ideal S1x1x1x256 .f32) (a b : Fin 256) :
    k0_pay64 (F := Ideal) p dp dl (ix2 a b) = (p (ix2 a b) * ((dp (ix2 a b) : EReal) - dl (ix4 0 0 0 b)) : EReal) := by
  pointwise [k0_pay64]

theorem pay65_apply (s : Vec Ideal S256x128 .f32) (p dp : Vec Ideal S256x256 .f32) (dl : Vec Ideal S1x1x1x256 .f32) (q : Vec Ideal S1x256x128 .bf16)
    (a : Fin 256) (d : Fin 128) :
    k0_pay65 (F := Ideal) s p dp dl q (ix2 a d)
      = (s (ix2 a d) + ∑ b : Fin 256, k0_pay64 (F := Ideal) p dp dl (ix2 a b) * (q (ix3 0 b d) : EReal) : EReal) := by
  unfold k0_pay65
  generalize k0_pay64 (F := Ideal) p dp dl = y
  pointwise []

theorem pay66_apply (kT : Vec Ideal S128x256 .bf16) (p dp : Vec Ideal S256x256 .f32) (dl : Vec Ideal S1x1x1x256 .f32) (s : Vec Ideal S1x1x128x256 .f32)
    (d : Fin 128) (b : Fin 256) :
    k0_pay66 (F := Ideal) kT p dp dl s (ix4 0 0 d b)
      = (s (ix4 0 0 d b) + ∑ a : Fin 256, (kT (ix2 d a) : EReal) * k0_pay64 (F := Ideal) p dp dl (ix2 a b) : EReal) := by
  unfold k0_pay66
  generalize k0_pay64 (F := Ideal) p dp dl = y
  pointwise []

end Cert.KernelIdeal.Flash

end
-- ==== Proof.Flash.GridSums.lean ====
/- A whole grid step over the extended reals: the two gradients at its block of keys are sums over all queries, and the
   query gradient gains a sum over its keys. -/
module

public import proofs.«01_k».proof.Proof.Flash.Payloads

@[expose] public section

set_option maxRecDepth 16384

noncomputable section

namespace Cert.KernelIdeal.Flash

open Idealize.ShloMosaic
open Cert.KernelIdeal Cert.KernelIdeal.Gen

/-- One head's arrays, padded to 128 lanes: queries, keys, values, the incoming gradient, and the two numbers saved
per query. -/
structure Head where
  q : Fin 4096 → Fin 128 → EReal
  k : Fin 4096 → Fin 128 → EReal
  v : Fin 4096 → Fin 128 → EReal
  c : Fin 4096 → Fin 128 → EReal
  l : Fin 4096 → EReal
  dl : Fin 4096 → EReal

namespace Head
variable (H : Head)

/-- The probability that query `r` gives to key `c`, from the saved log-sum: nothing after the query itself. -/
def p (r c : Fin 4096) : EReal :=
  if c ≤ r then Ideal.exp ((∑ d : Fin 128, H.k c d * H.q r d) - H.l r) else 0

/-- The gradient at the score of query `r` and key `c`. -/
def ds (r c : Fin 4096) : EReal := H.p r c * ((∑ d : Fin 128, H.v c d * H.c r d) - H.dl r)

/-- What block `n` of queries adds to the gradient at key `c`. -/
def dkBlock (n : ℕ) (c : Fin 4096) (d : Fin 128) : EReal := ∑ b : Fin 256, H.ds (pos n b) c * H.q (pos n b) d
/-- What block `n` of queries adds to the gradient at value `c`. -/
def dvBlock (n : ℕ) (c : Fin 4096) (d : Fin 128) : EReal := ∑ b : Fin 256, H.p (pos n b) c * H.c (pos n b) d
/-- What block `j` of keys adds to the gradient at query `r`. -/
def dqBlock (j : ℕ) (r : Fin 4096) (d : Fin 128) : EReal := ∑ a : Fin 256, H.k (pos j a) d * H.ds r (pos j a)

theorem p_zero {r c : Fin 4096} (h : r < c) : H.p r c = 0 := if_neg (not_le.mpr h)
theorem ds_zero {r c : Fin 4096} (h : r < c) : H.ds r c = 0 := by unfold ds; rw [H.p_zero h, zero_mul]

end Head

theorem pos_lt {n j : ℕ} (hn : n < j) (hj : j < 16) (a b : Fin 256) : pos n b < pos j a := by
  have := b.isLt
  show 256 * (n % 16) + b.val < 256 * (j % 16) + a.val
  rw [Nat.mod_eq_of_lt hj, Nat.mod_eq_of_lt (hn.trans hj)]
  omega

theorem pos_le_same (j : ℕ) (a b : Fin 256) : pos j a ≤ pos j b ↔ a ≤ b := by
  show 256 * (j % 16) + a.val ≤ 256 * (j % 16) + b.val ↔ a.val ≤ b.val
  omega

/-- The blocks that grid step `j` of a head reads are the head's. -/
structure Blocks (H : Head) (j : ℕ) (x2 : Vec Ideal S1x4096x128 .bf16) (x3 : Vec Ideal S1x16x128x256 .bf16)
    (x4 : Vec Ideal S1x256x128 .bf16) (x5 : Vec Ideal S1x1x128x256 .bf16) (x6 : Vec Ideal S1x256x128 .bf16)
    (x7 : Vec Ideal S4096x128 .bf16) (x8 : Vec Ideal S1x16x128x256 .bf16) (x9 x10 : Vec Ideal S1x16x1x256 .f32) : Prop where
  q : ∀ r d, x2 (ix3 0 r d) = H.q r d
  qT : ∀ n d b, x3 (ix4 0 (blkNo n) d b) = H.q (pos n b) d
  k : ∀ a d, x4 (ix3 0 a d) = H.k (pos j a) d
  kT : ∀ d a, x5 (ix4 0 0 d a) = H.k (pos j a) d
  v : ∀ a d, x6 (ix3 0 a d) = H.v (pos j a) d
  c : ∀ r d, x7 (ix2 r d) = H.c r d
  cT : ∀ n d b, x8 (ix4 0 (blkNo n) d b) = H.c (pos n b) d
  l : ∀ n b, x9 (ix4 0 (blkNo n) 0 b) = H.l (pos n b)
  dl : ∀ n b, x10 (ix4 0 (blkNo n) 0 b) = H.dl (pos n b)

theorem setTile_same (x : Vec Ideal S1x16x128x256 .f32) (n : ℕ) (w : Vec Ideal S1x1x128x256 .f32) (d : Fin 128) (b : Fin 256) :
    setTile x n w (ix4 0 (blkNo n) d b) = w (ix4 0 0 d b) := by
  rw [← tile_apply (setTile x n w) n d b, tile_setTile_same]

theorem setTile_ne (x : Vec Ideal S1x16x128x256 .f32) {n n' : ℕ} (h : n % 16 ≠ n' % 16) (w : Vec Ideal S1x1x128x256 .f32) (d : Fin 128) (b : Fin 256) :
    setTile x n w (ix4 0 (blkNo n') d b) = x (ix4 0 (blkNo n') d b) := by
  rw [← tile_apply (setTile x n w) n' d b, tile_setTile_of_ne _ h, tile_apply]

/-- The sum over the blocks from the keys' own on is the sum over all of them. -/
theorem sum_from {M : Type*} [AddCommMonoid M] {j : ℕ} (f : ℕ → M) (hj : j < 16) (h : ∀ n, n < j → f n = 0) :
    ∑ i ∈ Finset.range (15 - j + 1), f (j + i) = ∑ n ∈ Finset.range 16, f n := by
  have e : ∑ n ∈ Finset.range (j + (15 - j + 1)), f n = ∑ i ∈ Finset.range (15 - j + 1), f (j + i) := by
    rw [Finset.sum_range_add f j (15 - j + 1), Finset.sum_eq_zero (fun n hn => h n (Finset.mem_range.mp hn)), zero_add]
  rw [← e]
  congr 2
  omega

section
variable {H : Head} {j : ℕ} {x2 : Vec Ideal S1x4096x128 .bf16} {x3 : Vec Ideal S1x16x128x256 .bf16}
    {x4 : Vec Ideal S1x256x128 .bf16} {x5 : Vec Ideal S1x1x128x256 .bf16} {x6 : Vec Ideal S1x256x128 .bf16}
    {x7 : Vec Ideal S4096x128 .bf16} {x8 : Vec Ideal S1x16x128x256 .bf16} {x9 x10 : Vec Ideal S1x16x1x256 .f32}
    (B : Blocks H j x2 x3 x4 x5 x6 x7 x8 x9 x10)
include B

theorem pAt_eq (n : ℕ) (a b : Fin 256) :
    pAt (k0_pay57 (F := Ideal) x4) (tile x3 n) (row x9 n) a b
      = Ideal.exp ((∑ d : Fin 128, H.k (pos j a) d * H.q (pos n b) d) - H.l (pos n b)) := by
  unfold pAt
  rw [row_apply, B.l]
  refine congrArg (fun y => Ideal.exp (y - H.l (pos n b))) (Finset.sum_congr rfl fun d _ => ?_)
  rw [pay57_apply, tile_apply, B.k, B.qT]

theorem dp_eq (n : ℕ) (a b : Fin 256) :
    (∑ d : Fin 128, (k0_pay59 (F := Ideal) x6 (ix2 a d) : EReal) * tile x8 n (ix4 0 0 d b))
      = ∑ d : Fin 128, H.v (pos j a) d * H.c (pos n b) d :=
  Finset.sum_congr rfl fun d _ => by rw [pay59_apply, tile_apply, B.v, B.cT]

theorem p_eq (hj : j < 16) {n : ℕ} (hn : j < n) (hn' : n < 16) (a b : Fin 256) :
    k0_pay5 (F := Ideal) (k0_pay57 x4) (tile x3 n) (row x9 n) (ix2 a b) = H.p (pos n b) (pos j a) := by
  rw [pay5_apply, pAt_eq B]
  exact (if_pos (pos_lt hn hn' b a).le).symm

theorem ds_eq (hj : j < 16) {n : ℕ} (hn : j < n) (hn' : n < 16) (a b : Fin 256) :
    dsAt (ops x2 x3 x4 x5 x6 x7 x8 x9 x10) n (ix2 a b) = H.ds (pos n b) (pos j a) := by
  unfold dsAt ops Head.ds
  dsimp only
  rw [pay7_apply, p_eq B hj hn hn', dp_eq B, row_apply, B.dl]

theorem diagP_eq (a b : Fin 256) :
    k0_pay61 (F := Ideal) (iota .tc S256x256 32 [0] iota_S256x256_d0_w32) (iota .tc S256x256 32 [1] iota_S256x256_d1_w32) x4
      (tile x3 j) (row x9 j) (ix2 a b) = H.p (pos j b) (pos j a) := by
  rw [pay61_apply, pAt_eq B]
  unfold Head.p
  exact if_congr (pos_le_same j a b).symm rfl rfl

theorem diagDs_eq (a b : Fin 256) :
    k0_pay64 (F := Ideal) (k0_pay61 (iota .tc S256x256 32 [0] iota_S256x256_d0_w32) (iota .tc S256x256 32 [1] iota_S256x256_d1_w32) x4
      (tile x3 j) (row x9 j)) (k0_pay63 x6 (tile x8 j)) (row x10 j) (ix2 a b) = H.ds (pos j b) (pos j a) := by
  unfold Head.ds
  rw [pay64_apply, diagP_eq B, row_apply, B.dl, pay63_apply]
  refine congrArg (fun y => H.p (pos j b) (pos j a) * (y - H.dl (pos j b))) (Finset.sum_congr rfl fun d _ => ?_)
  rw [tile_apply, B.v, B.cT]

/-- What the sums hold after the masked block and `m` further ones. -/
theorem steps_values (hj : j < 16) (dq : Vec Ideal S1x16x128x256 .f32) (m : ℕ) (hm : j + m < 16) :
    (∀ a d, (steps (ops x2 x3 x4 x5 x6 x7 x8 x9 x10) (j + 1) m (diag x2 x3 x4 x5 x6 x7 x8 x9 x10 j dq)).1.1 (ix2 a d)
        = ∑ i ∈ Finset.range (m + 1), H.dkBlock (j + i) (pos j a) d)
    ∧ (∀ a d, (steps (ops x2 x3 x4 x5 x6 x7 x8 x9 x10) (j + 1) m (diag x2 x3 x4 x5 x6 x7 x8 x9 x10 j dq)).1.2 (ix2 a d)
        = ∑ i ∈ Finset.range (m + 1), H.dvBlock (j + i) (pos j a) d)
    ∧ (∀ n, n < 16 → ∀ d b, (steps (ops x2 x3 x4 x5 x6 x7 x8 x9 x10) (j + 1) m (diag x2 x3 x4 x5 x6 x7 x8 x9 x10 j dq)).2 (ix4 0 (blkNo n) d b)
        = (if j ≤ n ∧ n ≤ j + m then (dq (ix4 0 (blkNo n) d b) : EReal) + H.dqBlock j (pos n b) d else dq (ix4 0 (blkNo n) d b) : EReal)) := by
  induction m with
  | zero =>
    refine ⟨fun a d => ?_, fun a d => ?_, fun n hn d b => ?_⟩
    · rw [Finset.sum_range_one]
      show k0_pay65 (F := Ideal) k0_pay60 _ _ _ _ (ix2 a d) = _
      rw [pay65_apply, pay60_apply, zero_add]
      refine Finset.sum_congr rfl fun b _ => ?_
      rw [diagDs_eq B, rowsQ_apply, B.q]; rfl
    · rw [Finset.sum_range_one]
      show k0_pay62 (F := Ideal) _ _ _ _ _ _ (ix2 a d) = _
      rw [pay62_apply]
      refine Finset.sum_congr rfl fun b _ => ?_
      rw [diagP_eq B, rowsDo_apply, B.c]; rfl
    · show setTile dq j _ (ix4 0 (blkNo n) d b) = _
      by_cases h : n = j
      · subst h
        rw [setTile_same, pay66_apply, tile_apply, if_pos ⟨le_refl _, le_refl _⟩]
        refine congrArg (fun y => (dq (ix4 0 (blkNo n) d b) : EReal) + y) (Finset.sum_congr rfl fun a _ => ?_)
        rw [pay58_apply, B.kT, diagDs_eq B]
      · rw [setTile_ne _ (by omega), if_neg (by omega)]
  | succ m ih =>
    obtain ⟨ihk, ihv, ihq⟩ := ih (by omega)
    have hn : j < j + 1 + m := by omega
    have hn' : j + 1 + m < 16 := by omega
    have e : j + (m + 1) = j + 1 + m := by omega
    show (∀ a d, (step _ _ _).1.1 (ix2 a d) = _) ∧ (∀ a d, (step _ _ _).1.2 (ix2 a d) = _) ∧ (∀ n, n < 16 → ∀ d b, (step _ _ _).2 (ix4 0 (blkNo n) d b) = _)
    generalize steps (ops x2 x3 x4 x5 x6 x7 x8 x9 x10) (j + 1) m (diag x2 x3 x4 x5 x6 x7 x8 x9 x10 j dq) = S at ihk ihv ihq
    refine ⟨fun a d => ?_, fun a d => ?_, fun n hn16 d b => ?_⟩
    · rw [Finset.sum_range_succ, ← ihk, e]
      show k0_pay8 (F := Ideal) _ _ _ (ix2 a d) = _
      rw [pay8_apply]
      refine congrArg (fun y => (S.1.1 (ix2 a d) : EReal) + y) (Finset.sum_congr rfl fun b _ => ?_)
      rw [ds_eq B hj hn hn', rowsQ_apply]
      exact congrArg (fun y => _ * y) (B.q _ _)
    · rw [Finset.sum_range_succ, ← ihv, e]
      show k0_pay6 (F := Ideal) (k0_pay57 x4) _ (tile x3 (j + 1 + m)) (row x9 (j + 1 + m)) (rowsDo x7 (j + 1 + m)) (ix2 a d) = _
      rw [pay6_apply]
      refine congrArg (fun y => (S.1.2 (ix2 a d) : EReal) + y) (Finset.sum_congr rfl fun b _ => ?_)
      rw [p_eq B hj hn hn', rowsDo_apply, B.c]
    · show setTile S.2 (j + 1 + m) _ (ix4 0 (blkNo n) d b) = _
      by_cases h : n = j + 1 + m
      · subst h
        rw [setTile_same, pay9_apply, tile_apply, if_pos ⟨by omega, by omega⟩, ihq _ hn16, if_neg (by omega)]
        refine congrArg (fun y => (dq (ix4 0 (blkNo (j + 1 + m)) d b) : EReal) + y) (Finset.sum_congr rfl fun a _ => ?_)
        rw [ds_eq B hj hn hn']
        exact congrArg (fun y => y * _) ((pay58_apply _ _ _).trans (B.kT _ _))
      · rw [setTile_ne _ (by omega), ihq _ hn16]
        exact if_congr (by omega) rfl rfl

/-- The gradient at the step's keys. -/
theorem grid_dk (hj : j < 16) (dq : Vec Ideal S1x16x128x256 .f32) (a : Fin 256) (d : Fin 128) :
    (gridStep x2 x3 x4 x5 x6 x7 x8 x9 x10 j dq).1.1 (ix2 a d) = ∑ n ∈ Finset.range 16, H.dkBlock n (pos j a) d := by
  unfold gridStep
  rw [(steps_values B hj dq (15 - j) (by omega)).1 a d]
  exact sum_from (fun n => H.dkBlock n (pos j a) d) hj fun n hn =>
    Finset.sum_eq_zero fun b _ => by rw [H.ds_zero (pos_lt hn hj a b), zero_mul]

/-- The gradient at the step's values. -/
theorem grid_dv (hj : j < 16) (dq : Vec Ideal S1x16x128x256 .f32) (a : Fin 256) (d : Fin 128) :
    (gridStep x2 x3 x4 x5 x6 x7 x8 x9 x10 j dq).1.2 (ix2 a d) = ∑ n ∈ Finset.range 16, H.dvBlock n (pos j a) d := by
  unfold gridStep
  rw [(steps_values B hj dq (15 - j) (by omega)).2.1 a d]
  exact sum_from (fun n => H.dvBlock n (pos j a) d) hj fun n hn =>
    Finset.sum_eq_zero fun b _ => by rw [H.p_zero (pos_lt hn hj a b), zero_mul]

/-- What the step adds to the gradient at the queries. -/
theorem grid_dq (hj : j < 16) (dq : Vec Ideal S1x16x128x256 .f32) (n : ℕ) (hn : n < 16) (d : Fin 128) (b : Fin 256) :
    (gridStep x2 x3 x4 x5 x6 x7 x8 x9 x10 j dq).2 (ix4 0 (blkNo n) d b)
      = (dq (ix4 0 (blkNo n) d b) + H.dqBlock j (pos n b) d : EReal) := by
  unfold gridStep
  rw [(steps_values B hj dq (15 - j) (by omega)).2.2 n hn d b]
  by_cases h : j ≤ n
  · rw [if_pos ⟨h, by omega⟩]
  · rw [if_neg (by omega)]
    have : H.dqBlock j (pos n b) d = 0 :=
      Finset.sum_eq_zero fun a _ => by rw [H.ds_zero (pos_lt (not_le.mp h) hj a b), mul_zero]
    rw [this, add_zero]

end

end Cert.KernelIdeal.Flash

end
-- ==== Proof.Flash.Offsets.lean ====
module

public import proofs.«01_k».proof.Proof.Gen.KernelIdeal.Loops

/-!
# Where the attention gradient's loops read and write

The body of one grid step visits the query blocks after the key block `j = i 1`: three at a time, then a
pair, then one by itself. `first1`, `first3` and `first5` name the block that a trip of each loop begins
with. The loops that pick up what the unrolling leaves over never run.
-/

@[expose] public section

noncomputable section

namespace Cert.KernelIdeal.Flash

open Idealize.ShloMosaic Idealize.ShloMosaic.Tactic
open Cert.KernelIdeal Cert.KernelIdeal.Gen

/-- The block that trip `k` of the loop by threes begins with. -/
def first1 (i : grid0.Coords) (k : ℕ) : ℕ := (i 1).val + 1 + 3 * k
/-- The block that the loop by twos begins with. -/
def first3 (i : grid0.Coords) : ℕ := (i 1).val + 1 + 3 * ((15 - (i 1).val) / 3)
/-- The block that the loop by ones begins with. -/
def first5 (i : grid0.Coords) : ℕ := first3 i + 2 * ((15 - first3 i + 1) / 2)

theorem trips1 : ∀ i : grid0.Coords, (k0_t1_loop i).trips = (15 - (i 1).val) / 3 := by decide +kernel
theorem trips2 : ∀ i : grid0.Coords, (k0_t2_loop i).trips = 0 := by decide +kernel
theorem trips3 : ∀ i : grid0.Coords, (k0_t3_loop i).trips = (15 - (i 1).val) % 3 / 2 := by decide +kernel
theorem trips4 : ∀ i : grid0.Coords, (k0_t4_loop i).trips = 0 := by decide +kernel
theorem trips5 : ∀ i : grid0.Coords, (k0_t5_loop i).trips = (15 - (i 1).val) % 3 % 2 := by decide +kernel
theorem trips6 : ∀ i : grid0.Coords, (k0_t6_loop i).trips = 0 := by decide +kernel

theorem off5_eq : ∀ (i : grid0.Coords) (k : Fin (k0_t1_loop i).trips),
    k0_off5 i k = ![0, (i 1).val + 1 + 3 * k.val, 0, 0] := by decide +kernel
theorem off9_eq1 : ∀ (i : grid0.Coords) (k : Fin (k0_t1_loop i).trips),
    k0_off9 i k 1#32 = ![0, (i 1).val + 1 + 3 * k.val + 1, 0, 0] := by decide +kernel
theorem off9_eq2 : ∀ (i : grid0.Coords) (k : Fin (k0_t1_loop i).trips),
    k0_off9 i k 2#32 = ![0, (i 1).val + 1 + 3 * k.val + 2, 0, 0] := by decide +kernel
theorem off21_eq : ∀ i : grid0.Coords,
    k0_off21 i = ![0, (i 1).val + 1 + 3 * ((15 - (i 1).val) / 3), 0, 0] := by decide +kernel
theorem off25_eq : ∀ i : grid0.Coords,
    k0_off25 i = ![0, (i 1).val + 1 + 3 * ((15 - (i 1).val) / 3) + 1, 0, 0] := by decide +kernel
theorem off37_eq : ∀ (i : grid0.Coords) (k : Fin (k0_t5_loop i).trips),
    k0_off37 i k = ![0, 15, 0, 0] := by decide +kernel
theorem off6_eq : ∀ (i : grid0.Coords) (k : Fin (k0_t1_loop i).trips),
    k0_off6 i k = ![0, (i 1).val + 1 + 3 * k.val, 0, 0] := by decide +kernel
theorem off7_eq : ∀ (i : grid0.Coords) (k : Fin (k0_t1_loop i).trips),
    k0_off7 i k = ![256 * ((i 1).val + 1 + 3 * k.val), 0] := by decide +kernel
theorem off8_eq : ∀ (i : grid0.Coords) (k : Fin (k0_t1_loop i).trips),
    k0_off8 i k = ![0, 256 * ((i 1).val + 1 + 3 * k.val), 0] := by decide +kernel
theorem off10_eq1 : ∀ (i : grid0.Coords) (k : Fin (k0_t1_loop i).trips),
    k0_off10 i k 1#32 = ![0, (i 1).val + 1 + 3 * k.val + 1, 0, 0] := by decide +kernel
theorem off11_eq1 : ∀ (i : grid0.Coords) (k : Fin (k0_t1_loop i).trips),
    k0_off11 i k 1#32 = ![256 * ((i 1).val + 1 + 3 * k.val + 1), 0] := by decide +kernel
theorem off12_eq1 : ∀ (i : grid0.Coords) (k : Fin (k0_t1_loop i).trips),
    k0_off12 i k 1#32 = ![0, 256 * ((i 1).val + 1 + 3 * k.val + 1), 0] := by decide +kernel
theorem off10_eq2 : ∀ (i : grid0.Coords) (k : Fin (k0_t1_loop i).trips),
    k0_off10 i k 2#32 = ![0, (i 1).val + 1 + 3 * k.val + 2, 0, 0] := by decide +kernel
theorem off11_eq2 : ∀ (i : grid0.Coords) (k : Fin (k0_t1_loop i).trips),
    k0_off11 i k 2#32 = ![256 * ((i 1).val + 1 + 3 * k.val + 2), 0] := by decide +kernel
theorem off12_eq2 : ∀ (i : grid0.Coords) (k : Fin (k0_t1_loop i).trips),
    k0_off12 i k 2#32 = ![0, 256 * ((i 1).val + 1 + 3 * k.val + 2), 0] := by decide +kernel
theorem off22_eq : ∀ i : grid0.Coords,
    k0_off22 i = ![0, (i 1).val + 1 + 3 * ((15 - (i 1).val) / 3), 0, 0] := by decide +kernel
theorem off23_eq : ∀ i : grid0.Coords,
    k0_off23 i = ![256 * ((i 1).val + 1 + 3 * ((15 - (i 1).val) / 3)), 0] := by decide +kernel
theorem off24_eq : ∀ i : grid0.Coords,
    k0_off24 i = ![0, 256 * ((i 1).val + 1 + 3 * ((15 - (i 1).val) / 3)), 0] := by decide +kernel
theorem off26_eq : ∀ i : grid0.Coords,
    k0_off26 i = ![0, (i 1).val + 1 + 3 * ((15 - (i 1).val) / 3) + 1, 0, 0] := by decide +kernel
theorem off27_eq : ∀ i : grid0.Coords,
    k0_off27 i = ![256 * ((i 1).val + 1 + 3 * ((15 - (i 1).val) / 3) + 1), 0] := by decide +kernel
theorem off28_eq : ∀ i : grid0.Coords,
    k0_off28 i = ![0, 256 * ((i 1).val + 1 + 3 * ((15 - (i 1).val) / 3) + 1), 0] := by decide +kernel
theorem off38_eq : ∀ (i : grid0.Coords) (k : Fin (k0_t5_loop i).trips),
    k0_off38 i k = ![0, 15, 0, 0] := by decide +kernel
theorem off39_eq : ∀ (i : grid0.Coords) (k : Fin (k0_t5_loop i).trips),
    k0_off39 i k = ![256 * 15, 0] := by decide +kernel
theorem off40_eq : ∀ (i : grid0.Coords) (k : Fin (k0_t5_loop i).trips),
    k0_off40 i k = ![0, 256 * 15, 0] := by decide +kernel

end Cert.KernelIdeal.Flash
-- ==== Proof.Flash.Loops.lean ====
module

public import proofs.«01_k».proof.Proof.Flash.Offsets
public import proofs.«01_k».proof.Proof.Flash.Step
public import proofs.«01_k».proof.Proof.Gen.KernelIdeal.Frame

/-!
# The loops of the attention gradient's body

Each loop carries the sums for the gradients at the values and at the keys, and adds into the rows of the
query gradient's buffer. Before trip `k` the buffer holds what it held at the loop's entry with the pieces of
the trips before `k` written over it.
-/

@[expose] public section

set_option maxRecDepth 8192
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

instance (i : grid0.Coords) (k : Fin (k0_t1_loop i).trips) : ClosedOff (k0_off5 i k) := ⟨_, off5_eq i k⟩
instance (i : grid0.Coords) (k : Fin (k0_t1_loop i).trips) : ClosedOff (k0_off9 i k 1#32) := ⟨_, off9_eq1 i k⟩
instance (i : grid0.Coords) (k : Fin (k0_t1_loop i).trips) : ClosedOff (k0_off9 i k 2#32) := ⟨_, off9_eq2 i k⟩
instance (i : grid0.Coords) : ClosedOff (k0_off21 i) := ⟨_, off21_eq i⟩
instance (i : grid0.Coords) : ClosedOff (k0_off25 i) := ⟨_, off25_eq i⟩

variable {F : FTy → Type} [FloatOps F]

/-- What a loop carries and has written before trip `k`: each trip's yield `R` and its writes `L` are functions
of the carried sums and of what the buffer then holds. -/
def state (v : View sig .tc .vmem S1x16x128x256 .f32) {n : ℕ} (R : Fin n → Carry F → BufTy.Contents (Elt F) v.ty → Carry F)
    (L : Fin n → Carry F → BufTy.Contents (Elt F) v.ty → Pieces F) (G : BufTy.Contents (Elt F) v.ty)
    (init : Carry F) : ℕ → Carry F × Pieces F
  | 0 => (init, [])
  | k + 1 =>
    if h : k < n then
      (R ⟨k, h⟩ (state v R L G init k).1 (v.writes (Elt F) G (state v R L G init k).2),
        L ⟨k, h⟩ (state v R L G init k).1 (v.writes (Elt F) G (state v R L G init k).2) ++ (state v R L G init k).2)
    else state v R L G init k

theorem state_succ (v : View sig .tc .vmem S1x16x128x256 .f32) {n : ℕ}
    (R : Fin n → Carry F → BufTy.Contents (Elt F) v.ty → Carry F)
    (L : Fin n → Carry F → BufTy.Contents (Elt F) v.ty → Pieces F) (G : BufTy.Contents (Elt F) v.ty)
    (init : Carry F) (k : Fin n) :
    state v R L G init (k.val + 1) =
      (R k (state v R L G init k).1 (v.writes (Elt F) G (state v R L G init k).2),
        L k (state v R L G init k).1 (v.writes (Elt F) G (state v R L G init k).2) ++ (state v R L G init k).2) := by
  rw [state]; exact dif_pos k.isLt

variable (i : grid0.Coords)
variable (arg2 : Memref sig .tc .vmem S1x4096x128 .bf16) (harg2 : arg2.IsWhole)
  (arg3 : Memref sig .tc .vmem S1x16x128x256 .bf16) (harg3 : arg3.IsWhole)
  (arg4 : Memref sig .tc .vmem S1x256x128 .bf16) (harg4 : arg4.IsWhole)
  (arg5 : Memref sig .tc .vmem S1x1x128x256 .bf16) (harg5 : arg5.IsWhole)
  (arg6 : Memref sig .tc .vmem S1x256x128 .bf16) (harg6 : arg6.IsWhole)
  (arg7 : Memref sig .tc .vmem S4096x128 .bf16) (harg7 : arg7.IsWhole)
  (arg8 : Memref sig .tc .vmem S1x16x128x256 .bf16) (harg8 : arg8.IsWhole)
  (arg9 : Memref sig .tc .vmem S1x16x1x256 .f32) (harg9 : arg9.IsWhole)
  (arg10 : Memref sig .tc .vmem S1x16x1x256 .f32) (harg10 : arg10.IsWhole)
  (arg11 : Memref sig .tc .vmem S1x16x128x256 .f32) (harg11 : arg11.IsWhole)
  (arg12 : Memref sig .tc .vmem S1x256x128 .f32) (harg12 : arg12.IsWhole)
  (arg13 : Memref sig .tc .vmem S1x256x128 .f32) (harg13 : arg13.IsWhole)

/-- What a trip works on: the six operands that it reads, and the first result's buffer. -/
abbrev Held (c : Dev nD) (arg2 : Memref sig .tc .vmem S1x4096x128 .bf16) (arg3 : Memref sig .tc .vmem S1x16x128x256 .bf16)
    (arg7 : Memref sig .tc .vmem S4096x128 .bf16) (arg8 : Memref sig .tc .vmem S1x16x128x256 .bf16)
    (arg9 arg10 : Memref sig .tc .vmem S1x16x1x256 .f32) (arg11 : Memref sig .tc .vmem S1x16x128x256 .f32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X10 : BufTy.Contents (Elt F) arg10.view.ty) (f : BufTy.Contents (Elt F) arg11.view.ty) :
    sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f))

/-- One trip of loop 1 at a symbolic trip number: what it yields and what it writes, both found by the run as
functions of the carried sums and of what the first result's buffer holds. -/
@[irreducible] def trip1 (𝒱 : Variants) (c : Dev nD) (bd : Option 𝒱.V) (arg1 : BitVec 32) (v43 : FVec F S256x128 .bf16) (v45 : FVec F S128x256 .bf16)
    (v47 : FVec F S256x128 .bf16) (v69 v85 : FVec F S256x128 .f32) (v112 c0 : BitVec 32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X10 : BufTy.Contents (Elt F) arg10.view.ty) (k : Fin (k0_t1_loop i).trips) :
    Σ' R : Carry F → BufTy.Contents (Elt F) arg11.view.ty → Carry F,
    { L : Carry F → BufTy.Contents (Elt F) arg11.view.ty → Pieces F //
      ∀ (E : Set ℕ) (acc : Carry F) (f : BufTy.Contents (Elt F) arg11.view.ty),
        Held c arg2 arg3 arg7 arg8 arg9 arg10 arg11 X2 X3 X7 X8 X9 X10 f
        ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg1 v43 v45 v47 v69 v85 v112 c0 k acc)
          (fun y => iprop(⌜y = R acc f⌝ ∗ Held c arg2 arg3 arg7 arg8 arg9 arg10 arg11 X2 X3 X7 X8 X9 X10
            (arg11.view.writes (Elt F) f (L acc f)))) } := by
  refine ⟨?_, ?_, fun E acc f => ?run⟩
  case run =>
    unfold k0_t1_body
    iintro ⟨H2, H3, H7, H8, H9, H10, H11⟩
    sl_exec
    sl_step
    sl_close

/-- The carried sums and the pieces written before trip `k` of loop 1. -/
abbrev state1 (𝒱 : Variants) (c : Dev nD) (bd : Option 𝒱.V) (arg1 : BitVec 32) (v43 : FVec F S256x128 .bf16) (v45 : FVec F S128x256 .bf16)
    (v47 : FVec F S256x128 .bf16) (v69 v85 : FVec F S256x128 .f32) (v112 c0 : BitVec 32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X10 : BufTy.Contents (Elt F) arg10.view.ty) (G : BufTy.Contents (Elt F) arg11.view.ty) (init : Carry F) (k : ℕ) :
    Carry F × Pieces F :=
  state arg11.view (fun k => (trip1 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 X2 X3 X7 X8 X9 X10 k).1)
    (fun k => (trip1 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 X2 X3 X7 X8 X9 X10 k).2.1) G init k

set_option warn.classDefReducibility false in
/-- Loop 1 by its invariant. -/
@[sl_loop] def loopInv1 (𝒱 : Variants) (c : Dev nD) (bd : Option 𝒱.V) (E : Set ℕ) (arg1 : BitVec 32) (v43 : FVec F S256x128 .bf16) (v45 : FVec F S128x256 .bf16)
    (v47 : FVec F S256x128 .bf16) (v69 v85 : FVec F S256x128 .f32) (v112 c0 : BitVec 32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X10 : BufTy.Contents (Elt F) arg10.view.ty) (G : BufTy.Contents (Elt F) arg11.view.ty) (init : Carry F) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v43 v45 v47 v69 v85 v112 c0 init where
  inv k acc := iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗
    (∃ f, (arg11.view.loc (c : Thread nD τ) ↦[arg11.view.set]{fullShare} f) ∗
      ⌜f = arg11.view.writes (Elt F) G (state1 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 X2 X3 X7 X8 X9 X10 G init k).2⌝) ∗
    ⌜acc = (state1 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 X2 X3 X7 X8 X9 X10 G init k).1⌝)
  step k acc := by
    iintro ⟨H2, H3, H7, H8, H9, H10, ⟨%f, H11, %hf⟩, %ha⟩
    subst ha
    iapply (wp_wand_r Idealize.ShloMosaic.frame (wpE (defs₀ (F := F)) 𝒱 (c : Thread nD τ) bd) E)
    isplitl [H2 H3 H7 H8 H9 H10 H11]
    · iapply ((trip1 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 X2 X3 X7 X8 X9 X10 k).2.2 E
        (state1 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 X2 X3 X7 X8 X9 X10 G init k).1 f)
      isplitl [H2]; · iexact H2
      isplitl [H3]; · iexact H3
      isplitl [H7]; · iexact H7
      isplitl [H8]; · iexact H8
      isplitl [H9]; · iexact H9
      isplitl [H10]; · iexact H10
      iexact H11
    · iintro %y ⟨%hy, H2, H3, H7, H8, H9, H10, H11⟩
      isplitl [H2]; · iexact H2
      isplitl [H3]; · iexact H3
      isplitl [H7]; · iexact H7
      isplitl [H8]; · iexact H8
      isplitl [H9]; · iexact H9
      isplitl [H10]; · iexact H10
      simp only [state_succ]
      isplitl [H11]
      · iexists _; isplitl [H11]; · iexact H11
        ipureintro; rw [hf, ← View.writes_append]
      ipureintro; rw [hy, hf]

/-- One trip of loop 3 at a symbolic trip number: what it yields and what it writes, both found by the run as
functions of the carried sums and of what the first result's buffer holds. -/
@[irreducible] def trip3 (𝒱 : Variants) (c : Dev nD) (bd : Option 𝒱.V) (arg1 : BitVec 32) (v43 : FVec F S256x128 .bf16) (v45 : FVec F S128x256 .bf16)
    (v47 : FVec F S256x128 .bf16) (v69 v85 : FVec F S256x128 .f32) (v112 c0 : BitVec 32) (v122 : BitVec 32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X10 : BufTy.Contents (Elt F) arg10.view.ty) (k : Fin (k0_t3_loop i).trips) :
    Σ' R : Carry F → BufTy.Contents (Elt F) arg11.view.ty → Carry F,
    { L : Carry F → BufTy.Contents (Elt F) arg11.view.ty → Pieces F //
      ∀ (E : Set ℕ) (acc : Carry F) (f : BufTy.Contents (Elt F) arg11.view.ty),
        Held c arg2 arg3 arg7 arg8 arg9 arg10 arg11 X2 X3 X7 X8 X9 X10 f
        ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg1 v43 v45 v47 v69 v85 v112 c0 v122 k acc)
          (fun y => iprop(⌜y = R acc f⌝ ∗ Held c arg2 arg3 arg7 arg8 arg9 arg10 arg11 X2 X3 X7 X8 X9 X10
            (arg11.view.writes (Elt F) f (L acc f)))) } := by
  refine ⟨?_, ?_, fun E acc f => ?run⟩
  case run =>
    unfold k0_t3_body
    iintro ⟨H2, H3, H7, H8, H9, H10, H11⟩
    sl_exec
    sl_step
    sl_close

/-- The carried sums and the pieces written before trip `k` of loop 3. -/
abbrev state3 (𝒱 : Variants) (c : Dev nD) (bd : Option 𝒱.V) (arg1 : BitVec 32) (v43 : FVec F S256x128 .bf16) (v45 : FVec F S128x256 .bf16)
    (v47 : FVec F S256x128 .bf16) (v69 v85 : FVec F S256x128 .f32) (v112 c0 : BitVec 32) (v122 : BitVec 32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X10 : BufTy.Contents (Elt F) arg10.view.ty) (G : BufTy.Contents (Elt F) arg11.view.ty) (init : Carry F) (k : ℕ) :
    Carry F × Pieces F :=
  state arg11.view (fun k => (trip3 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 v122 X2 X3 X7 X8 X9 X10 k).1)
    (fun k => (trip3 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 v122 X2 X3 X7 X8 X9 X10 k).2.1) G init k

set_option warn.classDefReducibility false in
/-- Loop 3 by its invariant. -/
@[sl_loop] def loopInv3 (𝒱 : Variants) (c : Dev nD) (bd : Option 𝒱.V) (E : Set ℕ) (arg1 : BitVec 32) (v43 : FVec F S256x128 .bf16) (v45 : FVec F S128x256 .bf16)
    (v47 : FVec F S256x128 .bf16) (v69 v85 : FVec F S256x128 .f32) (v112 c0 : BitVec 32) (v122 : BitVec 32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X10 : BufTy.Contents (Elt F) arg10.view.ty) (G : BufTy.Contents (Elt F) arg11.view.ty) (init : Carry F) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v43 v45 v47 v69 v85 v112 c0 v122 init where
  inv k acc := iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗
    (∃ f, (arg11.view.loc (c : Thread nD τ) ↦[arg11.view.set]{fullShare} f) ∗
      ⌜f = arg11.view.writes (Elt F) G (state3 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 v122 X2 X3 X7 X8 X9 X10 G init k).2⌝) ∗
    ⌜acc = (state3 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 v122 X2 X3 X7 X8 X9 X10 G init k).1⌝)
  step k acc := by
    iintro ⟨H2, H3, H7, H8, H9, H10, ⟨%f, H11, %hf⟩, %ha⟩
    subst ha
    iapply (wp_wand_r Idealize.ShloMosaic.frame (wpE (defs₀ (F := F)) 𝒱 (c : Thread nD τ) bd) E)
    isplitl [H2 H3 H7 H8 H9 H10 H11]
    · iapply ((trip3 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 v122 X2 X3 X7 X8 X9 X10 k).2.2 E
        (state3 i arg2 harg2 arg3 harg3 arg4 harg4 arg5 harg5 arg6 harg6 arg7 harg7 arg8 harg8 arg9 harg9 arg10 harg10 arg11 harg11 arg12 harg12 arg13 harg13 𝒱 c bd arg1 v43 v45 v47 v69 v85 v112 c0 v122 X2 X3 X7 X8 X9 X10 G init k).1 f)
      isplitl [H2]; · iexact H2
      isplitl [H3]; · iexact H3
      isplitl [H7]; · iexact H7
      isplitl [H8]; · iexact H8
      isplitl [H9]; · iexact H9
      isplitl [H10]; · iexact H10
      iexact H11
    · iintro %y ⟨%hy, H2, H3, H7, H8, H9, H10, H11⟩
      isplitl [H2]; · iexact H2
      isplitl [H3]; · iexact H3
      isplitl [H7]; · iexact H7
      isplitl [H8]; · iexact H8
      isplitl [H9]; · iexact H9
      isplitl [H10]; · iexact H10
      simp only [state_succ]
      isplitl [H11]
      · iexists _; isplitl [H11]; · iexact H11
        ipureintro; rw [hf, ← View.writes_append]
      ipureintro; rw [hy, hf]

end Cert.KernelIdeal.Flash
-- ==== Proof.Flash.Trips.lean ====
module

public import proofs.«01_k».proof.Proof.Flash.Loops

/-!
# The trips of the loops, as steps on vectors

A trip of the loop by threes does three steps of `Flash/Step.lean`, a trip of the loop by twos does two, a trip
of the loop by ones does one: what a trip carries on, and what the buffer of the query gradient then reads.
-/

@[expose] public section

set_option maxRecDepth 16384
set_option maxHeartbeats 1000000

noncomputable section

namespace Cert.KernelIdeal.Flash

open Idealize.ShloMosaic Idealize.ShloMosaic.TcCoe
open Cert.KernelIdeal Cert.KernelIdeal.Gen

variable {F : FTy → Type} [FloatOps F]

/-- A loop whose every trip does `d` steps does `d * k` of them in `k` trips. -/
theorem state_steps (w : View sig .tc .vmem S1x16x128x256 .f32) {n : ℕ}
    (R : Fin n → Carry F → BufTy.Contents (Elt F) w.ty → Carry F)
    (L : Fin n → Carry F → BufTy.Contents (Elt F) w.ty → Pieces F) (G : BufTy.Contents (Elt F) w.ty)
    (init : Carry F) (o : Ops F) (a d : ℕ)
    (h : ∀ (k : Fin n) acc f, (R k acc f, w.read (Elt F) (w.writes (Elt F) f (L k acc f)))
      = steps o (a + d * k.val) d (acc, w.read (Elt F) f)) (k : ℕ) (hk : k ≤ n) :
    ((state w R L G init k).1, w.read (Elt F) (w.writes (Elt F) G (state w R L G init k).2))
      = steps o a (d * k) (init, w.read (Elt F) G) := by
  induction k with
  | zero => rfl
  | succ k ih =>
    rw [state_succ w R L G init ⟨k, hk⟩, Nat.mul_succ, steps_add, ← ih (Nat.le_of_lt hk), View.writes_append]
    exact h ⟨k, hk⟩ _ _

variable (i : grid0.Coords)
variable (arg2 : Memref sig .tc .vmem S1x4096x128 .bf16) (harg2 : arg2.IsWhole)
  (arg3 : Memref sig .tc .vmem S1x16x128x256 .bf16) (harg3 : arg3.IsWhole)
  (arg4 : Memref sig .tc .vmem S1x256x128 .bf16) (harg4 : arg4.IsWhole)
  (arg5 : Memref sig .tc .vmem S1x1x128x256 .bf16) (harg5 : arg5.IsWhole)
  (arg6 : Memref sig .tc .vmem S1x256x128 .bf16) (harg6 : arg6.IsWhole)
  (arg7 : Memref sig .tc .vmem S4096x128 .bf16) (harg7 : arg7.IsWhole)
  (arg8 : Memref sig .tc .vmem S1x16x128x256 .bf16) (harg8 : arg8.IsWhole)
  (arg9 : Memref sig .tc .vmem S1x16x1x256 .f32) (harg9 : arg9.IsWhole)
  (arg10 : Memref sig .tc .vmem S1x16x1x256 .f32) (harg10 : arg10.IsWhole)
  (arg11 : Memref sig .tc .vmem S1x16x128x256 .f32) (harg11 : arg11.IsWhole)
  (arg12 : Memref sig .tc .vmem S1x256x128 .f32) (harg12 : arg12.IsWhole)
  (arg13 : Memref sig .tc .vmem S1x256x128 .f32) (harg13 : arg13.IsWhole)

/-- The operands that the buffers hold. -/
abbrev opsOf (arg2 : Memref sig .tc .vmem S1x4096x128 .bf16) (arg3 : Memref sig .tc .vmem S1x16x128x256 .bf16)
    (arg7 : Memref sig .tc .vmem S4096x128 .bf16) (arg8 : Memref sig .tc .vmem S1x16x128x256 .bf16)
    (arg9 arg10 : Memref sig .tc .vmem S1x16x1x256 .f32)
    (k : FVec F S256x128 .bf16) (kT : FVec F S128x256 .bf16) (v : FVec F S256x128 .bf16)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty) : Ops F :=
  ⟨arg2.view.read (Elt F) X2, arg3.view.read (Elt F) X3, k, kT, v, arg7.view.read (Elt F) X7,
    arg8.view.read (Elt F) X8, arg9.view.read (Elt F) X9, arg10.view.read (Elt F) X10⟩

/-! A load at a block's offsets reads that block. -/

theorem load_tile {e : EltTy} (w : View sig .tc .vmem S1x16x128x256 e) (f : BufTy.Contents (Elt F) w.ty) (n : ℕ)
    {off : Fin 4 → ℕ} (inb) (h : off = ![0, n % 16, 0, 0]) :
    w.readAt (Elt F) (Rect.unit (s := S1x16x128x256) off S1x1x128x256.size inb).toLoadRect f = tile (w.read (Elt F) f) n :=
  View.readAt_unit w f inb h (inb_tile n)
theorem load_row {e : EltTy} (w : View sig .tc .vmem S1x16x1x256 e) (f : BufTy.Contents (Elt F) w.ty) (n : ℕ)
    {off : Fin 4 → ℕ} (inb) (h : off = ![0, n % 16, 0, 0]) :
    w.readAt (Elt F) (Rect.unit (s := S1x16x1x256) off S1x1x1x256.size inb).toLoadRect f = row (w.read (Elt F) f) n :=
  View.readAt_unit w f inb h (inb_row n)
theorem load_do {e : EltTy} (w : View sig .tc .vmem S4096x128 e) (f : BufTy.Contents (Elt F) w.ty) (n : ℕ)
    {off : Fin 2 → ℕ} (inb) (h : off = ![256 * (n % 16), 0]) :
    w.readAt (Elt F) (Rect.unit (s := S4096x128) off S256x128.size inb).toLoadRect f = rowsDo (w.read (Elt F) f) n :=
  View.readAt_unit w f inb h (inb_do n)
theorem load_q {e : EltTy} (w : View sig .tc .vmem S1x4096x128 e) (f : BufTy.Contents (Elt F) w.ty) (n : ℕ)
    {off : Fin 3 → ℕ} (inb) (h : off = ![0, 256 * (n % 16), 0]) :
    w.readAt (Elt F) (Rect.unit (s := S1x4096x128) off S1x256x128.size inb).toLoadRect f = rowsQ (w.read (Elt F) f) n :=
  View.readAt_unit w f inb h (inb_q n)
/-- A store at a block's offsets replaces that block. -/
theorem store_tile (w : View sig .tc .vmem S1x16x128x256 .f32) (f : BufTy.Contents (Elt F) w.ty) (n : ℕ)
    {off : Fin 4 → ℕ} (inb) (h : off = ![0, n % 16, 0, 0]) (x : Vec F S1x1x128x256 .f32) (L : Pieces F) :
    w.read (Elt F) (w.writes (Elt F) f (⟨Rect.unit (s := S1x16x128x256) off S1x1x128x256.size inb, x⟩ :: L))
      = setTile (w.read (Elt F) (w.writes (Elt F) f L)) n x :=
  View.read_writes_cons_put w f inb x L h

/-- A trip of the loop by threes does three steps. -/
theorem trip1_steps (𝒱 : Variants) (c : Dev nD) (bd : Option 𝒱.V) (arg1 : BitVec 32) (k : FVec F S256x128 .bf16)
    (kT : FVec F S128x256 .bf16) (v : FVec F S256x128 .bf16) (v69 v85 : FVec F S256x128 .f32) (v112 c0 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (t : Fin (k0_t1_loop i).trips) (acc : Carry F) (f : BufTy.Contents (Elt F) arg11.view.ty) :
    ((trip1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 t).1 acc f,
      arg11.view.read (Elt F) (arg11.view.writes (Elt F) f ((trip1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 t).2.1 acc f)))
    = steps (opsOf arg2 arg3 arg7 arg8 arg9 arg10 k kT v X2 X3 X7 X8 X9 X10) ((i 1).val + 1 + 3 * t.val) 3 (acc, arg11.view.read (Elt F) f) := by
  have ht := lt_of_lt_of_eq t.isLt (trips1 i)
  have hi : (i 1).val < 16 := (i 1).isLt
  unfold trip1
  dsimp only
  delta trip1.sl.r_9 trip1.sl.r_8 trip1.sl.r_7 trip1.sl.r_6 trip1.sl.r_5 trip1.sl.r_4 trip1.sl.r_3 trip1.sl.r_2 trip1.sl.r_1 trip1.sl.r trip1.sl.v250 trip1.sl.v293
  dsimp only
  rw [load_tile arg3.view X3 ((i 1).val + 1 + 3 * t.val) _ (by rw [off5_eq i t, Nat.mod_eq_of_lt (by omega)] : k0_off5 i t = _)]
  rw [load_row arg9.view X9 ((i 1).val + 1 + 3 * t.val) _ (by rw [off6_eq i t, Nat.mod_eq_of_lt (by omega)] : k0_off6 i t = _)]
  rw [load_do arg7.view X7 ((i 1).val + 1 + 3 * t.val) _ (by rw [off7_eq i t, Nat.mod_eq_of_lt (by omega)] : k0_off7 i t = _)]
  rw [load_tile arg8.view X8 ((i 1).val + 1 + 3 * t.val) _ (by rw [off5_eq i t, Nat.mod_eq_of_lt (by omega)] : k0_off5 i t = _)]
  rw [load_row arg10.view X10 ((i 1).val + 1 + 3 * t.val) _ (by rw [off6_eq i t, Nat.mod_eq_of_lt (by omega)] : k0_off6 i t = _)]
  rw [load_q arg2.view X2 ((i 1).val + 1 + 3 * t.val) _ (by rw [off8_eq i t, Nat.mod_eq_of_lt (by omega)] : k0_off8 i t = _)]
  rw [load_tile arg3.view X3 ((i 1).val + 1 + 3 * t.val + 1) _ (by rw [off9_eq1 i t, Nat.mod_eq_of_lt (by omega)] : k0_off9 i t 1#32 = _)]
  rw [load_row arg9.view X9 ((i 1).val + 1 + 3 * t.val + 1) _ (by rw [off10_eq1 i t, Nat.mod_eq_of_lt (by omega)] : k0_off10 i t 1#32 = _)]
  rw [load_do arg7.view X7 ((i 1).val + 1 + 3 * t.val + 1) _ (by rw [off11_eq1 i t, Nat.mod_eq_of_lt (by omega)] : k0_off11 i t 1#32 = _)]
  rw [load_tile arg8.view X8 ((i 1).val + 1 + 3 * t.val + 1) _ (by rw [off9_eq1 i t, Nat.mod_eq_of_lt (by omega)] : k0_off9 i t 1#32 = _)]
  rw [load_row arg10.view X10 ((i 1).val + 1 + 3 * t.val + 1) _ (by rw [off10_eq1 i t, Nat.mod_eq_of_lt (by omega)] : k0_off10 i t 1#32 = _)]
  rw [load_q arg2.view X2 ((i 1).val + 1 + 3 * t.val + 1) _ (by rw [off12_eq1 i t, Nat.mod_eq_of_lt (by omega)] : k0_off12 i t 1#32 = _)]
  rw [load_tile arg3.view X3 ((i 1).val + 1 + 3 * t.val + 2) _ (by rw [off9_eq2 i t, Nat.mod_eq_of_lt (by omega)] : k0_off9 i t 2#32 = _)]
  rw [load_row arg9.view X9 ((i 1).val + 1 + 3 * t.val + 2) _ (by rw [off10_eq2 i t, Nat.mod_eq_of_lt (by omega)] : k0_off10 i t 2#32 = _)]
  rw [load_do arg7.view X7 ((i 1).val + 1 + 3 * t.val + 2) _ (by rw [off11_eq2 i t, Nat.mod_eq_of_lt (by omega)] : k0_off11 i t 2#32 = _)]
  rw [load_tile arg8.view X8 ((i 1).val + 1 + 3 * t.val + 2) _ (by rw [off9_eq2 i t, Nat.mod_eq_of_lt (by omega)] : k0_off9 i t 2#32 = _)]
  rw [load_row arg10.view X10 ((i 1).val + 1 + 3 * t.val + 2) _ (by rw [off10_eq2 i t, Nat.mod_eq_of_lt (by omega)] : k0_off10 i t 2#32 = _)]
  rw [load_q arg2.view X2 ((i 1).val + 1 + 3 * t.val + 2) _ (by rw [off12_eq2 i t, Nat.mod_eq_of_lt (by omega)] : k0_off12 i t 2#32 = _)]
  rw [load_tile arg11.view f ((i 1).val + 1 + 3 * t.val) _ (by rw [off5_eq i t, Nat.mod_eq_of_lt (by omega)] : k0_off5 i t = _)]
  rw [load_tile arg11.view f ((i 1).val + 1 + 3 * t.val + 1) _ (by rw [off9_eq1 i t, Nat.mod_eq_of_lt (by omega)] : k0_off9 i t 1#32 = _)]
  rw [load_tile arg11.view f ((i 1).val + 1 + 3 * t.val + 2) _ (by rw [off9_eq2 i t, Nat.mod_eq_of_lt (by omega)] : k0_off9 i t 2#32 = _)]
  rw [store_tile arg11.view _ ((i 1).val + 1 + 3 * t.val + 2) _ (by rw [off9_eq2 i t, Nat.mod_eq_of_lt (by omega)] : k0_off9 i t 2#32 = _), store_tile arg11.view _ ((i 1).val + 1 + 3 * t.val + 1) _ (by rw [off9_eq1 i t, Nat.mod_eq_of_lt (by omega)] : k0_off9 i t 1#32 = _), store_tile arg11.view _ ((i 1).val + 1 + 3 * t.val) _ (by rw [off5_eq i t, Nat.mod_eq_of_lt (by omega)] : k0_off5 i t = _)]
  simp only [pay68_eq, pay14_eq, pay17_eq, pay11_eq, pay69_eq, pay15_eq, View.writes_nil, steps, step, dsAt, Nat.add_zero]
  rw [tile_setTile_of_ne _ (n := (i 1).val + 1 + 3 * t.val + 1) (n' := (i 1).val + 1 + 3 * t.val + 2) (by omega),
    tile_setTile_of_ne _ (n := (i 1).val + 1 + 3 * t.val) (n' := (i 1).val + 1 + 3 * t.val + 2) (by omega),
    tile_setTile_of_ne _ (n := (i 1).val + 1 + 3 * t.val) (n' := (i 1).val + 1 + 3 * t.val + 1) (by omega)]

/-- A trip of the loop by twos does two steps. -/
theorem trip3_steps (𝒱 : Variants) (c : Dev nD) (bd : Option 𝒱.V) (arg1 : BitVec 32) (k : FVec F S256x128 .bf16)
    (kT : FVec F S128x256 .bf16) (v : FVec F S256x128 .bf16) (v69 v85 : FVec F S256x128 .f32) (v112 c0 v122 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (t : Fin (k0_t3_loop i).trips) (acc : Carry F) (f : BufTy.Contents (Elt F) arg11.view.ty) :
    ((trip3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 t).1 acc f,
      arg11.view.read (Elt F) (arg11.view.writes (Elt F) f ((trip3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 t).2.1 acc f)))
    = steps (opsOf arg2 arg3 arg7 arg8 arg9 arg10 k kT v X2 X3 X7 X8 X9 X10) ((i 1).val + 1 + 3 * ((15 - (i 1).val) / 3)) 2 (acc, arg11.view.read (Elt F) f) := by
  have ht := lt_of_lt_of_eq t.isLt (trips3 i)
  have hi : (i 1).val < 16 := (i 1).isLt
  unfold trip3
  dsimp only
  delta trip3.sl.r_4 trip3.sl.r_3 trip3.sl.r_2 trip3.sl.r_1 trip3.sl.r trip3.sl.v246
  dsimp only
  rw [load_tile arg3.view X3 ((i 1).val + 1 + 3 * ((15 - (i 1).val) / 3)) _ (by rw [off21_eq i, Nat.mod_eq_of_lt (by omega)] : k0_off21 i = _)]
  rw [load_row arg9.view X9 ((i 1).val + 1 + 3 * ((15 - (i 1).val) / 3)) _ (by rw [off22_eq i, Nat.mod_eq_of_lt (by omega)] : k0_off22 i = _)]
  rw [load_do arg7.view X7 ((i 1).val + 1 + 3 * ((15 - (i 1).val) / 3)) _ (by rw [off23_eq i, Nat.mod_eq_of_lt (by omega)] : k0_off23 i = _)]
  rw [load_tile arg8.view X8 ((i 1).val + 1 + 3 * ((15 - (i 1).val) / 3)) _ (by rw [off21_eq i, Nat.mod_eq_of_lt (by omega)] : k0_off21 i = _)]
  rw [load_row arg10.view X10 ((i 1).val + 1 + 3 * ((15 - (i 1).val) / 3)) _ (by rw [off22_eq i, Nat.mod_eq_of_lt (by omega)] : k0_off22 i = _)]
  rw [load_q arg2.view X2 ((i 1).val + 1 + 3 * ((15 - (i 1).val) / 3)) _ (by rw [off24_eq i, Nat.mod_eq_of_lt (by omega)] : k0_off24 i = _)]
  rw [load_tile arg3.view X3 ((i 1).val + 1 + 3 * ((15 - (i 1).val) / 3) + 1) _ (by rw [off25_eq i, Nat.mod_eq_of_lt (by omega)] : k0_off25 i = _)]
  rw [load_row arg9.view X9 ((i 1).val + 1 + 3 * ((15 - (i 1).val) / 3) + 1) _ (by rw [off26_eq i, Nat.mod_eq_of_lt (by omega)] : k0_off26 i = _)]
  rw [load_do arg7.view X7 ((i 1).val + 1 + 3 * ((15 - (i 1).val) / 3) + 1) _ (by rw [off27_eq i, Nat.mod_eq_of_lt (by omega)] : k0_off27 i = _)]
  rw [load_tile arg8.view X8 ((i 1).val + 1 + 3 * ((15 - (i 1).val) / 3) + 1) _ (by rw [off25_eq i, Nat.mod_eq_of_lt (by omega)] : k0_off25 i = _)]
  rw [load_row arg10.view X10 ((i 1).val + 1 + 3 * ((15 - (i 1).val) / 3) + 1) _ (by rw [off26_eq i, Nat.mod_eq_of_lt (by omega)] : k0_off26 i = _)]
  rw [load_q arg2.view X2 ((i 1).val + 1 + 3 * ((15 - (i 1).val) / 3) + 1) _ (by rw [off28_eq i, Nat.mod_eq_of_lt (by omega)] : k0_off28 i = _)]
  rw [load_tile arg11.view f ((i 1).val + 1 + 3 * ((15 - (i 1).val) / 3)) _ (by rw [off21_eq i, Nat.mod_eq_of_lt (by omega)] : k0_off21 i = _)]
  rw [load_tile arg11.view f ((i 1).val + 1 + 3 * ((15 - (i 1).val) / 3) + 1) _ (by rw [off25_eq i, Nat.mod_eq_of_lt (by omega)] : k0_off25 i = _)]
  rw [store_tile arg11.view _ ((i 1).val + 1 + 3 * ((15 - (i 1).val) / 3) + 1) _ (by rw [off25_eq i, Nat.mod_eq_of_lt (by omega)] : k0_off25 i = _), store_tile arg11.view _ ((i 1).val + 1 + 3 * ((15 - (i 1).val) / 3)) _ (by rw [off21_eq i, Nat.mod_eq_of_lt (by omega)] : k0_off21 i = _)]
  simp only [pay73_eq, pay34_eq, pay37_eq, pay32_eq, pay38_eq, pay33_eq, pay74_eq, pay35_eq, View.writes_nil, steps, step, dsAt, Nat.add_zero]
  rw [tile_setTile_of_ne _ (n := (i 1).val + 1 + 3 * ((15 - (i 1).val) / 3)) (n' := (i 1).val + 1 + 3 * ((15 - (i 1).val) / 3) + 1) (by omega)]

/-- A trip of the loop by ones does one step, of the last block. -/
theorem trip5_steps (𝒱 : Variants) (c : Dev nD) (bd : Option 𝒱.V) (k : FVec F S256x128 .bf16)
    (kT : FVec F S128x256 .bf16) (v : FVec F S256x128 .bf16) (v149 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (t : Fin (k0_t5_loop i).trips) (acc : Carry F) (f : BufTy.Contents (Elt F) arg11.view.ty) :
    ((trip_k0_t5 𝒱 c bd i arg2 harg2 arg3 harg3 arg4 harg4 arg5 harg5 arg6 harg6 arg7 harg7 arg8 harg8 arg9 harg9 arg10 harg10 arg11 harg11 arg12 harg12 arg13 harg13 k kT v v149 X2 X3 X7 X8 X9 X10 t).1 acc f,
      arg11.view.read (Elt F) (arg11.view.writes (Elt F) f ((trip_k0_t5 𝒱 c bd i arg2 harg2 arg3 harg3 arg4 harg4 arg5 harg5 arg6 harg6 arg7 harg7 arg8 harg8 arg9 harg9 arg10 harg10 arg11 harg11 arg12 harg12 arg13 harg13 k kT v v149 X2 X3 X7 X8 X9 X10 t).2.1 acc f)))
    = steps (opsOf arg2 arg3 arg7 arg8 arg9 arg10 k kT v X2 X3 X7 X8 X9 X10) 15 1 (acc, arg11.view.read (Elt F) f) := by
  have ht := lt_of_lt_of_eq t.isLt (trips5 i)
  have hi : (i 1).val < 16 := (i 1).isLt
  unfold trip_k0_t5
  dsimp only
  delta trip_k0_t5.sl.r_3 trip_k0_t5.sl.r_2 trip_k0_t5.sl.r_1 trip_k0_t5.sl.r
  dsimp only
  rw [load_tile arg3.view X3 (15) _ (off37_eq i t)]
  rw [load_row arg9.view X9 (15) _ (off38_eq i t)]
  rw [load_do arg7.view X7 (15) _ (off39_eq i t)]
  rw [load_tile arg8.view X8 (15) _ (off37_eq i t)]
  rw [load_row arg10.view X10 (15) _ (off38_eq i t)]
  rw [load_q arg2.view X2 (15) _ (off40_eq i t)]
  rw [load_tile arg11.view f (15) _ (off37_eq i t)]
  rw [store_tile arg11.view _ 15 _ (off37_eq i t)]
  simp only [pay50_eq, pay48_eq, pay49_eq, pay1_eq, View.writes_nil, steps, step, dsAt, Nat.add_zero]

end Cert.KernelIdeal.Flash
-- ==== Proof.Flash.Walk.lean ====
module

public import proofs.«01_k».proof.Proof.Flash.Trips

/-!
# The loops of one grid step, one after the other

The loops by threes, twos and ones walk together over the blocks of queries after the masked one.
-/

@[expose] public section

set_option maxRecDepth 16384
set_option maxHeartbeats 1000000

noncomputable section

namespace Cert.KernelIdeal.Flash

open Idealize.ShloMosaic Idealize.ShloMosaic.TcCoe
open Cert.KernelIdeal Cert.KernelIdeal.Gen

variable {F : FTy → Type} [FloatOps F]

variable (i : grid0.Coords)
variable (arg2 : Memref sig .tc .vmem S1x4096x128 .bf16) (harg2 : arg2.IsWhole)
  (arg3 : Memref sig .tc .vmem S1x16x128x256 .bf16) (harg3 : arg3.IsWhole)
  (arg4 : Memref sig .tc .vmem S1x256x128 .bf16) (harg4 : arg4.IsWhole)
  (arg5 : Memref sig .tc .vmem S1x1x128x256 .bf16) (harg5 : arg5.IsWhole)
  (arg6 : Memref sig .tc .vmem S1x256x128 .bf16) (harg6 : arg6.IsWhole)
  (arg7 : Memref sig .tc .vmem S4096x128 .bf16) (harg7 : arg7.IsWhole)
  (arg8 : Memref sig .tc .vmem S1x16x128x256 .bf16) (harg8 : arg8.IsWhole)
  (arg9 : Memref sig .tc .vmem S1x16x1x256 .f32) (harg9 : arg9.IsWhole)
  (arg10 : Memref sig .tc .vmem S1x16x1x256 .f32) (harg10 : arg10.IsWhole)
  (arg11 : Memref sig .tc .vmem S1x16x128x256 .f32) (harg11 : arg11.IsWhole)
  (arg12 : Memref sig .tc .vmem S1x256x128 .f32) (harg12 : arg12.IsWhole)
  (arg13 : Memref sig .tc .vmem S1x256x128 .f32) (harg13 : arg13.IsWhole)

/-- The blocks after `j`, by threes, by twos and by ones. -/
theorem steps_split (o : Ops F) (j : ℕ) (hj : j < 16) (s : Sums F) :
    steps o 15 ((15 - j) % 3 % 2) (steps o (j + 1 + 3 * ((15 - j) / 3)) (2 * ((15 - j) % 3 / 2))
      (steps o (j + 1) (3 * ((15 - j) / 3)) s)) = steps o (j + 1) (15 - j) s := by
  rw [← steps_add]
  generalize ha : (15 - j) / 3 = a
  generalize hb : (15 - j) % 3 / 2 = b
  generalize hd : (15 - j) % 3 % 2 = d
  generalize he : 3 * a + 2 * b = e
  have hd2 : d < 2 := by omega
  have hn : 15 - j = e + d := by omega
  rw [hn, steps_add]
  match d, hd2 with
  | 0, _ => rfl
  | 1, _ => rw [show j + 1 + e = 15 by omega]

/-- What the loops carry out of a grid step, and the pieces that they and the masked block (`L`) have written. -/
def walk (𝒱 : Variants) (c : Dev nD) (bd : Option 𝒱.V) (arg1 : BitVec 32) (k : FVec F S256x128 .bf16)
    (kT : FVec F S128x256 .bf16) (v : FVec F S256x128 .bf16) (v69 v85 : FVec F S256x128 .f32)
    (v112 c0 v122 v149 v154 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : BufTy.Contents (Elt F) arg11.view.ty) (L : Pieces F) (init : Carry F) : Carry F × Pieces F :=
  let s1 := state1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 (arg11.view.writes (Elt F) G L) init (k0_t1_loop i).trips
  let s3 := state3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 (arg11.view.writes (Elt F) G (s1.2 ++ L)) s1.1 (k0_t3_loop i).trips
  let s5 := st_k0_t5 𝒱 c bd i arg2 harg2 arg3 harg3 arg4 harg4 arg5 harg5 arg6 harg6 arg7 harg7 arg8 harg8 arg9 harg9 arg10 harg10 arg11 harg11 arg12 harg12 arg13 harg13 k kT v v149 X2 X3 X7 X8 X9 X10 (arg11.view.writes (Elt F) G (s3.2 ++ (s1.2 ++ L))) s3.1 (k0_t5_loop i).trips
  let s6 := st_k0_t6 𝒱 c bd i arg2 harg2 arg3 harg3 arg4 harg4 arg5 harg5 arg6 harg6 arg7 harg7 arg8 harg8 arg9 harg9 arg10 harg10 arg11 harg11 arg12 harg12 arg13 harg13 k kT v v154 X2 X3 X7 X8 X9 X10 (arg11.view.writes (Elt F) G (s5.2 ++ (s3.2 ++ (s1.2 ++ L)))) s5.1 (k0_t6_loop i).trips
  (s6.1, s6.2 ++ (s5.2 ++ (s3.2 ++ (s1.2 ++ L))))

/-- The loop by ones does as many steps as it has trips, from the last block on. -/
theorem ones_steps (𝒱 : Variants) (c : Dev nD) (bd : Option 𝒱.V) (arg1 : BitVec 32) (k : FVec F S256x128 .bf16)
    (kT : FVec F S128x256 .bf16) (v : FVec F S256x128 .bf16) (v69 v85 : FVec F S256x128 .f32)
    (v112 c0 v122 v149 v154 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : BufTy.Contents (Elt F) arg11.view.ty) (init : Carry F) (n : ℕ) (hn : n ≤ (k0_t5_loop i).trips) :
    ((st_k0_t5 𝒱 c bd i arg2 harg2 arg3 harg3 arg4 harg4 arg5 harg5 arg6 harg6 arg7 harg7 arg8 harg8 arg9 harg9 arg10 harg10 arg11 harg11 arg12 harg12 arg13 harg13 k kT v v149 X2 X3 X7 X8 X9 X10 G init n).1, arg11.view.read (Elt F) (arg11.view.writes (Elt F) G (st_k0_t5 𝒱 c bd i arg2 harg2 arg3 harg3 arg4 harg4 arg5 harg5 arg6 harg6 arg7 harg7 arg8 harg8 arg9 harg9 arg10 harg10 arg11 harg11 arg12 harg12 arg13 harg13 k kT v v149 X2 X3 X7 X8 X9 X10 G init n).2))
      = steps (opsOf arg2 arg3 arg7 arg8 arg9 arg10 k kT v X2 X3 X7 X8 X9 X10) 15 n (init, arg11.view.read (Elt F) G) := by
  have h5 := trips5 i
  induction n with
  | zero => rfl
  | succ n ih =>
    have h0 : n = 0 := by omega
    rw [st_k0_t5_succ (F := F) 𝒱 c bd i arg2 harg2 arg3 harg3 arg4 harg4 arg5 harg5 arg6 harg6 arg7 harg7 arg8 harg8 arg9 harg9 arg10 harg10 arg11 harg11 arg12 harg12 arg13 harg13 k kT v v149 X2 X3 X7 X8 X9 X10 G init ⟨n, hn⟩, View.writes_append]
    refine (trip5_steps i arg2 harg2 arg3 harg3 arg4 harg4 arg5 harg5 arg6 harg6 arg7 harg7 arg8 harg8 arg9 harg9 arg10 harg10 arg11 harg11 arg12 harg12 arg13 harg13 𝒱 c bd k kT v v149 X2 X3 X7 X8 X9 X10 ⟨n, hn⟩ _ _).trans ?_
    rw [ih (Nat.le_of_lt hn)]
    subst h0
    rfl

/-- The loop by threes does three steps a trip. -/
theorem threes_steps (𝒱 : Variants) (c : Dev nD) (bd : Option 𝒱.V) (arg1 : BitVec 32) (k : FVec F S256x128 .bf16)
    (kT : FVec F S128x256 .bf16) (v : FVec F S256x128 .bf16) (v69 v85 : FVec F S256x128 .f32)
    (v112 c0 v122 v149 v154 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : BufTy.Contents (Elt F) arg11.view.ty) (init : Carry F) :
    ((state1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 G init (k0_t1_loop i).trips).1, arg11.view.read (Elt F) (arg11.view.writes (Elt F) G (state1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 G init (k0_t1_loop i).trips).2))
      = steps (opsOf arg2 arg3 arg7 arg8 arg9 arg10 k kT v X2 X3 X7 X8 X9 X10) ((i 1).val + 1) (3 * (k0_t1_loop i).trips) (init, arg11.view.read (Elt F) G) :=
  state_steps arg11.view (fun t => (trip1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 t).1) (fun t => (trip1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 t).2.1)
    G init (opsOf arg2 arg3 arg7 arg8 arg9 arg10 k kT v X2 X3 X7 X8 X9 X10) ((i 1).val + 1) 3
    (fun t acc f => trip1_steps i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 t acc f) _ (Nat.le_refl _)

/-- The loop by twos does two steps a trip, from where the loop by threes stops. -/
theorem twos_steps (𝒱 : Variants) (c : Dev nD) (bd : Option 𝒱.V) (arg1 : BitVec 32) (k : FVec F S256x128 .bf16)
    (kT : FVec F S128x256 .bf16) (v : FVec F S256x128 .bf16) (v69 v85 : FVec F S256x128 .f32)
    (v112 c0 v122 v149 v154 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : BufTy.Contents (Elt F) arg11.view.ty) (init : Carry F) :
    ((state3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 G init (k0_t3_loop i).trips).1, arg11.view.read (Elt F) (arg11.view.writes (Elt F) G (state3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 G init (k0_t3_loop i).trips).2))
      = steps (opsOf arg2 arg3 arg7 arg8 arg9 arg10 k kT v X2 X3 X7 X8 X9 X10) ((i 1).val + 1 + 3 * ((15 - (i 1).val) / 3)) (2 * (k0_t3_loop i).trips) (init, arg11.view.read (Elt F) G) :=
  state_steps arg11.view (fun t => (trip3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 t).1) (fun t => (trip3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 t).2.1)
    G init (opsOf arg2 arg3 arg7 arg8 arg9 arg10 k kT v X2 X3 X7 X8 X9 X10) ((i 1).val + 1 + 3 * ((15 - (i 1).val) / 3)) 2
    (fun t acc f => by
      have h0 : t.val = 0 := by have := lt_of_lt_of_eq t.isLt (trips3 i); omega
      rw [h0]
      exact trip3_steps i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 t acc f) _ (Nat.le_refl _)

/-- The loops take a grid step's sums through all blocks of queries after the masked one. -/
theorem walk_steps (𝒱 : Variants) (c : Dev nD) (bd : Option 𝒱.V) (arg1 : BitVec 32) (k : FVec F S256x128 .bf16)
    (kT : FVec F S128x256 .bf16) (v : FVec F S256x128 .bf16) (v69 v85 : FVec F S256x128 .f32)
    (v112 c0 v122 v149 v154 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : BufTy.Contents (Elt F) arg11.view.ty) (L : Pieces F) (init : Carry F) :
    ((walk i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 v149 v154 X2 X3 X7 X8 X9 X10 G L init).1,
      arg11.view.read (Elt F) (arg11.view.writes (Elt F) G (walk i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 v149 v154 X2 X3 X7 X8 X9 X10 G L init).2))
    = steps (opsOf arg2 arg3 arg7 arg8 arg9 arg10 k kT v X2 X3 X7 X8 X9 X10) ((i 1).val + 1) (15 - (i 1).val) (init, arg11.view.read (Elt F) (arg11.view.writes (Elt F) G L)) := by
  have hi : (i 1).val < 16 := (i 1).isLt
  unfold walk
  dsimp only
  have h1 := threes_steps i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 v149 v154 X2 X3 X7 X8 X9 X10 (arg11.view.writes (Elt F) G L) init
  rw [← View.writes_append] at h1
  generalize state1 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 X2 X3 X7 X8 X9 X10 (arg11.view.writes (Elt F) G L) init (k0_t1_loop i).trips = s1 at h1 ⊢
  have h3 := twos_steps i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 v149 v154 X2 X3 X7 X8 X9 X10 (arg11.view.writes (Elt F) G (s1.2 ++ L)) s1.1
  rw [← View.writes_append] at h3
  generalize state3 i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 X2 X3 X7 X8 X9 X10 (arg11.view.writes (Elt F) G (s1.2 ++ L)) s1.1 (k0_t3_loop i).trips = s3 at h3 ⊢
  have h5 := ones_steps i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 v149 v154 X2 X3 X7 X8 X9 X10 (arg11.view.writes (Elt F) G (s3.2 ++ (s1.2 ++ L))) s3.1 _ (Nat.le_refl _)
  rw [← View.writes_append] at h5
  generalize hs5 : st_k0_t5 𝒱 c bd i arg2 harg2 arg3 harg3 arg4 harg4 arg5 harg5 arg6 harg6 arg7 harg7 arg8 harg8 arg9 harg9 arg10 harg10 arg11 harg11 arg12 harg12 arg13 harg13 k kT v v149 X2 X3 X7 X8 X9 X10 (arg11.view.writes (Elt F) G (s3.2 ++ (s1.2 ++ L))) s3.1 (k0_t5_loop i).trips = s5 at h5 ⊢
  have h6 : st_k0_t6 𝒱 c bd i arg2 harg2 arg3 harg3 arg4 harg4 arg5 harg5 arg6 harg6 arg7 harg7 arg8 harg8 arg9 harg9 arg10 harg10 arg11 harg11 arg12 harg12 arg13 harg13 k kT v v154 X2 X3 X7 X8 X9 X10 (arg11.view.writes (Elt F) G (s5.2 ++ (s3.2 ++ (s1.2 ++ L)))) s5.1 (k0_t6_loop i).trips = (s5.1, []) := by
    have : ∀ n, n = 0 → st_k0_t6 𝒱 c bd i arg2 harg2 arg3 harg3 arg4 harg4 arg5 harg5 arg6 harg6 arg7 harg7 arg8 harg8 arg9 harg9 arg10 harg10 arg11 harg11 arg12 harg12 arg13 harg13 k kT v v154 X2 X3 X7 X8 X9 X10 (arg11.view.writes (Elt F) G (s5.2 ++ (s3.2 ++ (s1.2 ++ L)))) s5.1 n = (s5.1, []) := by
      rintro _ rfl; rfl
    exact this _ (trips6 i)
  rw [h6, List.nil_append, h5, h3, h1, trips1, trips3, trips5]
  exact steps_split (opsOf arg2 arg3 arg7 arg8 arg9 arg10 k kT v X2 X3 X7 X8 X9 X10) _ hi _

end Cert.KernelIdeal.Flash
-- ==== Proof.Flash.Body.lean ====
module

public import proofs.«01_k».proof.Proof.Flash.Loops

/-!
# The body of one grid step of the attention gradient

The grid runs over the heads and, within a head, over the blocks of keys. The first step of a head zeroes the
query gradient's buffer; every step adds to its rows, and writes the key block's two gradients whole.
-/

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The body's condition: this is a head's first block of keys. -/
abbrev cond0_0 (i : grid0.Coords) : Prop :=
  (Scalar.cmpi .ne (Scalar.extui (Scalar.cmpi .eq (BitVec.ofNat 32 (i 1).val) 0#32)) 0#32) = 1#1

theorem hcond0_0 (t : Fin cfg0.N) : cond0_0 (grid0.coords t) ↔ t.val % 16 = 0 := by
  have e1 : (grid0.coords t 1).val = t.val / 1 % 16 := Pipeline.Grid.coords_val t 1 (by decide) rfl
  simp only [cond0_0, e1]
  word_cmp

/-- The body at the first point of a head, where the query gradient's buffer is zeroed: the pieces that it writes to
the three results, found by the run. -/
def runA (c : Dev nD) (i : grid0.Coords)
    (arg2 : Memref sig .tc .vmem S1x4096x128 .bf16) (harg2 : arg2.IsWhole)
    (arg3 : Memref sig .tc .vmem S1x16x128x256 .bf16) (harg3 : arg3.IsWhole)
    (arg4 : Memref sig .tc .vmem S1x256x128 .bf16) (harg4 : arg4.IsWhole)
    (arg5 : Memref sig .tc .vmem S1x1x128x256 .bf16) (harg5 : arg5.IsWhole)
    (arg6 : Memref sig .tc .vmem S1x256x128 .bf16) (harg6 : arg6.IsWhole)
    (arg7 : Memref sig .tc .vmem S4096x128 .bf16) (harg7 : arg7.IsWhole)
    (arg8 : Memref sig .tc .vmem S1x16x128x256 .bf16) (harg8 : arg8.IsWhole)
    (arg9 : Memref sig .tc .vmem S1x16x1x256 .f32) (harg9 : arg9.IsWhole)
    (arg10 : Memref sig .tc .vmem S1x16x1x256 .f32) (harg10 : arg10.IsWhole)
    (arg11 : Memref sig .tc .vmem S1x16x128x256 .f32) (harg11 : arg11.IsWhole)
    (arg12 : Memref sig .tc .vmem S1x256x128 .f32) (harg12 : arg12.IsWhole)
    (arg13 : Memref sig .tc .vmem S1x256x128 .f32) (harg13 : arg13.IsWhole)
    (hc0 : cond0_0 i)
    (x2 : Vec F S1x4096x128 .bf16) (x3 : Vec F S1x16x128x256 .bf16) (x4 : Vec F S1x256x128 .bf16) (x5 : Vec F S1x1x128x256 .bf16) (x6 : Vec F S1x256x128 .bf16) (x7 : Vec F S4096x128 .bf16) (x8 : Vec F S1x16x128x256 .bf16) (x9 : Vec F S1x16x1x256 .f32) (x10 : Vec F S1x16x1x256 .f32) :
    Σ' (L12 L13 : List (View.Piece (Elt F) S1x256x128 .f32)), { L11 : Pieces F //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_flash_bwd_eq_skeleton]; unfold cc0_flash_bwd_skel
    simp only [k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    have h2 : (k0_t2_loop i).trips = 0 := trips2 i
    have h4 : (k0_t4_loop i).trips = 0 := trips4 i
    have h6 : (k0_t6_loop i).trips = 0 := trips6 i
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    iexists _; iexact H13

/-- The body at a later point of a head, where the query gradient's buffer holds `x11`: the pieces that it writes to
the three results, found by the run. -/
def runB (c : Dev nD) (i : grid0.Coords)
    (arg2 : Memref sig .tc .vmem S1x4096x128 .bf16) (harg2 : arg2.IsWhole)
    (arg3 : Memref sig .tc .vmem S1x16x128x256 .bf16) (harg3 : arg3.IsWhole)
    (arg4 : Memref sig .tc .vmem S1x256x128 .bf16) (harg4 : arg4.IsWhole)
    (arg5 : Memref sig .tc .vmem S1x1x128x256 .bf16) (harg5 : arg5.IsWhole)
    (arg6 : Memref sig .tc .vmem S1x256x128 .bf16) (harg6 : arg6.IsWhole)
    (arg7 : Memref sig .tc .vmem S4096x128 .bf16) (harg7 : arg7.IsWhole)
    (arg8 : Memref sig .tc .vmem S1x16x128x256 .bf16) (harg8 : arg8.IsWhole)
    (arg9 : Memref sig .tc .vmem S1x16x1x256 .f32) (harg9 : arg9.IsWhole)
    (arg10 : Memref sig .tc .vmem S1x16x1x256 .f32) (harg10 : arg10.IsWhole)
    (arg11 : Memref sig .tc .vmem S1x16x128x256 .f32) (harg11 : arg11.IsWhole)
    (arg12 : Memref sig .tc .vmem S1x256x128 .f32) (harg12 : arg12.IsWhole)
    (arg13 : Memref sig .tc .vmem S1x256x128 .f32) (harg13 : arg13.IsWhole)
    (hc0 : ¬ cond0_0 i)
    (x2 : Vec F S1x4096x128 .bf16) (x3 : Vec F S1x16x128x256 .bf16) (x4 : Vec F S1x256x128 .bf16) (x5 : Vec F S1x1x128x256 .bf16) (x6 : Vec F S1x256x128 .bf16) (x7 : Vec F S4096x128 .bf16) (x8 : Vec F S1x16x128x256 .bf16) (x9 : Vec F S1x16x1x256 .f32) (x10 : Vec F S1x16x1x256 .f32) (x11 : Vec F S1x16x128x256 .f32) :
    Σ' (L12 L13 : List (View.Piece (Elt F) S1x256x128 .f32)), { L11 : Pieces F //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_flash_bwd_eq_skeleton]; unfold cc0_flash_bwd_skel
    simp only [k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    have h2 : (k0_t2_loop i).trips = 0 := trips2 i
    have h4 : (k0_t4_loop i).trips = 0 := trips4 i
    have h6 : (k0_t6_loop i).trips = 0 := trips6 i
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexists _; iexact H12
    iexists _; iexact H13

end Cert.KernelIdeal.Flash
-- ==== Proof.Flash.Outs.lean ====
module

public import proofs.«01_k».proof.Proof.Flash.Walk
public import proofs.«01_k».proof.Proof.Flash.Body

/-!
# What one grid step leaves in the three results' buffers

The pieces that the run of the body finds, read as the vectors of `Flash/Step.lean`.
-/

@[expose] public section

set_option maxRecDepth 16384
set_option maxHeartbeats 1000000

noncomputable section

namespace Cert.KernelIdeal.Flash

open Idealize.ShloMosaic Idealize.ShloMosaic.TcCoe
open Cert.KernelIdeal Cert.KernelIdeal.Gen

variable {F : FTy → Type} [FloatOps F]

variable (i : grid0.Coords)
variable (arg2 : Memref sig .tc .vmem S1x4096x128 .bf16) (harg2 : arg2.IsWhole)
  (arg3 : Memref sig .tc .vmem S1x16x128x256 .bf16) (harg3 : arg3.IsWhole)
  (arg4 : Memref sig .tc .vmem S1x256x128 .bf16) (harg4 : arg4.IsWhole)
  (arg5 : Memref sig .tc .vmem S1x1x128x256 .bf16) (harg5 : arg5.IsWhole)
  (arg6 : Memref sig .tc .vmem S1x256x128 .bf16) (harg6 : arg6.IsWhole)
  (arg7 : Memref sig .tc .vmem S4096x128 .bf16) (harg7 : arg7.IsWhole)
  (arg8 : Memref sig .tc .vmem S1x16x128x256 .bf16) (harg8 : arg8.IsWhole)
  (arg9 : Memref sig .tc .vmem S1x16x1x256 .f32) (harg9 : arg9.IsWhole)
  (arg10 : Memref sig .tc .vmem S1x16x1x256 .f32) (harg10 : arg10.IsWhole)
  (arg11 : Memref sig .tc .vmem S1x16x128x256 .f32) (harg11 : arg11.IsWhole)
  (arg12 : Memref sig .tc .vmem S1x256x128 .f32) (harg12 : arg12.IsWhole)
  (arg13 : Memref sig .tc .vmem S1x256x128 .f32) (harg13 : arg13.IsWhole)

/-- A store of the whole stack leaves what it stores. -/
theorem store_all (w : View sig .tc .vmem S1x16x128x256 .f32) (f : BufTy.Contents (Elt F) w.ty)
    (x : Vec F S1x16x128x256 .f32) (L : Pieces F) :
    w.read (Elt F) (w.writes (Elt F) f (⟨Rect.unit (s := S1x16x128x256) ![0, 0, 0, 0] S1x16x128x256.size
      inb_S1x16x128x256_S1x16x128x256_0_0_0_0, x⟩ :: L)) = x :=
  View.read_writes_full (s := S1x16x128x256) w f inb_S1x16x128x256_S1x16x128x256_0_0_0_0 x L

/-- The piece that the masked block writes to the query gradient, over the contents `g`. -/
def diagPiece (x2 : Vec F S1x4096x128 .bf16) (x3 : Vec F S1x16x128x256 .bf16) (x4 : Vec F S1x256x128 .bf16) (x5 : Vec F S1x1x128x256 .bf16) (x6 : Vec F S1x256x128 .bf16)
    (x7 : Vec F S4096x128 .bf16) (x8 : Vec F S1x16x128x256 .bf16) (x9 : Vec F S1x16x1x256 .f32) (x10 : Vec F S1x16x1x256 .f32)
    (g : Vec F S1x16x128x256 .f32) : View.Piece (Elt F) S1x16x128x256 .f32 :=
  ⟨Rect.unit (s := S1x16x128x256) (k0_off1 i) S1x1x128x256.size (k0_off1_inb i),
    k0_pay66 (k0_pay58 x5)
      (k0_pay61 (iota .tc S256x256 32 [0] iota_S256x256_d0_w32) (iota .tc S256x256 32 [1] iota_S256x256_d1_w32) x4
        (tile x3 (i 1).val) (row x9 (i 1).val))
      (k0_pay63 x6 (tile x8 (i 1).val)) (row x10 (i 1).val) (tile g (i 1).val)⟩

/-- The masked block, then the loops, are the whole grid step. -/
theorem walk_gridStep (𝒱 : Variants) (c : Dev nD) (bd : Option 𝒱.V) (arg1 : BitVec 32) (v69 v85 : FVec F S256x128 .f32)
    (v112 c0 v122 v149 v154 : BitVec 32)
    (x2 : Vec F S1x4096x128 .bf16) (x3 : Vec F S1x16x128x256 .bf16) (x4 : Vec F S1x256x128 .bf16) (x5 : Vec F S1x1x128x256 .bf16) (x6 : Vec F S1x256x128 .bf16)
    (x7 : Vec F S4096x128 .bf16) (x8 : Vec F S1x16x128x256 .bf16) (x9 : Vec F S1x16x1x256 .f32) (x10 : Vec F S1x16x1x256 .f32)
    (G : BufTy.Contents (Elt F) arg11.view.ty) (L : Pieces F) (g : Vec F S1x16x128x256 .f32)
    (hg : arg11.view.read (Elt F) (arg11.view.writes (Elt F) G L) = g) :
    let w := walk i arg2 harg2 arg3 harg3 arg4 harg4 arg5 harg5 arg6 harg6 arg7 harg7 arg8 harg8 arg9 harg9 arg10 harg10 arg11 harg11 arg12 harg12 arg13 harg13 𝒱 c bd arg1 (k0_pay57 x4) (k0_pay58 x5) (k0_pay59 x6) v69 v85 v112 c0 v122 v149 v154 (harg2.unread x2) (harg3.unread x3) (harg7.unread x7) (harg8.unread x8) (harg9.unread x9) (harg10.unread x10) G
      (diagPiece i x2 x3 x4 x5 x6 x7 x8 x9 x10 g :: L) (diag x2 x3 x4 x5 x6 x7 x8 x9 x10 (i 1).val g).1
    (w.1, arg11.view.read (Elt F) (arg11.view.writes (Elt F) G w.2)) = gridStep x2 x3 x4 x5 x6 x7 x8 x9 x10 (i 1).val g := by
  have hi : (i 1).val < 16 := (i 1).isLt
  intro w
  refine (walk_steps i arg2 harg2 arg3 harg3 arg4 harg4 arg5 harg5 arg6 harg6 arg7 harg7 arg8 harg8 arg9 harg9 arg10 harg10 arg11 harg11 arg12 harg12 arg13 harg13 𝒱 c bd arg1 _ _ _ v69 v85 v112 c0 v122 v149 v154 (harg2.unread x2) (harg3.unread x3) (harg7.unread x7) (harg8.unread x8) (harg9.unread x9) (harg10.unread x10) G _ _).trans ?_
  unfold opsOf
  rw [harg2.read_unread, harg3.read_unread, harg7.read_unread, harg8.read_unread, harg9.read_unread, harg10.read_unread]
  unfold diagPiece
  rw [store_tile arg11.view G (i 1).val _ (by rw [k0_off1_eq i, Nat.mod_eq_of_lt hi]), hg]
  rfl

attribute [local irreducible] state st_k0_t5 st_k0_t6 Scf.trips k0_pay56 in
theorem runB_walk (c : Dev nD) (hc0 : ¬ cond0_0 i) (x2 : Vec F S1x4096x128 .bf16) (x3 : Vec F S1x16x128x256 .bf16) (x4 : Vec F S1x256x128 .bf16) (x5 : Vec F S1x1x128x256 .bf16) (x6 : Vec F S1x256x128 .bf16)
    (x7 : Vec F S4096x128 .bf16) (x8 : Vec F S1x16x128x256 .bf16) (x9 : Vec F S1x16x1x256 .f32) (x10 : Vec F S1x16x1x256 .f32) (x11 : Vec F S1x16x128x256 .f32) :
    ∃ (v69 v85 : FVec F S256x128 .f32) (v112 c0 v122 v149 v154 : BitVec 32),
      let w := walk i arg2 harg2 arg3 harg3 arg4 harg4 arg5 harg5 arg6 harg6 arg7 harg7 arg8 harg8 arg9 harg9 arg10 harg10 arg11 harg11 arg12 harg12 arg13 harg13 Variants.none c none (BitVec.ofNat 32 (i 1).val) (k0_pay57 x4) (k0_pay58 x5) (k0_pay59 x6) v69 v85 v112 c0 v122 v149 v154 (harg2.unread x2) (harg3.unread x3) (harg7.unread x7) (harg8.unread x8) (harg9.unread x9) (harg10.unread x10)
        (harg11.unread x11)
        (diagPiece i x2 x3 x4 x5 x6 x7 x8 x9 x10 x11 :: []) (diag x2 x3 x4 x5 x6 x7 x8 x9 x10 (i 1).val x11).1
      (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 x11).1 = [⟨Rect.unit (s := S1x256x128) ![0, 0, 0] S1x256x128.size inb_S1x256x128_S1x256x128_0_0_0, k0_pay3 w.1.1⟩]
      ∧ (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 x11).2.1 = [⟨Rect.unit (s := S1x256x128) ![0, 0, 0] S1x256x128.size inb_S1x256x128_S1x256x128_0_0_0, k0_pay4 (k0_pay55 i) w.1.2⟩]
      ∧ (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 x11).2.2.1 = w.2 := by
  have hi : (i 1).val < 16 := (i 1).isLt
  have e1 : k0_off1 i = ![0, (i 1).val % 16, 0, 0] := by rw [k0_off1_eq i, Nat.mod_eq_of_lt hi]
  have e2 : k0_off2 i = ![0, (i 1).val % 16, 0, 0] := by rw [k0_off2_eq i, Nat.mod_eq_of_lt hi]
  have e3 : k0_off3 i = ![256 * ((i 1).val % 16), 0] := by rw [k0_off3_eq i, Nat.mod_eq_of_lt hi]
  have e4 : k0_off4 i = ![0, 256 * ((i 1).val % 16), 0] := by rw [k0_off4_eq i, Nat.mod_eq_of_lt hi]
  have l3 := load_tile arg3.view (harg3.unread x3) (i 1).val (k0_off1_inb i) e1
  have l8 := load_tile arg8.view (harg8.unread x8) (i 1).val (k0_off1_inb i) e1
  have l9 := load_row arg9.view (harg9.unread x9) (i 1).val (k0_off2_inb i) e2
  have l10 := load_row arg10.view (harg10.unread x10) (i 1).val (k0_off2_inb i) e2
  have l7 := load_do arg7.view (harg7.unread x7) (i 1).val (k0_off3_inb i) e3
  have l2 := load_q arg2.view (harg2.unread x2) (i 1).val (k0_off4_inb i) e4
  have l4 := View.readAt_full arg4.view (harg4.unread x4) inb_S1x256x128_S1x256x128_0_0_0
  have l5 := View.readAt_full arg5.view (harg5.unread x5) inb_S1x1x128x256_S1x1x128x256_0_0_0_0
  have l6 := View.readAt_full arg6.view (harg6.unread x6) inb_S1x256x128_S1x256x128_0_0_0
  have l11 := load_tile arg11.view (harg11.unread x11) (i 1).val (k0_off1_inb i) e1
  rw [harg11.read_unread] at l11
  rw [harg3.read_unread] at l3
  rw [harg8.read_unread] at l8
  rw [harg9.read_unread] at l9
  rw [harg10.read_unread] at l10
  rw [harg7.read_unread] at l7
  rw [harg2.read_unread] at l2
  rw [harg4.read_unread] at l4
  rw [harg5.read_unread] at l5
  rw [harg6.read_unread] at l6
  have r0 : runB.sl.r c arg4 harg4 x4 = k0_pay57 x4 := by unfold runB.sl.r; rw [l4]
  have r1 : runB.sl.r_1 c arg5 harg5 x5 = k0_pay58 x5 := by unfold runB.sl.r_1; rw [l5]
  have r2 : runB.sl.r_2 c arg6 harg6 x6 = k0_pay59 x6 := by unfold runB.sl.r_2; rw [l6]
  have r3 : runB.sl.r_3 c i arg3 harg3 arg4 harg4 arg9 harg9 x3 x4 x9
      = k0_pay61 (iota .tc S256x256 32 [0] iota_S256x256_d0_w32) (iota .tc S256x256 32 [1] iota_S256x256_d1_w32) x4
        (tile x3 (i 1).val) (row x9 (i 1).val) := by
    unfold runB.sl.r_3; rw [l4, l3, l9]; rfl
  have r4 : runB.sl.r_4 c i arg3 harg3 arg4 harg4 arg7 harg7 arg9 harg9 x3 x4 x7 x9 = (diag x2 x3 x4 x5 x6 x7 x8 x9 x10 (i 1).val x11).1.2 := by
    unfold runB.sl.r_4; rw [l4, l3, l9, l7]; rfl
  have r5 : runB.sl.r_5 c i arg6 harg6 arg8 harg8 x6 x8 = k0_pay63 x6 (tile x8 (i 1).val) := by
    unfold runB.sl.r_5; rw [l6, l8]
  have r6 : runB.sl.r_6 c i arg2 harg2 arg3 harg3 arg4 harg4 arg6 harg6 arg8 harg8 arg9 harg9 arg10 harg10 x2 x3 x4 x6 x8 x9 x10
      = (diag x2 x3 x4 x5 x6 x7 x8 x9 x10 (i 1).val x11).1.1 := by
    unfold runB.sl.r_6; rw [r3, r5, l10, l2]; rfl
  rw [show (diag x2 x3 x4 x5 x6 x7 x8 x9 x10 (i 1).val x11).1 = (runB.sl.r_6 c i arg2 harg2 arg3 harg3 arg4 harg4 arg6 harg6 arg8 harg8 arg9 harg9 arg10 harg10 x2 x3 x4 x6 x8 x9 x10, runB.sl.r_4 c i arg3 harg3 arg4 harg4 arg7 harg7 arg9 harg9 x3 x4 x7 x9) from Prod.ext r6.symm r4.symm, ← r0, ← r2]
  unfold diagPiece
  rw [← r3, ← r5, ← l10, ← l11, ← r1]
  exact ⟨runB.sl.r_4 c i arg3 harg3 arg4 harg4 arg7 harg7 arg9 harg9 x3 x4 x7 x9, runB.sl.r_6 c i arg2 harg2 arg3 harg3 arg4 harg4 arg6 harg6 arg8 harg8 arg9 harg9 arg10 harg10 x2 x3 x4 x6 x8 x9 x10,
    runB.sl.v112 i, 0#32, runB.sl.v122 i, runB.sl.v149 i, Scalar.addi (runB.sl.v149 i) (Scalar.muli (runB.sl.v152 i) 1#32), rfl, rfl, rfl⟩

attribute [local irreducible] state st_k0_t5 st_k0_t6 Scf.trips k0_pay56 in
theorem runA_walk (c : Dev nD) (hc0 : cond0_0 i) (x2 : Vec F S1x4096x128 .bf16) (x3 : Vec F S1x16x128x256 .bf16) (x4 : Vec F S1x256x128 .bf16) (x5 : Vec F S1x1x128x256 .bf16) (x6 : Vec F S1x256x128 .bf16)
    (x7 : Vec F S4096x128 .bf16) (x8 : Vec F S1x16x128x256 .bf16) (x9 : Vec F S1x16x1x256 .f32) (x10 : Vec F S1x16x1x256 .f32) :
    ∃ (v69 v85 : FVec F S256x128 .f32) (v112 c0 v122 v149 v154 : BitVec 32),
      let w := walk i arg2 harg2 arg3 harg3 arg4 harg4 arg5 harg5 arg6 harg6 arg7 harg7 arg8 harg8 arg9 harg9 arg10 harg10 arg11 harg11 arg12 harg12 arg13 harg13 Variants.none c none (BitVec.ofNat 32 (i 1).val) (k0_pay57 x4) (k0_pay58 x5) (k0_pay59 x6) v69 v85 v112 c0 v122 v149 v154 (harg2.unread x2) (harg3.unread x3) (harg7.unread x7) (harg8.unread x8) (harg9.unread x9) (harg10.unread x10)
        arg11.view.junk
        (diagPiece i x2 x3 x4 x5 x6 x7 x8 x9 x10 k0_pay56 :: [⟨Rect.unit (s := S1x16x128x256) ![0, 0, 0, 0] S1x16x128x256.size inb_S1x16x128x256_S1x16x128x256_0_0_0_0, k0_pay56⟩]) (diag x2 x3 x4 x5 x6 x7 x8 x9 x10 (i 1).val k0_pay56).1
      (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10).1 = [⟨Rect.unit (s := S1x256x128) ![0, 0, 0] S1x256x128.size inb_S1x256x128_S1x256x128_0_0_0, k0_pay3 w.1.1⟩]
      ∧ (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10).2.1 = [⟨Rect.unit (s := S1x256x128) ![0, 0, 0] S1x256x128.size inb_S1x256x128_S1x256x128_0_0_0, k0_pay4 (k0_pay55 i) w.1.2⟩]
      ∧ (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10).2.2.1 = w.2 := by
  have hi : (i 1).val < 16 := (i 1).isLt
  have e1 : k0_off1 i = ![0, (i 1).val % 16, 0, 0] := by rw [k0_off1_eq i, Nat.mod_eq_of_lt hi]
  have e2 : k0_off2 i = ![0, (i 1).val % 16, 0, 0] := by rw [k0_off2_eq i, Nat.mod_eq_of_lt hi]
  have e3 : k0_off3 i = ![256 * ((i 1).val % 16), 0] := by rw [k0_off3_eq i, Nat.mod_eq_of_lt hi]
  have e4 : k0_off4 i = ![0, 256 * ((i 1).val % 16), 0] := by rw [k0_off4_eq i, Nat.mod_eq_of_lt hi]
  have l3 := load_tile arg3.view (harg3.unread x3) (i 1).val (k0_off1_inb i) e1
  have l8 := load_tile arg8.view (harg8.unread x8) (i 1).val (k0_off1_inb i) e1
  have l9 := load_row arg9.view (harg9.unread x9) (i 1).val (k0_off2_inb i) e2
  have l10 := load_row arg10.view (harg10.unread x10) (i 1).val (k0_off2_inb i) e2
  have l7 := load_do arg7.view (harg7.unread x7) (i 1).val (k0_off3_inb i) e3
  have l2 := load_q arg2.view (harg2.unread x2) (i 1).val (k0_off4_inb i) e4
  have l4 := View.readAt_full arg4.view (harg4.unread x4) inb_S1x256x128_S1x256x128_0_0_0
  have l5 := View.readAt_full arg5.view (harg5.unread x5) inb_S1x1x128x256_S1x1x128x256_0_0_0_0
  have l6 := View.readAt_full arg6.view (harg6.unread x6) inb_S1x256x128_S1x256x128_0_0_0
  have l11 := load_tile arg11.view (arg11.view.writes (Elt F) arg11.view.junk runA.sl.H11_1) (i 1).val (k0_off1_inb i) e1
  rw [show arg11.view.read (Elt F) (arg11.view.writes (Elt F) arg11.view.junk runA.sl.H11_1) = k0_pay56 by
    unfold runA.sl.H11_1
    exact store_all arg11.view _ k0_pay56 []] at l11
  rw [harg3.read_unread] at l3
  rw [harg8.read_unread] at l8
  rw [harg9.read_unread] at l9
  rw [harg10.read_unread] at l10
  rw [harg7.read_unread] at l7
  rw [harg2.read_unread] at l2
  rw [harg4.read_unread] at l4
  rw [harg5.read_unread] at l5
  rw [harg6.read_unread] at l6
  have r0 : runA.sl.r c arg4 harg4 x4 = k0_pay57 x4 := by unfold runA.sl.r; rw [l4]
  have r1 : runA.sl.r_1 c arg5 harg5 x5 = k0_pay58 x5 := by unfold runA.sl.r_1; rw [l5]
  have r2 : runA.sl.r_2 c arg6 harg6 x6 = k0_pay59 x6 := by unfold runA.sl.r_2; rw [l6]
  have r3 : runA.sl.r_3 c i arg3 harg3 arg4 harg4 arg9 harg9 x3 x4 x9
      = k0_pay61 (iota .tc S256x256 32 [0] iota_S256x256_d0_w32) (iota .tc S256x256 32 [1] iota_S256x256_d1_w32) x4
        (tile x3 (i 1).val) (row x9 (i 1).val) := by
    unfold runA.sl.r_3; rw [l4, l3, l9]; rfl
  have r4 : runA.sl.r_4 c i arg3 harg3 arg4 harg4 arg7 harg7 arg9 harg9 x3 x4 x7 x9 = (diag x2 x3 x4 x5 x6 x7 x8 x9 x10 (i 1).val k0_pay56).1.2 := by
    unfold runA.sl.r_4; rw [l4, l3, l9, l7]; rfl
  have r5 : runA.sl.r_5 c i arg6 harg6 arg8 harg8 x6 x8 = k0_pay63 x6 (tile x8 (i 1).val) := by
    unfold runA.sl.r_5; rw [l6, l8]
  have r6 : runA.sl.r_6 c i arg2 harg2 arg3 harg3 arg4 harg4 arg6 harg6 arg8 harg8 arg9 harg9 arg10 harg10 x2 x3 x4 x6 x8 x9 x10
      = (diag x2 x3 x4 x5 x6 x7 x8 x9 x10 (i 1).val k0_pay56).1.1 := by
    unfold runA.sl.r_6; rw [r3, r5, l10, l2]; rfl
  rw [show (diag x2 x3 x4 x5 x6 x7 x8 x9 x10 (i 1).val k0_pay56).1 = (runA.sl.r_6 c i arg2 harg2 arg3 harg3 arg4 harg4 arg6 harg6 arg8 harg8 arg9 harg9 arg10 harg10 x2 x3 x4 x6 x8 x9 x10, runA.sl.r_4 c i arg3 harg3 arg4 harg4 arg7 harg7 arg9 harg9 x3 x4 x7 x9) from Prod.ext r6.symm r4.symm, ← r0, ← r2]
  unfold diagPiece
  rw [← r3, ← r5, ← l10, ← l11, ← r1]
  rw [show ([⟨Rect.unit (s := S1x16x128x256) ![0, 0, 0, 0] S1x16x128x256.size inb_S1x16x128x256_S1x16x128x256_0_0_0_0, k0_pay56⟩] : Pieces F)
    = runA.sl.H11_1 from rfl]
  exact ⟨runA.sl.r_4 c i arg3 harg3 arg4 harg4 arg7 harg7 arg9 harg9 x3 x4 x7 x9, runA.sl.r_6 c i arg2 harg2 arg3 harg3 arg4 harg4 arg6 harg6 arg8 harg8 arg9 harg9 arg10 harg10 x2 x3 x4 x6 x8 x9 x10,
    runA.sl.v112 i, 0#32, runA.sl.v122 i, runA.sl.v149 i, Scalar.addi (runA.sl.v149 i) (Scalar.muli (runA.sl.v152 i) 1#32), rfl, rfl, rfl⟩

/-- What the loops write lies above what was written before them. -/
theorem walk_above (𝒱 : Variants) (c : Dev nD) (bd : Option 𝒱.V) (arg1 : BitVec 32) (k : FVec F S256x128 .bf16)
    (kT : FVec F S128x256 .bf16) (v : FVec F S256x128 .bf16) (v69 v85 : FVec F S256x128 .f32)
    (v112 c0 v122 v149 v154 : BitVec 32)
    (X2 : BufTy.Contents (Elt F) arg2.view.ty) (X3 : BufTy.Contents (Elt F) arg3.view.ty)
    (X7 : BufTy.Contents (Elt F) arg7.view.ty) (X8 : BufTy.Contents (Elt F) arg8.view.ty)
    (X9 : BufTy.Contents (Elt F) arg9.view.ty) (X10 : BufTy.Contents (Elt F) arg10.view.ty)
    (G : BufTy.Contents (Elt F) arg11.view.ty) (L : Pieces F) (init : Carry F) :
    ∃ M, (walk i arg2 harg2 arg3 harg3 arg4 harg4 arg5 harg5 arg6 harg6 arg7 harg7 arg8 harg8 arg9 harg9 arg10 harg10 arg11 harg11 arg12 harg12 arg13 harg13 𝒱 c bd arg1 k kT v v69 v85 v112 c0 v122 v149 v154 X2 X3 X7 X8 X9 X10 G L init).2 = M ++ L := by
  unfold walk
  dsimp only
  simp only [← List.append_assoc]
  exact ⟨_, rfl⟩

attribute [local irreducible] state st_k0_t5 st_k0_t6 Scf.trips k0_pay56 walk runA runB in
/-- A later step of a head: the two gradients at its keys and values, and the query gradient. -/
theorem runB_outs (c : Dev nD) (hc0 : ¬ cond0_0 i) (x2 : Vec F S1x4096x128 .bf16) (x3 : Vec F S1x16x128x256 .bf16) (x4 : Vec F S1x256x128 .bf16) (x5 : Vec F S1x1x128x256 .bf16) (x6 : Vec F S1x256x128 .bf16)
    (x7 : Vec F S4096x128 .bf16) (x8 : Vec F S1x16x128x256 .bf16) (x9 : Vec F S1x16x1x256 .f32) (x10 : Vec F S1x16x1x256 .f32) (x11 : Vec F S1x16x128x256 .f32) :
    (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 x11).1 = [⟨Rect.unit (s := S1x256x128) ![0, 0, 0] S1x256x128.size inb_S1x256x128_S1x256x128_0_0_0, k0_pay3 (gridStep x2 x3 x4 x5 x6 x7 x8 x9 x10 (i 1).val x11).1.1⟩]
    ∧ (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 x11).2.1 = [⟨Rect.unit (s := S1x256x128) ![0, 0, 0] S1x256x128.size inb_S1x256x128_S1x256x128_0_0_0, k0_pay4 (k0_pay55 i) (gridStep x2 x3 x4 x5 x6 x7 x8 x9 x10 (i 1).val x11).1.2⟩]
    ∧ arg11.view.read (Elt F) (arg11.view.writes (Elt F) (harg11.unread x11) (runB c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10 x11).2.2.1) = (gridStep x2 x3 x4 x5 x6 x7 x8 x9 x10 (i 1).val x11).2 := by
  obtain ⟨v69, v85, v112, c0, v122, v149, v154, h12, h13, h11⟩ := runB_walk i arg2 harg2 arg3 harg3 arg4 harg4 arg5 harg5 arg6 harg6 arg7 harg7 arg8 harg8 arg9 harg9 arg10 harg10 arg11 harg11 arg12 harg12 arg13 harg13 c hc0 x2 x3 x4 x5 x6 x7 x8 x9 x10 x11
  have h := walk_gridStep i arg2 harg2 arg3 harg3 arg4 harg4 arg5 harg5 arg6 harg6 arg7 harg7 arg8 harg8 arg9 harg9 arg10 harg10 arg11 harg11 arg12 harg12 arg13 harg13 Variants.none c none (BitVec.ofNat 32 (i 1).val) v69 v85 v112 c0 v122 v149 v154 x2 x3 x4 x5 x6 x7 x8 x9 x10 (harg11.unread x11) [] x11
    (harg11.read_unread x11)
  generalize walk i arg2 harg2 arg3 harg3 arg4 harg4 arg5 harg5 arg6 harg6 arg7 harg7 arg8 harg8 arg9 harg9 arg10 harg10 arg11 harg11 arg12 harg12 arg13 harg13 Variants.none c none (BitVec.ofNat 32 (i 1).val) (k0_pay57 x4) (k0_pay58 x5) (k0_pay59 x6) v69 v85 v112 c0 v122 v149 v154 (harg2.unread x2) (harg3.unread x3) (harg7.unread x7) (harg8.unread x8) (harg9.unread x9) (harg10.unread x10) _ _ _ = w at h h12 h13 h11
  generalize gridStep x2 x3 x4 x5 x6 x7 x8 x9 x10 (i 1).val x11 = g at h ⊢
  subst h
  exact ⟨h12, h13, congrArg (fun L => arg11.view.read (Elt F) (arg11.view.writes (Elt F) (harg11.unread x11) L)) h11⟩

attribute [local irreducible] state st_k0_t5 st_k0_t6 Scf.trips k0_pay56 walk runA runB in
/-- The first step of a head, where the query gradient starts from zero, whatever the buffer held. -/
theorem runA_outs (c : Dev nD) (hc0 : cond0_0 i) (x2 : Vec F S1x4096x128 .bf16) (x3 : Vec F S1x16x128x256 .bf16) (x4 : Vec F S1x256x128 .bf16) (x5 : Vec F S1x1x128x256 .bf16) (x6 : Vec F S1x256x128 .bf16)
    (x7 : Vec F S4096x128 .bf16) (x8 : Vec F S1x16x128x256 .bf16) (x9 : Vec F S1x16x1x256 .f32) (x10 : Vec F S1x16x1x256 .f32) (f : BufTy.Contents (Elt F) arg11.view.ty) :
    (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10).1 = [⟨Rect.unit (s := S1x256x128) ![0, 0, 0] S1x256x128.size inb_S1x256x128_S1x256x128_0_0_0, k0_pay3 (gridStep x2 x3 x4 x5 x6 x7 x8 x9 x10 (i 1).val k0_pay56).1.1⟩]
    ∧ (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10).2.1 = [⟨Rect.unit (s := S1x256x128) ![0, 0, 0] S1x256x128.size inb_S1x256x128_S1x256x128_0_0_0, k0_pay4 (k0_pay55 i) (gridStep x2 x3 x4 x5 x6 x7 x8 x9 x10 (i 1).val k0_pay56).1.2⟩]
    ∧ arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 hc0 x2 x3 x4 x5 x6 x7 x8 x9 x10).2.2.1) = (gridStep x2 x3 x4 x5 x6 x7 x8 x9 x10 (i 1).val k0_pay56).2 := by
  obtain ⟨v69, v85, v112, c0, v122, v149, v154, h12, h13, h11⟩ := runA_walk i arg2 harg2 arg3 harg3 arg4 harg4 arg5 harg5 arg6 harg6 arg7 harg7 arg8 harg8 arg9 harg9 arg10 harg10 arg11 harg11 arg12 harg12 arg13 harg13 c hc0 x2 x3 x4 x5 x6 x7 x8 x9 x10
  have h := walk_gridStep i arg2 harg2 arg3 harg3 arg4 harg4 arg5 harg5 arg6 harg6 arg7 harg7 arg8 harg8 arg9 harg9 arg10 harg10 arg11 harg11 arg12 harg12 arg13 harg13 Variants.none c none (BitVec.ofNat 32 (i 1).val) v69 v85 v112 c0 v122 v149 v154 x2 x3 x4 x5 x6 x7 x8 x9 x10 arg11.view.junk _ k0_pay56
    (store_all arg11.view _ k0_pay56 [])
  obtain ⟨M, hM⟩ := walk_above i arg2 harg2 arg3 harg3 arg4 harg4 arg5 harg5 arg6 harg6 arg7 harg7 arg8 harg8 arg9 harg9 arg10 harg10 arg11 harg11 arg12 harg12 arg13 harg13 Variants.none c none (BitVec.ofNat 32 (i 1).val) (k0_pay57 x4) (k0_pay58 x5) (k0_pay59 x6)
    v69 v85 v112 c0 v122 v149 v154 (harg2.unread x2) (harg3.unread x3) (harg7.unread x7) (harg8.unread x8) (harg9.unread x9) (harg10.unread x10) arg11.view.junk
    (diagPiece i x2 x3 x4 x5 x6 x7 x8 x9 x10 k0_pay56 :: [⟨Rect.unit (s := S1x16x128x256) ![0, 0, 0, 0] S1x16x128x256.size inb_S1x16x128x256_S1x16x128x256_0_0_0_0, k0_pay56⟩])
    (diag x2 x3 x4 x5 x6 x7 x8 x9 x10 (i 1).val k0_pay56).1
  generalize walk i arg2 harg2 arg3 harg3 arg4 harg4 arg5 harg5 arg6 harg6 arg7 harg7 arg8 harg8 arg9 harg9 arg10 harg10 arg11 harg11 arg12 harg12 arg13 harg13 Variants.none c none (BitVec.ofNat 32 (i 1).val) (k0_pay57 x4) (k0_pay58 x5) (k0_pay59 x6) v69 v85 v112 c0 v122 v149 v154 (harg2.unread x2) (harg3.unread x3) (harg7.unread x7) (harg8.unread x8) (harg9.unread x9) (harg10.unread x10) _ _ _ = w at h h12 h13 h11 hM
  generalize gridStep x2 x3 x4 x5 x6 x7 x8 x9 x10 (i 1).val k0_pay56 = g at h ⊢
  subst h
  refine ⟨h12, h13, (congrArg (fun L => arg11.view.read (Elt F) (arg11.view.writes (Elt F) f L)) h11).trans ?_⟩
  refine View.read_writes_of_cover arg11.view f arg11.view arg11.view.junk _ fun y => ?_
  rw [hM]
  refine ⟨_, List.mem_append_right _ (List.mem_cons_of_mem _ (List.mem_singleton.mpr rfl)), ?_⟩
  rw [Rect.mem_set_unit]
  intro a
  refine ⟨?_, ?_⟩
  · match a with
    | ⟨0, _⟩ => exact Nat.zero_le _
    | ⟨1, _⟩ => exact Nat.zero_le _
    | ⟨2, _⟩ => exact Nat.zero_le _
    | ⟨3, _⟩ => exact Nat.zero_le _
  · exact lt_of_lt_of_le (y a).isLt (Nat.le_add_left _ _)

end Cert.KernelIdeal.Flash
-- ==== Proof.Flash.Frame.lean ====
module

public import proofs.«01_k».proof.Proof.Flash.Outs
public import proofs.«01_k».proof.Proof.Gen.KernelIdeal.Frame
public import Idealize.ShloMosaic.Lib.Claim

/-!
# The run of the attention gradient's pipeline

What the three results' buffers hold after every grid point, stated by `gridStep`, and the run of the whole program.
-/

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of window 0 at a point. -/
abbrev ms0_0 (t : Fin cfg0.N) : Memref sig .tc .vmem S1x4096x128 .bf16 := win0_0.stage (cfg0.slots t 0)
/-- It is a whole buffer. -/
abbrev hs0_0 (t : Fin cfg0.N) : (ms0_0 t).IsWhole := hstage0_0 ((cfg0.slots t 0).cast nbuf0_0)
/-- The buffer of window 1 at a point. -/
abbrev ms0_1 (t : Fin cfg0.N) : Memref sig .tc .vmem S1x16x128x256 .bf16 := win0_1.stage (cfg0.slots t 1)
/-- It is a whole buffer. -/
abbrev hs0_1 (t : Fin cfg0.N) : (ms0_1 t).IsWhole := hstage0_1 ((cfg0.slots t 1).cast nbuf0_1)
/-- The buffer of window 2 at a point. -/
abbrev ms0_2 (t : Fin cfg0.N) : Memref sig .tc .vmem S1x256x128 .bf16 := win0_2.stage (cfg0.slots t 2)
/-- It is a whole buffer. -/
abbrev hs0_2 (t : Fin cfg0.N) : (ms0_2 t).IsWhole := hstage0_2 ((cfg0.slots t 2).cast nbuf0_2)
/-- The buffer of window 3 at a point. -/
abbrev ms0_3 (t : Fin cfg0.N) : Memref sig .tc .vmem S1x1x128x256 .bf16 := win0_3.stage (cfg0.slots t 3)
/-- It is a whole buffer. -/
abbrev hs0_3 (t : Fin cfg0.N) : (ms0_3 t).IsWhole := hstage0_3 ((cfg0.slots t 3).cast nbuf0_3)
/-- The buffer of window 4 at a point. -/
abbrev ms0_4 (t : Fin cfg0.N) : Memref sig .tc .vmem S1x256x128 .bf16 := win0_4.stage (cfg0.slots t 4)
/-- It is a whole buffer. -/
abbrev hs0_4 (t : Fin cfg0.N) : (ms0_4 t).IsWhole := hstage0_4 ((cfg0.slots t 4).cast nbuf0_4)
/-- The buffer of window 5 at a point. -/
abbrev ms0_5 (t : Fin cfg0.N) : Memref sig .tc .vmem S4096x128 .bf16 := win0_5.stage (cfg0.slots t 5)
/-- It is a whole buffer. -/
abbrev hs0_5 (t : Fin cfg0.N) : (ms0_5 t).IsWhole := hstage0_5 ((cfg0.slots t 5).cast nbuf0_5)
/-- The buffer of window 6 at a point. -/
abbrev ms0_6 (t : Fin cfg0.N) : Memref sig .tc .vmem S1x16x128x256 .bf16 := win0_6.stage (cfg0.slots t 6)
/-- It is a whole buffer. -/
abbrev hs0_6 (t : Fin cfg0.N) : (ms0_6 t).IsWhole := hstage0_6 ((cfg0.slots t 6).cast nbuf0_6)
/-- The buffer of window 7 at a point. -/
abbrev ms0_7 (t : Fin cfg0.N) : Memref sig .tc .vmem S1x16x1x256 .f32 := win0_7.stage (cfg0.slots t 7)
/-- It is a whole buffer. -/
abbrev hs0_7 (t : Fin cfg0.N) : (ms0_7 t).IsWhole := hstage0_7 ((cfg0.slots t 7).cast nbuf0_7)
/-- The buffer of window 8 at a point. -/
abbrev ms0_8 (t : Fin cfg0.N) : Memref sig .tc .vmem S1x16x1x256 .f32 := win0_8.stage (cfg0.slots t 8)
/-- It is a whole buffer. -/
abbrev hs0_8 (t : Fin cfg0.N) : (ms0_8 t).IsWhole := hstage0_8 ((cfg0.slots t 8).cast nbuf0_8)
/-- The buffer of window 9 at a point. -/
abbrev ms0_9 (t : Fin cfg0.N) : Memref sig .tc .vmem S1x16x128x256 .f32 := win0_9.stage (cfg0.slots t 9)
/-- It is a whole buffer. -/
abbrev hs0_9 (t : Fin cfg0.N) : (ms0_9 t).IsWhole := hstage0_9 ((cfg0.slots t 9).cast nbuf0_9)
/-- The buffer of window 10 at a point. -/
abbrev ms0_10 (t : Fin cfg0.N) : Memref sig .tc .vmem S1x256x128 .f32 := win0_10.stage (cfg0.slots t 10)
/-- It is a whole buffer. -/
abbrev hs0_10 (t : Fin cfg0.N) : (ms0_10 t).IsWhole := hstage0_10 ((cfg0.slots t 10).cast nbuf0_10)
/-- The buffer of window 11 at a point. -/
abbrev ms0_11 (t : Fin cfg0.N) : Memref sig .tc .vmem S1x256x128 .f32 := win0_11.stage (cfg0.slots t 11)
/-- It is a whole buffer. -/
abbrev hs0_11 (t : Fin cfg0.N) : (ms0_11 t).IsWhole := hstage0_11 ((cfg0.slots t 11).cast nbuf0_11)

/-- One grid point on its blocks, from what the query gradient's buffer holds before it. -/
def stepAt (c : Dev nD) (t : Fin cfg0.N) (dq : Vec F S1x16x128x256 .f32) : Sums F :=
  gridStep (iblk m c 0 t) (iblk m c 1 t) (iblk m c 2 t) (iblk m c 3 t) (iblk m c 4 t) (iblk m c 5 t) (iblk m c 6 t) (iblk m c 7 t) (iblk m c 8 t) (grid0.coords t 1).val dq

/-- The sums after every grid point: a head's first point starts from zero, a later one from what the point before left. -/
def outsAt0 (c : Dev nD) : (n : ℕ) → n < cfg0.N → Sums F
  | 0, hn => stepAt m c ⟨0, hn⟩ k0_pay56
  | n + 1, hn =>
    if (n + 1) % 16 = 0 then stepAt m c ⟨n + 1, hn⟩ k0_pay56
    else stepAt m c ⟨n + 1, hn⟩ (outsAt0 c n (Nat.lt_of_succ_lt hn)).2

theorem outsAt0_A (c : Dev nD) (t : Fin cfg0.N) (h0 : t.val % 16 = 0) :
    outsAt0 m c t.val t.isLt = stepAt m c t k0_pay56 := by
  obtain ⟨n, hn⟩ := t
  cases n with
  | zero => exact rfl
  | succ n => exact (if_pos h0).trans rfl

theorem outsAt0_B (c : Dev nD) (t : Fin cfg0.N) (h0 : ¬t.val % 16 = 0) :
    outsAt0 m c t.val t.isLt = stepAt m c t (outsAt0 m c (t.val - 1) (Nat.lt_of_le_of_lt (Nat.sub_le _ _) t.isLt)).2 := by
  obtain ⟨n, hn⟩ := t
  cases n with
  | zero => exact absurd (Nat.zero_mod _) h0
  | succ n => exact (if_neg h0).trans rfl

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).2
    | ⟨10, _⟩ => k0_pay3 (outsAt0 m c t.val t.isLt).1.1
    | ⟨11, _⟩ => k0_pay4 (k0_pay55 (grid0.coords t)) (outsAt0 m c t.val t.isLt).1.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).2 := by dsimp only [dats]
theorem after0_10 (c : Dev nD) (t : Fin cfg0.N) : (dats m 0 c).after 10 t = k0_pay3 (outsAt0 m c t.val t.isLt).1.1 := by dsimp only [dats]
theorem after0_11 (c : Dev nD) (t : Fin cfg0.N) : (dats m 0 c).after 11 t = k0_pay4 (k0_pay55 (grid0.coords t)) (outsAt0 m c t.val t.isLt).1.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Past a head's first point the query gradient's buffer holds what the point before left. -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

/-- A buffer written whole by one piece reads as the piece's vector. -/
theorem read_whole {v : View sig .tc .vmem S1x256x128 .f32} (f : BufTy.Contents (Elt F) v.ty) (w : Vec F S1x256x128 .f32)
    (L : List (View.Piece (Elt F) S1x256x128 .f32))
    (hL : L = [⟨Rect.unit (s := S1x256x128) ![0, 0, 0] S1x256x128.size inb_S1x256x128_S1x256x128_0_0_0, w⟩]) :
    v.read (Elt F) (v.writes (Elt F) f L) = w := by
  rw [hL]
  exact View.read_writes_full v f inb_S1x256x128_S1x256x128_0_0_0 w []

attribute [local irreducible] runA runB gridStep k0_pay56 in
set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  have hN : t.val < 128 := lt_of_lt_of_eq t.isLt (show cfg0.N = 128 from N_0)
  by_cases h0 : t.val % 16 = 0
  · rw [outsAt0_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (runA_outs (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) c ((hcond0_0 t).mpr h0) (iblk m c 0 t) (iblk m c 1 t) (iblk m c 2 t) (iblk m c 3 t) (iblk m c 4 t) (iblk m c 5 t) (iblk m c 6 t) (iblk m c 7 t) (iblk m c 8 t) e9).2.2
    isplitl [H10]
    · unfold owns; iexists _; isplitr
      swap; · iexact H10
      ipureintro; exact read_whole e10 _ _ (runA_outs (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) c ((hcond0_0 t).mpr h0) (iblk m c 0 t) (iblk m c 1 t) (iblk m c 2 t) (iblk m c 3 t) (iblk m c 4 t) (iblk m c 5 t) (iblk m c 6 t) (iblk m c 7 t) (iblk m c 8 t) (ms0_9 t).view.junk).1
    unfold owns; iexists _; isplitr
    swap; · iexact H11
    ipureintro; exact read_whole e11 _ _ (runA_outs (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) c ((hcond0_0 t).mpr h0) (iblk m c 0 t) (iblk m c 1 t) (iblk m c 2 t) (iblk m c 3 t) (iblk m c 4 t) (iblk m c 5 t) (iblk m c 6 t) (iblk m c 7 t) (iblk m c 8 t) (ms0_9 t).view.junk).2.1
  · rw [outsAt0_B m c t h0]
    simp only [before0_9_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iintro ⟨H0, H1, H2, H3, H4, H5, H6, H7, H8, H9, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (runB_outs (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) c (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2
    isplitl [H10]
    · unfold owns; iexists _; isplitr
      swap; · iexact H10
      ipureintro; exact read_whole e10 _ _ (runB_outs (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) c (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).1
    unfold owns; iexists _; isplitr
    swap; · iexact H11
    ipureintro; exact read_whole e11 _ _ (runB_outs (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) c (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.1

theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program terminates, leaves every array of the pipeline at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Flash
-- ==== Proof.Flash.Arrays.lean ====
/- What the result arrays of the attention gradient hold at the end, by the operand arrays of the call. -/
module

public import proofs.«01_k».proof.Proof.Flash.GridSums
public import proofs.«01_k».proof.Proof.Flash.Frame

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! ## The operand arrays and the heads -/

abbrev opQ (c : Dev nD) : S8x4096x128.Idx → EReal := V m c main_v49
abbrev opQT (c : Dev nD) : S8x16x128x256.Idx → EReal := V m c main_v53
abbrev opK (c : Dev nD) : S8x4096x128.Idx → EReal := V m c main_v51
abbrev opKT (c : Dev nD) : S8x16x128x256.Idx → EReal := V m c main_v55
abbrev opV (c : Dev nD) : S8x4096x128.Idx → EReal := V m c main_v65
abbrev opC (c : Dev nD) : S4096x512.Idx → EReal := V m c main_v66
abbrev opCT (c : Dev nD) : S4x16x128x256.Idx → EReal := V m c main_v68
abbrev opL (c : Dev nD) : S8x16x1x256.Idx → EReal := V m c main_v69
abbrev opD (c : Dev nD) : S8x16x1x256.Idx → EReal := V m c main_v70
/-- The saved log-sums and gradient sums before they are cut into blocks. -/
abbrev rowL (c : Dev nD) : S8x4096.Idx → EReal := V m c main_v19
abbrev rowD (c : Dev nD) : S8x4096.Idx → EReal := V m c main_v47

/-- The lane of the joined heads that head `h`'s pair holds at `d`. -/
def lane (h : Fin 8) (d : Fin 128) : Fin 512 := ⟨128 * (h.val / 2) + d.val, by have := h.isLt; have := d.isLt; omega⟩

/-- The pair that head `h` belongs to. -/
def pair (h : Fin 8) : Fin 4 := ⟨h.val / 2, by have := h.isLt; omega⟩

/-- Head `h` of the call's operands. -/
def head (c : Dev nD) (h : Fin 8) : Head where
  q r d := opQ m c (ix3 h r d)
  k r d := opK m c (ix3 h r d)
  v r d := opV m c (ix3 h r d)
  c r d := opC m c (ix2 r (lane h d))
  l r := rowL m c (ix2 h r)
  dl r := rowD m c (ix2 h r)

theorem opQT_apply (c : Dev nD) (h : Fin 8) (n : ℕ) (d : Fin 128) (b : Fin 256) :
    opQT m c (ix4 h (blkNo n) d b) = opQ m c (ix3 h (pos n b) d) := by
  have e : opQT m c = transpose S8x16x128x256 [0, 1, 3, 2] (shapeCast S8x16x256x128 (opQ m c) shapeCasts_S8x4096x128_S8x16x256x128) transposes_S8x16x256x128_S8x16x128x256_0_1_3_2 := by
    show V m c main_v53 = transpose S8x16x128x256 [0, 1, 3, 2] (shapeCast S8x16x256x128 (V m c main_v49) shapeCasts_S8x4096x128_S8x16x256x128) transposes_S8x16x256x128_S8x16x128x256_0_1_3_2
    unfold_abbrev_sides
    after_results
    rfl
  rw [e]
  generalize opQ m c = y
  pointwise
  refine congrArg (fun r => y (ix3 h r d)) (Fin.ext ?_)
  show n % 16 * 256 + b.val = 256 * (n % 16) + b.val
  omega

theorem opKT_apply (c : Dev nD) (h : Fin 8) (n : ℕ) (d : Fin 128) (b : Fin 256) :
    opKT m c (ix4 h (blkNo n) d b) = opK m c (ix3 h (pos n b) d) := by
  have e : opKT m c = transpose S8x16x128x256 [0, 1, 3, 2] (shapeCast S8x16x256x128 (opK m c) shapeCasts_S8x4096x128_S8x16x256x128) transposes_S8x16x256x128_S8x16x128x256_0_1_3_2 := by
    show V m c main_v55 = transpose S8x16x128x256 [0, 1, 3, 2] (shapeCast S8x16x256x128 (V m c main_v51) shapeCasts_S8x4096x128_S8x16x256x128) transposes_S8x16x256x128_S8x16x128x256_0_1_3_2
    unfold_abbrev_sides
    after_results
    rfl
  rw [e]
  generalize opK m c = y
  pointwise
  refine congrArg (fun r => y (ix3 h r d)) (Fin.ext ?_)
  show n % 16 * 256 + b.val = 256 * (n % 16) + b.val
  omega

theorem opCT_apply (c : Dev nD) (h : Fin 8) (n : ℕ) (d : Fin 128) (b : Fin 256) :
    opCT m c (ix4 (pair h) (blkNo n) d b) = opC m c (ix2 (pos n b) (lane h d)) := by
  have e : opCT m c = transpose S4x16x128x256 [2, 0, 3, 1] (shapeCast S16x256x4x128 (opC m c) shapeCasts_S4096x512_S16x256x4x128) transposes_S16x256x4x128_S4x16x128x256_2_0_3_1 := by
    show V m c main_v68 = transpose S4x16x128x256 [2, 0, 3, 1] (shapeCast S16x256x4x128 (V m c main_v66) shapeCasts_S4096x512_S16x256x4x128) transposes_S16x256x4x128_S4x16x128x256_2_0_3_1
    unfold_abbrev_sides
    after_results
    rfl
  rw [e]
  generalize opC m c = y
  pointwise
  refine congrArg y (congr (congrArg ix2 (Fin.ext ?_)) (Fin.ext ?_))
  · show n % 16 * 256 + b.val = 256 * (n % 16) + b.val
    omega
  · show h.val / 2 * 128 + d.val = 128 * (h.val / 2) + d.val
    omega

theorem opL_apply (c : Dev nD) (h : Fin 8) (n : ℕ) (b : Fin 256) :
    opL m c (ix4 h (blkNo n) 0 b) = rowL m c (ix2 h (pos n b)) := by
  have e : opL m c = shapeCast S8x16x1x256 (rowL m c) shapeCasts_S8x4096_S8x16x1x256 := by
    show V m c main_v69 = shapeCast S8x16x1x256 (V m c main_v19) shapeCasts_S8x4096_S8x16x1x256
    unfold_abbrev_sides
    rfl
  rw [e]
  generalize rowL m c = y
  pointwise
  refine congrArg (fun r => y (ix2 h r)) (Fin.ext ?_)
  show n % 16 * 256 + b.val = 256 * (n % 16) + b.val
  omega

theorem opD_apply (c : Dev nD) (h : Fin 8) (n : ℕ) (b : Fin 256) :
    opD m c (ix4 h (blkNo n) 0 b) = rowD m c (ix2 h (pos n b)) := by
  have e : opD m c = shapeCast S8x16x1x256 (rowD m c) shapeCasts_S8x4096_S8x16x1x256 := by
    show V m c main_v70 = shapeCast S8x16x1x256 (V m c main_v47) shapeCasts_S8x4096_S8x16x1x256
    unfold_abbrev_sides
    rfl
  rw [e]
  generalize rowD m c = y
  pointwise
  refine congrArg (fun r => y (ix2 h r)) (Fin.ext ?_)
  show n % 16 * 256 + b.val = 256 * (n % 16) + b.val
  omega

theorem index_facts : ∀ t : Fin cfg0.N,
    (win0_0.index t (0 : Fin 3) = t.val / 16 ∧ win0_0.index t (1 : Fin 3) = 0 ∧ win0_0.index t (2 : Fin 3) = 0)
    ∧ (win0_1.index t (0 : Fin 4) = t.val / 16 ∧ win0_1.index t (1 : Fin 4) = 0 ∧ win0_1.index t (2 : Fin 4) = 0 ∧ win0_1.index t (3 : Fin 4) = 0)
    ∧ (win0_2.index t (0 : Fin 3) = t.val / 16 ∧ win0_2.index t (1 : Fin 3) = t.val % 16 ∧ win0_2.index t (2 : Fin 3) = 0)
    ∧ (win0_3.index t (0 : Fin 4) = t.val / 16 ∧ win0_3.index t (1 : Fin 4) = t.val % 16 ∧ win0_3.index t (2 : Fin 4) = 0 ∧ win0_3.index t (3 : Fin 4) = 0)
    ∧ (win0_4.index t (0 : Fin 3) = t.val / 16 ∧ win0_4.index t (1 : Fin 3) = t.val % 16 ∧ win0_4.index t (2 : Fin 3) = 0)
    ∧ (win0_5.index t (0 : Fin 2) = 0 ∧ win0_5.index t (1 : Fin 2) = t.val / 16 / 2)
    ∧ (win0_6.index t (0 : Fin 4) = t.val / 16 / 2 ∧ win0_6.index t (1 : Fin 4) = 0 ∧ win0_6.index t (2 : Fin 4) = 0 ∧ win0_6.index t (3 : Fin 4) = 0)
    ∧ (win0_7.index t (0 : Fin 4) = t.val / 16 ∧ win0_7.index t (1 : Fin 4) = 0 ∧ win0_7.index t (2 : Fin 4) = 0 ∧ win0_7.index t (3 : Fin 4) = 0)
    ∧ (win0_8.index t (0 : Fin 4) = t.val / 16 ∧ win0_8.index t (1 : Fin 4) = 0 ∧ win0_8.index t (2 : Fin 4) = 0 ∧ win0_8.index t (3 : Fin 4) = 0) :=
  (by decide +kernel : ∀ t : Fin grid0.N, _)

theorem index_out : ∀ t : Fin cfg0.N,
    (win0_9.index t (0 : Fin 4) = t.val / 16 ∧ win0_9.index t (1 : Fin 4) = 0 ∧ win0_9.index t (2 : Fin 4) = 0 ∧ win0_9.index t (3 : Fin 4) = 0)
    ∧ (win0_10.index t (0 : Fin 3) = t.val / 16 ∧ win0_10.index t (1 : Fin 3) = t.val % 16 ∧ win0_10.index t (2 : Fin 3) = 0)
    ∧ (win0_11.index t (0 : Fin 3) = t.val / 16 ∧ win0_11.index t (1 : Fin 3) = t.val % 16 ∧ win0_11.index t (2 : Fin 3) = 0) :=
  (by decide +kernel : ∀ t : Fin grid0.N, _)

/-- The head that grid point `t` works on. -/
def headOf (t : Fin cfg0.N) : Fin 8 := ⟨t.val / 16, by have := lt_of_lt_of_eq t.isLt (show cfg0.N = 128 from N_0); omega⟩

theorem read0_apply (y : S8x4096x128.Idx → EReal) (t : Fin cfg0.N) (r : Fin 4096) (d : Fin 128) :
    ((cfg0.win 0).blk t).view.read (Elt Ideal) y (ix3 0 r d) = y (ix3 (headOf t) r d) := by
  obtain ⟨⟨e0, e1, e2⟩, -⟩ := index_facts t
  show y (((cfg0.win 0).blk t).view.emb (ix3 0 r d)) = _
  refine congrArg y (funext fun a => Fin.ext ?_)
  match a with
  | ⟨0, _⟩ => show win0_0.index t (0 : Fin 3) * 1 + 1 * 0 = t.val / 16; omega
  | ⟨1, _⟩ => show win0_0.index t (1 : Fin 3) * 4096 + 1 * r.val = r.val; omega
  | ⟨2, _⟩ => show win0_0.index t (2 : Fin 3) * 128 + 1 * d.val = d.val; omega

theorem read1_apply (y : S8x16x128x256.Idx → EReal) (t : Fin cfg0.N) (n : Fin 16) (d : Fin 128) (b : Fin 256) :
    ((cfg0.win 1).blk t).view.read (Elt Ideal) y (ix4 0 n d b) = y (ix4 (headOf t) n d b) := by
  obtain ⟨-, ⟨e0, e1, e2, e3⟩, -⟩ := index_facts t
  show y (((cfg0.win 1).blk t).view.emb (ix4 0 n d b)) = _
  refine congrArg y (funext fun a => Fin.ext ?_)
  match a with
  | ⟨0, _⟩ => show win0_1.index t (0 : Fin 4) * 1 + 1 * 0 = t.val / 16; omega
  | ⟨1, _⟩ => show win0_1.index t (1 : Fin 4) * 16 + 1 * n.val = n.val; omega
  | ⟨2, _⟩ => show win0_1.index t (2 : Fin 4) * 128 + 1 * d.val = d.val; omega
  | ⟨3, _⟩ => show win0_1.index t (3 : Fin 4) * 256 + 1 * b.val = b.val; omega

theorem read2_apply (y : S8x4096x128.Idx → EReal) (t : Fin cfg0.N) (a : Fin 256) (d : Fin 128) :
    ((cfg0.win 2).blk t).view.read (Elt Ideal) y (ix3 0 a d) = y (ix3 (headOf t) (pos (t.val % 16) a) d) := by
  obtain ⟨-, -, ⟨e0, e1, e2⟩, -⟩ := index_facts t
  show y (((cfg0.win 2).blk t).view.emb (ix3 0 a d)) = _
  refine congrArg y (funext fun z => Fin.ext ?_)
  match z with
  | ⟨0, _⟩ => show win0_2.index t (0 : Fin 3) * 1 + 1 * 0 = t.val / 16; omega
  | ⟨1, _⟩ => show win0_2.index t (1 : Fin 3) * 256 + 1 * a.val = 256 * (t.val % 16 % 16) + a.val; omega
  | ⟨2, _⟩ => show win0_2.index t (2 : Fin 3) * 128 + 1 * d.val = d.val; omega

theorem read3_apply (y : S8x16x128x256.Idx → EReal) (t : Fin cfg0.N) (a : Fin 256) (d : Fin 128) :
    ((cfg0.win 3).blk t).view.read (Elt Ideal) y (ix4 0 0 d a) = y (ix4 (headOf t) (blkNo (t.val % 16)) d a) := by
  obtain ⟨-, -, -, ⟨e0, e1, e2, e3⟩, -⟩ := index_facts t
  show y (((cfg0.win 3).blk t).view.emb (ix4 0 0 d a)) = _
  refine congrArg y (funext fun z => Fin.ext ?_)
  match z with
  | ⟨0, _⟩ => show win0_3.index t (0 : Fin 4) * 1 + 1 * 0 = t.val / 16; omega
  | ⟨1, _⟩ => show win0_3.index t (1 : Fin 4) * 1 + 1 * 0 = t.val % 16 % 16; omega
  | ⟨2, _⟩ => show win0_3.index t (2 : Fin 4) * 128 + 1 * d.val = d.val; omega
  | ⟨3, _⟩ => show win0_3.index t (3 : Fin 4) * 256 + 1 * a.val = a.val; omega

theorem read4_apply (y : S8x4096x128.Idx → EReal) (t : Fin cfg0.N) (a : Fin 256) (d : Fin 128) :
    ((cfg0.win 4).blk t).view.read (Elt Ideal) y (ix3 0 a d) = y (ix3 (headOf t) (pos (t.val % 16) a) d) := by
  obtain ⟨-, -, -, -, ⟨e0, e1, e2⟩, -⟩ := index_facts t
  show y (((cfg0.win 4).blk t).view.emb (ix3 0 a d)) = _
  refine congrArg y (funext fun z => Fin.ext ?_)
  match z with
  | ⟨0, _⟩ => show win0_4.index t (0 : Fin 3) * 1 + 1 * 0 = t.val / 16; omega
  | ⟨1, _⟩ => show win0_4.index t (1 : Fin 3) * 256 + 1 * a.val = 256 * (t.val % 16 % 16) + a.val; omega
  | ⟨2, _⟩ => show win0_4.index t (2 : Fin 3) * 128 + 1 * d.val = d.val; omega

theorem read5_apply (y : S4096x512.Idx → EReal) (t : Fin cfg0.N) (r : Fin 4096) (d : Fin 128) :
    ((cfg0.win 5).blk t).view.read (Elt Ideal) y (ix2 r d) = y (ix2 r (lane (headOf t) d)) := by
  obtain ⟨-, -, -, -, -, ⟨e0, e1⟩, -⟩ := index_facts t
  show y (((cfg0.win 5).blk t).view.emb (ix2 r d)) = _
  refine congrArg y (funext fun a => Fin.ext ?_)
  match a with
  | ⟨0, _⟩ => show win0_5.index t (0 : Fin 2) * 4096 + 1 * r.val = r.val; omega
  | ⟨1, _⟩ => show win0_5.index t (1 : Fin 2) * 128 + 1 * d.val = 128 * (t.val / 16 / 2) + d.val; omega

theorem read6_apply (y : S4x16x128x256.Idx → EReal) (t : Fin cfg0.N) (n : Fin 16) (d : Fin 128) (b : Fin 256) :
    ((cfg0.win 6).blk t).view.read (Elt Ideal) y (ix4 0 n d b) = y (ix4 (pair (headOf t)) n d b) := by
  obtain ⟨-, -, -, -, -, -, ⟨e0, e1, e2, e3⟩, -⟩ := index_facts t
  show y (((cfg0.win 6).blk t).view.emb (ix4 0 n d b)) = _
  refine congrArg y (funext fun a => Fin.ext ?_)
  match a with
  | ⟨0, _⟩ => show win0_6.index t (0 : Fin 4) * 1 + 1 * 0 = t.val / 16 / 2; omega
  | ⟨1, _⟩ => show win0_6.index t (1 : Fin 4) * 16 + 1 * n.val = n.val; omega
  | ⟨2, _⟩ => show win0_6.index t (2 : Fin 4) * 128 + 1 * d.val = d.val; omega
  | ⟨3, _⟩ => show win0_6.index t (3 : Fin 4) * 256 + 1 * b.val = b.val; omega

theorem read7_apply (y : S8x16x1x256.Idx → EReal) (t : Fin cfg0.N) (n : Fin 16) (b : Fin 256) :
    ((cfg0.win 7).blk t).view.read (Elt Ideal) y (ix4 0 n 0 b) = y (ix4 (headOf t) n 0 b) := by
  obtain ⟨-, -, -, -, -, -, -, ⟨e0, e1, e2, e3⟩, -⟩ := index_facts t
  show y (((cfg0.win 7).blk t).view.emb (ix4 0 n 0 b)) = _
  refine congrArg y (funext fun a => Fin.ext ?_)
  match a with
  | ⟨0, _⟩ => show win0_7.index t (0 : Fin 4) * 1 + 1 * 0 = t.val / 16; omega
  | ⟨1, _⟩ => show win0_7.index t (1 : Fin 4) * 16 + 1 * n.val = n.val; omega
  | ⟨2, _⟩ => show win0_7.index t (2 : Fin 4) * 1 + 1 * 0 = 0; omega
  | ⟨3, _⟩ => show win0_7.index t (3 : Fin 4) * 256 + 1 * b.val = b.val; omega

theorem read8_apply (y : S8x16x1x256.Idx → EReal) (t : Fin cfg0.N) (n : Fin 16) (b : Fin 256) :
    ((cfg0.win 8).blk t).view.read (Elt Ideal) y (ix4 0 n 0 b) = y (ix4 (headOf t) n 0 b) := by
  obtain ⟨-, -, -, -, -, -, -, -, ⟨e0, e1, e2, e3⟩⟩ := index_facts t
  show y (((cfg0.win 8).blk t).view.emb (ix4 0 n 0 b)) = _
  refine congrArg y (funext fun a => Fin.ext ?_)
  match a with
  | ⟨0, _⟩ => show win0_8.index t (0 : Fin 4) * 1 + 1 * 0 = t.val / 16; omega
  | ⟨1, _⟩ => show win0_8.index t (1 : Fin 4) * 16 + 1 * n.val = n.val; omega
  | ⟨2, _⟩ => show win0_8.index t (2 : Fin 4) * 1 + 1 * 0 = 0; omega
  | ⟨3, _⟩ => show win0_8.index t (3 : Fin 4) * 256 + 1 * b.val = b.val; omega

/-- The blocks that grid point `t` reads of arrays that agree with each other are those of one head. -/
theorem blocks_of (t : Fin cfg0.N) (q k v : S8x4096x128.Idx → EReal) (qt kt : S8x16x128x256.Idx → EReal) (g : S4096x512.Idx → EReal)
    (gt : S4x16x128x256.Idx → EReal) (l dl : S8x16x1x256.Idx → EReal) (l' dl' : S8x4096.Idx → EReal)
    (hq : ∀ h n d b, qt (ix4 h (blkNo n) d b) = q (ix3 h (pos n b) d)) (hk : ∀ h n d b, kt (ix4 h (blkNo n) d b) = k (ix3 h (pos n b) d))
    (hg : ∀ h n d b, gt (ix4 (pair h) (blkNo n) d b) = g (ix2 (pos n b) (lane h d)))
    (hl : ∀ h n b, l (ix4 h (blkNo n) 0 b) = l' (ix2 h (pos n b))) (hd : ∀ h n b, dl (ix4 h (blkNo n) 0 b) = dl' (ix2 h (pos n b))) :
    Blocks ⟨fun r d => q (ix3 (headOf t) r d), fun r d => k (ix3 (headOf t) r d), fun r d => v (ix3 (headOf t) r d),
        fun r d => g (ix2 r (lane (headOf t) d)), fun r => l' (ix2 (headOf t) r), fun r => dl' (ix2 (headOf t) r)⟩ (t.val % 16)
      (((cfg0.win 0).blk t).view.read (Elt Ideal) q) (((cfg0.win 1).blk t).view.read (Elt Ideal) qt) (((cfg0.win 2).blk t).view.read (Elt Ideal) k) (((cfg0.win 3).blk t).view.read (Elt Ideal) kt)
      (((cfg0.win 4).blk t).view.read (Elt Ideal) v) (((cfg0.win 5).blk t).view.read (Elt Ideal) g) (((cfg0.win 6).blk t).view.read (Elt Ideal) gt)
      (((cfg0.win 7).blk t).view.read (Elt Ideal) l) (((cfg0.win 8).blk t).view.read (Elt Ideal) dl) := by
  constructor
  · exact fun r d => read0_apply q t r d
  · exact fun n d b => (read1_apply qt t _ d b).trans (hq _ n d b)
  · exact fun a d => read2_apply k t a d
  · exact fun d a => (read3_apply kt t a d).trans (hk _ _ d a)
  · exact fun a d => read4_apply v t a d
  · exact fun r d => read5_apply g t r d
  · exact fun n d b => (read6_apply gt t _ d b).trans (hg _ n d b)
  · exact fun n b => (read7_apply l t _ b).trans (hl _ n b)
  · exact fun n b => (read8_apply dl t _ b).trans (hd _ n b)

/-- The blocks of grid point `t` are its head's. -/
theorem blocks (c : Dev nD) (t : Fin cfg0.N) :
    Blocks (head m c (headOf t)) (t.val % 16) (iblk m c 0 t) (iblk m c 1 t) (iblk m c 2 t) (iblk m c 3 t) (iblk m c 4 t)
      (iblk m c 5 t) (iblk m c 6 t) (iblk m c 7 t) (iblk m c 8 t) :=
  blocks_of t (V m c main_v49) (V m c main_v51) (V m c main_v65) (V m c main_v53) (V m c main_v55) (V m c main_v66) (V m c main_v68)
    (V m c main_v69) (V m c main_v70) (V m c main_v19) (V m c main_v47) (opQT_apply m c) (opKT_apply m c) (opCT_apply m c)
    (opL_apply m c) (opD_apply m c)

theorem coord1 (t : Fin cfg0.N) : (grid0.coords t 1).val = t.val % 16 := by
  have e1 : (grid0.coords t 1).val = t.val / 1 % 16 := Pipeline.Grid.coords_val t 1 (by decide) rfl
  rw [e1, Nat.div_one]

theorem coord0 (t : Fin cfg0.N) : (grid0.coords t 0).val = t.val / 16 := by
  have hN : t.val < 128 := lt_of_lt_of_eq t.isLt (show cfg0.N = 128 from N_0)
  have e1 : (grid0.coords t 0).val = t.val / 16 % 8 := Pipeline.Grid.coords_val t 0 (by decide) rfl
  rw [e1]; omega

/-- The query gradient's buffer before grid point `t`. -/
theorem outs_step (c : Dev nD) (t : Fin cfg0.N) : ∃ dq, outsAt0 m c t.val t.isLt = stepAt m c t dq := by
  by_cases h0 : t.val % 16 = 0
  · exact ⟨_, outsAt0_A m c t h0⟩
  · exact ⟨_, outsAt0_B m c t h0⟩

theorem outs_dk (c : Dev nD) (t : Fin cfg0.N) (a : Fin 256) (d : Fin 128) :
    ((outsAt0 m c t.val t.isLt).1.1 (ix2 a d) : EReal)
      = ∑ n ∈ Finset.range 16, (head m c (headOf t)).dkBlock n (pos (t.val % 16) a) d := by
  obtain ⟨dq, h⟩ := outs_step m c t
  rw [h]
  unfold stepAt
  rw [coord1]
  exact grid_dk (blocks m c t) (Nat.mod_lt _ (by decide)) dq a d

theorem outs_dv (c : Dev nD) (t : Fin cfg0.N) (a : Fin 256) (d : Fin 128) :
    ((outsAt0 m c t.val t.isLt).1.2 (ix2 a d) : EReal)
      = ∑ n ∈ Finset.range 16, (head m c (headOf t)).dvBlock n (pos (t.val % 16) a) d := by
  obtain ⟨dq, h⟩ := outs_step m c t
  rw [h]
  unfold stepAt
  rw [coord1]
  exact grid_dv (blocks m c t) (Nat.mod_lt _ (by decide)) dq a d

theorem step_dq (c : Dev nD) (t : Fin cfg0.N) (dq : Vec Ideal S1x16x128x256 .f32) (n : ℕ) (hn : n < 16) (d : Fin 128) (b : Fin 256) :
    ((stepAt m c t dq).2 (ix4 0 (blkNo n) d b) : EReal)
      = (dq (ix4 0 (blkNo n) d b) + (head m c (headOf t)).dqBlock (t.val % 16) (pos n b) d : EReal) := by
  unfold stepAt
  rw [coord1]
  exact grid_dq (blocks m c t) (Nat.mod_lt _ (by decide)) dq n hn d b

/-- After the point of key block `j` the query gradient is the sum over the blocks up to it. -/
theorem outs_dq (c : Dev nD) (n : ℕ) (hn : n < 16) (d : Fin 128) (b : Fin 256) : ∀ (j : ℕ) (hj : j < 16) (t : Fin cfg0.N) (_ : t.val % 16 = j),
    ((outsAt0 m c t.val t.isLt).2 (ix4 0 (blkNo n) d b) : EReal)
      = ∑ i ∈ Finset.range (j + 1), (head m c (headOf t)).dqBlock i (pos n b) d
  | 0, hj, t, ht => by
    rw [outsAt0_A m c t ht, step_dq m c t _ n hn, pay56_apply, zero_add, Finset.sum_range_one, ht]
  | j + 1, hj, t, ht => by
    have hN : t.val < 128 := lt_of_lt_of_eq t.isLt (show cfg0.N = 128 from N_0)
    have e : headOf (⟨t.val - 1, Nat.lt_of_le_of_lt (Nat.sub_le _ _) t.isLt⟩ : Fin cfg0.N) = headOf t :=
      Fin.ext (by show (t.val - 1) / 16 = t.val / 16; omega)
    have ih := outs_dq c n hn d b j (by omega) ⟨t.val - 1, Nat.lt_of_le_of_lt (Nat.sub_le _ _) t.isLt⟩
      (by show (t.val - 1) % 16 = j; omega)
    rw [e] at ih
    rw [outsAt0_B m c t (by omega), step_dq m c t _ n hn, Finset.sum_range_succ, ← ih, ht]

/-! ## The three result arrays -/

/-- The block and the place in it of a position. -/
theorem pos_split (r : Fin 4096) : pos (r.val / 256) ⟨r.val % 256, Nat.mod_lt _ (by decide)⟩ = r := by
  have := r.isLt
  refine Fin.ext ?_
  show 256 * (r.val / 256 % 16) + r.val % 256 = r.val
  omega

/-- The gradient at the keys. -/
def GK (c : Dev nD) : S8x4096x128.Idx → EReal := fun i => ∑ n ∈ Finset.range 16, (head m c (i 0)).dkBlock n (i 1) (i 2)
/-- The gradient at the queries, lanes down and queries across. -/
def GQ (c : Dev nD) : S8x16x128x256.Idx → EReal := fun i => ∑ j ∈ Finset.range 16, (head m c (i 0)).dqBlock j (pos (i 1).val (i 3)) (i 2)
/-- The gradient at the values: nothing in the lanes of the pair's other head. -/
def GV (c : Dev nD) : S8x4096x128.Idx → EReal := fun i =>
  if (i 2).val / 64 = (i 0).val % 2 then ∑ n ∈ Finset.range 16, (head m c (i 0)).dvBlock n (i 1) (i 2) else 0

/-- The half of the pair's lanes that lane `d` lies in is compared with the head's place in its pair. -/
theorem lanes_word : ∀ (d : Fin 128) (h : Fin 8),
    (Scalar.select
          (IntOp.andi
            (IntOp.cmpi CmpIPredicate.ne
              (IntOp.subi (BitVec.setWidth 32 (IntOp.cmpi CmpIPredicate.sgt (BitVec.ofNat 32 d.val) 0#32))
                (BitVec.setWidth 32 (IntOp.cmpi CmpIPredicate.slt (BitVec.ofNat 32 d.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 d.val) 64#32) 0#32))
          (IntOp.subi (IntOp.divsi ArithUnit.vector (BitVec.ofNat 32 d.val) 64#32) 1#32)
          (IntOp.divsi ArithUnit.vector (BitVec.ofNat 32 d.val) 64#32) : BitVec 32) = BitVec.ofNat 32 (d.val / 64) ∧
    (Scalar.select
          (Scalar.andi
            (Scalar.xori
              (Scalar.cmpi CmpIPredicate.slt
                (Scalar.remsi (BitVec.ofNat 32 h.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (Scalar.cmpi CmpIPredicate.ne
              (Scalar.remsi (BitVec.ofNat 32 h.val)
                (Scalar.select (Scalar.cmpi CmpIPredicate.eq 2#32 0#32) 1#32 2#32))
              0#32))
          (Scalar.addi
            (Scalar.remsi (BitVec.ofNat 32 h.val)
              (Scalar.select (Scalar.cmpi CmpIPredicate.eq 2#32 0#32) 1#32 2#32))
            (Scalar.select (Scalar.cmpi CmpIPredicate.eq 2#32 0#32) 1#32 2#32))
          (Scalar.remsi (BitVec.ofNat 32 h.val)
            (Scalar.select (Scalar.cmpi CmpIPredicate.eq 2#32 0#32) 1#32 2#32)) : BitVec 32) = BitVec.ofNat 32 (h.val % 2) := by
  decide +kernel

theorem halves : ∀ (d : Fin 128) (h : Fin 8),
    (IntOp.cmpi CmpIPredicate.eq (BitVec.ofNat 32 (d.val / 64)) (BitVec.ofNat 32 (h.val % 2)) = 1#1) = (d.val / 64 = h.val % 2) := by
  decide +kernel

theorem pay4_apply (t : Fin cfg0.N) (x : Vec Ideal S256x128 .f32) (a : Fin 256) (d : Fin 128) :
    k0_pay4 (F := Ideal) (k0_pay55 (grid0.coords t)) x (ix3 0 a d)
      = (if d.val / 64 = t.val / 16 % 2 then (x (ix2 a d) : EReal) else 0 : EReal) := by
  have h0 : (grid0.coords t 0).val = (headOf t).val := coord0 t
  pointwise [k0_pay4, k0_pay55]
  rw [h0, (lanes_word d (headOf t)).1, (lanes_word d (headOf t)).2]
  simp only [Scalar.select]
  exact if_congr (Iff.of_eq (halves d (headOf t))) rfl rfl

theorem flushedQ (c : Dev nD) (t : Fin cfg0.N) (hf : (cfg0.win 9).flush t = true) :
    (dats m 0 c).flushed 9 t = ((cfg0.win 9).blk t).view.read (Elt Ideal) (GQ m c) := by
  show (cfg0.win 9).cut (grid0.coords t) ((dats m 0 c).after 9 t) = _
  rw [after0_9]
  have hm : t.val % 16 = 15 := (flush0_9 t).mp hf
  obtain ⟨⟨e0, e1, e2, e3⟩, -, -⟩ := index_out t
  funext y
  obtain ⟨n, d, b, rfl⟩ : ∃ (n : Fin 16) (d : Fin 128) (b : Fin 256), y = ix4 0 n d b :=
    ⟨y 1, y 2, y 3, (eq_ix4 y).trans (congrArg (fun z => ix4 z (y 1) (y 2) (y 3)) (Subsingleton.elim (α := Fin 1) (y 0) 0))⟩
  have hemb : ((cfg0.win 9).blk t).view.emb (ix4 0 n d b) = (ix4 (headOf t) n d b : S8x16x128x256.Idx) := by
    funext z; apply Fin.ext
    match z with
    | ⟨0, _⟩ => show win0_9.index t (0 : Fin 4) * 1 + 1 * 0 = t.val / 16; omega
    | ⟨1, _⟩ => show win0_9.index t (1 : Fin 4) * 16 + 1 * n.val = n.val; omega
    | ⟨2, _⟩ => show win0_9.index t (2 : Fin 4) * 128 + 1 * d.val = d.val; omega
    | ⟨3, _⟩ => show win0_9.index t (3 : Fin 4) * 256 + 1 * b.val = b.val; omega
  refine Eq.trans ?_ (congrArg (GQ m c) hemb).symm
  have e := outs_dq m c n.val n.isLt d b 15 (by decide) t hm
  rw [show blkNo n.val = n from Fin.ext (Nat.mod_eq_of_lt n.isLt)] at e
  exact e

theorem flushedK (c : Dev nD) (t : Fin cfg0.N) (hf : (cfg0.win 10).flush t = true) :
    (dats m 0 c).flushed 10 t = ((cfg0.win 10).blk t).view.read (Elt Ideal) (GK m c) := by
  show (cfg0.win 10).cut (grid0.coords t) ((dats m 0 c).after 10 t) = _
  rw [after0_10]
  obtain ⟨-, ⟨e0, e1, e2⟩, -⟩ := index_out t
  funext y
  obtain ⟨a, d, rfl⟩ : ∃ (a : Fin 256) (d : Fin 128), y = ix3 0 a d :=
    ⟨y 1, y 2, (eq_ix3 y).trans (congrArg (fun z => ix3 z (y 1) (y 2)) (Subsingleton.elim (α := Fin 1) (y 0) 0))⟩
  have hemb : ((cfg0.win 10).blk t).view.emb (ix3 0 a d) = (ix3 (headOf t) (pos (t.val % 16) a) d : S8x4096x128.Idx) := by
    funext z; apply Fin.ext
    match z with
    | ⟨0, _⟩ => show win0_10.index t (0 : Fin 3) * 1 + 1 * 0 = t.val / 16; omega
    | ⟨1, _⟩ => show win0_10.index t (1 : Fin 3) * 256 + 1 * a.val = 256 * (t.val % 16 % 16) + a.val; omega
    | ⟨2, _⟩ => show win0_10.index t (2 : Fin 3) * 128 + 1 * d.val = d.val; omega
  refine Eq.trans ?_ (congrArg (GK m c) hemb).symm
  exact (pay3_apply _ a d).trans (outs_dk m c t a d)

theorem flushedV (c : Dev nD) (t : Fin cfg0.N) (hf : (cfg0.win 11).flush t = true) :
    (dats m 0 c).flushed 11 t = ((cfg0.win 11).blk t).view.read (Elt Ideal) (GV m c) := by
  show (cfg0.win 11).cut (grid0.coords t) ((dats m 0 c).after 11 t) = _
  rw [after0_11]
  obtain ⟨-, -, ⟨e0, e1, e2⟩⟩ := index_out t
  funext y
  obtain ⟨a, d, rfl⟩ : ∃ (a : Fin 256) (d : Fin 128), y = ix3 0 a d :=
    ⟨y 1, y 2, (eq_ix3 y).trans (congrArg (fun z => ix3 z (y 1) (y 2)) (Subsingleton.elim (α := Fin 1) (y 0) 0))⟩
  have hemb : ((cfg0.win 11).blk t).view.emb (ix3 0 a d) = (ix3 (headOf t) (pos (t.val % 16) a) d : S8x4096x128.Idx) := by
    funext z; apply Fin.ext
    match z with
    | ⟨0, _⟩ => show win0_11.index t (0 : Fin 3) * 1 + 1 * 0 = t.val / 16; omega
    | ⟨1, _⟩ => show win0_11.index t (1 : Fin 3) * 256 + 1 * a.val = 256 * (t.val % 16 % 16) + a.val; omega
    | ⟨2, _⟩ => show win0_11.index t (2 : Fin 3) * 128 + 1 * d.val = d.val; omega
  refine Eq.trans ?_ (congrArg (GV m c) hemb).symm
  refine (pay4_apply t _ a d).trans ?_
  rw [outs_dv m c t a d]
  rfl

theorem mem_blk9 (t : Fin cfg0.N) (i : S8x16x128x256.Idx) :
    i ∈ ((cfg0.win 9).blk t).view.set ↔ ∀ a : Fin 4, win0_9.index t a * ![1, 16, 128, 256] a ≤ (i a).val ∧ (i a).val < win0_9.index t a * ![1, 16, 128, 256] a + ![1, 16, 128, 256] a := by
  show i ∈ ((View.whole main_v71_0).slice (win0_9.rect t)).set ↔ _
  rw [View.set_slice_whole, Rect.mem_set_unit]
  exact Iff.rfl

theorem mem_blk10 (t : Fin cfg0.N) (i : S8x4096x128.Idx) :
    i ∈ ((cfg0.win 10).blk t).view.set ↔ ∀ a : Fin 3, win0_10.index t a * ![1, 256, 128] a ≤ (i a).val ∧ (i a).val < win0_10.index t a * ![1, 256, 128] a + ![1, 256, 128] a := by
  show i ∈ ((View.whole main_v71_1).slice (win0_10.rect t)).set ↔ _
  rw [View.set_slice_whole, Rect.mem_set_unit]
  exact Iff.rfl

theorem mem_blk11 (t : Fin cfg0.N) (i : S8x4096x128.Idx) :
    i ∈ ((cfg0.win 11).blk t).view.set ↔ ∀ a : Fin 3, win0_11.index t a * ![1, 256, 128] a ≤ (i a).val ∧ (i a).val < win0_11.index t a * ![1, 256, 128] a + ![1, 256, 128] a := by
  show i ∈ ((View.whole main_v71_2).slice (win0_11.rect t)).set ↔ _
  rw [View.set_slice_whole, Rect.mem_set_unit]
  exact Iff.rfl

theorem coverQ (i : S8x16x128x256.Idx) : ∃ t : Fin cfg0.N, (cfg0.win 9).flush t = true ∧ i ∈ ((cfg0.win 9).blk t).view.set := by
  have h0 : (i 0).val < 8 := (i 0).isLt
  have h1 : (i 1).val < 16 := (i 1).isLt
  have h2 : (i 2).val < 128 := (i 2).isLt
  have h3 : (i 3).val < 256 := (i 3).isLt
  have hN : cfg0.N = 128 := N_0
  obtain ⟨t, ht⟩ : ∃ t : Fin cfg0.N, t.val = 16 * (i 0).val + 15 := ⟨⟨16 * (i 0).val + 15, by omega⟩, rfl⟩
  obtain ⟨⟨e0, e1, e2, e3⟩, -, -⟩ := index_out t
  refine ⟨t, (flush0_9 t).mpr (by omega), (mem_blk9 t i).mpr fun a => ?_⟩
  match a with
  | ⟨0, _⟩ => show win0_9.index t (0 : Fin 4) * 1 ≤ (i 0).val ∧ (i 0).val < win0_9.index t (0 : Fin 4) * 1 + 1; rw [e0]; omega
  | ⟨1, _⟩ => show win0_9.index t (1 : Fin 4) * 16 ≤ (i 1).val ∧ (i 1).val < win0_9.index t (1 : Fin 4) * 16 + 16; rw [e1]; omega
  | ⟨2, _⟩ => show win0_9.index t (2 : Fin 4) * 128 ≤ (i 2).val ∧ (i 2).val < win0_9.index t (2 : Fin 4) * 128 + 128; rw [e2]; omega
  | ⟨3, _⟩ => show win0_9.index t (3 : Fin 4) * 256 ≤ (i 3).val ∧ (i 3).val < win0_9.index t (3 : Fin 4) * 256 + 256; rw [e3]; omega

/-- The grid point of a head and a block of keys. -/
theorem point_of (i : S8x4096x128.Idx) : ∃ t : Fin cfg0.N, t.val / 16 = (i 0).val ∧ t.val % 16 = (i 1).val / 256 := by
  have h0 : (i 0).val < 8 := (i 0).isLt
  have h1 : (i 1).val < 4096 := (i 1).isLt
  have hN : cfg0.N = 128 := N_0
  exact ⟨⟨16 * (i 0).val + (i 1).val / 256, by omega⟩, by show (16 * (i 0).val + (i 1).val / 256) / 16 = _; omega,
    by show (16 * (i 0).val + (i 1).val / 256) % 16 = _; omega⟩

theorem coverK (i : S8x4096x128.Idx) : ∃ t : Fin cfg0.N, (cfg0.win 10).flush t = true ∧ i ∈ ((cfg0.win 10).blk t).view.set := by
  have h2 : (i 2).val < 128 := (i 2).isLt
  obtain ⟨t, ht0, ht1⟩ := point_of i
  obtain ⟨-, ⟨e0, e1, e2⟩, -⟩ := index_out t
  refine ⟨t, flush0_10 t, (mem_blk10 t i).mpr fun a => ?_⟩
  match a with
  | ⟨0, _⟩ => show win0_10.index t (0 : Fin 3) * 1 ≤ (i 0).val ∧ (i 0).val < win0_10.index t (0 : Fin 3) * 1 + 1; rw [e0]; omega
  | ⟨1, _⟩ => show win0_10.index t (1 : Fin 3) * 256 ≤ (i 1).val ∧ (i 1).val < win0_10.index t (1 : Fin 3) * 256 + 256; rw [e1]; omega
  | ⟨2, _⟩ => show win0_10.index t (2 : Fin 3) * 128 ≤ (i 2).val ∧ (i 2).val < win0_10.index t (2 : Fin 3) * 128 + 128; rw [e2]; omega

theorem coverV (i : S8x4096x128.Idx) : ∃ t : Fin cfg0.N, (cfg0.win 11).flush t = true ∧ i ∈ ((cfg0.win 11).blk t).view.set := by
  have h2 : (i 2).val < 128 := (i 2).isLt
  obtain ⟨t, ht0, ht1⟩ := point_of i
  obtain ⟨-, -, ⟨e0, e1, e2⟩⟩ := index_out t
  refine ⟨t, flush0_11 t, (mem_blk11 t i).mpr fun a => ?_⟩
  match a with
  | ⟨0, _⟩ => show win0_11.index t (0 : Fin 3) * 1 ≤ (i 0).val ∧ (i 0).val < win0_11.index t (0 : Fin 3) * 1 + 1; rw [e0]; omega
  | ⟨1, _⟩ => show win0_11.index t (1 : Fin 3) * 256 ≤ (i 1).val ∧ (i 1).val < win0_11.index t (1 : Fin 3) * 256 + 256; rw [e1]; omega
  | ⟨2, _⟩ => show win0_11.index t (2 : Fin 3) * 128 ≤ (i 2).val ∧ (i 2).val < win0_11.index t (2 : Fin 3) * 128 + 128; rw [e2]; omega

/-- The run, with the three result arrays named. -/
theorem run_values (ρ : Dev nD → PrngReg) : θ_run defs (onTc (τ := τ) (main (F := Ideal))) ⟨m, fun _ => 0, ρ⟩ fun r => ∀ c : Dev nD,
      r.2.mem ((c : Thread nD τ).loc main_v71_0) = GQ m c
      ∧ r.2.mem ((c : Thread nD τ).loc main_v71_1) = GK m c
      ∧ r.2.mem ((c : Thread nD τ).loc main_v71_2) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h.1 c).1 9).trans ((dats m 0 c).arrAt_eq_of_cover 9 _ (fun t hf => flushedQ m c t hf) coverQ),
      ((h.1 c).1 10).trans ((dats m 0 c).arrAt_eq_of_cover 10 _ (fun t hf => flushedK m c t hf) coverK),
      ((h.1 c).1 11).trans ((dats m 0 c).arrAt_eq_of_cover 11 _ (fun t hf => flushedV m c t hf) coverV), h.2 c⟩)
    (θ_run_and (run_main m ρ) (frame_of m ρ (dats m) (A_eq m) (run_main m ρ)))

end Cert.KernelIdeal.Flash

end
-- ==== Proof.Flash.Host.lean ====
/- What the host prepares for the attention gradient, by the call's arguments. -/
module

public import proofs.«01_k».proof.Proof.Flash.Arrays
public import Idealize.ShloMosaic.Lib.WordCmp

@[expose] public section
set_option maxRecDepth 16384
noncomputable section
namespace Cert.KernelIdeal.Flash
open Idealize.ShloMosaic Idealize.ShloMosaic.TcCoe Idealize.SL.Sem
open Cert.KernelIdeal Cert.KernelIdeal.Gen
variable (m : (ℓ : Loc nD τ sig) → Buf (Elt Ideal) ℓ)

/-- The scaled queries. -/
def scaled (q : FVec Ideal S4096x8x96 .bf16) : FVec Ideal S4096x8x96 .bf16 :=
  truncf .bf16 (mulf (extf .f32 q bitsLt_bf16_f32) (broadcastInDim S4096x8x96 ![] bcast_S_S4096x8x96 (constant S_ .f32 0x3DD105EC#32))) bitsLt_bf16_f32

/-- The masked scores. -/
def scores (qs k : FVec Ideal S4096x8x96 .bf16) : FVec Ideal S8x4096x4096 .f32 :=
  select (broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (Host.dotGeneral (F := Ideal) (φ₁ := .bf16) (φ₂ := .bf16) dot_S4096x8x96_S4096x8x96_S8x4096x4096_2_2_0_0_1_1 none qs k)
    (broadcastInDim S8x4096x4096 ![] bcast_S_S8x4096x4096 (constant S_ .f32 0xFF800000#32))

/-- Each row's largest score. -/
def rowMax (s : FVec Ideal S8x4096x4096 .f32) : FVec Ideal S8x4096 .f32 :=
  Host.reduce FloatOps.maximumf s (constant S_ .f32 0xFF800000#32) reducesTo_S8x4096x4096_S8x4096_d2 h_S_

/-- The exponentials of the scores less a value of the row. -/
def expOf (s : FVec Ideal S8x4096x4096 .f32) (a : FVec Ideal S8x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 a)))

/-- Each row's sum. -/
def rowSum (e : FVec Ideal S8x4096x4096 .f32) : FVec Ideal S8x4096 .f32 :=
  Host.reduceAdd e (constant S_ .f32 0x00000000#32) reducesTo_S8x4096x4096_S8x4096_d2 h_S_

/-- A row's largest score and the logarithm of its sum. -/
def logSumOf (a b : FVec Ideal S8x4096 .f32) : FVec Ideal S8x4096 .f32 := addf a (Host.log b)

/-- Each row's log-sum. -/
def logSum (s : FVec Ideal S8x4096x4096 .f32) : FVec Ideal S8x4096 .f32 :=
  logSumOf (rowMax s) (rowSum (expOf s (rowMax s)))

/-- The value that the softmax takes from each row, by the row's largest. -/
def shiftOf (a : FVec Ideal S8x4096 .f32) : FVec Ideal S8x4096 .f32 :=
  maximumf (broadcastInDim S8x4096 ![] bcast_S_S8x4096 (constant S_ .f32 0xFF800000#32)) a

/-- The exponentials over their rows' sums. -/
def weightsOf (e : FVec Ideal S8x4096x4096 .f32) (b : FVec Ideal S8x4096 .f32) : FVec Ideal S8x4096x4096 .bf16 :=
  truncf .bf16 (Host.divf e (broadcastInDim S8x4096x4096 ![0, 1, 2] bcast_S8x4096x1_S8x4096x4096_0_1_2
    (broadcastInDim S8x4096x1 ![0, 1] bcast_S8x4096_S8x4096x1_0_1 b))) bitsLt_bf16_f32

/-- The sums over the lanes of the gradient times the output. -/
def gradSum (ct v : FVec Ideal S4096x8x64 .bf16) (p : FVec Ideal S8x4096x4096 .bf16) : FVec Ideal S8x4096 .f32 :=
  transpose S8x4096 [1, 0] (Host.reduceAdd (mulf (extf .f32 ct bitsLt_bf16_f32)
      (extf .f32 (truncf .bf16 (transpose S4096x8x64 [2, 0, 1]
        (Host.dotGeneral dot_S4096x8x64_S8x4096x4096_S8x64x4096_0_2_2_1_1_0 none v p) transposes_S8x64x4096_S4096x8x64_2_0_1) bitsLt_bf16_f32) bitsLt_bf16_f32))
    (constant S_ .f32 0x00000000#32) reducesTo_S4096x8x64_S4096x8_d2 h_S_) transposes_S4096x8_S8x4096_1_0

/-- A pad of the lanes up to 128 by the integer zero, heads first. -/
def padded (x : FVec Ideal S4096x8x96 .bf16) : FVec Ideal S8x4096x128 .bf16 :=
  transpose S8x4096x128 [1, 0, 2] (pad S4096x8x128 ![0, 0, 0] ![0, 0, 32] ![0, 0, 0] x (sitofp .bf16 (constantI S_ 32 0#32)) pads_S4096x8x96_S4096x8x128_000_000_0320 h_S_) transposes_S4096x8x128_S8x4096x128_1_0_2

/-- The values, each in its own half of its pair's lanes, heads first. -/
def halved (v : FVec Ideal S4096x8x64 .bf16) : FVec Ideal S8x4096x128 .bf16 :=
  transpose S8x4096x128 [1, 0, 2] (shapeCast S4096x8x128 (select
      (broadcastInDim S4096x4x2x2x64 ![2, 3, 4] bcast_S2x2x1_S4096x4x2x2x64_2_3_4 (broadcastInDim S2x2x1 ![0, 1] bcast_S2x2_S2x2x1_0_1
        (cmpi .eq (addi (iotaInDim S2x2 32 0) (broadcastInDim S2x2 ![] bcast_S_S2x2 (constantI S_ 32 0#32))) (iotaInDim S2x2 32 1))))
      (broadcastInDim S4096x4x2x2x64 ![0, 1, 2, 3, 4] bcast_S4096x4x2x1x64_S4096x4x2x2x64_0_1_2_3_4 (shapeCast S4096x4x2x1x64 v shapeCasts_S4096x8x64_S4096x4x2x1x64))
      (broadcastInDim S4096x4x2x2x64 ![] bcast_S_S4096x4x2x2x64 (constant S_ .bf16 0x0000#16))) shapeCasts_S4096x4x2x2x64_S4096x8x128) transposes_S4096x8x128_S8x4096x128_1_0_2

/-! ## The arrays as the host leaves them -/

abbrev argQ (c : Dev nD) : FVec Ideal S4096x8x96 .bf16 := m ((c : Thread nD τ).loc main_arg0)
abbrev argK (c : Dev nD) : FVec Ideal S4096x8x96 .bf16 := m ((c : Thread nD τ).loc main_arg1)
abbrev argV (c : Dev nD) : FVec Ideal S4096x8x64 .bf16 := m ((c : Thread nD τ).loc main_arg2)
abbrev argC (c : Dev nD) : FVec Ideal S4096x8x64 .bf16 := m ((c : Thread nD τ).loc main_arg3)
/-- The masked scores of the arguments. -/
abbrev argS (c : Dev nD) : FVec Ideal S8x4096x4096 .f32 := scores (scaled (argQ m c)) (argK m c)

theorem rowL_eq (c : Dev nD) : rowL m c = logSum (argS m c) := by
  show V m c main_v19 = logSum (scores (scaled (m ((c : Thread nD τ).loc main_arg0))) (m ((c : Thread nD τ).loc main_arg1)))
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold logSum logSumOf rowMax rowSum expOf scores scaled
  rfl

theorem rowD_eq (c : Dev nD) : rowD m c = gradSum (argC m c) (argV m c) (weightsOf (expOf (argS m c) (shiftOf (rowMax (argS m c)))) (rowSum (expOf (argS m c) (shiftOf (rowMax (argS m c)))))) := by
  show V m c main_v47 = gradSum (m ((c : Thread nD τ).loc main_arg3)) (m ((c : Thread nD τ).loc main_arg2)) (weightsOf (expOf (scores (scaled (m ((c : Thread nD τ).loc main_arg0))) (m ((c : Thread nD τ).loc main_arg1))) (shiftOf (rowMax (scores (scaled (m ((c : Thread nD τ).loc main_arg0))) (m ((c : Thread nD τ).loc main_arg1)))))) (rowSum (expOf (scores (scaled (m ((c : Thread nD τ).loc main_arg0))) (m ((c : Thread nD τ).loc main_arg1))) (shiftOf (rowMax (scores (scaled (m ((c : Thread nD τ).loc main_arg0))) (m ((c : Thread nD τ).loc main_arg1))))))))
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold gradSum weightsOf shiftOf rowMax rowSum expOf scores scaled
  rfl

theorem opQ_eq (c : Dev nD) : opQ m c = padded (scaled (argQ m c)) := by
  show V m c main_v49 = padded (scaled (m ((c : Thread nD τ).loc main_arg0)))
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold padded scaled
  rfl

theorem opK_eq (c : Dev nD) : opK m c = padded (argK m c) := by
  show V m c main_v51 = padded (m ((c : Thread nD τ).loc main_arg1))
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold padded
  rfl

theorem opV_eq (c : Dev nD) : opV m c = halved (argV m c) := by
  show V m c main_v65 = halved (m ((c : Thread nD τ).loc main_arg2))
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  unfold halved
  rfl

theorem opC_eq (c : Dev nD) : opC m c = shapeCast S4096x512 (argC m c) shapeCasts_S4096x8x64_S4096x512 := by
  show V m c main_v66 = shapeCast S4096x512 (m ((c : Thread nD τ).loc main_arg3)) shapeCasts_S4096x8x64_S4096x512
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-! ## Their elements -/

theorem scaled_apply (q : FVec Ideal S4096x8x96 .bf16) (r : Fin 4096) (h : Fin 8) (d : Fin 96) :
    scaled q (ix3 r h d) = (q (ix3 r h d) * Ideal.ofBits .f32 0x3DD105EC#32 : EReal) := by
  pointwise [scaled]

theorem scores_apply (qs k : FVec Ideal S4096x8x96 .bf16) (h : Fin 8) (r c : Fin 4096) :
    scores qs k (ix3 h r c) = (if c ≤ r then ∑ d : Fin 96, (qs (ix3 r h d) * k (ix3 c h d) : EReal) else Ideal.ofBits .f32 0xFF800000#32 : EReal) := by
  pointwise [scores]
  simp only [Scalar.select, Fin.le_def]
  have hr := r.isLt
  have hc := c.isLt
  have h : (IntOp.cmpi CmpIPredicate.sle (BitVec.ofNat 32 c.val) (BitVec.ofNat 32 r.val) = 1#1) ↔ c.val ≤ r.val := by
    word_cmp
  exact if_congr h rfl rfl

theorem rowMax_apply (s : FVec Ideal S8x4096x4096 .f32) (h : Fin 8) (r : Fin 4096) :
    rowMax s (ix2 h r) = (Finset.fold max (Ideal.ofBits .f32 0xFF800000#32) (fun c => s (ix3 h r c)) Finset.univ : EReal) := by
  pointwise [rowMax]

theorem expOf_apply (s : FVec Ideal S8x4096x4096 .f32) (a : FVec Ideal S8x4096 .f32) (h : Fin 8) (r c : Fin 4096) :
    expOf s a (ix3 h r c) = (Ideal.exp (s (ix3 h r c) - a (ix2 h r)) : EReal) := by
  pointwise [expOf]

theorem rowSum_apply (e : FVec Ideal S8x4096x4096 .f32) (h : Fin 8) (r : Fin 4096) :
    rowSum e (ix2 h r) = (∑ c : Fin 4096, e (ix3 h r c) : EReal) := by
  pointwise [rowSum]

theorem logSumOf_apply (a b : FVec Ideal S8x4096 .f32) (h : Fin 8) (r : Fin 4096) :
    logSumOf a b (ix2 h r) = (a (ix2 h r) + Ideal.log (b (ix2 h r)) : EReal) := by
  pointwise [logSumOf]

theorem shiftOf_apply (a : FVec Ideal S8x4096 .f32) (h : Fin 8) (r : Fin 4096) :
    shiftOf a (ix2 h r) = (max (Ideal.ofBits .f32 0xFF800000#32) (a (ix2 h r)) : EReal) := by
  pointwise [shiftOf]

theorem weightsOf_apply (e : FVec Ideal S8x4096x4096 .f32) (b : FVec Ideal S8x4096 .f32) (h : Fin 8) (r c : Fin 4096) :
    weightsOf e b (ix3 h r c) = (Ideal.div (e (ix3 h r c)) (b (ix2 h r)) : EReal) := by
  pointwise [weightsOf]

theorem gradSum_apply (ct v : FVec Ideal S4096x8x64 .bf16) (p : FVec Ideal S8x4096x4096 .bf16) (h : Fin 8) (r : Fin 4096) :
    gradSum ct v p (ix2 h r) = (∑ d : Fin 64, ct (ix3 r h d) * ∑ c : Fin 4096, (v (ix3 c h d) * p (ix3 h r c) : EReal) : EReal) := by
  pointwise [gradSum]

theorem padded_apply (x : FVec Ideal S4096x8x96 .bf16) (h : Fin 8) (r : Fin 4096) (d : Fin 128) :
    padded x (ix3 h r d) = (if hd : d.val < 96 then x (ix3 r h ⟨d.val, hd⟩) else 0 : EReal) := by
  have z : (FloatOps.sitofp .bf16 (0#32) : Ideal .bf16) = (0 : EReal) := by
    show ((((0#32 : BitVec 32).toInt : ℝ) : EReal)) = 0
    simp
  pointwise [padded]
  rw [z]

theorem halves_word : ∀ (d : Fin 128) (h : Fin 8),
    IntOp.cmpi CmpIPredicate.eq (IntOp.addi (BitVec.ofNat 32 (h.val % 2)) 0#32) (BitVec.ofNat 32 (d.val / 64))
      = IntOp.cmpi CmpIPredicate.eq (BitVec.ofNat 32 (d.val / 64)) (BitVec.ofNat 32 (h.val % 2)) := by
  decide +kernel

theorem halved_apply (v : FVec Ideal S4096x8x64 .bf16) (h : Fin 8) (r : Fin 4096) (d : Fin 128) :
    halved v (ix3 h r d) = (if d.val / 64 = h.val % 2 then v (ix3 r h ⟨d.val % 64, Nat.mod_lt _ (by decide)⟩) else 0 : EReal) := by
  pointwise [halved]
  rw [halves_word d h]
  simp only [Scalar.select]
  exact if_congr (Iff.of_eq (halves d h)) rfl rfl

theorem opC_apply (c : Dev nD) (r : Fin 4096) (h : Fin 8) (d : Fin 64) :
    opC m c (ix2 r (lane h ⟨64 * (h.val % 2) + d.val, by omega⟩)) = argC m c (ix3 r h d) := by
  rw [opC_eq]
  generalize argC m c = y
  pointwise
  refine congrArg y (congr (congrArg (ix3 r) (Fin.ext ?_)) (Fin.ext ?_))
  · show (128 * (h.val / 2) + (64 * (h.val % 2) + d.val)) / 64 = h.val
    omega
  · show (128 * (h.val / 2) + (64 * (h.val % 2) + d.val)) % 64 = d.val
    omega

end Cert.KernelIdeal.Flash
-- ==== Proof.Flash.Ref.lean ====
/- What the reference's arrays hold, element by element. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Flash

open Idealize.ShloMosaic Idealize.ShloMosaic.TcCoe Idealize.SL.Sem
open Cert.ReferenceIdeal Cert.ReferenceIdeal.Gen Cert.ReferenceIdeal.Read

variable (x0 x1 : FVec Ideal S4096x8x96 .bf16) (x2 x3 : FVec Ideal S4096x8x64 .bf16)

theorem v3_apply (r : Fin 4096) (h : Fin 8) (d : Fin 96) :
    (val_main_v3 (F := Ideal) x0 (ix3 r h d) : EReal) = (x0 (ix3 r h d) * Ideal.ofBits .f32 0x3DD105EC#32 : EReal) := by
  pointwise [val_main_v3, val_main_v2, val_main_v1, val_main_v0, val_main_cst]

theorem v11_apply (h : Fin 8) (r c : Fin 4096) :
    (val_main_v11_0 (F := Ideal) x0 x1 (ix3 h r c) : EReal) = (if c ≤ r then ∑ d : Fin 96, (val_main_v3 (F := Ideal) x0 (ix3 r h d) * x1 (ix3 c h d) : EReal) else Ideal.ofBits .f32 0xFF800000#32 : EReal) := by
  pointwise [val_main_v11_0, val_main_v11_1, val_main_v10, val_main_v9, val_main_v8, val_main_v7, val_main_v6, val_main_v5, val_main_v4, val_main_call0_v2, val_main_call0_v0, val_main_cst_0]
  simp only [Scalar.select, Fin.le_def]
  have hr := r.isLt
  have hc := c.isLt
  have h : (IntOp.cmpi CmpIPredicate.sle (BitVec.ofNat 32 c.val) (BitVec.ofNat 32 r.val) = 1#1) ↔ c.val ≤ r.val := by
    word_cmp
  exact if_congr h rfl rfl

theorem v12_apply (h : Fin 8) (r : Fin 4096) :
    (val_main_v12 (F := Ideal) x0 x1 (ix2 h r) : EReal) = (Finset.fold max (Ideal.ofBits .f32 0xFF800000#32) (fun c => val_main_v11_0 (F := Ideal) x0 x1 (ix3 h r c)) Finset.univ : EReal) := by
  pointwise [val_main_v12, val_main_cst_1]

theorem max_word (y : Ideal .f32) :
    (FloatOps.maximumf (FloatOps.ofBits .f32 0xFF800000#32) y : Ideal .f32) = (max (Ideal.ofBits .f32 0xFF800000#32) y : EReal) := rfl

theorem v19_apply (h : Fin 8) (r : Fin 4096) :
    (val_main_v19 (F := Ideal) x0 x1 (ix2 h r) : EReal) = (max (Ideal.ofBits .f32 0xFF800000#32) (val_main_v12 (F := Ideal) x0 x1 (ix2 h r)) : EReal) := by
  rw [val_main_v19_apply, val_main_v18_apply, val_main_cst_3_apply]
  generalize val_main_v12 (F := Ideal) x0 x1 (ix2 h r) = y
  exact max_word y

theorem v32_apply (h : Fin 8) (r c : Fin 4096) :
    (val_main_v32 (F := Ideal) x0 x1 (ix3 h r c) : EReal) = (Ideal.exp (val_main_v11_0 (F := Ideal) x0 x1 (ix3 h r c) - val_main_v19 (F := Ideal) x0 x1 (ix2 h r) : EReal) : EReal) := by
  pointwise [val_main_v32, val_main_v31, val_main_v30, val_main_v29]

theorem v33_apply (h : Fin 8) (r : Fin 4096) :
    (val_main_v33 (F := Ideal) x0 x1 (ix2 h r) : EReal) = (∑ c : Fin 4096, val_main_v32 (F := Ideal) x0 x1 (ix3 h r c) : EReal) := by
  pointwise [val_main_v33, val_main_cst_9]

theorem v40_apply (h : Fin 8) (r c : Fin 4096) :
    (val_main_v40 (F := Ideal) x0 x1 (ix3 h r c) : EReal) = (Ideal.div (val_main_v32 (F := Ideal) x0 x1 (ix3 h r c)) (val_main_v33 (F := Ideal) x0 x1 (ix2 h r)) : EReal) := by
  pointwise [val_main_v40, val_main_v36, val_main_v35, val_main_v34]

theorem v47_apply (h : Fin 8) (r c : Fin 4096) :
    (val_main_v47 (F := Ideal) x2 x3 (ix3 h r c) : EReal) = (∑ d : Fin 64, (x3 (ix3 r h d) * x2 (ix3 c h d) : EReal) : EReal) := by
  pointwise [val_main_v47, val_main_v46, val_main_v45, val_main_v44]

theorem v50_apply (c : Fin 4096) (h : Fin 8) (d : Fin 64) :
    (val_main_v50 (F := Ideal) x0 x1 x3 (ix3 c h d) : EReal) = (∑ r : Fin 4096, (x3 (ix3 r h d) * val_main_v40 (F := Ideal) x0 x1 (ix3 h r c) : EReal) : EReal) := by
  pointwise [val_main_v50, val_main_v49, val_main_v48, val_main_v45, val_main_v44]

theorem v63_apply (h : Fin 8) (r c : Fin 4096) :
    (val_main_v63 (F := Ideal) x0 x1 x2 x3 (ix3 h r c) : EReal) = ((Ideal.div (val_main_v47 (F := Ideal) x2 x3 (ix3 h r c)) (val_main_v33 (F := Ideal) x0 x1 (ix2 h r)) + -∑ x : Fin 4096, ((val_main_v47 (F := Ideal) x2 x3 (ix3 h r x)) * Ideal.div 1 ((val_main_v33 (F := Ideal) x0 x1 (ix2 h r)) * (val_main_v33 (F := Ideal) x0 x1 (ix2 h r)) : EReal) * (val_main_v32 (F := Ideal) x0 x1 (ix3 h r x)) : EReal)) * (val_main_v32 (F := Ideal) x0 x1 (ix3 h r c)) : EReal) := by
  pointwise [val_main_v63, val_main_v62, val_main_v61, val_main_v60, val_main_v59, val_main_v58, val_main_v57, val_main_v56, val_main_v55, val_main_v54, val_main_v53, val_main_v52, val_main_v51, val_main_v39, val_main_v38, val_main_v37, val_main_v35, val_main_v34, val_main_cst_10, val_main_cst_11, val_main_cst_12]
  rw [Fin.sum_univ_one]

theorem v64_apply (h : Fin 8) (r c : Fin 4096) :
    (val_main_v64 (F := Ideal) x0 x1 x2 x3 (ix3 h r c) : EReal) = (if c ≤ r then val_main_v63 (F := Ideal) x0 x1 x2 x3 (ix3 h r c) else 0 : EReal) := by
  pointwise [val_main_v64, val_main_v11_1, val_main_v10, val_main_v9, val_main_v8, val_main_v7, val_main_v6, val_main_v5, val_main_call1_v0, val_main_call1_cst]
  simp only [Scalar.select, Fin.le_def]
  have hr := r.isLt
  have hc := c.isLt
  have h : (IntOp.cmpi CmpIPredicate.sle (BitVec.ofNat 32 c.val) (BitVec.ofNat 32 r.val) = 1#1) ↔ c.val ≤ r.val := by
    word_cmp
  exact if_congr h rfl rfl

theorem v67_apply (c : Fin 4096) (h : Fin 8) (d : Fin 96) :
    (val_main_v67 (F := Ideal) x0 x1 x2 x3 (ix3 c h d) : EReal) = (∑ r : Fin 4096, (val_main_v64 (F := Ideal) x0 x1 x2 x3 (ix3 h r c) * val_main_v3 (F := Ideal) x0 (ix3 r h d) : EReal) : EReal) := by
  pointwise [val_main_v67, val_main_v66, val_main_v65]

theorem v70_apply (r : Fin 4096) (h : Fin 8) (d : Fin 96) :
    (val_main_v70 (F := Ideal) x0 x1 x2 x3 (ix3 r h d) : EReal) = (∑ c : Fin 4096, (val_main_v64 (F := Ideal) x0 x1 x2 x3 (ix3 h r c) * x1 (ix3 c h d) : EReal) : EReal) := by
  pointwise [val_main_v70, val_main_v69, val_main_v68]

theorem zero_word : (FloatOps.sitofp .f32 (0#32) : Ideal .f32) = (0 : EReal) := by
  show ((((0#32 : BitVec 32).toInt : ℝ) : EReal)) = 0
  simp

theorem v76_apply (h : Fin 8) (n : Fin 16) (d : Fin 128) (b : Fin 256) :
    (val_main_v76 (F := Ideal) x0 x1 x2 x3 (ix4 h n d b) : EReal) = (if hd : d.val < 96 then val_main_v70 (F := Ideal) x0 x1 x2 x3 (ix3 ⟨256 * n.val + b.val, by omega⟩ h ⟨d.val, hd⟩) else 0 : EReal) := by
  pointwise [val_main_v76, val_main_v75, val_main_v74, val_main_v71, val_main_call2_v0, val_main_c]
  rw [zero_word]
  by_cases hd : d.val < 96
  · rw [dif_pos ⟨by omega, hd⟩, dif_pos hd]
    exact congrArg (fun r => val_main_v70 (F := Ideal) x0 x1 x2 x3 (ix3 r h ⟨d.val, hd⟩)) (Fin.ext (by simp only []; omega))
  · rw [dif_neg fun g => hd g.2, dif_neg hd]

theorem v78_apply (h : Fin 8) (c : Fin 4096) (d : Fin 128) :
    (val_main_v78 (F := Ideal) x0 x1 x2 x3 (ix3 h c d) : EReal) = (if hd : d.val < 96 then val_main_v67 (F := Ideal) x0 x1 x2 x3 (ix3 c h ⟨d.val, hd⟩) else 0 : EReal) := by
  pointwise [val_main_v78, val_main_v77, val_main_v72, val_main_call3_v0, val_main_c_13]
  rw [zero_word]

theorem halves_word : ∀ (d : Fin 128) (h : Fin 8),
    (IntOp.cmpi CmpIPredicate.eq (IntOp.addi (BitVec.ofNat 32 (h.val % 2)) 0#32) (BitVec.ofNat 32 (d.val / 64)) = 1#1) = (d.val / 64 = h.val % 2) := by
  decide +kernel

theorem v88_apply (h : Fin 8) (c : Fin 4096) (d : Fin 128) :
    (val_main_v88 (F := Ideal) x0 x1 x3 (ix3 h c d) : EReal) = (if d.val / 64 = h.val % 2 then val_main_v50 (F := Ideal) x0 x1 x3 (ix3 c h ⟨d.val % 64, Nat.mod_lt _ (by decide)⟩) else 0 : EReal) := by
  pointwise [val_main_v88, val_main_v87, val_main_v86, val_main_v85, val_main_v84, val_main_v83, val_main_v82, val_main_v81, val_main_v80, val_main_v79, val_main_v73, val_main_call4_v0, val_main_call4_v1, val_main_call4_v2, val_main_call4_v3, val_main_cst_15, val_main_c_14]
  simp only [Scalar.select]
  exact if_congr (Iff.of_eq (halves_word d h)) rfl (by simp only [id_eq]; pointwise)

end Cert.ReferenceIdeal.Flash
-- ==== Proof.Flash.Finite.lean ====
/- The precondition, read: every element of the four arguments is a real number. -/
module

public import proofs.«01_k».proof.Defs
public import Idealize.ShloMosaic.Lib.ReduceAll
public import Idealize.ShloMosaic.Lib.Pointwise

@[expose] public section

noncomputable section

namespace Cert.Pre_finite

open Idealize.ShloMosaic

/-- The pattern of +∞. -/
theorem ofBits_inf : (Ideal.ofBits .f32 0x7F800000#32 : EReal) = ⊤ := by
  simp [Ideal.ofBits, Ideal.ieee]

/-- The pattern of −∞. -/
theorem ofBits_neg_inf : (Ideal.ofBits .f32 0xFF800000#32 : EReal) = ⊥ := by
  simp [Ideal.ofBits, Ideal.ieee]

/-- The queries' scale is a real number. -/
theorem scale_real : ∃ k : ℝ, (Ideal.ofBits .f32 0x3DD105EC#32 : EReal) = (k : EReal) := by
  simp only [Ideal.ofBits, Ideal.ieee]
  rw [if_neg (by decide), if_neg (by decide)]
  exact ⟨_, rfl⟩

/-- A number whose absolute value is below +∞ is real. -/
theorem real_of_abs_lt (x : EReal) (h : Ideal.cmp .olt (max x (-x)) (Ideal.ofBits .f32 0x7F800000#32) = 1#1) :
    x ≠ ⊤ ∧ x ≠ ⊥ := by
  rw [ofBits_inf] at h
  have hlt : max x (-x) < ⊤ := by
    by_contra hn
    simp [Ideal.cmp, hn] at h
  refine ⟨fun e => ?_, fun e => ?_⟩ <;> subst e <;> simp at hlt

instance : Subsingleton S_.Idx := ⟨fun a b => funext fun i => i.elim0⟩

variable [Facts]

/-- A conjunction of two bits that is one. -/
theorem and_one {a b : IVec S_ 1} {i : S_.Idx} (h : andi a b i = 1#1) : a i = 1#1 ∧ b i = 1#1 := by
  have h' : a i &&& b i = 1#1 := h
  revert h'
  generalize a i = p
  generalize b i = q
  revert p q
  decide

/-- Where the precondition holds, every element of each of the four arguments is real. -/
theorem reals (x0 x1 : FVec Ideal S4096x8x96 .bf16) (x2 x3 : FVec Ideal S4096x8x64 .bf16)
    (h : fn (F := Ideal) x0 x1 x2 x3 = fun _ => 1#1) :
    (∀ i, (x0 i : EReal) ≠ ⊤ ∧ (x0 i : EReal) ≠ ⊥) ∧ (∀ i, (x1 i : EReal) ≠ ⊤ ∧ (x1 i : EReal) ≠ ⊥) ∧
      (∀ i, (x2 i : EReal) ≠ ⊤ ∧ (x2 i : EReal) ≠ ⊥) ∧ (∀ i, (x3 i : EReal) ≠ ⊤ ∧ (x3 i : EReal) ≠ ⊥) := by
  have g := congrFun h ix0
  dsimp only [fn, fn_part1] at g
  obtain ⟨g012, g3⟩ := and_one g
  obtain ⟨g01, g2⟩ := and_one g012
  obtain ⟨g0, g1⟩ := and_one g01
  exact ⟨fun i => real_of_abs_lt _ (Host.reduce_andi_all _ _ _ _ _ g0 i), fun i => real_of_abs_lt _ (Host.reduce_andi_all _ _ _ _ _ g1 i),
    fun i => real_of_abs_lt _ (Host.reduce_andi_all _ _ _ _ _ g2 i), fun i => real_of_abs_lt _ (Host.reduce_andi_all _ _ _ _ _ g3 i)⟩

end Cert.Pre_finite

end
-- ==== Proof.Flash.RefRow.lean ====
/- The reference's arrays at real arguments: the softmax weights and the gradients of the scores, row by row. -/
module

public import proofs.«01_k».proof.Proof.Flash.Ref
public import proofs.«01_k».proof.Proof.Flash.Row
public import proofs.«01_k».proof.Proof.Flash.Finite

@[expose] public section

noncomputable section

namespace Cert.AttnRow

/-- The real scores of head `h`. -/
def score (q k : Fin 4096 → Fin 8 → Fin 96 → ℝ) (h : Fin 8) (r c : Fin 4096) : ℝ := ∑ d, q r h d * k c h d

/-- The real gradients of the weights of head `h`. -/
def wgrad (g v : Fin 4096 → Fin 8 → Fin 64 → ℝ) (h : Fin 8) (r c : Fin 4096) : ℝ := ∑ d, g r h d * v c h d

/-- A sum of products of reals. -/
theorem coe_sum_mul {n : ℕ} (a b : Fin n → ℝ) : ∑ d, ((a d : EReal) * (b d : EReal)) = ((∑ d, a d * b d : ℝ) : EReal) := by
  rw [coe_sum]
  exact Finset.sum_congr rfl fun d _ => (EReal.coe_mul _ _).symm

end Cert.AttnRow

namespace Cert.ReferenceIdeal.Flash

open Idealize.ShloMosaic
open Cert.ReferenceIdeal Cert.ReferenceIdeal.Gen Cert.ReferenceIdeal.Read Cert.AttnRow

variable (x0 x1 : FVec Ideal S4096x8x96 .bf16) (x2 x3 : FVec Ideal S4096x8x64 .bf16)
variable (q k : Fin 4096 → Fin 8 → Fin 96 → ℝ) (v g : Fin 4096 → Fin 8 → Fin 64 → ℝ)

/-- The arguments are the real arrays: the scaled queries, the keys, the values, the incoming gradient. -/
structure Real4 : Prop where
  q : ∀ r h d, (x0 (ix3 r h d) * Ideal.ofBits .f32 0x3DD105EC#32 : EReal) = (q r h d : EReal)
  k : ∀ r h d, (x1 (ix3 r h d) : EReal) = (k r h d : EReal)
  v : ∀ r h d, (x2 (ix3 r h d) : EReal) = (v r h d : EReal)
  g : ∀ r h d, (x3 (ix3 r h d) : EReal) = (g r h d : EReal)

variable {x0 x1 x2 x3 q k v g}

theorem v11_real (H : Real4 x0 x1 x2 x3 q k v g) (h : Fin 8) (r c : Fin 4096) :
    (val_main_v11_0 (F := Ideal) x0 x1 (ix3 h r c) : EReal) = masked r (score q k h r) c := by
  rw [v11_apply, Cert.Pre_finite.ofBits_neg_inf]
  unfold masked score
  refine if_congr Iff.rfl ?_ rfl
  rw [← coe_sum_mul]
  exact Finset.sum_congr rfl fun d _ => by rw [v3_apply, H.q, H.k]

theorem v12_real (H : Real4 x0 x1 x2 x3 q k v g) (h : Fin 8) (r : Fin 4096) :
    (val_main_v12 (F := Ideal) x0 x1 (ix2 h r) : EReal) = top r (score q k h r) := by
  rw [v12_apply, Cert.Pre_finite.ofBits_neg_inf]
  unfold top
  exact congrArg (fun f => Finset.fold max ⊥ f Finset.univ) (funext fun c => v11_real H h r c)

theorem v32_real (H : Real4 x0 x1 x2 x3 q k v g) (h : Fin 8) (r c : Fin 4096) :
    (val_main_v32 (F := Ideal) x0 x1 (ix3 h r c) : EReal) = e r (score q k h r) c := by
  rw [v32_apply, v19_apply, v12_real H, v11_real H, Cert.Pre_finite.ofBits_neg_inf, max_eq_right bot_le]
  rfl

theorem v33_real (H : Real4 x0 x1 x2 x3 q k v g) (h : Fin 8) (r : Fin 4096) :
    (val_main_v33 (F := Ideal) x0 x1 (ix2 h r) : EReal) = ∑ c, e r (score q k h r) c := by
  rw [v33_apply]
  exact Finset.sum_congr rfl fun c _ => v32_real H h r c

/-- The reference's weights. -/
theorem v40_real (H : Real4 x0 x1 x2 x3 q k v g) (h : Fin 8) (r c : Fin 4096) :
    (val_main_v40 (F := Ideal) x0 x1 (ix3 h r c) : EReal) = weight r (score q k h r) c := by
  rw [v40_apply, v32_real H, v33_real H]
  rfl

theorem v47_real (H : Real4 x0 x1 x2 x3 q k v g) (h : Fin 8) (r c : Fin 4096) :
    (val_main_v47 (F := Ideal) x2 x3 (ix3 h r c) : EReal) = (wgrad g v h r c : EReal) := by
  rw [v47_apply]
  unfold wgrad
  rw [← coe_sum_mul]
  exact Finset.sum_congr rfl fun d _ => by rw [H.g, H.v]

/-- The gradient of the reference's scores. -/
theorem v64_real (H : Real4 x0 x1 x2 x3 q k v g) (h : Fin 8) (r c : Fin 4096) :
    (val_main_v64 (F := Ideal) x0 x1 x2 x3 (ix3 h r c) : EReal) =
      weight r (score q k h r) c * ((wgrad g v h r c : EReal) - ∑ x, weight r (score q k h r) x * (wgrad g v h r x : EReal)) := by
  rw [score_grad, v64_apply, v63_apply, v47_real H, v33_real H, v32_real H]
  refine if_congr Iff.rfl (congrArg (fun z : EReal => (Ideal.div (wgrad g v h r c : EReal) (∑ c, e r (score q k h r) c) + -z) * e r (score q k h r) c) ?_) rfl
  exact Finset.sum_congr rfl fun x _ => by rw [v47_real H, v32_real H]

end Cert.ReferenceIdeal.Flash

end
-- ==== Proof.Flash.KernelRow.lean ====
/- The kernel's operands at real arguments: the weights and the gradients of the scores that it recomputes, row by row. -/
module

public import proofs.«01_k».proof.Proof.Flash.Host
public import proofs.«01_k».proof.Proof.Flash.RefRow
public import proofs.«01_k».proof.Proof.Mlp.Sums

@[expose] public section

noncomputable section

namespace Cert.AttnRow

/-- A sum over 128 lanes of which the last 32 hold zero. -/
theorem sum_padded (a b : Fin 96 → EReal) :
    (∑ d : Fin 128, (if hd : d.val < 96 then a ⟨d.val, hd⟩ else 0) * (if hd : d.val < 96 then b ⟨d.val, hd⟩ else 0) : EReal) = ∑ d, a d * b d := by
  have h := Fin.sum_univ_add (a := 96) (b := 32) fun d : Fin 128 =>
    ((if hd : d.val < 96 then a ⟨d.val, hd⟩ else 0) * (if hd : d.val < 96 then b ⟨d.val, hd⟩ else 0) : EReal)
  refine h.trans ?_
  have h2 : ∀ i : Fin 32, ¬ (Fin.natAdd 96 i).val < 96 := fun i => by simp
  have h1 : ∀ i : Fin 96, (Fin.castAdd 32 i).val < 96 := fun i => i.isLt
  simp only [h2, h1, dite_false, dite_true, mul_zero, Finset.sum_const_zero, add_zero]
  rfl

/-- A sum over 128 lanes of which one half holds zero. -/
theorem sum_halved (p : ℕ) (hp : p < 2) (a : Fin 64 → EReal) (b : Fin 128 → EReal) :
    (∑ d : Fin 128, (if d.val / 64 = p then a ⟨d.val % 64, Nat.mod_lt _ (by decide)⟩ else 0) * b d : EReal) =
      ∑ d : Fin 64, a d * b ⟨64 * p + d.val, by omega⟩ := by
  have h := Fin.sum_univ_add (a := 64) (b := 64) fun d : Fin 128 =>
    ((if d.val / 64 = p then a ⟨d.val % 64, Nat.mod_lt _ (by decide)⟩ else 0) * b d : EReal)
  refine h.trans ?_
  have e1 : ∀ i : Fin 64, (Fin.castAdd 64 i).val / 64 = 0 := fun i => Nat.div_eq_of_lt i.isLt
  have e2 : ∀ i : Fin 64, (Fin.natAdd 64 i).val / 64 = 1 := fun i => by show (64 + i.val) / 64 = 1; omega
  have m1 : ∀ i : Fin 64, (Fin.castAdd 64 i).val % 64 = i.val := fun i => Nat.mod_eq_of_lt i.isLt
  have m2 : ∀ i : Fin 64, (Fin.natAdd 64 i).val % 64 = i.val := fun i => by show (64 + i.val) % 64 = i.val; omega
  simp only [e1, e2, m1, m2]
  rcases Nat.lt_succ_iff.1 hp |>.lt_or_eq with h0 | h1
  · obtain rfl : p = 0 := by omega
    simp only [if_true, one_ne_zero, if_false, zero_mul, Finset.sum_const_zero, add_zero]
    exact Finset.sum_congr rfl fun d _ => congrArg (fun z => a d * b z) (Fin.ext (by show d.val = 64 * 0 + d.val; omega))
  · subst h1
    simp only [if_true, zero_ne_one, if_false, zero_mul, Finset.sum_const_zero, zero_add]
    exact Finset.sum_congr rfl fun d _ => congrArg (fun z => a d * b z) (Fin.ext (by show 64 + d.val = 64 * 1 + d.val; omega))

end Cert.AttnRow

namespace Cert.KernelIdeal.Flash

open Idealize.ShloMosaic Idealize.ShloMosaic.TcCoe
open Cert.KernelIdeal Cert.KernelIdeal.Gen Cert.AttnRow Cert.ReferenceIdeal.Flash

variable (m : (ℓ : Loc nD τ sig) → Buf (Elt Ideal) ℓ) (c : Dev nD)
variable {q k : Fin 4096 → Fin 8 → Fin 96 → ℝ} {v g : Fin 4096 → Fin 8 → Fin 64 → ℝ}
variable (H : Real4 (argQ m c) (argK m c) (argV m c) (argC m c) q k v g)
include H

theorem scores_real (h : Fin 8) (r s : Fin 4096) : (argS m c (ix3 h r s) : EReal) = masked r (score q k h r) s := by
  unfold argS
  rw [scores_apply, Cert.Pre_finite.ofBits_neg_inf]
  unfold masked score
  refine if_congr Iff.rfl ?_ rfl
  rw [← coe_sum_mul]
  exact Finset.sum_congr rfl fun d _ => by rw [scaled_apply, H.q, H.k]

theorem rowMax_real (h : Fin 8) (r : Fin 4096) : (rowMax (argS m c) (ix2 h r) : EReal) = top r (score q k h r) := by
  rw [rowMax_apply, Cert.Pre_finite.ofBits_neg_inf]
  unfold top
  exact congrArg (fun f => Finset.fold max ⊥ f Finset.univ) (funext fun s => scores_real m c H h r s)

theorem shift_real (h : Fin 8) (r : Fin 4096) : (shiftOf (rowMax (argS m c)) (ix2 h r) : EReal) = top r (score q k h r) := by
  rw [shiftOf_apply, rowMax_real m c H, Cert.Pre_finite.ofBits_neg_inf, max_eq_right bot_le]

/-- The exponentials, less whatever array holds each row's largest score. -/
theorem exp_real (a : FVec Ideal S8x4096 .f32) (ha : ∀ h r, (a (ix2 h r) : EReal) = top r (score q k h r)) (h : Fin 8) (r s : Fin 4096) :
    (expOf (argS m c) a (ix3 h r s) : EReal) = e r (score q k h r) s := by
  rw [expOf_apply, scores_real m c H, ha]
  rfl

theorem sum_real (a : FVec Ideal S8x4096 .f32) (ha : ∀ h r, (a (ix2 h r) : EReal) = top r (score q k h r)) (h : Fin 8) (r : Fin 4096) :
    (rowSum (expOf (argS m c) a) (ix2 h r) : EReal) = ∑ s, e r (score q k h r) s := by
  rw [rowSum_apply]
  exact Finset.sum_congr rfl fun s _ => exp_real m c H a ha h r s

/-- The saved log-sums. -/
theorem rowL_real (h : Fin 8) (r : Fin 4096) :
    rowL m c (ix2 h r) = top r (score q k h r) + Ideal.log (∑ s, e r (score q k h r) s) := by
  rw [rowL_eq]
  unfold logSum
  rw [logSumOf_apply, rowMax_real m c H, sum_real m c H _ fun h r => rowMax_real m c H h r]

/-- The saved means of the weights' gradients. -/
theorem rowD_real (h : Fin 8) (r : Fin 4096) :
    rowD m c (ix2 h r) = ∑ s, weight r (score q k h r) s * (wgrad g v h r s : EReal) := by
  rw [rowD_eq, gradSum_apply]
  unfold wgrad
  rw [← mean_eq r (score q k h r) (g r h) (fun s => v s h)]
  refine Finset.sum_congr rfl fun d _ => ?_
  rw [H.g]
  refine congrArg (fun z => (g r h d : EReal) * z) (Finset.sum_congr rfl fun s _ => ?_)
  rw [H.v, weightsOf_apply, exp_real m c H _ fun h r => shift_real m c H h r, sum_real m c H _ fun h r => shift_real m c H h r]
  rfl

omit H in
theorem head_q (h : Fin 8) (r : Fin 4096) (d : Fin 128) : (head m c h).q r d = if hd : d.val < 96 then scaled (argQ m c) (ix3 r h ⟨d.val, hd⟩) else 0 := by
  show (opQ m c) (ix3 h r d) = _
  rw [opQ_eq, padded_apply]

omit H in
theorem head_k (h : Fin 8) (r : Fin 4096) (d : Fin 128) : (head m c h).k r d = if hd : d.val < 96 then argK m c (ix3 r h ⟨d.val, hd⟩) else 0 := by
  show (opK m c) (ix3 h r d) = _
  rw [opK_eq, padded_apply]

omit H in
theorem head_v (h : Fin 8) (r : Fin 4096) (d : Fin 128) :
    (head m c h).v r d = if d.val / 64 = h.val % 2 then argV m c (ix3 r h ⟨d.val % 64, Nat.mod_lt _ (by decide)⟩) else 0 := by
  show (opV m c) (ix3 h r d) = _
  rw [opV_eq, halved_apply]

omit H in
theorem head_c (h : Fin 8) (r : Fin 4096) (d : Fin 64) :
    (head m c h).c r ⟨64 * (h.val % 2) + d.val, by omega⟩ = argC m c (ix3 r h d) := opC_apply m c r h d

/-- The kernel's weights are the softmax's. -/
theorem p_real (h : Fin 8) (r s : Fin 4096) : (head m c h).p r s = weight r (score q k h r) s := by
  have hs : ∑ d : Fin 128, (head m c h).k s d * (head m c h).q r d = (score q k h r s : EReal) := by
    simp only [head_q, head_k]
    refine (sum_padded (fun d => argK m c (ix3 s h d)) fun d => scaled (argQ m c) (ix3 r h d)).trans ?_
    unfold score
    rw [← coe_sum_mul]
    exact Finset.sum_congr rfl fun d _ => by rw [scaled_apply, H.q, H.k, mul_comm]
  unfold Head.p
  rw [hs, ← weight_eq]
  show (if s ≤ r then Ideal.exp ((score q k h r s : EReal) - rowL m c (ix2 h r)) else 0) = _
  rw [rowL_real m c H]

/-- The kernel's gradients of the scores are the softmax's. -/
theorem ds_real (h : Fin 8) (r s : Fin 4096) : (head m c h).ds r s =
    weight r (score q k h r) s * ((wgrad g v h r s : EReal) - ∑ x, weight r (score q k h r) x * (wgrad g v h r x : EReal)) := by
  have hs : ∑ d : Fin 128, (head m c h).v s d * (head m c h).c r d = (wgrad g v h r s : EReal) := by
    simp only [head_v]
    refine (sum_halved (h.val % 2) (Nat.mod_lt _ (by decide)) (fun d => argV m c (ix3 s h d)) fun d => (head m c h).c r d).trans ?_
    unfold wgrad
    rw [← coe_sum_mul]
    exact Finset.sum_congr rfl fun d _ => by rw [head_c, H.v, H.g, mul_comm]
  unfold Head.ds
  rw [hs, p_real m c H]
  show weight r (score q k h r) s * ((wgrad g v h r s : EReal) - rowD m c (ix2 h r)) = _
  rw [rowD_real m c H]

end Cert.KernelIdeal.Flash

end
-- ==== Proof.Flash.Equation.lean ====
/- The kernel and the reference leave the same three gradients, at real arguments. -/
module

public import proofs.«01_k».proof.Proof.Flash.KernelRow
public import proofs.«01_k».proof.Proof.Gen.ReferenceIdeal.Run
public import proofs.«01_k».proof.Proof.Gen.Pre_finite

@[expose] public section

noncomputable section

namespace Cert.KernelIdeal.Flash

open Idealize.ShloMosaic Idealize.ShloMosaic.TcCoe Idealize.SL.Sem
open Cert.KernelIdeal Cert.KernelIdeal.Gen Cert.AttnRow Cert.ReferenceIdeal.Flash Cert.ReferenceIdeal.Read

/-- The sixteen blocks of 256 positions are all 4096. -/
theorem sum_pos (f : Fin 4096 → EReal) : ∑ n ∈ Finset.range 16, ∑ b : Fin 256, f (pos n b) = ∑ r : Fin 4096, f r := by
  rw [← Cert.Mlp.sum_blocks 16 256 rfl f]
  refine Finset.sum_congr rfl fun n hn => Finset.sum_congr rfl fun b _ => ?_
  have hn' : n < 16 := Finset.mem_range.1 hn
  have hb := b.isLt
  rw [Cert.Mlp.ext_of_lt f (show 256 * n + b.val < 4096 by omega)]
  exact congrArg f (Fin.ext (by show 256 * (n % 16) + b.val = 256 * n + b.val; omega))

/-- Arguments without infinities are real arrays. -/
theorem real_arrays (x0 x1 : FVec Ideal S4096x8x96 .bf16) (x2 x3 : FVec Ideal S4096x8x64 .bf16)
    (h0 : ∀ i, (x0 i : EReal) ≠ ⊤ ∧ (x0 i : EReal) ≠ ⊥) (h1 : ∀ i, (x1 i : EReal) ≠ ⊤ ∧ (x1 i : EReal) ≠ ⊥)
    (h2 : ∀ i, (x2 i : EReal) ≠ ⊤ ∧ (x2 i : EReal) ≠ ⊥) (h3 : ∀ i, (x3 i : EReal) ≠ ⊤ ∧ (x3 i : EReal) ≠ ⊥) :
    ∃ q k v g, Real4 x0 x1 x2 x3 q k v g := by
  obtain ⟨κ, hκ⟩ := Cert.Pre_finite.scale_real
  refine ⟨fun r h d => EReal.toReal (x0 (ix3 r h d)) * κ, fun r h d => EReal.toReal (x1 (ix3 r h d)),
    fun r h d => EReal.toReal (x2 (ix3 r h d)), fun r h d => EReal.toReal (x3 (ix3 r h d)), fun r h d => ?_, fun r h d => ?_,
    fun r h d => ?_, fun r h d => ?_⟩
  · rw [hκ, EReal.coe_mul, EReal.coe_toReal (h0 _).1 (h0 _).2]
  · exact (EReal.coe_toReal (h1 _).1 (h1 _).2).symm
  · exact (EReal.coe_toReal (h2 _).1 (h2 _).2).symm
  · exact (EReal.coe_toReal (h3 _).1 (h3 _).2).symm

variable (m : (ℓ : Loc nD τ sig) → Buf (Elt Ideal) ℓ) (c : Dev nD)
variable {q k : Fin 4096 → Fin 8 → Fin 96 → ℝ} {v g : Fin 4096 → Fin 8 → Fin 64 → ℝ}
variable (H : Real4 (argQ m c) (argK m c) (argV m c) (argC m c) q k v g)
include H

/-- The gradients of the scores agree. -/
theorem ds_agree (h : Fin 8) (r s : Fin 4096) :
    (head m c h).ds r s = val_main_v64 (F := Ideal) (argQ m c) (argK m c) (argV m c) (argC m c) (ix3 h r s) :=
  (ds_real m c H h r s).trans (v64_real H h r s).symm

/-- The weights agree. -/
theorem p_agree (h : Fin 8) (r s : Fin 4096) :
    (head m c h).p r s = val_main_v40 (F := Ideal) (argQ m c) (argK m c) (ix3 h r s) :=
  (p_real m c H h r s).trans (v40_real H h r s).symm

/-- The gradient at the keys. -/
theorem GK_eq : GK m c = val_main_v78 (F := Ideal) (argQ m c) (argK m c) (argV m c) (argC m c) := by
  funext i
  obtain ⟨h, s, d, rfl⟩ : ∃ h s d, i = ix3 h s d := ⟨_, _, _, eq_ix3 i⟩
  rw [v78_apply]
  show ∑ n ∈ Finset.range 16, ∑ b : Fin 256, (head m c h).ds (pos n b) s * (head m c h).q (pos n b) d = _
  rw [sum_pos fun r => (head m c h).ds r s * (head m c h).q r d]
  by_cases hd : d.val < 96
  · rw [dif_pos hd, v67_apply]
    exact Finset.sum_congr rfl fun r _ => by rw [ds_agree m c H, head_q, dif_pos hd, scaled_apply, v3_apply]
  · rw [dif_neg hd]
    exact Finset.sum_eq_zero fun r _ => by rw [head_q, dif_neg hd, mul_zero]

/-- The gradient at the scaled queries. -/
theorem GQ_eq : GQ m c = val_main_v76 (F := Ideal) (argQ m c) (argK m c) (argV m c) (argC m c) := by
  funext i
  obtain ⟨h, n, d, b, rfl⟩ : ∃ h n d b, i = ix4 h n d b := ⟨_, _, _, _, eq_ix4 i⟩
  rw [v76_apply]
  show ∑ j ∈ Finset.range 16, ∑ a : Fin 256, (head m c h).k (pos j a) d * (head m c h).ds (pos n.val b) (pos j a) = _
  rw [sum_pos fun s => (head m c h).k s d * (head m c h).ds (pos n.val b) s]
  have hn := n.isLt
  have hp : pos n.val b = ⟨256 * n.val + b.val, by omega⟩ := Fin.ext (by show 256 * (n.val % 16) + b.val = 256 * n.val + b.val; omega)
  by_cases hd : d.val < 96
  · rw [dif_pos hd, v70_apply, hp]
    exact Finset.sum_congr rfl fun s _ => by rw [ds_agree m c H, head_k, dif_pos hd, mul_comm]
  · rw [dif_neg hd]
    exact Finset.sum_eq_zero fun s _ => by rw [head_k, dif_neg hd, zero_mul]

/-- The gradient at the values. -/
theorem GV_eq : GV m c = val_main_v88 (F := Ideal) (argQ m c) (argK m c) (argC m c) := by
  funext i
  obtain ⟨h, s, d, rfl⟩ : ∃ h s d, i = ix3 h s d := ⟨_, _, _, eq_ix3 i⟩
  rw [v88_apply]
  show (if d.val / 64 = h.val % 2 then ∑ n ∈ Finset.range 16, ∑ b : Fin 256, (head m c h).p (pos n b) s * (head m c h).c (pos n b) d else 0) = _
  by_cases hd : d.val / 64 = h.val % 2
  · rw [if_pos hd, if_pos hd, sum_pos fun r => (head m c h).p r s * (head m c h).c r d, v50_apply]
    refine Finset.sum_congr rfl fun r _ => ?_
    have hc := head_c m c h r ⟨d.val % 64, Nat.mod_lt _ (by decide)⟩
    have he : (⟨64 * (h.val % 2) + d.val % 64, by omega⟩ : Fin 128) = d := Fin.ext (by show 64 * (h.val % 2) + d.val % 64 = d.val; omega)
    rw [← hc, p_agree m c H]
    refine (mul_comm _ _).trans ?_
    exact congrArg (fun z => (head m c h).c r z * val_main_v40 (F := Ideal) (argQ m c) (argK m c) (ix3 h r s)) he.symm
  · rw [if_neg hd, if_neg hd]

omit H in
/-- Where the precondition holds, the three gradients are the reference's. -/
theorem gradients_eq (hpre : Cert.Pre_KernelIdeal_finite m) :
    GQ m c = val_main_v76 (F := Ideal) (argQ m c) (argK m c) (argV m c) (argC m c) ∧
      GK m c = val_main_v78 (F := Ideal) (argQ m c) (argK m c) (argV m c) (argC m c) ∧
      GV m c = val_main_v88 (F := Ideal) (argQ m c) (argK m c) (argC m c) := by
  obtain ⟨h0, h1, h2, h3⟩ := Cert.Pre_finite.reals (argQ m c) (argK m c) (argV m c) (argC m c) (hpre c)
  obtain ⟨q, k, v, g, H⟩ := real_arrays (argQ m c) (argK m c) (argV m c) (argC m c) h0 h1 h2 h3
  exact ⟨GQ_eq m c H, GK_eq m c H, GV_eq m c H⟩

omit H c m in
/-- The kernel and the reference compute the same three gradients. -/
theorem algebraic : Cert.algebraic_KernelIdeal_ReferenceIdeal_pre_finite := fun m ρ m' ρ' hpre hagree =>
  ⟨fun c => GQ m c, fun c => GK m c, fun c => GV m c, run_values m ρ,
    (θ_run Cert.ReferenceIdeal.defs _ _).mono (fun r h c => by
      obtain ⟨h0, h1, h2, h3⟩ := hagree c
      obtain ⟨eq, ek, ev⟩ := gradients_eq m c hpre
      refine ⟨(h c).1.trans ((Cert.ReferenceIdeal.Read.val_main_v76_eq m' c).trans ?_),
        (h c).2.1.trans ((Cert.ReferenceIdeal.Read.val_main_v78_eq m' c).trans ?_),
        (h c).2.2.1.trans ((Cert.ReferenceIdeal.Read.val_main_v88_eq m' c).trans ?_), (h c).2.2.2⟩
      · rw [h0, h1, h2, h3]; exact eq.symm
      · rw [h0, h1, h2, h3]; exact ek.symm
      · rw [h0, h1, h3]; exact ev.symm)
      (Cert.ReferenceIdeal.Value.run (F := Ideal) m' ρ')⟩

end Cert.KernelIdeal.Flash

end
-- ==== Proof.Flash.Twin.lean ====
/- The printed kernel and its ideal twin are one program: the run of the twin, over the machine's floats, is the frame of both. -/
module
public import proofs.«01_k».proof.Defs
public import proofs.«01_k».proof.Proof.Gen.Kernel
public import proofs.«01_k».proof.Proof.Gen.KernelIdeal
public import proofs.«01_k».proof.Proof.Flash.Frame
@[expose] public section
noncomputable section
namespace Cert.FlashTwin
open Idealize.ShloMosaic Idealize.SL.Sem
variable {F : FTy → Type} [FloatOps F]

set_option maxHeartbeats 2000000 in
/-- The tables of kernel bodies are one. -/
theorem defs0_eq : Cert.Kernel.defs₀ (F := F) = Cert.KernelIdeal.defs₀ (F := F) := by
  unfold Cert.Kernel.defs₀ Cert.KernelIdeal.defs₀
  refine congrArg Defs.onTc ?_
  funext l a
  match l with
  | 0 =>
    obtain ⟨t, s⟩ := a
    rfl

set_option maxHeartbeats 2000000 in
/-- The tables of bodies and pipelines are one. -/
theorem defs_eq : Cert.Kernel.defs (F := F) = Cert.KernelIdeal.defs (F := F) :=
  (congrArg (Pipeline.defs Cert.Kernel.pcfgs) defs0_eq).trans rfl

set_option maxHeartbeats 2000000 in
/-- The first window of the host's statements. -/
theorem main_part0_eq : Cert.Kernel.main_part0 (F := F) = Cert.KernelIdeal.main_part0 (F := F) := rfl
set_option maxHeartbeats 2000000 in
/-- The second window of the host's statements. -/
theorem main_part1_eq : Cert.Kernel.main_part1 (F := F) = Cert.KernelIdeal.main_part1 (F := F) := rfl

set_option maxHeartbeats 2000000 in
/-- The host programs are one. -/
theorem main_eq : Cert.Kernel.main (F := F) = Cert.KernelIdeal.main (F := F) :=
  funext fun d => congrArg₂ (fun a b => a d >>= fun _ => b d) main_part0_eq main_part1_eq

set_option maxHeartbeats 2000000 in
/-- The kernel ends without fault, its arguments as they began and every counter at zero. -/
theorem frame_kernel : Cert.quiescent_Kernel := fun m ρ _ =>
  (congrArg₂ (fun D M => θ_run D (onTc (τ := Cert.Kernel.τ) M) ⟨m, fun _ => 0, ρ⟩ _) defs_eq main_eq).mpr
    ((θ_run Cert.KernelIdeal.defs _ _).mono (fun _ h => h) (Cert.KernelIdeal.Flash.frame (F := Bits) m ρ))

end Cert.FlashTwin

end
-- ==== Proof.FlashFwd.Step.lean ====
/- The attention's forward call as functions of vectors: one block of keys after another, then the masked block. -/
module

public import proofs.«01_k».proof.Proof.Gen.Kernel13Ideal.Frame
public import Idealize.ShloMosaic.Lib.VecWindow

@[expose] public section

set_option maxRecDepth 16384
set_option maxHeartbeats 1000000

noncomputable section

namespace Cert.Kernel13Ideal.Fwd

open Idealize.ShloMosaic Idealize.ShloMosaic.TcCoe
open Cert.Kernel13Ideal Cert.Kernel13Ideal.Gen

variable {F : FTy → Type} [FloatOps F]

/-- What a head carries from block to block: the largest score, the sum of the weights, the weighted sum of the values. -/
structure Carry (F : FTy → Type) where
  m : FVec F S256x1 .f32
  l : FVec F S256x1 .f32
  a : FVec F S256x128 .f32

theorem inb_q (h : ℕ) : ∀ a : Fin 3, ![h % 2, 0, 0] a + ![1, 256, 128] a ≤ S2x256x128.size a := by
  have := Nat.mod_lt h (show 0 < 2 by decide)
  intro a
  match a with
  | ⟨0, _⟩ => exact this
  | ⟨1, _⟩ => exact Nat.le_refl _
  | ⟨2, _⟩ => exact Nat.le_refl _

theorem inb_k (h n : ℕ) : ∀ a : Fin 4, ![h % 2, n % 16, 0, 0] a + ![1, 1, 128, 256] a ≤ S2x16x128x256.size a := by
  have := Nat.mod_lt h (show 0 < 2 by decide)
  have := Nat.mod_lt n (show 0 < 16 by decide)
  intro a
  match a with
  | ⟨0, _⟩ => assumption
  | ⟨1, _⟩ => assumption
  | ⟨2, _⟩ => exact Nat.le_refl _
  | ⟨3, _⟩ => exact Nat.le_refl _

theorem inb_v (h n : ℕ) : ∀ a : Fin 3, ![h % 2, 256 * (n % 16), 0] a + ![1, 256, 128] a ≤ S2x4096x128.size a := by
  have := Nat.mod_lt h (show 0 < 2 by decide)
  have := Nat.mod_lt n (show 0 < 16 by decide)
  intro a
  match a with
  | ⟨0, _⟩ => assumption
  | ⟨1, _⟩ => show 256 * (n % 16) + 256 ≤ 4096; omega
  | ⟨2, _⟩ => exact Nat.le_refl _

/-- The queries of head `h` of the pair. -/
def qOf (x : Vec F S2x256x128 .bf16) (h : ℕ) : Vec F S1x256x128 .bf16 :=
  VecWindow.window (s := S2x256x128) x ![h % 2, 0, 0] ![1, 256, 128] (inb_q h)
/-- Block `n` of its keys. -/
def kOf (x : Vec F S2x16x128x256 .bf16) (h n : ℕ) : Vec F S1x1x128x256 .bf16 :=
  VecWindow.window (s := S2x16x128x256) x ![h % 2, n % 16, 0, 0] ![1, 1, 128, 256] (inb_k h n)
/-- Block `n` of its values. -/
def vOf (x : Vec F S2x4096x128 .bf16) (h n : ℕ) : Vec F S1x256x128 .bf16 :=
  VecWindow.window (s := S2x4096x128) x ![h % 2, 256 * (n % 16), 0] ![1, 256, 128] (inb_v h n)

/-- The largest score once a block's scores `s` have been seen. -/
def newM (m : FVec F S256x1 .f32) (s : FVec F S256x256 .f32) : FVec F S256x1 .f32 :=
  maximumf m (shapeCast S256x1 (multiReduction .maximumf [1] S256 s 0xFF800000#32 reduces_S256x256_S256 (.inl rfl) rfl) shapeCasts_S256_S256x1)
/-- The block's weights. -/
def newP (m : FVec F S256x1 .f32) (s : FVec F S256x256 .f32) : FVec F S256x256 .f32 :=
  exp (subf s (broadcastTo S256x256 (newM m s) broadcasts_S256x1_S256x256))
/-- What the sums so far are scaled by. -/
def newC (m : FVec F S256x1 .f32) (s : FVec F S256x256 .f32) : FVec F S256x1 .f32 := exp (subf m (newM m s))
/-- The sum of the weights. -/
def newL (m l : FVec F S256x1 .f32) (s : FVec F S256x256 .f32) : FVec F S256x1 .f32 :=
  addf (mulf (newC m s) l) (shapeCast S256x1 (multiReduction .add [1] S256 (newP m s) 0x00000000#32 reduces_S256x256_S256 (.inl rfl) rfl) shapeCasts_S256_S256x1)
/-- The weighted sum of the values. -/
def newA (m : FVec F S256x1 .f32) (a : FVec F S256x128 .f32) (s : FVec F S256x256 .f32) (v : Vec F S1x256x128 .bf16) : FVec F S256x128 .f32 :=
  addf (mulf (broadcastTo S256x128 (newC m s) broadcasts_S256x1_S256x128) a)
    (matmul dot_S256x256_S256x128_S256x128_1_0_0_1_n_n none (truncf .bf16 (newP m s) bitsLt_bf16_f32)
      (shapeCast S256x128 v shapeCasts_S1x256x128_S256x128) (constant S256x128 .f32 0x00000000#32))

/-- One block with scores `s` and values `v`. -/
def upd (x : Carry F) (s : FVec F S256x256 .f32) (v : Vec F S1x256x128 .bf16) : Carry F :=
  ⟨newM x.m s, newL x.m x.l s, newA x.m x.a s v⟩

/-- Before the first block. -/
def start : Carry F := ⟨k0_pay22, k0_pay23, k0_pay24⟩

variable (x0 : Vec F S2x256x128 .bf16) (x1 : Vec F S2x16x128x256 .bf16) (x2 : Vec F S2x4096x128 .bf16)

/-- Head `h` after its first `n` blocks, none of them masked. -/
def blocks (h : ℕ) : ℕ → Carry F
  | 0 => start
  | n + 1 => upd (blocks h n) (k0_pay4 (qOf x0 h) (kOf x1 h n)) (vOf x2 h n)

/-- … and after the masked block `n`. -/
def whole (h n : ℕ) : Carry F := upd (blocks x0 x1 x2 h n) (k0_pay33 (qOf x0 h) (kOf x1 h n)) (vOf x2 h n)

/-- The two heads' carried values as the loop carries them. -/
abbrev both (a b : Carry F) : FVec F S256x1 .f32 × FVec F S256x1 .f32 × FVec F S256x128 .f32 × FVec F S256x1 .f32 × FVec F S256x1 .f32 × FVec F S256x128 .f32 :=
  (a.m, a.l, a.a, b.m, b.l, b.a)

/-! Where the loops read. -/

theorem trips1 : ∀ i : grid0.Coords, (k0_t1_loop i).trips = (i 1).val := by decide +kernel
theorem trips2 : ∀ i : grid0.Coords, (k0_t2_loop i).trips = 0 := by decide +kernel
theorem off1_eq : ∀ (i : grid0.Coords) (k : Fin (k0_t1_loop i).trips), k0_off1 i k = ![0 % 2, k.val % 16, 0, 0] := by decide +kernel
theorem off2_eq : ∀ (i : grid0.Coords) (k : Fin (k0_t1_loop i).trips), k0_off2 i k = ![0 % 2, 256 * (k.val % 16), 0] := by decide +kernel
theorem off3_eq : ∀ (i : grid0.Coords) (k : Fin (k0_t1_loop i).trips), k0_off3 i k = ![1 % 2, k.val % 16, 0, 0] := by decide +kernel
theorem off4_eq : ∀ (i : grid0.Coords) (k : Fin (k0_t1_loop i).trips), k0_off4 i k = ![1 % 2, 256 * (k.val % 16), 0] := by decide +kernel
theorem off9_eq : ∀ i : grid0.Coords, k0_off9 i = ![0 % 2, (i 1).val % 16, 0, 0] := by decide +kernel
theorem off10_eq : ∀ i : grid0.Coords, k0_off10 i = ![0 % 2, 256 * ((i 1).val % 16), 0] := by decide +kernel
theorem off11_eq : ∀ i : grid0.Coords, k0_off11 i = ![1 % 2, (i 1).val % 16, 0, 0] := by decide +kernel
theorem off12_eq : ∀ i : grid0.Coords, k0_off12 i = ![1 % 2, 256 * ((i 1).val % 16), 0] := by decide +kernel

theorem load_q (w : View sig .tc .vmem S2x256x128 .bf16) (f : BufTy.Contents (Elt F) w.ty) (h : ℕ)
    {off : Fin 3 → ℕ} (inb) (e : off = ![h % 2, 0, 0]) :
    w.readAt (Elt F) (Rect.unit (s := S2x256x128) off S1x256x128.size inb).toLoadRect f = qOf (w.read (Elt F) f) h :=
  View.readAt_unit w f inb e (inb_q h)
theorem load_k (w : View sig .tc .vmem S2x16x128x256 .bf16) (f : BufTy.Contents (Elt F) w.ty) (h n : ℕ)
    {off : Fin 4 → ℕ} (inb) (e : off = ![h % 2, n % 16, 0, 0]) :
    w.readAt (Elt F) (Rect.unit (s := S2x16x128x256) off S1x1x128x256.size inb).toLoadRect f = kOf (w.read (Elt F) f) h n :=
  View.readAt_unit w f inb e (inb_k h n)
theorem load_v (w : View sig .tc .vmem S2x4096x128 .bf16) (f : BufTy.Contents (Elt F) w.ty) (h n : ℕ)
    {off : Fin 3 → ℕ} (inb) (e : off = ![h % 2, 256 * (n % 16), 0]) :
    w.readAt (Elt F) (Rect.unit (s := S2x4096x128) off S1x256x128.size inb).toLoadRect f = vOf (w.read (Elt F) f) h n :=
  View.readAt_unit w f inb e (inb_v h n)

variable (i : grid0.Coords) (arg2 : Memref sig .tc .vmem S2x256x128 .bf16) (harg2 : arg2.IsWhole) (arg3 : Memref sig .tc .vmem S2x16x128x256 .bf16) (harg3 : arg3.IsWhole) (arg4 : Memref sig .tc .vmem S2x4096x128 .bf16) (harg4 : arg4.IsWhole) (arg5 : Memref sig .tc .vmem S256x128 .f32) (harg5 : arg5.IsWhole) (arg6 : Memref sig .tc .vmem S2x1x1x256 .f32) (harg6 : arg6.IsWhole)

/-- A trip of the loop does a block of each head. -/
theorem trip_eq (𝒱 : Variants) (c : Dev nD) (bd : Option 𝒱.V) (k : Fin (k0_t1_loop i).trips) (a b : Carry F) :
    tripR_k0_t1 𝒱 c bd i arg2 harg2 arg3 harg3 arg4 harg4 arg5 harg5 arg6 harg6 (harg2.unread x0) (harg3.unread x1) (harg4.unread x2) k (both a b) =
      both (upd a (k0_pay4 (qOf x0 0) (kOf x1 0 k.val)) (vOf x2 0 k.val)) (upd b (k0_pay4 (qOf x0 1) (kOf x1 1 k.val)) (vOf x2 1 k.val)) := by
  have lq0 := load_q arg2.view (harg2.unread x0) 0 inb_S2x256x128_S1x256x128_0_0_0 rfl
  have lq1 := load_q arg2.view (harg2.unread x0) 1 inb_S2x256x128_S1x256x128_1_0_0 rfl
  have lk0 := load_k arg3.view (harg3.unread x1) 0 k.val (k0_off1_inb i k) (off1_eq i k)
  have lk1 := load_k arg3.view (harg3.unread x1) 1 k.val (k0_off3_inb i k) (off3_eq i k)
  have lv0 := load_v arg4.view (harg4.unread x2) 0 k.val (k0_off2_inb i k) (off2_eq i k)
  have lv1 := load_v arg4.view (harg4.unread x2) 1 k.val (k0_off4_inb i k) (off4_eq i k)
  rw [harg2.read_unread] at lq0 lq1
  rw [harg3.read_unread] at lk0 lk1
  rw [harg4.read_unread] at lv0 lv1
  unfold tripR_k0_t1 trip_k0_t1
  dsimp only
  unfold trip_k0_t1.sl.r trip_k0_t1.sl.r_1 trip_k0_t1.sl.r_2 trip_k0_t1.sl.r_3 trip_k0_t1.sl.r_4 trip_k0_t1.sl.r_5
  rw [lq0, lq1, lk0, lk1, lv0, lv1]
  rfl

/-- … so `n` trips do `n` blocks. -/
theorem loop_eq (𝒱 : Variants) (c : Dev nD) (bd : Option 𝒱.V) (n : ℕ) (hn : n ≤ (k0_t1_loop i).trips) :
    st_k0_t1 𝒱 c bd i arg2 harg2 arg3 harg3 arg4 harg4 arg5 harg5 arg6 harg6 (harg2.unread x0) (harg3.unread x1) (harg4.unread x2) (both start start) n =
      both (blocks x0 x1 x2 0 n) (blocks x0 x1 x2 1 n) := by
  induction n with
  | zero => rfl
  | succ n ih =>
    rw [st_k0_t1_succ 𝒱 c bd i arg2 harg2 arg3 harg3 arg4 harg4 arg5 harg5 arg6 harg6 _ _ _ _ ⟨n, hn⟩, ih (Nat.le_of_lt hn)]
    exact trip_eq x0 x1 x2 i arg2 harg2 arg3 harg3 arg4 harg4 arg5 harg5 arg6 harg6 𝒱 c bd ⟨n, hn⟩ _ _

/-- What the body stores: the outputs of both heads, and the logarithms of their sums. -/
theorem run_eq (c : Dev nD) :
    (kernelRun0_A c i arg2 harg2 arg3 harg3 arg4 harg4 arg5 harg5 arg6 harg6 x0 x1 x2).1
      = [⟨Rect.unit (s := S256x128) ![0, 0] S256x128.size inb_S256x128_S256x128_0_0,
          k0_pay2 (whole x0 x1 x2 1 (i 1).val).l (whole x0 x1 x2 1 (i 1).val).a
            (k0_pay45 (newP (blocks x0 x1 x2 0 (i 1).val).m (k0_pay33 (qOf x0 0) (kOf x1 0 (i 1).val))) (whole x0 x1 x2 0 (i 1).val).l
              (mulf (broadcastTo S256x128 (newC (blocks x0 x1 x2 0 (i 1).val).m (k0_pay33 (qOf x0 0) (kOf x1 0 (i 1).val))) broadcasts_S256x1_S256x128)
                (blocks x0 x1 x2 0 (i 1).val).a) (vOf x2 0 (i 1).val))⟩]
    ∧ (kernelRun0_A c i arg2 harg2 arg3 harg3 arg4 harg4 arg5 harg5 arg6 harg6 x0 x1 x2).2.1
      = [⟨Rect.unit (s := S2x1x1x256) ![1, 0, 0, 0] S1x1x1x256.size inb_S2x1x1x256_S1x1x1x256_1_0_0_0,
          k0_pay3 (whole x0 x1 x2 1 (i 1).val).m (whole x0 x1 x2 1 (i 1).val).l⟩,
         ⟨Rect.unit (s := S2x1x1x256) ![0, 0, 0, 0] S1x1x1x256.size inb_S2x1x1x256_S1x1x1x256_0_0_0_0,
          k0_pay1 (k0_pay46 (whole x0 x1 x2 0 (i 1).val).m (whole x0 x1 x2 0 (i 1).val).l)⟩] := by
  have lq0 := load_q arg2.view (harg2.unread x0) 0 inb_S2x256x128_S1x256x128_0_0_0 rfl
  have lq1 := load_q arg2.view (harg2.unread x0) 1 inb_S2x256x128_S1x256x128_1_0_0 rfl
  have lk0 := load_k arg3.view (harg3.unread x1) 0 (i 1).val (k0_off9_inb i) (off9_eq i)
  have lk1 := load_k arg3.view (harg3.unread x1) 1 (i 1).val (k0_off11_inb i) (off11_eq i)
  have lv0 := load_v arg4.view (harg4.unread x2) 0 (i 1).val (k0_off10_inb i) (off10_eq i)
  have lv1 := load_v arg4.view (harg4.unread x2) 1 (i 1).val (k0_off12_inb i) (off12_eq i)
  rw [harg2.read_unread] at lq0 lq1
  rw [harg3.read_unread] at lk0 lk1
  rw [harg4.read_unread] at lv0 lv1
  have t2 : Scf.trips (k0_t2_loop i).lb (k0_t2_loop i).ub (k0_t2_loop i).st = 0 := trips2 i
  have t1 : Scf.trips (k0_t1_loop i).lb (k0_t1_loop i).ub (k0_t1_loop i).st = (i 1).val := trips1 i
  have lp := loop_eq x0 x1 x2 i arg2 harg2 arg3 harg3 arg4 harg4 arg5 harg5 arg6 harg6 Variants.none c none (i 1).val (trips1 i).ge
  unfold both start at lp
  dsimp only at lp
  unfold kernelRun0_A
  dsimp only
  unfold kernelRun0_A.sl.r_7 kernelRun0_A.sl.r_8 kernelRun0_A.sl.r_9 kernelRun0_A.sl.r_10 kernelRun0_A.sl.r_11
  dsimp only
  unfold kernelRun0_A.sl.r kernelRun0_A.sl.r_1 kernelRun0_A.sl.r_2 kernelRun0_A.sl.r_3 kernelRun0_A.sl.r_4 kernelRun0_A.sl.r_5 kernelRun0_A.sl.r_6
  rw [t2, t1]
  simp only [st_k0_t2_zero, lp]
  rw [lq0, lq1, lk0, lk1, lv0, lv1]
  exact ⟨rfl, rfl⟩

end Cert.Kernel13Ideal.Fwd

end
-- ==== Proof.FlashFwd.Row.lean ====
/- One row of a softmax taken block by block: the largest score and the weighted sums so far, and what they come to. -/
module

public import proofs.«01_k».proof.Proof.Flash.Row
public import proofs.«01_k».proof.Proof.Norm.Row

@[expose] public section

noncomputable section

namespace Cert.AttnRow

open Idealize.ShloMosaic

/-- The largest of the first `n` scores, −∞ before the first. -/
def mx (S : ℕ → EReal) (n : ℕ) : EReal := (Finset.range n).sup S

/-- The first `n` weights summed, a weight's score taken from the largest of them by the exponential. -/
def sm (S w : ℕ → EReal) (n : ℕ) : EReal := ∑ c ∈ Finset.range n, Ideal.exp (S c - mx S n) * w c

theorem mx_zero (S : ℕ → EReal) : mx S 0 = ⊥ := rfl

theorem sm_zero (S w : ℕ → EReal) : sm S w 0 = 0 := rfl

/-- The fold of the maximum is the least upper bound. -/
theorem fold_eq_sup {ι : Type*} (s : Finset ι) (f : ι → EReal) : Finset.fold max ⊥ f s = s.sup f := rfl

/-- A block more of scores. -/
theorem mx_add (S : ℕ → EReal) (n B : ℕ) :
    mx S (n + B) = max (mx S n) (Finset.fold max ⊥ (fun b : Fin B => S (n + b.val)) Finset.univ) := by
  rw [fold_eq_sup]
  unfold mx
  refine le_antisymm (Finset.sup_le fun c hc => ?_) (max_le (Finset.sup_mono (Finset.range_mono (by omega))) (Finset.sup_le fun b _ => ?_))
  · have hc' := Finset.mem_range.1 hc
    by_cases h : c < n
    · exact le_max_of_le_left (Finset.le_sup (f := S) (Finset.mem_range.2 h))
    · refine le_max_of_le_right ?_
      have := Finset.le_sup (f := fun b : Fin B => S (n + b.val)) (Finset.mem_univ ⟨c - n, by omega⟩)
      refine le_trans (le_of_eq ?_) this
      exact congrArg S (by show c = n + (c - n); omega)
  · exact Finset.le_sup (f := S) (Finset.mem_range.2 (by have := b.isLt; omega))

/-- The largest is real as soon as the first score is. -/
theorem mx_real (S : ℕ → EReal) (hS : ∀ c, S c ≠ ⊤) (h0 : S 0 ≠ ⊥) (n : ℕ) (hn : 0 < n) : ∃ M : ℝ, mx S n = (M : EReal) := by
  have top : mx S n ≠ ⊤ := by
    refine ne_of_lt ?_
    unfold mx
    rw [Finset.sup_lt_iff bot_lt_top]
    exact fun c _ => lt_top_iff_ne_top.2 (hS c)
  have bot : mx S n ≠ ⊥ := fun h =>
    h0 (le_bot_iff.1 (h ▸ Finset.le_sup (f := S) (Finset.mem_range.2 hn)))
  exact ⟨_, (EReal.coe_toReal top bot).symm⟩

/-- The exponential of a score, −∞ allowed, less a real number. -/
def ex (x : EReal) (M : ℝ) : ℝ := if x = ⊥ then 0 else Real.exp (x.toReal - M)

theorem exp_sub (x : EReal) (hx : x ≠ ⊤) (M : ℝ) : Ideal.exp (x - (M : EReal)) = (ex x M : EReal) := by
  unfold ex
  by_cases h : x = ⊥
  · subst h
    rw [if_pos rfl, EReal.bot_sub]
    rfl
  · rw [if_neg h]
    lift x to ℝ using ⟨hx, h⟩
    rw [← EReal.coe_sub, Ideal.exp_coe]
    rfl

theorem ex_shift (x : EReal) (M M' : ℝ) : Real.exp (M - M') * ex x M = ex x M' := by
  unfold ex
  split
  · exact mul_zero _
  · rw [← Real.exp_add]
    congr 1
    ring

/-- A block more of weights: what was summed is taken to the new largest score, and the block is added. -/
theorem sm_add (S w : ℕ → EReal) (hS : ∀ c, S c ≠ ⊤) (h0 : S 0 ≠ ⊥) (n B : ℕ) (hB : 0 < B) :
    sm S w (n + B) = Ideal.exp (mx S n - mx S (n + B)) * sm S w n +
      ∑ b : Fin B, Ideal.exp (S (n + b.val) - mx S (n + B)) * w (n + b.val) := by
  obtain ⟨M', hM'⟩ := mx_real S hS h0 (n + B) (by omega)
  have first : ∑ c ∈ Finset.range n, Ideal.exp (S c - (M' : EReal)) * w c = Ideal.exp (mx S n - (M' : EReal)) * sm S w n := by
    rcases Nat.eq_zero_or_pos n with rfl | hn
    · rw [sm_zero, mul_zero]
      rfl
    · obtain ⟨M, hM⟩ := mx_real S hS h0 n hn
      unfold sm
      rw [hM, ← EReal.coe_sub, Ideal.exp_coe, Cert.Norm.mul_sum_nonneg _ _ (Real.exp_pos _).le]
      refine Finset.sum_congr rfl fun c _ => ?_
      rw [exp_sub _ (hS c), exp_sub _ (hS c), ← mul_assoc, ← EReal.coe_mul, ex_shift]
  unfold sm at first ⊢
  rw [hM', Finset.sum_range_add, first]
  exact congrArg _ (Finset.sum_range _)

variable {N : ℕ} (r : Fin N) (s : Fin N → ℝ)

/-- The row's masked scores by position, nothing after the last. -/
def seq (c : ℕ) : EReal := if h : c < N then masked r s ⟨c, h⟩ else ⊥

theorem seq_ne_top (c : ℕ) : seq r s c ≠ ⊤ := by
  unfold seq masked
  split
  · split
    · exact EReal.coe_ne_top _
    · exact bot_ne_top
  · exact bot_ne_top

theorem seq_of_le (c : ℕ) (h : c ≤ r.val) : seq r s c = (s ⟨c, lt_of_le_of_lt h r.isLt⟩ : EReal) := by
  unfold seq masked
  rw [dif_pos (lt_of_le_of_lt h r.isLt), if_pos (Fin.le_def.2 h)]

theorem seq_of_lt (c : ℕ) (h : r.val < c) : seq r s c = ⊥ := by
  unfold seq masked
  split
  · exact if_neg fun g => absurd (Fin.le_def.1 g) (not_le.2 h)
  · rfl

theorem seq_zero : seq r s 0 ≠ ⊥ := by
  rw [seq_of_le r s 0 (Nat.zero_le _)]
  exact EReal.coe_ne_bot _

/-- Once every visible position has been seen, the largest score is the row's. -/
theorem mx_seq (n : ℕ) (h : r.val < n) : mx (seq r s) n = top r s := by
  unfold top
  rw [fold_eq_sup]
  unfold mx
  refine le_antisymm (Finset.sup_le fun c _ => ?_) (Finset.sup_le fun c _ => ?_)
  · by_cases hc : c < N
    · refine le_trans (le_of_eq ?_) (Finset.le_sup (f := masked r s) (Finset.mem_univ ⟨c, hc⟩))
      unfold seq
      rw [dif_pos hc]
    · unfold seq
      rw [dif_neg hc]
      exact bot_le
  · have e : masked r s c = seq r s c.val := by
      unfold seq
      rw [dif_pos c.isLt]
    rw [e]
    by_cases hc : c.val < n
    · exact Finset.le_sup (f := seq r s) (Finset.mem_range.2 hc)
    · rw [seq_of_lt r s _ (by omega)]
      exact bot_le

/-- … and the sums are the row's. -/
theorem sm_seq (w : ℕ → EReal) (n : ℕ) (h : r.val < n) : sm (seq r s) w n = ∑ c : Fin N, e r s c * w c.val := by
  obtain ⟨M, hM⟩ := top_real r s
  have z : ∀ c, r.val < c → Ideal.exp (seq r s c - top r s) * w c = 0 := fun c hc => by
    rw [seq_of_lt r s c hc, hM, EReal.bot_sub]
    exact zero_mul _
  have all : ∑ c : Fin N, e r s c * w c.val = ∑ c ∈ Finset.range N, Ideal.exp (seq r s c - top r s) * w c := by
    rw [Finset.sum_range]
    refine Finset.sum_congr rfl fun c _ => ?_
    unfold e seq
    rw [dif_pos c.isLt]
  unfold sm
  rw [mx_seq r s n h, all]
  have hr := r.isLt
  have low : ∀ k, r.val < k → ∑ c ∈ Finset.range k, Ideal.exp (seq r s c - top r s) * w c =
      ∑ c ∈ Finset.range (r.val + 1), Ideal.exp (seq r s c - top r s) * w c := fun k hk =>
    (Finset.sum_subset (Finset.range_mono hk) fun c _ hc => z c (by have := Finset.mem_range.not.1 hc; omega)).symm
  rw [low n h, low N hr]

/-- The weighted mean: the sum of the weighted values over the sum of the weights. -/
theorem mean_div (v : Fin N → EReal) : Ideal.div (∑ c, e r s c * v c) (∑ c, e r s c) = ∑ c, weight r s c * v c := by
  obtain ⟨E, L, hL, hE, hS, h0, hp⟩ := row_real r s
  have he : ∀ c, 0 ≤ e r s c := fun c => by
    obtain ⟨M, hM⟩ := top_real r s
    have hc : masked r s c ≠ ⊤ := by
      unfold masked
      split
      · exact EReal.coe_ne_top _
      · exact bot_ne_top
    unfold e
    rw [hM, exp_sub _ hc, EReal.coe_nonneg]
    unfold ex
    split <;> positivity
  have hL' : 0 ≤ 1 / L := one_div_nonneg.2 (EReal.coe_nonneg.1 (hS ▸ Finset.sum_nonneg fun c _ => he c))
  unfold weight
  rw [hS, Ideal.div_coe hL, mul_comm, Cert.Norm.mul_sum_nonneg _ _ hL']
  refine Finset.sum_congr rfl fun c _ => ?_
  rw [Ideal.div_coe hL, ← mul_assoc, mul_comm (e r s c)]

end Cert.AttnRow

end
-- ==== Proof.FlashFwd.Elem.lean ====
/- A block of the attention's forward call at an index, over the extended reals. -/
module

public import proofs.«01_k».proof.Proof.FlashFwd.Step
public import proofs.«01_k».proof.Proof.FlashFwd.Row
public import proofs.«01_k».proof.Proof.Flash.Finite
public import Idealize.ShloMosaic.Lib.Pointwise
public import Idealize.ShloMosaic.Lib.WordCmp

@[expose] public section

set_option maxRecDepth 16384

noncomputable section

namespace Cert.Kernel13Ideal.Fwd

open Idealize.ShloMosaic
open Cert.Kernel13Ideal Cert.Kernel13Ideal.Gen

variable (m l : FVec Ideal S256x1 .f32) (A : FVec Ideal S256x128 .f32) (s : FVec Ideal S256x256 .f32) (v : Vec Ideal S1x256x128 .bf16)
variable (a b : Fin 256) (d : Fin 128)

theorem newM_apply : newM m s (ix2 a 0) = (max (m (ix2 a 0)) (Finset.univ.fold max ⊥ fun b : Fin 256 => s (ix2 a b)) : EReal) := by
  unfold newM
  pointwise []
  rw [Cert.Pre_finite.ofBits_neg_inf]

theorem newP_apply : newP m s (ix2 a b) = (Ideal.exp (s (ix2 a b) - newM m s (ix2 a 0)) : EReal) := by
  unfold newP
  generalize newM m s = M
  pointwise []

theorem newC_apply : newC m s (ix2 a 0) = (Ideal.exp (m (ix2 a 0) - newM m s (ix2 a 0)) : EReal) := by
  unfold newC
  generalize newM m s = M
  pointwise []

theorem newL_apply : newL m l s (ix2 a 0)
    = (newC m s (ix2 a 0) * l (ix2 a 0) + ∑ b : Fin 256, newP m s (ix2 a b) : EReal) := by
  unfold newL
  generalize newP m s = P
  generalize newC m s = C
  pointwise []

theorem newA_apply : newA m A s v (ix2 a d)
    = (newC m s (ix2 a 0) * A (ix2 a d) + ∑ b : Fin 256, newP m s (ix2 a b) * v (ix3 0 b d) : EReal) := by
  unfold newA
  generalize newP m s = P
  generalize newC m s = C
  pointwise []

variable (q : Vec Ideal S1x256x128 .bf16) (k : Vec Ideal S1x1x128x256 .bf16)

theorem pay4_apply : k0_pay4 (F := Ideal) q k (ix2 a b) = (∑ d : Fin 128, (q (ix3 0 a d) : EReal) * k (ix4 0 0 d b) : EReal) := by
  pointwise [k0_pay4]

theorem pay33_apply : k0_pay33 (F := Ideal) q k (ix2 a b)
    = (if b ≤ a then ∑ d : Fin 128, (q (ix3 0 a d) : EReal) * k (ix4 0 0 d b) else ⊥ : EReal) := by
  pointwise [k0_pay33]
  have h : IntOp.cmpi .sle (BitVec.ofNat 32 b.val) (BitVec.ofNat 32 a.val) = 1#1 ↔ b.val ≤ a.val := by
    have := a.isLt
    have := b.isLt
    word_cmp
  simp only [Scalar.select, Fin.le_def]
  exact if_congr h rfl Cert.Pre_finite.ofBits_neg_inf

theorem start_m : (start (F := Ideal)).m (ix2 a 0) = (⊥ : EReal) := by
  unfold start
  pointwise [k0_pay22]
  exact Cert.Pre_finite.ofBits_neg_inf
theorem start_l : (start (F := Ideal)).l (ix2 a 0) = (0 : EReal) := by
  unfold start
  pointwise [k0_pay23]
theorem start_a : (start (F := Ideal)).a (ix2 a d) = (0 : EReal) := by
  unfold start
  pointwise [k0_pay24]

theorem pay1_apply (x : FVec Ideal S256x128 .f32) : k0_pay1 (F := Ideal) x (ix4 0 0 0 a) = x (ix2 a 0) := by
  pointwise [k0_pay1]
theorem pay46_apply : k0_pay46 (F := Ideal) m l (ix2 a d) = (m (ix2 a 0) + Ideal.log (l (ix2 a 0)) : EReal) := by
  pointwise [k0_pay46]
theorem pay3_apply : k0_pay3 (F := Ideal) m l (ix4 0 0 0 a) = (m (ix2 a 0) + Ideal.log (l (ix2 a 0)) : EReal) := by
  pointwise [k0_pay3]
theorem pay2_apply (y : FVec Ideal S256x128 .f32) : k0_pay2 (F := Ideal) l A y (ix2 a d) = (y (ix2 a d) + Ideal.div (A (ix2 a d)) (l (ix2 a 0)) : EReal) := by
  pointwise [k0_pay2]
theorem pay45_apply (l' : FVec Ideal S256x1 .f32) : k0_pay45 (F := Ideal) (newP m s) l' (mulf (broadcastTo S256x128 (newC m s) broadcasts_S256x1_S256x128) A) v (ix2 a d)
    = (Ideal.div (newA m A s v (ix2 a d)) (l' (ix2 a 0)) : EReal) := by
  rw [newA_apply]
  generalize newP m s = P
  generalize newC m s = C
  pointwise [k0_pay45]

/-! What a head carries is the largest of the scores seen and the sums of their weights. -/

open Cert.AttnRow

/-- `x` has seen the first `n` scores of row `a`; `w` are the values of lane `d`. -/
def Seen (x : Carry Ideal) (S : ℕ → EReal) (w : ℕ → EReal) (a : Fin 256) (d : Fin 128) (n : ℕ) : Prop :=
  x.m (ix2 a 0) = mx S n ∧ x.l (ix2 a 0) = sm S (fun _ => 1) n ∧ x.a (ix2 a d) = sm S w n

variable (S : ℕ → EReal) (w : ℕ → EReal)

theorem seen_start : Seen start S w a d 0 := ⟨start_m a, start_l a, start_a a d⟩

theorem seen_upd (hS : ∀ c, S c ≠ ⊤) (h0 : S 0 ≠ ⊥) (x : Carry Ideal) (n : ℕ) (hx : Seen x S w a d n)
    (hs : ∀ b : Fin 256, s (ix2 a b) = S (n + b.val)) (hv : ∀ b : Fin 256, v (ix3 0 b d) = w (n + b.val)) :
    Seen (upd x s v) S w a d (n + 256) := by
  obtain ⟨hm, hl, ha⟩ := hx
  have eM : newM x.m s (ix2 a 0) = mx S (n + 256) := by
    rw [newM_apply, mx_add, hm]
    simp only [hs]
  have eC : newC x.m s (ix2 a 0) = (Ideal.exp (mx S n - mx S (n + 256)) : EReal) := by rw [newC_apply, eM, hm]
  have eP : ∀ b : Fin 256, newP x.m s (ix2 a b) = (Ideal.exp (S (n + b.val) - mx S (n + 256)) : EReal) := fun b => by
    rw [newP_apply, eM, hs]
  refine ⟨eM, ?_, ?_⟩
  · refine (newL_apply x.m x.l s a).trans ?_
    rw [sm_add S (fun _ => 1) hS h0 n 256 (by decide), eC, hl]
    simp only [eP, mul_one]
  · refine (newA_apply x.m x.a s v a d).trans ?_
    rw [sm_add S w hS h0 n 256 (by decide), eC, ha]
    simp only [eP, hv]

variable (x0 : Vec Ideal S2x256x128 .bf16) (x1 : Vec Ideal S2x16x128x256 .bf16) (x2 : Vec Ideal S2x4096x128 .bf16)

theorem seen_whole (hS : ∀ c, S c ≠ ⊤) (h0 : S 0 ≠ ⊥) (h n : ℕ)
    (hs : ∀ j < n, ∀ b : Fin 256, k0_pay4 (F := Ideal) (qOf x0 h) (kOf x1 h j) (ix2 a b) = S (256 * j + b.val))
    (hs' : ∀ b : Fin 256, k0_pay33 (F := Ideal) (qOf x0 h) (kOf x1 h n) (ix2 a b) = S (256 * n + b.val))
    (hv : ∀ j ≤ n, ∀ b : Fin 256, vOf x2 h j (ix3 0 b d) = w (256 * j + b.val)) :
    Seen (whole x0 x1 x2 h n) S w a d (256 * (n + 1)) := by
  have pre : ∀ j ≤ n, Seen (blocks x0 x1 x2 h j) S w a d (256 * j) := fun j => by
    induction j with
    | zero => exact fun _ => seen_start a d S w
    | succ j ih => exact fun hj => seen_upd _ _ a d S w hS h0 _ _ (ih (Nat.le_of_lt hj)) (hs j hj) (hv j (Nat.le_of_lt hj))
  exact seen_upd _ _ a d S w hS h0 _ _ (pre n le_rfl) hs' (hv n le_rfl)

end Cert.Kernel13Ideal.Fwd

end
-- ==== Proof.FlashFwd.Operands.lean ====
/- What the host prepares for the attention's forward call, and the blocks of it that a grid point reads. -/
module

public import proofs.«01_k».proof.Proof.FlashFwd.Elem
public import proofs.«01_k».proof.Proof.Flash.Host
public import proofs.«01_k».proof.Proof.Gen.Kernel13Ideal.Value
public import Idealize.ShloMosaic.Lib.Pipeline.ValueKit

@[expose] public section

set_option maxRecDepth 16384

noncomputable section

namespace Cert.Kernel13Ideal.Fwd

open Idealize.ShloMosaic Idealize.ShloMosaic.TcCoe Idealize.SL.Sem
open Cert.Kernel13Ideal Cert.Kernel13Ideal.Gen
open Cert.KernelIdeal.Flash (padded padded_apply scaled scaled_apply halved halved_apply pos blkNo)

variable (m : (ℓ : Loc nD τ sig) → Buf (Elt Ideal) ℓ)

abbrev argQ (c : Dev nD) : FVec Ideal S4096x8x96 .bf16 := m ((c : Thread nD τ).loc main_arg0)
abbrev argK (c : Dev nD) : FVec Ideal S4096x8x96 .bf16 := m ((c : Thread nD τ).loc main_arg1)
abbrev argV (c : Dev nD) : FVec Ideal S4096x8x64 .bf16 := m ((c : Thread nD τ).loc main_arg2)
abbrev opQ (c : Dev nD) : S8x4096x128.Idx → EReal := V m c main_v5
abbrev opKT (c : Dev nD) : S8x16x128x256.Idx → EReal := V m c main_v9
abbrev opV (c : Dev nD) : S8x4096x128.Idx → EReal := V m c main_v19

theorem opQ_eq (c : Dev nD) : opQ m c = padded (scaled (argQ m c)) := by
  show V m c main_v5 = padded (scaled (m ((c : Thread nD τ).loc main_arg0)))
  simp only [V, hostOps0, hostOps0_1, hostOps0_2, hostOps0_3, hostOps0_4, hostOps0_5, hostOps0_6, List.flatten_cons, List.flatten_nil, List.append_nil, List.cons_append, List.nil_append]
  after_results_simp
  unfold padded scaled
  rfl

theorem opKT_eq (c : Dev nD) : opKT m c = transpose S8x16x128x256 [0, 1, 3, 2] (shapeCast S8x16x256x128 (padded (argK m c)) shapeCasts_S8x4096x128_S8x16x256x128) transposes_S8x16x256x128_S8x16x128x256_0_1_3_2 := by
  show V m c main_v9 = transpose S8x16x128x256 [0, 1, 3, 2] (shapeCast S8x16x256x128 (padded (m ((c : Thread nD τ).loc main_arg1))) shapeCasts_S8x4096x128_S8x16x256x128) transposes_S8x16x256x128_S8x16x128x256_0_1_3_2
  simp only [V, hostOps0, hostOps0_1, hostOps0_2, hostOps0_3, hostOps0_4, hostOps0_5, hostOps0_6, List.flatten_cons, List.flatten_nil, List.append_nil, List.cons_append, List.nil_append]
  after_results_simp
  unfold padded
  rfl

theorem opV_eq (c : Dev nD) : opV m c = halved (argV m c) := by
  show V m c main_v19 = halved (m ((c : Thread nD τ).loc main_arg2))
  simp only [V, hostOps0, hostOps0_1, hostOps0_2, hostOps0_3, hostOps0_4, hostOps0_5, hostOps0_6, List.flatten_cons, List.flatten_nil, List.append_nil, List.cons_append, List.nil_append]
  after_results_simp
  unfold halved
  rfl

theorem opKT_apply (c : Dev nD) (h : Fin 8) (n : ℕ) (d : Fin 128) (b : Fin 256) :
    opKT m c (ix4 h (blkNo n) d b) = padded (argK m c) (ix3 h (pos n b) d) := by
  rw [opKT_eq]
  generalize padded (argK m c) = y
  pointwise
  refine congrArg (fun r => y (ix3 h r d)) (Fin.ext ?_)
  show n % 16 * 256 + b.val = 256 * (n % 16) + b.val
  omega

/-! The blocks at a grid point. -/

theorem index_facts : ∀ t : Fin cfg0.N,
    (win0_0.index t (0 : Fin 3) = t.val / 16 ∧ win0_0.index t (1 : Fin 3) = t.val % 16 ∧ win0_0.index t (2 : Fin 3) = 0)
    ∧ (win0_1.index t (0 : Fin 4) = t.val / 16 ∧ win0_1.index t (1 : Fin 4) = 0 ∧ win0_1.index t (2 : Fin 4) = 0 ∧ win0_1.index t (3 : Fin 4) = 0)
    ∧ (win0_2.index t (0 : Fin 3) = t.val / 16 ∧ win0_2.index t (1 : Fin 3) = 0 ∧ win0_2.index t (2 : Fin 3) = 0)
    ∧ (win0_3.index t (0 : Fin 2) = t.val % 16 ∧ win0_3.index t (1 : Fin 2) = t.val / 16)
    ∧ (win0_4.index t (0 : Fin 4) = t.val / 16 ∧ win0_4.index t (1 : Fin 4) = t.val % 16 ∧ win0_4.index t (2 : Fin 4) = 0 ∧ win0_4.index t (3 : Fin 4) = 0)
    ∧ (grid0.coords t 1).val = t.val % 16 :=
  (by decide +kernel : ∀ t : Fin grid0.N, _)

/-- Head `h` of the pair that grid point `t` works on. -/
def headAt (t : Fin cfg0.N) (h : Fin 2) : Fin 8 :=
  ⟨2 * (t.val / 16) + h.val, by have := lt_of_lt_of_eq t.isLt (show cfg0.N = 64 from N_0); omega⟩

variable (c : Dev nD) (t : Fin cfg0.N) (h : Fin 2)

theorem blkQ_apply (a : Fin 256) (d : Fin 128) :
    (iblk m c 0 t : S2x256x128.Idx → EReal) (ix3 h a d) = opQ m c (ix3 (headAt t h) (pos t.val a) d) := by
  obtain ⟨⟨e0, e1, e2⟩, -⟩ := index_facts t
  show opQ m c (((cfg0.win 0).blk t).view.emb (ix3 h a d)) = _
  refine congrArg (opQ m c) (funext fun x => Fin.ext ?_)
  match x with
  | ⟨0, _⟩ => show win0_0.index t (0 : Fin 3) * 2 + 1 * h.val = 2 * (t.val / 16) + h.val; omega
  | ⟨1, _⟩ => show win0_0.index t (1 : Fin 3) * 256 + 1 * a.val = 256 * (t.val % 16) + a.val; omega
  | ⟨2, _⟩ => show win0_0.index t (2 : Fin 3) * 128 + 1 * d.val = d.val; omega

theorem blkK_apply (n : Fin 16) (d : Fin 128) (b : Fin 256) :
    (iblk m c 1 t : S2x16x128x256.Idx → EReal) (ix4 h n d b) = opKT m c (ix4 (headAt t h) n d b) := by
  obtain ⟨-, ⟨e0, e1, e2, e3⟩, -⟩ := index_facts t
  show opKT m c (((cfg0.win 1).blk t).view.emb (ix4 h n d b)) = _
  refine congrArg (opKT m c) (funext fun x => Fin.ext ?_)
  match x with
  | ⟨0, _⟩ => show win0_1.index t (0 : Fin 4) * 2 + 1 * h.val = 2 * (t.val / 16) + h.val; omega
  | ⟨1, _⟩ => show win0_1.index t (1 : Fin 4) * 16 + 1 * n.val = n.val; omega
  | ⟨2, _⟩ => show win0_1.index t (2 : Fin 4) * 128 + 1 * d.val = d.val; omega
  | ⟨3, _⟩ => show win0_1.index t (3 : Fin 4) * 256 + 1 * b.val = b.val; omega

theorem blkV_apply (r : Fin 4096) (d : Fin 128) :
    (iblk m c 2 t : S2x4096x128.Idx → EReal) (ix3 h r d) = opV m c (ix3 (headAt t h) r d) := by
  obtain ⟨-, -, ⟨e0, e1, e2⟩, -⟩ := index_facts t
  show opV m c (((cfg0.win 2).blk t).view.emb (ix3 h r d)) = _
  refine congrArg (opV m c) (funext fun x => Fin.ext ?_)
  match x with
  | ⟨0, _⟩ => show win0_2.index t (0 : Fin 3) * 2 + 1 * h.val = 2 * (t.val / 16) + h.val; omega
  | ⟨1, _⟩ => show win0_2.index t (1 : Fin 3) * 4096 + 1 * r.val = r.val; omega
  | ⟨2, _⟩ => show win0_2.index t (2 : Fin 3) * 128 + 1 * d.val = d.val; omega

theorem qOf_apply (x : Vec Ideal S2x256x128 .bf16) (a : Fin 256) (d : Fin 128) : qOf x h.val (ix3 0 a d) = x (ix3 h a d) := by
  unfold qOf VecWindow.window
  refine congrArg x (funext fun y => Fin.ext ?_)
  have := h.isLt
  match y with
  | ⟨0, _⟩ => show h.val % 2 + 1 * 0 = h.val; omega
  | ⟨1, _⟩ => show 0 + 1 * a.val = a.val; omega
  | ⟨2, _⟩ => show 0 + 1 * d.val = d.val; omega

theorem kOf_apply (x : Vec Ideal S2x16x128x256 .bf16) (n : ℕ) (d : Fin 128) (b : Fin 256) : kOf x h.val n (ix4 0 0 d b) = x (ix4 h (blkNo n) d b) := by
  unfold kOf VecWindow.window
  refine congrArg x (funext fun y => Fin.ext ?_)
  have := h.isLt
  match y with
  | ⟨0, _⟩ => show h.val % 2 + 1 * 0 = h.val; omega
  | ⟨1, _⟩ => show n % 16 + 1 * 0 = n % 16; omega
  | ⟨2, _⟩ => show 0 + 1 * d.val = d.val; omega
  | ⟨3, _⟩ => show 0 + 1 * b.val = b.val; omega

theorem vOf_apply (x : Vec Ideal S2x4096x128 .bf16) (n : ℕ) (b : Fin 256) (d : Fin 128) : vOf x h.val n (ix3 0 b d) = x (ix3 h (pos n b) d) := by
  unfold vOf VecWindow.window
  refine congrArg x (funext fun y => Fin.ext ?_)
  have := h.isLt
  match y with
  | ⟨0, _⟩ => show h.val % 2 + 1 * 0 = h.val; omega
  | ⟨1, _⟩ => show 256 * (n % 16) + 1 * b.val = 256 * (n % 16) + b.val; omega
  | ⟨2, _⟩ => show 0 + 1 * d.val = d.val; omega

end Cert.Kernel13Ideal.Fwd

end
-- ==== Proof.FlashFwd.Ref.lean ====
/- What the reference's two arrays of the attention hold, element by element, at real arguments. -/
module

public import proofs.«01_k».proof.Proof.Gen.Reference13Ideal.Read
public import proofs.«01_k».proof.Proof.Flash.RefRow

@[expose] public section

set_option maxRecDepth 16384

noncomputable section

namespace Cert.Reference13Ideal.Fwd

open Idealize.ShloMosaic Idealize.ShloMosaic.TcCoe Idealize.SL.Sem
open Cert.Reference13Ideal Cert.Reference13Ideal.Gen Cert.Reference13Ideal.Read Cert.AttnRow
open Cert.ReferenceIdeal.Flash (Real4 v11_real v12_real v40_real)

variable (x0 x1 : FVec Ideal S4096x8x96 .bf16) (x2 : FVec Ideal S4096x8x64 .bf16)

/-! The scores, their largest and the weights are the arrays of the gradient's reference. -/

theorem v11_same : val_main_v11 (F := Ideal) x0 x1 = Cert.ReferenceIdeal.Read.val_main_v11_0 (F := Ideal) x0 x1 := rfl
theorem v12_same : val_main_v12 (F := Ideal) x0 x1 = Cert.ReferenceIdeal.Read.val_main_v12 (F := Ideal) x0 x1 := rfl
theorem v39_same : val_main_v39 (F := Ideal) x0 x1 = Cert.ReferenceIdeal.Read.val_main_v40 (F := Ideal) x0 x1 := rfl

theorem v45_apply (h : Fin 8) (n : Fin 16) (b : Fin 256) :
    (val_main_v45 (F := Ideal) x0 x1 (ix4 h n 0 b) : EReal) = val_main_v19 (F := Ideal) x0 x1 (ix2 h ⟨256 * n.val + b.val, by omega⟩) := by
  unfold val_main_v45
  generalize val_main_v19 (F := Ideal) x0 x1 = y
  pointwise []
  refine congrArg (fun r => y (ix2 h r)) (Fin.ext ?_)
  simp only []
  omega

theorem sum_word (z y : Ideal .f32) : (FloatOps.addf z (FloatOps.hostUnary .log y) : Ideal .f32) = (z + Ideal.log y : EReal) := rfl

theorem v19_apply (h : Fin 8) (r : Fin 4096) :
    (val_main_v19 (F := Ideal) x0 x1 (ix2 h r) : EReal)
      = (val_main_v12 (F := Ideal) x0 x1 (ix2 h r) + Ideal.log (val_main_v17 (F := Ideal) x0 x1 (ix2 h r)) : EReal) := by
  rw [val_main_v19_apply, val_main_v18_apply]
  generalize val_main_v17 (F := Ideal) x0 x1 (ix2 h r) = y
  generalize val_main_v12 (F := Ideal) x0 x1 (ix2 h r) = z
  exact sum_word z y

theorem v17_apply (h : Fin 8) (r : Fin 4096) :
    (val_main_v17 (F := Ideal) x0 x1 (ix2 h r) : EReal)
      = (∑ c : Fin 4096, Ideal.exp (val_main_v11 (F := Ideal) x0 x1 (ix3 h r c) - val_main_v12 (F := Ideal) x0 x1 (ix2 h r)) : EReal) := by
  unfold val_main_v17 val_main_v16 val_main_v15 val_main_v14 val_main_v13
  generalize val_main_v11 (F := Ideal) x0 x1 = y
  generalize val_main_v12 (F := Ideal) x0 x1 = z
  pointwise [val_main_cst_2]

theorem v44_apply (r : Fin 4096) (d : Fin 512) :
    (val_main_v44 (F := Ideal) x0 x1 x2 (ix2 r d) : EReal)
      = (∑ c : Fin 4096, x2 (ix3 c ⟨d.val / 64, by omega⟩ ⟨d.val % 64, Nat.mod_lt _ (by decide)⟩) * val_main_v39 (F := Ideal) x0 x1 (ix3 ⟨d.val / 64, by omega⟩ r c) : EReal) := by
  unfold val_main_v44 val_main_v43 val_main_v42 val_main_v41 val_main_v40
  generalize val_main_v39 (F := Ideal) x0 x1 = y
  pointwise []

variable {x0 x1 x2}
variable {q k : Fin 4096 → Fin 8 → Fin 96 → ℝ}

variable (x0 x1 q k) in
/-- The queries, scaled, and the keys are the real arrays. -/
structure Real2 : Prop where
  q : ∀ r h d, (x0 (ix3 r h d) * Ideal.ofBits .f32 0x3DD105EC#32 : EReal) = (q r h d : EReal)
  k : ∀ r h d, (x1 (ix3 r h d) : EReal) = (k r h d : EReal)

theorem Real2.four (H : Real2 x0 x1 q k) : Real4 x0 x1 (fun _ => (0 : EReal)) (fun _ => (0 : EReal)) q k (fun _ _ _ => 0) (fun _ _ _ => 0) :=
  ⟨H.q, H.k, fun _ _ _ => EReal.coe_zero.symm, fun _ _ _ => EReal.coe_zero.symm⟩

variable (H : Real2 x0 x1 q k)
include H

/-- The reference's log-sums. -/
theorem v45_real (h : Fin 8) (n : Fin 16) (b : Fin 256) (r : Fin 4096) (hr : r.val = 256 * n.val + b.val) :
    (val_main_v45 (F := Ideal) x0 x1 (ix4 h n 0 b) : EReal) = top r (score q k h r) + Ideal.log (∑ c, e r (score q k h r) c) := by
  have er : (⟨256 * n.val + b.val, by omega⟩ : Fin 4096) = r := Fin.ext hr.symm
  have e12 : (val_main_v12 (F := Ideal) x0 x1 (ix2 h r) : EReal) = top r (score q k h r) :=
    (congrFun (v12_same x0 x1) _).trans (v12_real H.four h r)
  rw [v45_apply, er, v19_apply, v17_apply, e12]
  refine congrArg (fun z => top r (score q k h r) + Ideal.log z) (Finset.sum_congr rfl fun c _ => ?_)
  rw [(congrFun (v11_same x0 x1) _).trans (v11_real H.four h r c)]
  rfl

/-- The reference's outputs. -/
theorem v44_real (h : Fin 8) (r : Fin 4096) (d : Fin 512) (hd : d.val / 64 = h.val) :
    (val_main_v44 (F := Ideal) x0 x1 x2 (ix2 r d) : EReal)
      = ∑ c, weight r (score q k h r) c * x2 (ix3 c h ⟨d.val % 64, Nat.mod_lt _ (by decide)⟩) := by
  have eh : (⟨d.val / 64, by omega⟩ : Fin 8) = h := Fin.ext hd
  rw [v44_apply, eh]
  refine Finset.sum_congr rfl fun c _ => ?_
  rw [(congrFun (v39_same x0 x1) _).trans (v40_real H.four h r c), mul_comm]

end Cert.Reference13Ideal.Fwd

end
-- ==== Proof.FlashFwd.Point.lean ====
/- What the attention's forward call leaves at a grid point, at real arguments. -/
module

public import proofs.«01_k».proof.Proof.FlashFwd.Operands
public import proofs.«01_k».proof.Proof.FlashFwd.Ref
public import proofs.«01_k».proof.Proof.Flash.KernelRow

@[expose] public section

set_option maxRecDepth 16384

noncomputable section

namespace Cert.Kernel13Ideal.Fwd

open Idealize.ShloMosaic Idealize.ShloMosaic.TcCoe Idealize.SL.Sem
open Cert.Kernel13Ideal Cert.Kernel13Ideal.Gen Cert.AttnRow
open Cert.KernelIdeal.Flash (padded padded_apply scaled scaled_apply halved halved_apply pos blkNo)
open Cert.Reference13Ideal.Fwd (Real2)

variable (m : (ℓ : Loc nD τ sig) → Buf (Elt Ideal) ℓ) (c : Dev nD) (t : Fin cfg0.N)

abbrev blkQ : Vec Ideal S2x256x128 .bf16 := iblk m c 0 t
abbrev blkK : Vec Ideal S2x16x128x256 .bf16 := iblk m c 1 t
abbrev blkV : Vec Ideal S2x4096x128 .bf16 := iblk m c 2 t

/-- Lane `d` of the values of head `hd`, the half of its pair numbered `g`. -/
def lanes (x : FVec Ideal S4096x8x64 .bf16) (hd : Fin 8) (g : Fin 2) (d : Fin 128) (r : ℕ) : EReal :=
  if d.val / 64 = g.val then (if h : r < 4096 then x (ix3 ⟨r, h⟩ hd ⟨d.val % 64, Nat.mod_lt _ (by decide)⟩) else 0) else 0

variable {q k : Fin 4096 → Fin 8 → Fin 96 → ℝ}
variable (H : Real2 (argQ m c) (argK m c) q k) (g : Fin 2) (a : Fin 256)
include H

theorem dot_real (n : ℕ) (b : Fin 256) :
    (∑ d : Fin 128, (qOf (blkQ m c t) g.val (ix3 0 a d) : EReal) * kOf (blkK m c t) g.val n (ix4 0 0 d b) : EReal)
      = (score q k (headAt t g) (pos t.val a) (pos n b) : EReal) := by
  refine (Finset.sum_congr rfl fun d _ => congr (congrArg HMul.hMul ((qOf_apply g _ a d).trans ((blkQ_apply m c t g a d).trans
    ((congrFun (opQ_eq m c) _).trans (padded_apply (scaled (argQ m c)) (headAt t g) (pos t.val a) d)))))
    ((kOf_apply g _ n d b).trans ((blkK_apply m c t g (blkNo n) d b).trans
    ((opKT_apply m c (headAt t g) n d b).trans (padded_apply (argK m c) (headAt t g) (pos n b) d))))).trans ?_
  refine (sum_padded (fun d => scaled (argQ m c) (ix3 (pos t.val a) (headAt t g) d)) (fun d => argK m c (ix3 (pos n b) (headAt t g) d))).trans ?_
  unfold score
  rw [← coe_sum_mul]
  exact Finset.sum_congr rfl fun d _ => by rw [scaled_apply, H.q, H.k]

omit H in
theorem value_real (d : Fin 128) (j : ℕ) (hj : j < 16) (b : Fin 256) :
    (vOf (blkV m c t) g.val j (ix3 0 b d) : EReal) = lanes (argV m c) (headAt t g) g d (256 * j + b.val) := by
  refine (vOf_apply g _ j b d).trans ((blkV_apply m c t g (pos j b) d).trans ((congrFun (opV_eq m c) _).trans ((halved_apply (argV m c) (headAt t g) (pos j b) d).trans ?_)))
  have hb := b.isLt
  have hg := g.isLt
  have hp : (headAt t g).val % 2 = g.val := by show (2 * (t.val / 16) + g.val) % 2 = g.val; omega
  unfold lanes
  rw [hp]
  by_cases hd : d.val / 64 = g.val
  · rw [if_pos hd, if_pos hd, dif_pos (show 256 * j + b.val < 4096 by omega)]
    exact congrArg (fun r => argV m c (ix3 r (headAt t g) ⟨d.val % 64, Nat.mod_lt _ (by decide)⟩))
      (Fin.ext (by show 256 * (j % 16) + b.val = 256 * j + b.val; omega))
  · rw [if_neg hd, if_neg hd]

/-- After the blocks up to the point's own, a head carries the largest of its row's scores and the sums of their weights. -/
theorem seen_real (d : Fin 128) :
    Seen (whole (blkQ m c t) (blkK m c t) (blkV m c t) g.val (t.val % 16)) (seq (pos t.val a) (score q k (headAt t g) (pos t.val a)))
      (lanes (argV m c) (headAt t g) g d) a d (256 * (t.val % 16 + 1)) := by
  have ha := a.isLt
  have ht : t.val % 16 < 16 := Nat.mod_lt _ (by decide)
  refine seen_whole a d _ _ _ _ _ (seq_ne_top _ _) (seq_zero _ _) g.val (t.val % 16) (fun j hj b => ?_) (fun b => ?_)
    fun j hj b => value_real m c t g d j (by omega) b
  · have hb := b.isLt
    rw [seq_of_le _ _ _ (show 256 * j + b.val ≤ 256 * (t.val % 16) + a.val by omega)]
    refine (pay4_apply a b _ _).trans ((dot_real m c t H g a j b).trans ?_)
    exact congrArg (fun r => ((score q k (headAt t g) (pos t.val a) r : ℝ) : EReal)) (Fin.ext (by show 256 * (j % 16) + b.val = 256 * j + b.val; omega))
  · have hb := b.isLt
    refine (pay33_apply a b _ _).trans ?_
    by_cases h : b ≤ a
    · have h' : b.val ≤ a.val := h
      rw [if_pos h, seq_of_le _ _ _ (show 256 * (t.val % 16) + b.val ≤ 256 * (t.val % 16) + a.val by omega)]
      refine (dot_real m c t H g a (t.val % 16) b).trans ?_
      exact congrArg (fun r => ((score q k (headAt t g) (pos t.val a) r : ℝ) : EReal)) (Fin.ext (by show 256 * (t.val % 16 % 16) + b.val = 256 * (t.val % 16) + b.val; omega))
    · have h' : a.val < b.val := not_le.1 h
      rw [if_neg h, seq_of_lt _ _ _ (show 256 * (t.val % 16) + a.val < 256 * (t.val % 16) + b.val by omega)]

theorem m_real : ((whole (blkQ m c t) (blkK m c t) (blkV m c t) g.val (t.val % 16)).m (ix2 a 0) : EReal)
    = top (pos t.val a) (score q k (headAt t g) (pos t.val a)) := by
  have ha := a.isLt
  exact (seen_real m c t H g a 0).1.trans (mx_seq _ _ _ (show 256 * (t.val % 16) + a.val < _ by omega))

theorem l_real : ((whole (blkQ m c t) (blkK m c t) (blkV m c t) g.val (t.val % 16)).l (ix2 a 0) : EReal)
    = ∑ s, e (pos t.val a) (score q k (headAt t g) (pos t.val a)) s := by
  have ha := a.isLt
  refine (seen_real m c t H g a 0).2.1.trans ((sm_seq _ _ _ _ (show 256 * (t.val % 16) + a.val < _ by omega)).trans ?_)
  exact Finset.sum_congr rfl fun s _ => by rw [mul_one]

theorem mean_real (d : Fin 128) :
    Ideal.div ((whole (blkQ m c t) (blkK m c t) (blkV m c t) g.val (t.val % 16)).a (ix2 a d)) ((whole (blkQ m c t) (blkK m c t) (blkV m c t) g.val (t.val % 16)).l (ix2 a 0))
      = if d.val / 64 = g.val then ∑ s, weight (pos t.val a) (score q k (headAt t g) (pos t.val a)) s * argV m c (ix3 s (headAt t g) ⟨d.val % 64, Nat.mod_lt _ (by decide)⟩) else 0 := by
  have ha := a.isLt
  rw [l_real m c t H g a, (seen_real m c t H g a d).2.2, sm_seq _ _ _ _ (show 256 * (t.val % 16) + a.val < 256 * (t.val % 16 + 1) by omega)]
  rw [mean_div (pos t.val a) (score q k (headAt t g) (pos t.val a)) fun s => lanes (argV m c) (headAt t g) g d s.val]
  unfold lanes
  by_cases hd : d.val / 64 = g.val
  · rw [if_pos hd]
    exact Finset.sum_congr rfl fun s _ => by rw [if_pos hd, dif_pos s.isLt]
  · rw [if_neg hd]
    exact Finset.sum_eq_zero fun s _ => by rw [if_neg hd, mul_zero]

/-- The output block at a row and a lane. -/
theorem out_real (d : Fin 128) (e' : Fin 512) (he : e'.val = 128 * (t.val / 16) + d.val) :
    (k0_pay2 (F := Ideal) (whole (blkQ m c t) (blkK m c t) (blkV m c t) 1 (t.val % 16)).l (whole (blkQ m c t) (blkK m c t) (blkV m c t) 1 (t.val % 16)).a
      (k0_pay45 (newP (blocks (blkQ m c t) (blkK m c t) (blkV m c t) 0 (t.val % 16)).m (k0_pay33 (qOf (blkQ m c t) 0) (kOf (blkK m c t) 0 (t.val % 16))))
        (whole (blkQ m c t) (blkK m c t) (blkV m c t) 0 (t.val % 16)).l
        (mulf (broadcastTo S256x128 (newC (blocks (blkQ m c t) (blkK m c t) (blkV m c t) 0 (t.val % 16)).m (k0_pay33 (qOf (blkQ m c t) 0) (kOf (blkK m c t) 0 (t.val % 16)))) broadcasts_S256x1_S256x128)
          (blocks (blkQ m c t) (blkK m c t) (blkV m c t) 0 (t.val % 16)).a) (vOf (blkV m c t) 0 (t.val % 16))) (ix2 a d) : EReal)
      = Cert.Reference13Ideal.Read.val_main_v44 (F := Ideal) (argQ m c) (argK m c) (argV m c) (ix2 (pos t.val a) e') := by
  have hd := d.isLt
  rw [pay2_apply, pay45_apply]
  refine (congr (congrArg HAdd.hAdd (mean_real m c t H 0 a d)) (mean_real m c t H 1 a d)).trans ?_
  have hm : (⟨e'.val % 64, Nat.mod_lt _ (by decide)⟩ : Fin 64) = ⟨d.val % 64, Nat.mod_lt _ (by decide)⟩ := Fin.ext (by show e'.val % 64 = d.val % 64; omega)
  by_cases h0 : d.val / 64 = 0
  · rw [if_pos (show d.val / 64 = (0 : Fin 2).val from h0), if_neg (show ¬ d.val / 64 = (1 : Fin 2).val from fun h => absurd (h0.symm.trans h) (by decide)), add_zero]
    rw [Cert.Reference13Ideal.Fwd.v44_real H (headAt t 0) (pos t.val a) e' (by show e'.val / 64 = 2 * (t.val / 16) + 0; omega), hm]
  · have h1 : d.val / 64 = 1 := by omega
    rw [if_neg (show ¬ d.val / 64 = (0 : Fin 2).val from h0), if_pos (show d.val / 64 = (1 : Fin 2).val from h1), zero_add]
    rw [Cert.Reference13Ideal.Fwd.v44_real H (headAt t 1) (pos t.val a) e' (by show e'.val / 64 = 2 * (t.val / 16) + 1; omega), hm]

/-- A head's log-sum at a row. -/
theorem lse_real :
    ((whole (blkQ m c t) (blkK m c t) (blkV m c t) g.val (t.val % 16)).m (ix2 a 0)
      + Ideal.log ((whole (blkQ m c t) (blkK m c t) (blkV m c t) g.val (t.val % 16)).l (ix2 a 0)) : EReal)
      = Cert.Reference13Ideal.Read.val_main_v45 (F := Ideal) (argQ m c) (argK m c) (ix4 (headAt t g) (blkNo t.val) 0 a) := by
  rw [m_real m c t H g a, l_real m c t H g a, Cert.Reference13Ideal.Fwd.v45_real H (headAt t g) (blkNo t.val) a (pos t.val a) rfl]

end Cert.Kernel13Ideal.Fwd

end
-- ==== Proof.FlashFwd.Equation.lean ====
/- The attention's forward call and the reference leave the same two arrays, at finite arguments. -/
module

public import proofs.«01_k».proof.Proof.FlashFwd.Point
public import proofs.«01_k».proof.Proof.Flash.Equation
public import proofs.«01_k».proof.Proof.Gen.Reference13Ideal.Run
public import proofs.«01_k».proof.Proof.Gen.Pre_finite13

@[expose] public section

set_option maxRecDepth 16384

noncomputable section

namespace Cert.Pre_finite13

open Idealize.ShloMosaic

instance : Subsingleton S_.Idx := ⟨fun a b => funext fun i => i.elim0⟩

variable [Facts]

/-- Where the precondition holds, every query and every key is real. -/
theorem reals (x0 x1 : FVec Ideal S4096x8x96 .bf16) (x2 : FVec Ideal S4096x8x64 .bf16) (h : fn (F := Ideal) x0 x1 x2 = fun _ => 1#1) :
    (∀ i, (x0 i : EReal) ≠ ⊤ ∧ (x0 i : EReal) ≠ ⊥) ∧ (∀ i, (x1 i : EReal) ≠ ⊤ ∧ (x1 i : EReal) ≠ ⊥) := by
  have g := congrFun h ix0
  dsimp only [fn] at g
  obtain ⟨g0, g1⟩ := Cert.Pre_finite.and_one g
  exact ⟨fun i => Cert.Pre_finite.real_of_abs_lt _ (Host.reduce_andi_all _ _ _ _ _ g0 i),
    fun i => Cert.Pre_finite.real_of_abs_lt _ (Host.reduce_andi_all _ _ _ _ _ g1 i)⟩

end Cert.Pre_finite13

namespace Cert.Kernel13Ideal.Fwd

open Idealize.ShloMosaic Idealize.ShloMosaic.TcCoe Idealize.SL.Sem
open Idealize.ShloMosaic.Pipeline (Dat)
open Cert.Kernel13Ideal Cert.Kernel13Ideal.Gen Cert.Kernel13Ideal.Value Cert.AttnRow
open Cert.KernelIdeal.Flash (pos blkNo real_arrays)
open Cert.Reference13Ideal.Fwd (Real2)
open Cert.Reference13Ideal.Read (val_main_v44 val_main_v45)

variable (m : (ℓ : Loc nD τ sig) → Buf (Elt Ideal) ℓ) (c : Dev nD) (t : Fin cfg0.N)

/-- The reference's two arrays at the call's arguments. -/
def GO : S4096x512.Idx → EReal := val_main_v44 (F := Ideal) (argQ m c) (argK m c) (argV m c)
def GS : S8x16x1x256.Idx → EReal := val_main_v45 (F := Ideal) (argQ m c) (argK m c)

/-- The two stores of the log-sums: the first head's row below, the second's above. -/
theorem read_two (f : VO0_4.ty.Contents (Elt Ideal)) (w1 w0 : S1x1x1x256.Idx → Elt Ideal .f32) (g : Fin 2) (a : Fin 256) :
    VO0_4.read (Elt Ideal) (VO0_4.writes (Elt Ideal) f
      [⟨Rect.unit (s := S2x1x1x256) ![1, 0, 0, 0] S1x1x1x256.size inb_S2x1x1x256_S1x1x1x256_1_0_0_0, w1⟩,
       ⟨Rect.unit (s := S2x1x1x256) ![0, 0, 0, 0] S1x1x1x256.size inb_S2x1x1x256_S1x1x1x256_0_0_0_0, w0⟩]) (ix4 g 0 0 a)
      = if g.val = 0 then w0 (ix4 0 0 0 a) else w1 (ix4 0 0 0 a) := by
  have hx : ∀ b : Fin 4, ((ix4 g 0 0 a : S2x1x1x256.Idx) b).val = ![g.val, 0, 0, 0] b + ((ix4 0 0 0 a : S1x1x1x256.Idx) b).val := fun b => by
    match b with
    | ⟨0, _⟩ => rfl
    | ⟨1, _⟩ => rfl
    | ⟨2, _⟩ => rfl
    | ⟨3, _⟩ => exact (Nat.zero_add _).symm
  have hg := g.isLt
  by_cases h : g.val = 0
  · rw [if_pos h]
    rw [h] at hx
    refine (View.read_writes_cons_unit_of_not_mem _ _ _ _ _ _ rfl (0 : Fin 4) (Or.inl (show g.val < 1 by omega))).trans ?_
    exact View.read_writes_cons_unit_of_mem (s := S2x1x1x256) (off := ![0, 0, 0, 0]) (size := S1x1x1x256.size) VO0_4 f
      inb_S2x1x1x256_S1x1x1x256_0_0_0_0 w0 _ (ix4 g 0 0 a) (ix4 0 0 0 a) rfl hx
  · rw [if_neg h]
    rw [show g.val = 1 by omega] at hx
    exact View.read_writes_cons_unit_of_mem (s := S2x1x1x256) (off := ![1, 0, 0, 0]) (size := S1x1x1x256.size) VO0_4 f
      inb_S2x1x1x256_S1x1x1x256_1_0_0_0 w1 _ (ix4 g 0 0 a) (ix4 0 0 0 a) rfl hx

theorem stores4 (x0 : Vec Ideal S2x256x128 .bf16) (x1 : Vec Ideal S2x16x128x256 .bf16) (x2 : Vec Ideal S2x4096x128 .bf16) (g : Fin 2) (a : Fin 256) :
    (out0_A_4 c (grid0.coords t) (ms0_0 t) (hs0_0 t) (ms0_1 t) (hs0_1 t) (ms0_2 t) (hs0_2 t) (ms0_3 t) (hs0_3 t) (ms0_4 t) (hs0_4 t) x0 x1 x2 (ix4 g 0 0 a) : EReal)
      = (whole x0 x1 x2 g.val (grid0.coords t 1).val).m (ix2 a 0) + Ideal.log ((whole x0 x1 x2 g.val (grid0.coords t 1).val).l (ix2 a 0)) := by
  have hg := g.isLt
  unfold out0_A_4
  rw [(run_eq _ _ _ _ _ _ _ _ _ _ _ _ _ _ c).2]
  generalize (grid0.coords t 1).val = n
  refine (read_two _ _ _ g a).trans ?_
  by_cases h : g.val = 0
  · rw [if_pos h, h]
    exact (pay1_apply a _).trans (pay46_apply _ _ a 0)
  · rw [if_neg h, show g.val = 1 by omega]
    exact pay3_apply _ _ a

/-- A block of log-sums is an array's, where it holds the array's entries of its own heads and rows. -/
theorem block4 (X : S2x1x1x256.Idx → EReal) (G : S8x16x1x256.Idx → EReal) (h : ∀ g a, X (ix4 g 0 0 a) = G (ix4 (headAt t g) (blkNo t.val) 0 a)) :
    (cfg0.win 4).cut (grid0.coords t) X = ((cfg0.win 4).blk t).view.read (Elt Ideal) G := by
  funext y
  obtain ⟨g, a, rfl⟩ : ∃ (g : Fin 2) (a : Fin 256), y = ix4 g 0 0 a := by
    refine ⟨y 0, y 3, (eq_ix4 y).trans ?_⟩
    have h1 : y 1 = (0 : Fin 1) := Subsingleton.elim (α := Fin 1) _ _
    have h2 : y 2 = (0 : Fin 1) := Subsingleton.elim (α := Fin 1) _ _
    exact congrArg₂ (fun (b b' : Fin 1) => (ix4 (y 0) b b' (y 3) : S2x1x1x256.Idx)) h1 h2
  obtain ⟨-, -, -, -, ⟨e0, e1, e2, e3⟩, -⟩ := index_facts t
  have hemb : ((cfg0.win 4).blk t).view.emb (ix4 g 0 0 a) = ix4 (headAt t g) (blkNo t.val) 0 a := by
    funext b; apply Fin.ext
    match b with
    | ⟨0, _⟩ => show win0_4.index t (0 : Fin 4) * 2 + 1 * g.val = 2 * (t.val / 16) + g.val; omega
    | ⟨1, _⟩ => show win0_4.index t (1 : Fin 4) * 1 + 1 * 0 = t.val % 16; omega
    | ⟨2, _⟩ => show win0_4.index t (2 : Fin 4) * 1 + 1 * 0 = 0; omega
    | ⟨3, _⟩ => show win0_4.index t (3 : Fin 4) * 256 + 1 * a.val = a.val; omega
  refine Eq.trans ?_ (congrArg G hemb).symm
  exact h g a

section Blocks
variable {q k : Fin 4096 → Fin 8 → Fin 96 → ℝ}
variable (H : Real2 (argQ m c) (argK m c) q k)
include H

theorem flushedO : (dats m 0 c).flushed 3 t = ((cfg0.win 3).blk t).view.read (Elt Ideal) (GO m c) := by
  funext y
  obtain ⟨a, d, rfl⟩ : ∃ (a : Fin 256) (d : Fin 128), y = ix2 a d := ⟨y 0, y 1, eq_ix2 y⟩
  obtain ⟨-, -, -, ⟨e0, e1⟩, -, en⟩ := index_facts t
  have hd := d.isLt
  have hN := lt_of_lt_of_eq t.isLt (show cfg0.N = 64 from N_0)
  have hemb : ((cfg0.win 3).blk t).view.emb (ix2 a d) = ix2 (pos t.val a) (⟨128 * (t.val / 16) + d.val, by omega⟩ : Fin 512) := by
    funext b; apply Fin.ext
    match b with
    | ⟨0, _⟩ => show win0_3.index t (0 : Fin 2) * 256 + 1 * a.val = 256 * (t.val % 16) + a.val; omega
    | ⟨1, _⟩ => show win0_3.index t (1 : Fin 2) * 128 + 1 * d.val = 128 * (t.val / 16) + d.val; omega
  refine Eq.trans ?_ (congrArg (GO m c) hemb).symm
  refine (congrFun (flushed3_A m c t) _).trans ?_
  show out0_A_3 c (grid0.coords t) (ms0_0 t) (hs0_0 t) (ms0_1 t) (hs0_1 t) (ms0_2 t) (hs0_2 t) (ms0_3 t) (hs0_3 t) (ms0_4 t) (hs0_4 t) (blkQ m c t) (blkK m c t) (blkV m c t) (ix2 a d) = _
  unfold out0_A_3
  rw [(run_eq _ _ _ _ _ _ _ _ _ _ _ _ _ _ c).1, View.read_writes_full (s := S256x128), en]
  exact out_real m c t H a d _ rfl

theorem flushedL : (dats m 0 c).flushed 4 t = ((cfg0.win 4).blk t).view.read (Elt Ideal) (GS m c) := by
  refine (flushed4_A m c t).trans ?_
  have hX := stores4 c t (blkQ m c t) (blkK m c t) (blkV m c t)
  have hG : ∀ g a, _ = GS m c (ix4 (headAt t g) (blkNo t.val) 0 a) := fun g a => lse_real m c t H g a
  rw [(index_facts t).2.2.2.2.2] at hX
  exact block4 t _ (GS m c) fun g a => (hX g a).trans (hG g a)

end Blocks

theorem mem_blkO (i : S4096x512.Idx) :
    i ∈ ((cfg0.win 3).blk t).view.set ↔ ∀ a : Fin 2, win0_3.index t a * ![256, 128] a ≤ (i a).val ∧ (i a).val < win0_3.index t a * ![256, 128] a + ![256, 128] a := by
  show i ∈ ((View.whole main_v20_0).slice (win0_3.rect t)).set ↔ _
  rw [View.set_slice_whole, Rect.mem_set_unit]
  exact Iff.rfl

theorem coverO (i : S4096x512.Idx) : ∃ t : Fin cfg0.N, (cfg0.win 3).flush t = true ∧ i ∈ ((cfg0.win 3).blk t).view.set := by
  have h0 : (i 0).val < 4096 := (i 0).isLt
  have h1 : (i 1).val < 512 := (i 1).isLt
  have hN : cfg0.N = 64 := N_0
  obtain ⟨t, ht⟩ : ∃ t : Fin cfg0.N, t.val = 16 * ((i 1).val / 128) + (i 0).val / 256 := ⟨⟨_, by omega⟩, rfl⟩
  obtain ⟨-, -, -, ⟨e0, e1⟩, -⟩ := index_facts t
  refine ⟨t, flush0_3 t, (mem_blkO t i).mpr fun a => ?_⟩
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 128 ≤ (i 1).val ∧ (i 1).val < win0_3.index t (1 : Fin 2) * 128 + 128; omega

theorem mem_blkL (i : S8x16x1x256.Idx) :
    i ∈ ((cfg0.win 4).blk t).view.set ↔ ∀ a : Fin 4, win0_4.index t a * ![2, 1, 1, 256] a ≤ (i a).val ∧ (i a).val < win0_4.index t a * ![2, 1, 1, 256] a + ![2, 1, 1, 256] a := by
  show i ∈ ((View.whole main_v20_1).slice (win0_4.rect t)).set ↔ _
  rw [View.set_slice_whole, Rect.mem_set_unit]
  exact Iff.rfl

theorem coverL (i : S8x16x1x256.Idx) : ∃ t : Fin cfg0.N, (cfg0.win 4).flush t = true ∧ i ∈ ((cfg0.win 4).blk t).view.set := by
  have h0 : (i 0).val < 8 := (i 0).isLt
  have h1 : (i 1).val < 16 := (i 1).isLt
  have h2 : (i 2).val < 1 := (i 2).isLt
  have h3 : (i 3).val < 256 := (i 3).isLt
  have hN : cfg0.N = 64 := N_0
  obtain ⟨t, ht⟩ : ∃ t : Fin cfg0.N, t.val = 16 * ((i 0).val / 2) + (i 1).val := ⟨⟨_, by omega⟩, rfl⟩
  obtain ⟨-, -, -, -, ⟨e0, e1, e2, e3⟩, -⟩ := index_facts t
  refine ⟨t, flush0_4 t, (mem_blkL t i).mpr fun a => ?_⟩
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 1 ≤ (i 1).val ∧ (i 1).val < win0_4.index t (1 : Fin 4) * 1 + 1; omega
  | ⟨2, _⟩ => show win0_4.index t (2 : Fin 4) * 1 ≤ (i 2).val ∧ (i 2).val < win0_4.index t (2 : Fin 4) * 1 + 1; omega
  | ⟨3, _⟩ => show win0_4.index t (3 : Fin 4) * 256 ≤ (i 3).val ∧ (i 3).val < win0_4.index t (3 : Fin 4) * 256 + 256; omega

/-- Where the precondition holds, the call's two arrays are the reference's. -/
theorem final (hpre : Cert.Pre_Kernel13Ideal_finite13 m) :
    (dats m 0 c).arrAt 3 cfg0.N = GO m c ∧ (dats m 0 c).arrAt 4 cfg0.N = GS m c := by
  obtain ⟨h0, h1⟩ := Cert.Pre_finite13.reals (argQ m c) (argK m c) (argV m c) (hpre c)
  obtain ⟨q, k, _, _, H⟩ := real_arrays (argQ m c) (argK m c) (fun _ => (0 : EReal)) (fun _ => (0 : EReal)) h0 h1
    (fun _ => ⟨EReal.zero_ne_top, EReal.zero_ne_bot⟩) (fun _ => ⟨EReal.zero_ne_top, EReal.zero_ne_bot⟩)
  have H' : Real2 (argQ m c) (argK m c) q k := ⟨H.q, H.k⟩
  exact ⟨(dats m 0 c).arrAt_eq_of_cover 3 _ (fun t _ => flushedO m c t H') coverO,
    (dats m 0 c).arrAt_eq_of_cover 4 _ (fun t _ => flushedL m c t H') coverL⟩

omit m c t in
/-- The attention's forward call and the reference compute the same output and the same log-sums. -/
theorem algebraic : Cert.algebraic_Kernel13Ideal_Reference13Ideal_pre_finite13 := fun m ρ m' ρ' hpre hagree =>
  ⟨fun c => GO m c, fun c => GS m c,
    (θ_run defs _ _).mono (fun r h c => ⟨(h c).1.trans (final m c hpre).1, (h c).2.1.trans (final m c hpre).2, (h c).2.2⟩) (run_blocks m ρ),
    (θ_run Cert.Reference13Ideal.defs _ _).mono (fun r h c => by
      obtain ⟨h0, h1, h2⟩ := hagree c
      refine ⟨(h c).1.trans ((Cert.Reference13Ideal.Read.val_main_v44_eq m' c).trans ?_),
        (h c).2.1.trans ((Cert.Reference13Ideal.Read.val_main_v45_eq _ _).trans ?_), (h c).2.2⟩
      · rw [h0, h1, h2]; rfl
      · rw [h0, h1]; rfl)
      (Cert.Reference13Ideal.Value.run (F := Ideal) m' ρ')⟩

end Cert.Kernel13Ideal.Fwd

end
-- ==== Proof.lean ====
/- The claim: the gradient of the causal attention (the call `flash_bwd`, program Kernel), the backward pass of the
   squared-relu block (the call `mlp_bwd`, program Kernel2), the products for the gradients of its two weights (programs
   Kernel3 and Kernel4), the block's forward pass (the call `mlp_fwd`, program Kernel5), the gradient of the norm before it
   (the call `rmsnorm_bwd`, program Kernel6), the two gradients of the output projection (Kernel7 and Kernel8), the input
   projection (Kernel9), the mixers' output norms with the output projection (the call `mix_out_fwd`, program Kernel10), the two
   gradients of the input projection (Kernel11 and Kernel12), and the attention itself (the call `flash_fwd`, program Kernel13).
   The attention is proved in `Proof/FlashFwd/` and its gradient in `Proof/Flash/`, the norm's gradient in `Proof/Norm/`, the projections in `Proof/Proj/`, the rest
   in `Proof/Mlp/`. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Adequacy
public import Idealize.ShloMosaic.Init
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Mlp.Bwd
public import proofs.«01_k».proof.Proof.Mlp.W1
public import proofs.«01_k».proof.Proof.Mlp.W2
public import proofs.«01_k».proof.Proof.Mlp.Fwd
public import proofs.«01_k».proof.Proof.Norm.Bwd
public import proofs.«01_k».proof.Proof.Proj.OutX
public import proofs.«01_k».proof.Proof.Proj.OutW
public import proofs.«01_k».proof.Proof.Proj.In
public import proofs.«01_k».proof.Proof.Proj.MixOut
public import proofs.«01_k».proof.Proof.Proj.InX
public import proofs.«01_k».proof.Proof.Proj.InW
public import proofs.«01_k».proof.Proof.Flash.Equation
public import proofs.«01_k».proof.Proof.Flash.Twin
public import proofs.«01_k».proof.Proof.FlashFwd.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import proofs.«01_k».proof.Proof.Gen.Pre_finite
public import proofs.«01_k».proof.Proof.Gen.Pre_finite13
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read

@[expose] public section

noncomputable section

namespace Cert.Proof

open Idealize.ShloMosaic Idealize.SL.Sem

theorem frame_kernel_ideal : Cert.quiescent_KernelIdeal := fun m ρ _ => Cert.KernelIdeal.Flash.frame (F := Ideal) m ρ

theorem frame_kernel_ideal_finite : Cert.quiescent_KernelIdeal_pre_finite := fun m ρ _ =>
  Cert.KernelIdeal.Flash.frame (F := Ideal) m ρ

/-- The references declare no semaphore, and their runs leave their arguments. -/
theorem frame_reference : Cert.quiescent_ReferenceIdeal := fun m ρ _ =>
  (θ_run Cert.ReferenceIdeal.defs _ _).mono (fun r h => ⟨fun c => (h c).2.2.2,
    sem_eq_zero_of_no_sems (by decide) r.2⟩) (Cert.ReferenceIdeal.Value.run (F := Ideal) m ρ)

theorem frame_reference_finite : Cert.quiescent_ReferenceIdeal_pre_finite := fun m ρ _ => frame_reference m ρ trivial

theorem frame_reference2 : Cert.quiescent_Reference2Ideal := fun m ρ _ =>
  (θ_run Cert.Reference2Ideal.defs _ _).mono (fun r h => ⟨fun c => (h c).2.2.2,
    sem_eq_zero_of_no_sems (by decide) r.2⟩) (Cert.Reference2Ideal.Value.run (F := Ideal) m ρ)

theorem frame_reference3 : Cert.quiescent_Reference3Ideal := fun m ρ _ =>
  (θ_run Cert.Reference3Ideal.defs _ _).mono (fun r h => ⟨fun c => (h c).2,
    sem_eq_zero_of_no_sems (by decide) r.2⟩) (Cert.Reference3Ideal.Value.run (F := Ideal) m ρ)

theorem frame_reference4 : Cert.quiescent_Reference4Ideal := fun m ρ _ =>
  (θ_run Cert.Reference4Ideal.defs _ _).mono (fun r h => ⟨fun c => (h c).2,
    sem_eq_zero_of_no_sems (by decide) r.2⟩) (Cert.Reference4Ideal.Value.run (F := Ideal) m ρ)

theorem frame_reference5 : Cert.quiescent_Reference5Ideal := fun m ρ _ =>
  (θ_run Cert.Reference5Ideal.defs _ _).mono (fun r h => ⟨fun c => (h c).2.2,
    sem_eq_zero_of_no_sems (by decide) r.2⟩) (Cert.Reference5Ideal.Value.run (F := Ideal) m ρ)

theorem frame_reference6 : Cert.quiescent_Reference6Ideal := fun m ρ _ =>
  (θ_run Cert.Reference6Ideal.defs _ _).mono (fun r h => ⟨fun c => (h c).2.2.2,
    sem_eq_zero_of_no_sems (by decide) r.2⟩) (Cert.Reference6Ideal.Value.run (F := Ideal) m ρ)

theorem frame_reference7 : Cert.quiescent_Reference7Ideal := fun m ρ _ =>
  (θ_run Cert.Reference7Ideal.defs _ _).mono (fun r h => ⟨fun c => (h c).2,
    sem_eq_zero_of_no_sems (by decide) r.2⟩) (Cert.Reference7Ideal.Value.run (F := Ideal) m ρ)

theorem frame_reference8 : Cert.quiescent_Reference8Ideal := fun m ρ _ =>
  (θ_run Cert.Reference8Ideal.defs _ _).mono (fun r h => ⟨fun c => (h c).2,
    sem_eq_zero_of_no_sems (by decide) r.2⟩) (Cert.Reference8Ideal.Value.run (F := Ideal) m ρ)

theorem frame_reference9 : Cert.quiescent_Reference9Ideal := fun m ρ _ =>
  (θ_run Cert.Reference9Ideal.defs _ _).mono (fun r h => ⟨fun c => (h c).2,
    sem_eq_zero_of_no_sems (by decide) r.2⟩) (Cert.Reference9Ideal.Value.run (F := Ideal) m ρ)

theorem frame_reference10 : Cert.quiescent_Reference10Ideal := fun m ρ _ =>
  (θ_run Cert.Reference10Ideal.defs _ _).mono (fun r h => ⟨fun c => (h c).2.2,
    sem_eq_zero_of_no_sems (by decide) r.2⟩) (Cert.Reference10Ideal.Value.run (F := Ideal) m ρ)

theorem frame_reference11 : Cert.quiescent_Reference11Ideal := fun m ρ _ =>
  (θ_run Cert.Reference11Ideal.defs _ _).mono (fun r h => ⟨fun c => (h c).2,
    sem_eq_zero_of_no_sems (by decide) r.2⟩) (Cert.Reference11Ideal.Value.run (F := Ideal) m ρ)

theorem frame_reference12 : Cert.quiescent_Reference12Ideal := fun m ρ _ =>
  (θ_run Cert.Reference12Ideal.defs _ _).mono (fun r h => ⟨fun c => (h c).2,
    sem_eq_zero_of_no_sems (by decide) r.2⟩) (Cert.Reference12Ideal.Value.run (F := Ideal) m ρ)

theorem frame_reference13 : Cert.quiescent_Reference13Ideal := fun m ρ _ =>
  (θ_run Cert.Reference13Ideal.defs _ _).mono (fun r h => ⟨fun c => (h c).2.2,
    sem_eq_zero_of_no_sems (by decide) r.2⟩) (Cert.Reference13Ideal.Value.run (F := Ideal) m ρ)

theorem frame_reference13_finite : Cert.quiescent_Reference13Ideal_pre_finite13 := fun m ρ _ => frame_reference13 m ρ trivial

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts, Cert.Kernel11Ideal.Gen.facts, Cert.Reference11Ideal.Gen.facts,
  Cert.Kernel12.Gen.facts, Cert.Kernel12Ideal.Gen.facts, Cert.Reference12Ideal.Gen.facts, Cert.Kernel13.Gen.facts, Cert.Kernel13Ideal.Gen.facts, Cert.Reference13Ideal.Gen.facts,
  Cert.Pre_finite.Gen.facts, Cert.Pre_finite13.Gen.facts,
  Cert.FlashTwin.frame_kernel, frame_kernel_ideal, frame_kernel_ideal_finite, frame_reference, frame_reference_finite,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, fun m ρ _ => Cert.Kernel13Ideal.Gen.frame m ρ,
  frame_reference13, frame_reference13_finite,
  trivial, Cert.KernelIdeal.Flash.algebraic, trivial, Cert.Kernel2Ideal.Mlp.algebraic, trivial, Cert.Kernel3Ideal.Mlp.algebraic, trivial, Cert.Kernel4Ideal.Mlp.algebraic,
  trivial, Cert.Kernel5Ideal.Mlp.algebraic, trivial, Cert.Kernel6Ideal.Norm.algebraic,
  trivial, Cert.Kernel7Ideal.Proj.algebraic, trivial, Cert.Kernel8Ideal.Proj.algebraic, trivial, Cert.Kernel9Ideal.Proj.algebraic,
  trivial, Cert.Kernel10Ideal.Proj.algebraic, trivial, Cert.Kernel11Ideal.Proj.algebraic, trivial, Cert.Kernel12Ideal.Proj.algebraic,
  trivial, Cert.Kernel13Ideal.Fwd.algebraic⟩

end Cert.Proof

end
